-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelQuery (m : (ℓ : Loc Cert.KernelQuery.nD Cert.KernelQuery.τ Cert.KernelQuery.sig) → Buf (Elt Bits) ℓ) : Prop :=
  True

def Pre_KernelQueryIdeal (m : (ℓ : Loc Cert.KernelQueryIdeal.nD Cert.KernelQueryIdeal.τ Cert.KernelQueryIdeal.sig) → Buf (Elt Ideal) ℓ) : Prop :=
  True

def Pre_ReferenceQueryIdeal (m : (ℓ : Loc Cert.ReferenceQueryIdeal.nD Cert.ReferenceQueryIdeal.τ Cert.ReferenceQueryIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelOut2 (m : (ℓ : Loc Cert.KernelOut2.nD Cert.KernelOut2.τ Cert.KernelOut2.sig) → Buf (Elt Bits) ℓ) : Prop :=
  True

def Pre_KernelOut2Ideal (m : (ℓ : Loc Cert.KernelOut2Ideal.nD Cert.KernelOut2Ideal.τ Cert.KernelOut2Ideal.sig) → Buf (Elt Ideal) ℓ) : Prop :=
  True

def Pre_ReferenceOut2Ideal (m : (ℓ : Loc Cert.ReferenceOut2Ideal.nD Cert.ReferenceOut2Ideal.τ Cert.ReferenceOut2Ideal.sig) → Buf (Elt Ideal) ℓ) : Prop :=
  True

def Pre_KernelEven (m : (ℓ : Loc Cert.KernelEven.nD Cert.KernelEven.τ Cert.KernelEven.sig) → Buf (Elt Bits) ℓ) : Prop :=
  True

def Pre_KernelEvenIdeal (m : (ℓ : Loc Cert.KernelEvenIdeal.nD Cert.KernelEvenIdeal.τ Cert.KernelEvenIdeal.sig) → Buf (Elt Ideal) ℓ) : Prop :=
  True

def Pre_ReferenceEvenIdeal (m : (ℓ : Loc Cert.ReferenceEvenIdeal.nD Cert.ReferenceEvenIdeal.τ Cert.ReferenceEvenIdeal.sig) → Buf (Elt Ideal) ℓ) : Prop :=
  True

def Pre_KernelLatent (m : (ℓ : Loc Cert.KernelLatent.nD Cert.KernelLatent.τ Cert.KernelLatent.sig) → Buf (Elt Bits) ℓ) : Prop :=
  True

def Pre_KernelLatentIdeal (m : (ℓ : Loc Cert.KernelLatentIdeal.nD Cert.KernelLatentIdeal.τ Cert.KernelLatentIdeal.sig) → Buf (Elt Ideal) ℓ) : Prop :=
  True

def Pre_ReferenceLatentIdeal (m : (ℓ : Loc Cert.ReferenceLatentIdeal.nD Cert.ReferenceLatentIdeal.τ Cert.ReferenceLatentIdeal.sig) → Buf (Elt Ideal) ℓ) : Prop :=
  True

def Pre_KernelUq (m : (ℓ : Loc Cert.KernelUq.nD Cert.KernelUq.τ Cert.KernelUq.sig) → Buf (Elt Bits) ℓ) : Prop :=
  True

def Pre_KernelUqIdeal (m : (ℓ : Loc Cert.KernelUqIdeal.nD Cert.KernelUqIdeal.τ Cert.KernelUqIdeal.sig) → Buf (Elt Ideal) ℓ) : Prop :=
  True

def Pre_ReferenceUqIdeal (m : (ℓ : Loc Cert.ReferenceUqIdeal.nD Cert.ReferenceUqIdeal.τ Cert.ReferenceUqIdeal.sig) → Buf (Elt Ideal) ℓ) : Prop :=
  True

def Pre_KernelMoba (m : (ℓ : Loc Cert.KernelMoba.nD Cert.KernelMoba.τ Cert.KernelMoba.sig) → Buf (Elt Bits) ℓ) : Prop :=
  True

def Pre_KernelMobaIdeal (m : (ℓ : Loc Cert.KernelMobaIdeal.nD Cert.KernelMobaIdeal.τ Cert.KernelMobaIdeal.sig) → Buf (Elt Ideal) ℓ) : Prop :=
  True

def Pre_KernelMobaIdeal_finite_block_scores [hPre_finite_block_scores : Cert.Pre_finite_block_scores.Facts] (m : (ℓ : Loc Cert.KernelMobaIdeal.nD Cert.KernelMobaIdeal.τ Cert.KernelMobaIdeal.sig) → Buf (Elt Ideal) ℓ) : Prop :=
  ∀ c : Dev Cert.KernelMobaIdeal.nD,
    (Cert.Pre_finite_block_scores.fn (F := Ideal) (m ((c.tc : Thread Cert.KernelMobaIdeal.nD Cert.KernelMobaIdeal.τ).loc Cert.KernelMobaIdeal.main_arg0)) (m ((c.tc : Thread Cert.KernelMobaIdeal.nD Cert.KernelMobaIdeal.τ).loc Cert.KernelMobaIdeal.main_arg1)) (m ((c.tc : Thread Cert.KernelMobaIdeal.nD Cert.KernelMobaIdeal.τ).loc Cert.KernelMobaIdeal.main_arg2))) = (fun _ => 1#1)

def Pre_ReferenceMobaIdeal (m : (ℓ : Loc Cert.ReferenceMobaIdeal.nD Cert.ReferenceMobaIdeal.τ Cert.ReferenceMobaIdeal.sig) → Buf (Elt Ideal) ℓ) : Prop :=
  True

def Pre_ReferenceMobaIdeal_finite_block_scores [hPre_finite_block_scores : Cert.Pre_finite_block_scores.Facts] (m : (ℓ : Loc Cert.ReferenceMobaIdeal.nD Cert.ReferenceMobaIdeal.τ Cert.ReferenceMobaIdeal.sig) → Buf (Elt Ideal) ℓ) : Prop :=
  ∀ c : Dev Cert.ReferenceMobaIdeal.nD,
    (Cert.Pre_finite_block_scores.fn (F := Ideal) (m ((c.tc : Thread Cert.ReferenceMobaIdeal.nD Cert.ReferenceMobaIdeal.τ).loc Cert.ReferenceMobaIdeal.main_arg0)) (m ((c.tc : Thread Cert.ReferenceMobaIdeal.nD Cert.ReferenceMobaIdeal.τ).loc Cert.ReferenceMobaIdeal.main_arg1)) (m ((c.tc : Thread Cert.ReferenceMobaIdeal.nD Cert.ReferenceMobaIdeal.τ).loc Cert.ReferenceMobaIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelQuery [hKernelQuery : Cert.KernelQuery.Facts] : Prop :=
  ∀ (m : (ℓ : Loc Cert.KernelQuery.nD Cert.KernelQuery.τ Cert.KernelQuery.sig) → Buf (Elt Bits) ℓ) (g : Dev Cert.KernelQuery.nD → PrngReg), Pre_KernelQuery m →
    θ_run (Cert.KernelQuery.defs (F := Bits)) (onTc (τ := Cert.KernelQuery.τ) (Cert.KernelQuery.main (F := Bits))) ⟨m, fun _ => 0, g⟩ (fun r => (∀ c : Dev Cert.KernelQuery.nD,
      r.2.mem ((c.tc : Thread Cert.KernelQuery.nD Cert.KernelQuery.τ).loc Cert.KernelQuery.main_arg0) = m ((c.tc : Thread Cert.KernelQuery.nD Cert.KernelQuery.τ).loc Cert.KernelQuery.main_arg0)
      ∧ r.2.mem ((c.tc : Thread Cert.KernelQuery.nD Cert.KernelQuery.τ).loc Cert.KernelQuery.main_arg1) = m ((c.tc : Thread Cert.KernelQuery.nD Cert.KernelQuery.τ).loc Cert.KernelQuery.main_arg1)
      ∧ r.2.mem ((c.tc : Thread Cert.KernelQuery.nD Cert.KernelQuery.τ).loc Cert.KernelQuery.main_arg2) = m ((c.tc : Thread Cert.KernelQuery.nD Cert.KernelQuery.τ).loc Cert.KernelQuery.main_arg2))
      ∧ r.2.sem = fun _ => 0)

def quiescent_KernelQueryIdeal [hKernelQueryIdeal : Cert.KernelQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg), Pre_KernelQueryIdeal m →
    θ_run (Cert.KernelQueryIdeal.defs (F := Ideal)) (onTc (τ := Cert.KernelQueryIdeal.τ) (Cert.KernelQueryIdeal.main (F := Ideal))) ⟨m, fun _ => 0, g⟩ (fun r => (∀ c : Dev Cert.KernelQueryIdeal.nD,
      r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
      ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1)
      ∧ r.2.mem ((c.tc : Thread Cert.KernelQueryIdeal.nD Cert.KernelQueryIdeal.τ).loc Cert.KernelQueryIdeal.main_arg2) = m ((c.tc : Thread Cert.KernelQueryIdeal.nD Cert.KernelQueryIdeal.τ).loc Cert.KernelQueryIdeal.main_arg2))
      ∧ r.2.sem = fun _ => 0)

def quiescent_ReferenceQueryIdeal [hReferenceQueryIdeal : Cert.ReferenceQueryIdeal.Facts] : Prop :=
  ∀ (m : (ℓ : Loc Cert.ReferenceQueryIdeal.nD Cert.ReferenceQueryIdeal.τ Cert.ReferenceQueryIdeal.sig) → Buf (Elt Ideal) ℓ) (g : Dev Cert.ReferenceQueryIdeal.nD → PrngReg), Pre_ReferenceQueryIdeal m →
    θ_run (Cert.ReferenceQueryIdeal.defs (F := Ideal)) (onTc (τ := Cert.ReferenceQueryIdeal.τ) (Cert.ReferenceQueryIdeal.main (F := Ideal))) ⟨m, fun _ => 0, g⟩ (fun r => (∀ c : Dev Cert.ReferenceQueryIdeal.nD,
      r.2.mem ((c.tc : Thread Cert.ReferenceQueryIdeal.nD Cert.ReferenceQueryIdeal.τ).loc Cert.ReferenceQueryIdeal.main_arg0) = m ((c.tc : Thread Cert.ReferenceQueryIdeal.nD Cert.ReferenceQueryIdeal.τ).loc Cert.ReferenceQueryIdeal.main_arg0)
      ∧ r.2.mem ((c.tc : Thread Cert.ReferenceQueryIdeal.nD Cert.ReferenceQueryIdeal.τ).loc Cert.ReferenceQueryIdeal.main_arg1) = m ((c.tc : Thread Cert.ReferenceQueryIdeal.nD Cert.ReferenceQueryIdeal.τ).loc Cert.ReferenceQueryIdeal.main_arg1)
      ∧ r.2.mem ((c.tc : Thread Cert.ReferenceQueryIdeal.nD Cert.ReferenceQueryIdeal.τ).loc Cert.ReferenceQueryIdeal.main_arg2) = m ((c.tc : Thread Cert.ReferenceQueryIdeal.nD Cert.ReferenceQueryIdeal.τ).loc Cert.ReferenceQueryIdeal.main_arg2))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelOut2 [hKernelOut2 : Cert.KernelOut2.Facts] : Prop :=
  ∀ (m : (ℓ : Loc Cert.KernelOut2.nD Cert.KernelOut2.τ Cert.KernelOut2.sig) → Buf (Elt Bits) ℓ) (g : Dev Cert.KernelOut2.nD → PrngReg), Pre_KernelOut2 m →
    θ_run (Cert.KernelOut2.defs (F := Bits)) (onTc (τ := Cert.KernelOut2.τ) (Cert.KernelOut2.main (F := Bits))) ⟨m, fun _ => 0, g⟩ (fun r => (∀ c : Dev Cert.KernelOut2.nD,
      r.2.mem ((c.tc : Thread Cert.KernelOut2.nD Cert.KernelOut2.τ).loc Cert.KernelOut2.main_arg0) = m ((c.tc : Thread Cert.KernelOut2.nD Cert.KernelOut2.τ).loc Cert.KernelOut2.main_arg0)
      ∧ r.2.mem ((c.tc : Thread Cert.KernelOut2.nD Cert.KernelOut2.τ).loc Cert.KernelOut2.main_arg1) = m ((c.tc : Thread Cert.KernelOut2.nD Cert.KernelOut2.τ).loc Cert.KernelOut2.main_arg1)
      ∧ r.2.mem ((c.tc : Thread Cert.KernelOut2.nD Cert.KernelOut2.τ).loc Cert.KernelOut2.main_arg2) = m ((c.tc : Thread Cert.KernelOut2.nD Cert.KernelOut2.τ).loc Cert.KernelOut2.main_arg2)
      ∧ r.2.mem ((c.tc : Thread Cert.KernelOut2.nD Cert.KernelOut2.τ).loc Cert.KernelOut2.main_arg3) = m ((c.tc : Thread Cert.KernelOut2.nD Cert.KernelOut2.τ).loc Cert.KernelOut2.main_arg3))
      ∧ r.2.sem = fun _ => 0)

def quiescent_KernelOut2Ideal [hKernelOut2Ideal : Cert.KernelOut2Ideal.Facts] : Prop :=
  ∀ (m : (ℓ : Loc Cert.KernelOut2Ideal.nD Cert.KernelOut2Ideal.τ Cert.KernelOut2Ideal.sig) → Buf (Elt Ideal) ℓ) (g : Dev Cert.KernelOut2Ideal.nD → PrngReg), Pre_KernelOut2Ideal m →
    θ_run (Cert.KernelOut2Ideal.defs (F := Ideal)) (onTc (τ := Cert.KernelOut2Ideal.τ) (Cert.KernelOut2Ideal.main (F := Ideal))) ⟨m, fun _ => 0, g⟩ (fun r => (∀ c : Dev Cert.KernelOut2Ideal.nD,
      r.2.mem ((c.tc : Thread Cert.KernelOut2Ideal.nD Cert.KernelOut2Ideal.τ).loc Cert.KernelOut2Ideal.main_arg0) = m ((c.tc : Thread Cert.KernelOut2Ideal.nD Cert.KernelOut2Ideal.τ).loc Cert.KernelOut2Ideal.main_arg0)
      ∧ r.2.mem ((c.tc : Thread Cert.KernelOut2Ideal.nD Cert.KernelOut2Ideal.τ).loc Cert.KernelOut2Ideal.main_arg1) = m ((c.tc : Thread Cert.KernelOut2Ideal.nD Cert.KernelOut2Ideal.τ).loc Cert.KernelOut2Ideal.main_arg1)
      ∧ r.2.mem ((c.tc : Thread Cert.KernelOut2Ideal.nD Cert.KernelOut2Ideal.τ).loc Cert.KernelOut2Ideal.main_arg2) = m ((c.tc : Thread Cert.KernelOut2Ideal.nD Cert.KernelOut2Ideal.τ).loc Cert.KernelOut2Ideal.main_arg2)
      ∧ r.2.mem ((c.tc : Thread Cert.KernelOut2Ideal.nD Cert.KernelOut2Ideal.τ).loc Cert.KernelOut2Ideal.main_arg3) = m ((c.tc : Thread Cert.KernelOut2Ideal.nD Cert.KernelOut2Ideal.τ).loc Cert.KernelOut2Ideal.main_arg3))
      ∧ r.2.sem = fun _ => 0)

def quiescent_ReferenceOut2Ideal [hReferenceOut2Ideal : Cert.ReferenceOut2Ideal.Facts] : Prop :=
  ∀ (m : (ℓ : Loc Cert.ReferenceOut2Ideal.nD Cert.ReferenceOut2Ideal.τ Cert.ReferenceOut2Ideal.sig) → Buf (Elt Ideal) ℓ) (g : Dev Cert.ReferenceOut2Ideal.nD → PrngReg), Pre_ReferenceOut2Ideal m →
    θ_run (Cert.ReferenceOut2Ideal.defs (F := Ideal)) (onTc (τ := Cert.ReferenceOut2Ideal.τ) (Cert.ReferenceOut2Ideal.main (F := Ideal))) ⟨m, fun _ => 0, g⟩ (fun r => (∀ c : Dev Cert.ReferenceOut2Ideal.nD,
      r.2.mem ((c.tc : Thread Cert.ReferenceOut2Ideal.nD Cert.ReferenceOut2Ideal.τ).loc Cert.ReferenceOut2Ideal.main_arg0) = m ((c.tc : Thread Cert.ReferenceOut2Ideal.nD Cert.ReferenceOut2Ideal.τ).loc Cert.ReferenceOut2Ideal.main_arg0)
      ∧ r.2.mem ((c.tc : Thread Cert.ReferenceOut2Ideal.nD Cert.ReferenceOut2Ideal.τ).loc Cert.ReferenceOut2Ideal.main_arg1) = m ((c.tc : Thread Cert.ReferenceOut2Ideal.nD Cert.ReferenceOut2Ideal.τ).loc Cert.ReferenceOut2Ideal.main_arg1)
      ∧ r.2.mem ((c.tc : Thread Cert.ReferenceOut2Ideal.nD Cert.ReferenceOut2Ideal.τ).loc Cert.ReferenceOut2Ideal.main_arg2) = m ((c.tc : Thread Cert.ReferenceOut2Ideal.nD Cert.ReferenceOut2Ideal.τ).loc Cert.ReferenceOut2Ideal.main_arg2)
      ∧ r.2.mem ((c.tc : Thread Cert.ReferenceOut2Ideal.nD Cert.ReferenceOut2Ideal.τ).loc Cert.ReferenceOut2Ideal.main_arg3) = m ((c.tc : Thread Cert.ReferenceOut2Ideal.nD Cert.ReferenceOut2Ideal.τ).loc Cert.ReferenceOut2Ideal.main_arg3))
      ∧ r.2.sem = fun _ => 0)

def quiescent_KernelEven [hKernelEven : Cert.KernelEven.Facts] : Prop :=
  ∀ (m : (ℓ : Loc Cert.KernelEven.nD Cert.KernelEven.τ Cert.KernelEven.sig) → Buf (Elt Bits) ℓ) (g : Dev Cert.KernelEven.nD → PrngReg), Pre_KernelEven m →
    θ_run (Cert.KernelEven.defs (F := Bits)) (onTc (τ := Cert.KernelEven.τ) (Cert.KernelEven.main (F := Bits))) ⟨m, fun _ => 0, g⟩ (fun r => (∀ c : Dev Cert.KernelEven.nD,
      r.2.mem ((c.tc : Thread Cert.KernelEven.nD Cert.KernelEven.τ).loc Cert.KernelEven.main_arg0) = m ((c.tc : Thread Cert.KernelEven.nD Cert.KernelEven.τ).loc Cert.KernelEven.main_arg0)
      ∧ r.2.mem ((c.tc : Thread Cert.KernelEven.nD Cert.KernelEven.τ).loc Cert.KernelEven.main_arg1) = m ((c.tc : Thread Cert.KernelEven.nD Cert.KernelEven.τ).loc Cert.KernelEven.main_arg1)
      ∧ r.2.mem ((c.tc : Thread Cert.KernelEven.nD Cert.KernelEven.τ).loc Cert.KernelEven.main_arg2) = m ((c.tc : Thread Cert.KernelEven.nD Cert.KernelEven.τ).loc Cert.KernelEven.main_arg2)
      ∧ r.2.mem ((c.tc : Thread Cert.KernelEven.nD Cert.KernelEven.τ).loc Cert.KernelEven.main_arg3) = m ((c.tc : Thread Cert.KernelEven.nD Cert.KernelEven.τ).loc Cert.KernelEven.main_arg3))
      ∧ r.2.sem = fun _ => 0)

def quiescent_KernelEvenIdeal [hKernelEvenIdeal : Cert.KernelEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg), Pre_KernelEvenIdeal m →
    θ_run (Cert.KernelEvenIdeal.defs (F := Ideal)) (onTc (τ := Cert.KernelEvenIdeal.τ) (Cert.KernelEvenIdeal.main (F := Ideal))) ⟨m, fun _ => 0, g⟩ (fun r => (∀ c : Dev Cert.KernelEvenIdeal.nD,
      r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
      ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
      ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
      ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3))
      ∧ r.2.sem = fun _ => 0)

def quiescent_ReferenceEvenIdeal [hReferenceEvenIdeal : Cert.ReferenceEvenIdeal.Facts] : Prop :=
  ∀ (m : (ℓ : Loc Cert.ReferenceEvenIdeal.nD Cert.ReferenceEvenIdeal.τ Cert.ReferenceEvenIdeal.sig) → Buf (Elt Ideal) ℓ) (g : Dev Cert.ReferenceEvenIdeal.nD → PrngReg), Pre_ReferenceEvenIdeal m →
    θ_run (Cert.ReferenceEvenIdeal.defs (F := Ideal)) (onTc (τ := Cert.ReferenceEvenIdeal.τ) (Cert.ReferenceEvenIdeal.main (F := Ideal))) ⟨m, fun _ => 0, g⟩ (fun r => (∀ c : Dev Cert.ReferenceEvenIdeal.nD,
      r.2.mem ((c.tc : Thread Cert.ReferenceEvenIdeal.nD Cert.ReferenceEvenIdeal.τ).loc Cert.ReferenceEvenIdeal.main_arg0) = m ((c.tc : Thread Cert.ReferenceEvenIdeal.nD Cert.ReferenceEvenIdeal.τ).loc Cert.ReferenceEvenIdeal.main_arg0)
      ∧ r.2.mem ((c.tc : Thread Cert.ReferenceEvenIdeal.nD Cert.ReferenceEvenIdeal.τ).loc Cert.ReferenceEvenIdeal.main_arg1) = m ((c.tc : Thread Cert.ReferenceEvenIdeal.nD Cert.ReferenceEvenIdeal.τ).loc Cert.ReferenceEvenIdeal.main_arg1)
      ∧ r.2.mem ((c.tc : Thread Cert.ReferenceEvenIdeal.nD Cert.ReferenceEvenIdeal.τ).loc Cert.ReferenceEvenIdeal.main_arg2) = m ((c.tc : Thread Cert.ReferenceEvenIdeal.nD Cert.ReferenceEvenIdeal.τ).loc Cert.ReferenceEvenIdeal.main_arg2)
      ∧ r.2.mem ((c.tc : Thread Cert.ReferenceEvenIdeal.nD Cert.ReferenceEvenIdeal.τ).loc Cert.ReferenceEvenIdeal.main_arg3) = m ((c.tc : Thread Cert.ReferenceEvenIdeal.nD Cert.ReferenceEvenIdeal.τ).loc Cert.ReferenceEvenIdeal.main_arg3))
      ∧ r.2.sem = fun _ => 0)

def quiescent_KernelLatent [hKernelLatent : Cert.KernelLatent.Facts] : Prop :=
  ∀ (m : (ℓ : Loc Cert.KernelLatent.nD Cert.KernelLatent.τ Cert.KernelLatent.sig) → Buf (Elt Bits) ℓ) (g : Dev Cert.KernelLatent.nD → PrngReg), Pre_KernelLatent m →
    θ_run (Cert.KernelLatent.defs (F := Bits)) (onTc (τ := Cert.KernelLatent.τ) (Cert.KernelLatent.main (F := Bits))) ⟨m, fun _ => 0, g⟩ (fun r => (∀ c : Dev Cert.KernelLatent.nD,
      r.2.mem ((c.tc : Thread Cert.KernelLatent.nD Cert.KernelLatent.τ).loc Cert.KernelLatent.main_arg0) = m ((c.tc : Thread Cert.KernelLatent.nD Cert.KernelLatent.τ).loc Cert.KernelLatent.main_arg0)
      ∧ r.2.mem ((c.tc : Thread Cert.KernelLatent.nD Cert.KernelLatent.τ).loc Cert.KernelLatent.main_arg1) = m ((c.tc : Thread Cert.KernelLatent.nD Cert.KernelLatent.τ).loc Cert.KernelLatent.main_arg1)
      ∧ r.2.mem ((c.tc : Thread Cert.KernelLatent.nD Cert.KernelLatent.τ).loc Cert.KernelLatent.main_arg2) = m ((c.tc : Thread Cert.KernelLatent.nD Cert.KernelLatent.τ).loc Cert.KernelLatent.main_arg2)
      ∧ r.2.mem ((c.tc : Thread Cert.KernelLatent.nD Cert.KernelLatent.τ).loc Cert.KernelLatent.main_arg3) = m ((c.tc : Thread Cert.KernelLatent.nD Cert.KernelLatent.τ).loc Cert.KernelLatent.main_arg3))
      ∧ r.2.sem = fun _ => 0)

def quiescent_KernelLatentIdeal [hKernelLatentIdeal : Cert.KernelLatentIdeal.Facts] : Prop :=
  ∀ (m : (ℓ : Loc Cert.KernelLatentIdeal.nD Cert.KernelLatentIdeal.τ Cert.KernelLatentIdeal.sig) → Buf (Elt Ideal) ℓ) (g : Dev Cert.KernelLatentIdeal.nD → PrngReg), Pre_KernelLatentIdeal m →
    θ_run (Cert.KernelLatentIdeal.defs (F := Ideal)) (onTc (τ := Cert.KernelLatentIdeal.τ) (Cert.KernelLatentIdeal.main (F := Ideal))) ⟨m, fun _ => 0, g⟩ (fun r => (∀ c : Dev Cert.KernelLatentIdeal.nD,
      r.2.mem ((c.tc : Thread Cert.KernelLatentIdeal.nD Cert.KernelLatentIdeal.τ).loc Cert.KernelLatentIdeal.main_arg0) = m ((c.tc : Thread Cert.KernelLatentIdeal.nD Cert.KernelLatentIdeal.τ).loc Cert.KernelLatentIdeal.main_arg0)
      ∧ r.2.mem ((c.tc : Thread Cert.KernelLatentIdeal.nD Cert.KernelLatentIdeal.τ).loc Cert.KernelLatentIdeal.main_arg1) = m ((c.tc : Thread Cert.KernelLatentIdeal.nD Cert.KernelLatentIdeal.τ).loc Cert.KernelLatentIdeal.main_arg1)
      ∧ r.2.mem ((c.tc : Thread Cert.KernelLatentIdeal.nD Cert.KernelLatentIdeal.τ).loc Cert.KernelLatentIdeal.main_arg2) = m ((c.tc : Thread Cert.KernelLatentIdeal.nD Cert.KernelLatentIdeal.τ).loc Cert.KernelLatentIdeal.main_arg2)
      ∧ r.2.mem ((c.tc : Thread Cert.KernelLatentIdeal.nD Cert.KernelLatentIdeal.τ).loc Cert.KernelLatentIdeal.main_arg3) = m ((c.tc : Thread Cert.KernelLatentIdeal.nD Cert.KernelLatentIdeal.τ).loc Cert.KernelLatentIdeal.main_arg3))
      ∧ r.2.sem = fun _ => 0)

def quiescent_ReferenceLatentIdeal [hReferenceLatentIdeal : Cert.ReferenceLatentIdeal.Facts] : Prop :=
  ∀ (m : (ℓ : Loc Cert.ReferenceLatentIdeal.nD Cert.ReferenceLatentIdeal.τ Cert.ReferenceLatentIdeal.sig) → Buf (Elt Ideal) ℓ) (g : Dev Cert.ReferenceLatentIdeal.nD → PrngReg), Pre_ReferenceLatentIdeal m →
    θ_run (Cert.ReferenceLatentIdeal.defs (F := Ideal)) (onTc (τ := Cert.ReferenceLatentIdeal.τ) (Cert.ReferenceLatentIdeal.main (F := Ideal))) ⟨m, fun _ => 0, g⟩ (fun r => (∀ c : Dev Cert.ReferenceLatentIdeal.nD,
      r.2.mem ((c.tc : Thread Cert.ReferenceLatentIdeal.nD Cert.ReferenceLatentIdeal.τ).loc Cert.ReferenceLatentIdeal.main_arg0) = m ((c.tc : Thread Cert.ReferenceLatentIdeal.nD Cert.ReferenceLatentIdeal.τ).loc Cert.ReferenceLatentIdeal.main_arg0)
      ∧ r.2.mem ((c.tc : Thread Cert.ReferenceLatentIdeal.nD Cert.ReferenceLatentIdeal.τ).loc Cert.ReferenceLatentIdeal.main_arg1) = m ((c.tc : Thread Cert.ReferenceLatentIdeal.nD Cert.ReferenceLatentIdeal.τ).loc Cert.ReferenceLatentIdeal.main_arg1)
      ∧ r.2.mem ((c.tc : Thread Cert.ReferenceLatentIdeal.nD Cert.ReferenceLatentIdeal.τ).loc Cert.ReferenceLatentIdeal.main_arg2) = m ((c.tc : Thread Cert.ReferenceLatentIdeal.nD Cert.ReferenceLatentIdeal.τ).loc Cert.ReferenceLatentIdeal.main_arg2)
      ∧ r.2.mem ((c.tc : Thread Cert.ReferenceLatentIdeal.nD Cert.ReferenceLatentIdeal.τ).loc Cert.ReferenceLatentIdeal.main_arg3) = m ((c.tc : Thread Cert.ReferenceLatentIdeal.nD Cert.ReferenceLatentIdeal.τ).loc Cert.ReferenceLatentIdeal.main_arg3))
      ∧ r.2.sem = fun _ => 0)

def quiescent_KernelUq [hKernelUq : Cert.KernelUq.Facts] : Prop :=
  ∀ (m : (ℓ : Loc Cert.KernelUq.nD Cert.KernelUq.τ Cert.KernelUq.sig) → Buf (Elt Bits) ℓ) (g : Dev Cert.KernelUq.nD → PrngReg), Pre_KernelUq m →
    θ_run (Cert.KernelUq.defs (F := Bits)) (onTc (τ := Cert.KernelUq.τ) (Cert.KernelUq.main (F := Bits))) ⟨m, fun _ => 0, g⟩ (fun r => (∀ c : Dev Cert.KernelUq.nD,
      r.2.mem ((c.tc : Thread Cert.KernelUq.nD Cert.KernelUq.τ).loc Cert.KernelUq.main_arg0) = m ((c.tc : Thread Cert.KernelUq.nD Cert.KernelUq.τ).loc Cert.KernelUq.main_arg0)
      ∧ r.2.mem ((c.tc : Thread Cert.KernelUq.nD Cert.KernelUq.τ).loc Cert.KernelUq.main_arg1) = m ((c.tc : Thread Cert.KernelUq.nD Cert.KernelUq.τ).loc Cert.KernelUq.main_arg1)
      ∧ r.2.mem ((c.tc : Thread Cert.KernelUq.nD Cert.KernelUq.τ).loc Cert.KernelUq.main_arg2) = m ((c.tc : Thread Cert.KernelUq.nD Cert.KernelUq.τ).loc Cert.KernelUq.main_arg2)
      ∧ r.2.mem ((c.tc : Thread Cert.KernelUq.nD Cert.KernelUq.τ).loc Cert.KernelUq.main_arg3) = m ((c.tc : Thread Cert.KernelUq.nD Cert.KernelUq.τ).loc Cert.KernelUq.main_arg3))
      ∧ r.2.sem = fun _ => 0)

def quiescent_KernelUqIdeal [hKernelUqIdeal : Cert.KernelUqIdeal.Facts] : Prop :=
  ∀ (m : (ℓ : Loc Cert.KernelUqIdeal.nD Cert.KernelUqIdeal.τ Cert.KernelUqIdeal.sig) → Buf (Elt Ideal) ℓ) (g : Dev Cert.KernelUqIdeal.nD → PrngReg), Pre_KernelUqIdeal m →
    θ_run (Cert.KernelUqIdeal.defs (F := Ideal)) (onTc (τ := Cert.KernelUqIdeal.τ) (Cert.KernelUqIdeal.main (F := Ideal))) ⟨m, fun _ => 0, g⟩ (fun r => (∀ c : Dev Cert.KernelUqIdeal.nD,
      r.2.mem ((c.tc : Thread Cert.KernelUqIdeal.nD Cert.KernelUqIdeal.τ).loc Cert.KernelUqIdeal.main_arg0) = m ((c.tc : Thread Cert.KernelUqIdeal.nD Cert.KernelUqIdeal.τ).loc Cert.KernelUqIdeal.main_arg0)
      ∧ r.2.mem ((c.tc : Thread Cert.KernelUqIdeal.nD Cert.KernelUqIdeal.τ).loc Cert.KernelUqIdeal.main_arg1) = m ((c.tc : Thread Cert.KernelUqIdeal.nD Cert.KernelUqIdeal.τ).loc Cert.KernelUqIdeal.main_arg1)
      ∧ r.2.mem ((c.tc : Thread Cert.KernelUqIdeal.nD Cert.KernelUqIdeal.τ).loc Cert.KernelUqIdeal.main_arg2) = m ((c.tc : Thread Cert.KernelUqIdeal.nD Cert.KernelUqIdeal.τ).loc Cert.KernelUqIdeal.main_arg2)
      ∧ r.2.mem ((c.tc : Thread Cert.KernelUqIdeal.nD Cert.KernelUqIdeal.τ).loc Cert.KernelUqIdeal.main_arg3) = m ((c.tc : Thread Cert.KernelUqIdeal.nD Cert.KernelUqIdeal.τ).loc Cert.KernelUqIdeal.main_arg3))
      ∧ r.2.sem = fun _ => 0)

def quiescent_ReferenceUqIdeal [hReferenceUqIdeal : Cert.ReferenceUqIdeal.Facts] : Prop :=
  ∀ (m : (ℓ : Loc Cert.ReferenceUqIdeal.nD Cert.ReferenceUqIdeal.τ Cert.ReferenceUqIdeal.sig) → Buf (Elt Ideal) ℓ) (g : Dev Cert.ReferenceUqIdeal.nD → PrngReg), Pre_ReferenceUqIdeal m →
    θ_run (Cert.ReferenceUqIdeal.defs (F := Ideal)) (onTc (τ := Cert.ReferenceUqIdeal.τ) (Cert.ReferenceUqIdeal.main (F := Ideal))) ⟨m, fun _ => 0, g⟩ (fun r => (∀ c : Dev Cert.ReferenceUqIdeal.nD,
      r.2.mem ((c.tc : Thread Cert.ReferenceUqIdeal.nD Cert.ReferenceUqIdeal.τ).loc Cert.ReferenceUqIdeal.main_arg0) = m ((c.tc : Thread Cert.ReferenceUqIdeal.nD Cert.ReferenceUqIdeal.τ).loc Cert.ReferenceUqIdeal.main_arg0)
      ∧ r.2.mem ((c.tc : Thread Cert.ReferenceUqIdeal.nD Cert.ReferenceUqIdeal.τ).loc Cert.ReferenceUqIdeal.main_arg1) = m ((c.tc : Thread Cert.ReferenceUqIdeal.nD Cert.ReferenceUqIdeal.τ).loc Cert.ReferenceUqIdeal.main_arg1)
      ∧ r.2.mem ((c.tc : Thread Cert.ReferenceUqIdeal.nD Cert.ReferenceUqIdeal.τ).loc Cert.ReferenceUqIdeal.main_arg2) = m ((c.tc : Thread Cert.ReferenceUqIdeal.nD Cert.ReferenceUqIdeal.τ).loc Cert.ReferenceUqIdeal.main_arg2)
      ∧ r.2.mem ((c.tc : Thread Cert.ReferenceUqIdeal.nD Cert.ReferenceUqIdeal.τ).loc Cert.ReferenceUqIdeal.main_arg3) = m ((c.tc : Thread Cert.ReferenceUqIdeal.nD Cert.ReferenceUqIdeal.τ).loc Cert.ReferenceUqIdeal.main_arg3))
      ∧ r.2.sem = fun _ => 0)

def quiescent_KernelMoba [hKernelMoba : Cert.KernelMoba.Facts] : Prop :=
  ∀ (m : (ℓ : Loc Cert.KernelMoba.nD Cert.KernelMoba.τ Cert.KernelMoba.sig) → Buf (Elt Bits) ℓ) (g : Dev Cert.KernelMoba.nD → PrngReg), Pre_KernelMoba m →
    θ_run (Cert.KernelMoba.defs (F := Bits)) (onTc (τ := Cert.KernelMoba.τ) (Cert.KernelMoba.main (F := Bits))) ⟨m, fun _ => 0, g⟩ (fun r => (∀ c : Dev Cert.KernelMoba.nD,
      r.2.mem ((c.tc : Thread Cert.KernelMoba.nD Cert.KernelMoba.τ).loc Cert.KernelMoba.main_arg0) = m ((c.tc : Thread Cert.KernelMoba.nD Cert.KernelMoba.τ).loc Cert.KernelMoba.main_arg0)
      ∧ r.2.mem ((c.tc : Thread Cert.KernelMoba.nD Cert.KernelMoba.τ).loc Cert.KernelMoba.main_arg1) = m ((c.tc : Thread Cert.KernelMoba.nD Cert.KernelMoba.τ).loc Cert.KernelMoba.main_arg1)
      ∧ r.2.mem ((c.tc : Thread Cert.KernelMoba.nD Cert.KernelMoba.τ).loc Cert.KernelMoba.main_arg2) = m ((c.tc : Thread Cert.KernelMoba.nD Cert.KernelMoba.τ).loc Cert.KernelMoba.main_arg2))
      ∧ r.2.sem = fun _ => 0)

def quiescent_KernelMobaIdeal [hKernelMobaIdeal : Cert.KernelMobaIdeal.Facts] : Prop :=
  ∀ (m : (ℓ : Loc Cert.KernelMobaIdeal.nD Cert.KernelMobaIdeal.τ Cert.KernelMobaIdeal.sig) → Buf (Elt Ideal) ℓ) (g : Dev Cert.KernelMobaIdeal.nD → PrngReg), Pre_KernelMobaIdeal m →
    θ_run (Cert.KernelMobaIdeal.defs (F := Ideal)) (onTc (τ := Cert.KernelMobaIdeal.τ) (Cert.KernelMobaIdeal.main (F := Ideal))) ⟨m, fun _ => 0, g⟩ (fun r => (∀ c : Dev Cert.KernelMobaIdeal.nD,
      r.2.mem ((c.tc : Thread Cert.KernelMobaIdeal.nD Cert.KernelMobaIdeal.τ).loc Cert.KernelMobaIdeal.main_arg0) = m ((c.tc : Thread Cert.KernelMobaIdeal.nD Cert.KernelMobaIdeal.τ).loc Cert.KernelMobaIdeal.main_arg0)
      ∧ r.2.mem ((c.tc : Thread Cert.KernelMobaIdeal.nD Cert.KernelMobaIdeal.τ).loc Cert.KernelMobaIdeal.main_arg1) = m ((c.tc : Thread Cert.KernelMobaIdeal.nD Cert.KernelMobaIdeal.τ).loc Cert.KernelMobaIdeal.main_arg1)
      ∧ r.2.mem ((c.tc : Thread Cert.KernelMobaIdeal.nD Cert.KernelMobaIdeal.τ).loc Cert.KernelMobaIdeal.main_arg2) = m ((c.tc : Thread Cert.KernelMobaIdeal.nD Cert.KernelMobaIdeal.τ).loc Cert.KernelMobaIdeal.main_arg2))
      ∧ r.2.sem = fun _ => 0)

def quiescent_KernelMobaIdeal_pre_finite_block_scores [hKernelMobaIdeal : Cert.KernelMobaIdeal.Facts] [hPre_finite_block_scores : Cert.Pre_finite_block_scores.Facts] : Prop :=
  ∀ (m : (ℓ : Loc Cert.KernelMobaIdeal.nD Cert.KernelMobaIdeal.τ Cert.KernelMobaIdeal.sig) → Buf (Elt Ideal) ℓ) (g : Dev Cert.KernelMobaIdeal.nD → PrngReg), Pre_KernelMobaIdeal_finite_block_scores m →
    θ_run (Cert.KernelMobaIdeal.defs (F := Ideal)) (onTc (τ := Cert.KernelMobaIdeal.τ) (Cert.KernelMobaIdeal.main (F := Ideal))) ⟨m, fun _ => 0, g⟩ (fun r => (∀ c : Dev Cert.KernelMobaIdeal.nD,
      r.2.mem ((c.tc : Thread Cert.KernelMobaIdeal.nD Cert.KernelMobaIdeal.τ).loc Cert.KernelMobaIdeal.main_arg0) = m ((c.tc : Thread Cert.KernelMobaIdeal.nD Cert.KernelMobaIdeal.τ).loc Cert.KernelMobaIdeal.main_arg0)
      ∧ r.2.mem ((c.tc : Thread Cert.KernelMobaIdeal.nD Cert.KernelMobaIdeal.τ).loc Cert.KernelMobaIdeal.main_arg1) = m ((c.tc : Thread Cert.KernelMobaIdeal.nD Cert.KernelMobaIdeal.τ).loc Cert.KernelMobaIdeal.main_arg1)
      ∧ r.2.mem ((c.tc : Thread Cert.KernelMobaIdeal.nD Cert.KernelMobaIdeal.τ).loc Cert.KernelMobaIdeal.main_arg2) = m ((c.tc : Thread Cert.KernelMobaIdeal.nD Cert.KernelMobaIdeal.τ).loc Cert.KernelMobaIdeal.main_arg2))
      ∧ r.2.sem = fun _ => 0)

def quiescent_ReferenceMobaIdeal [hReferenceMobaIdeal : Cert.ReferenceMobaIdeal.Facts] : Prop :=
  ∀ (m : (ℓ : Loc Cert.ReferenceMobaIdeal.nD Cert.ReferenceMobaIdeal.τ Cert.ReferenceMobaIdeal.sig) → Buf (Elt Ideal) ℓ) (g : Dev Cert.ReferenceMobaIdeal.nD → PrngReg), Pre_ReferenceMobaIdeal m →
    θ_run (Cert.ReferenceMobaIdeal.defs (F := Ideal)) (onTc (τ := Cert.ReferenceMobaIdeal.τ) (Cert.ReferenceMobaIdeal.main (F := Ideal))) ⟨m, fun _ => 0, g⟩ (fun r => (∀ c : Dev Cert.ReferenceMobaIdeal.nD,
      r.2.mem ((c.tc : Thread Cert.ReferenceMobaIdeal.nD Cert.ReferenceMobaIdeal.τ).loc Cert.ReferenceMobaIdeal.main_arg0) = m ((c.tc : Thread Cert.ReferenceMobaIdeal.nD Cert.ReferenceMobaIdeal.τ).loc Cert.ReferenceMobaIdeal.main_arg0)
      ∧ r.2.mem ((c.tc : Thread Cert.ReferenceMobaIdeal.nD Cert.ReferenceMobaIdeal.τ).loc Cert.ReferenceMobaIdeal.main_arg1) = m ((c.tc : Thread Cert.ReferenceMobaIdeal.nD Cert.ReferenceMobaIdeal.τ).loc Cert.ReferenceMobaIdeal.main_arg1)
      ∧ r.2.mem ((c.tc : Thread Cert.ReferenceMobaIdeal.nD Cert.ReferenceMobaIdeal.τ).loc Cert.ReferenceMobaIdeal.main_arg2) = m ((c.tc : Thread Cert.ReferenceMobaIdeal.nD Cert.ReferenceMobaIdeal.τ).loc Cert.ReferenceMobaIdeal.main_arg2))
      ∧ r.2.sem = fun _ => 0)

def quiescent_ReferenceMobaIdeal_pre_finite_block_scores [hReferenceMobaIdeal : Cert.ReferenceMobaIdeal.Facts] [hPre_finite_block_scores : Cert.Pre_finite_block_scores.Facts] : Prop :=
  ∀ (m : (ℓ : Loc Cert.ReferenceMobaIdeal.nD Cert.ReferenceMobaIdeal.τ Cert.ReferenceMobaIdeal.sig) → Buf (Elt Ideal) ℓ) (g : Dev Cert.ReferenceMobaIdeal.nD → PrngReg), Pre_ReferenceMobaIdeal_finite_block_scores m →
    θ_run (Cert.ReferenceMobaIdeal.defs (F := Ideal)) (onTc (τ := Cert.ReferenceMobaIdeal.τ) (Cert.ReferenceMobaIdeal.main (F := Ideal))) ⟨m, fun _ => 0, g⟩ (fun r => (∀ c : Dev Cert.ReferenceMobaIdeal.nD,
      r.2.mem ((c.tc : Thread Cert.ReferenceMobaIdeal.nD Cert.ReferenceMobaIdeal.τ).loc Cert.ReferenceMobaIdeal.main_arg0) = m ((c.tc : Thread Cert.ReferenceMobaIdeal.nD Cert.ReferenceMobaIdeal.τ).loc Cert.ReferenceMobaIdeal.main_arg0)
      ∧ r.2.mem ((c.tc : Thread Cert.ReferenceMobaIdeal.nD Cert.ReferenceMobaIdeal.τ).loc Cert.ReferenceMobaIdeal.main_arg1) = m ((c.tc : Thread Cert.ReferenceMobaIdeal.nD Cert.ReferenceMobaIdeal.τ).loc Cert.ReferenceMobaIdeal.main_arg1)
      ∧ r.2.mem ((c.tc : Thread Cert.ReferenceMobaIdeal.nD Cert.ReferenceMobaIdeal.τ).loc Cert.ReferenceMobaIdeal.main_arg2) = m ((c.tc : Thread Cert.ReferenceMobaIdeal.nD Cert.ReferenceMobaIdeal.τ).loc Cert.ReferenceMobaIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v12) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelQuery_KernelQueryIdeal : Prop :=
  True

def algebraic_KernelQueryIdeal_ReferenceQueryIdeal [hKernelQueryIdeal : Cert.KernelQueryIdeal.Facts] [hReferenceQueryIdeal : Cert.ReferenceQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg)
    (m' : (ℓ : Loc Cert.ReferenceQueryIdeal.nD Cert.ReferenceQueryIdeal.τ Cert.ReferenceQueryIdeal.sig) → Buf (Elt Ideal) ℓ) (g' : Dev Cert.ReferenceQueryIdeal.nD → PrngReg), Pre_KernelQueryIdeal m →
    (∀ c : Dev Cert.KernelQueryIdeal.nD,
      m' ((c.tc : Thread Cert.ReferenceQueryIdeal.nD Cert.ReferenceQueryIdeal.τ).loc Cert.ReferenceQueryIdeal.main_arg0) = m ((c.tc : Thread Cert.KernelQueryIdeal.nD Cert.KernelQueryIdeal.τ).loc Cert.KernelQueryIdeal.main_arg0)
      ∧ m' ((c.tc : Thread Cert.ReferenceQueryIdeal.nD Cert.ReferenceQueryIdeal.τ).loc Cert.ReferenceQueryIdeal.main_arg1) = m ((c.tc : Thread Cert.KernelQueryIdeal.nD Cert.KernelQueryIdeal.τ).loc Cert.KernelQueryIdeal.main_arg1)
      ∧ m' ((c.tc : Thread Cert.ReferenceQueryIdeal.nD Cert.ReferenceQueryIdeal.τ).loc Cert.ReferenceQueryIdeal.main_arg2) = m ((c.tc : Thread Cert.KernelQueryIdeal.nD Cert.KernelQueryIdeal.τ).loc Cert.KernelQueryIdeal.main_arg2)) →
    ∃ (v0 : (c : Dev Cert.KernelQueryIdeal.nD) → Buf (Elt Ideal) ((c.tc : Thread Cert.KernelQueryIdeal.nD Cert.KernelQueryIdeal.τ).loc Cert.KernelQueryIdeal.main_v2_0)) (v1 : (c : Dev Cert.KernelQueryIdeal.nD) → Buf (Elt Ideal) ((c.tc : Thread Cert.KernelQueryIdeal.nD Cert.KernelQueryIdeal.τ).loc Cert.KernelQueryIdeal.main_v2_1)),
      θ_run (Cert.KernelQueryIdeal.defs (F := Ideal)) (onTc (τ := Cert.KernelQueryIdeal.τ) (Cert.KernelQueryIdeal.main (F := Ideal))) ⟨m, fun _ => 0, g⟩ (fun r => ∀ c : Dev Cert.KernelQueryIdeal.nD,
          r.2.mem ((c.tc : Thread Cert.KernelQueryIdeal.nD Cert.KernelQueryIdeal.τ).loc Cert.KernelQueryIdeal.main_v2_0) = v0 c
          ∧ r.2.mem ((c.tc : Thread Cert.KernelQueryIdeal.nD Cert.KernelQueryIdeal.τ).loc Cert.KernelQueryIdeal.main_v2_1) = v1 c
          ∧ r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
          ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1)
          ∧ r.2.mem ((c.tc : Thread Cert.KernelQueryIdeal.nD Cert.KernelQueryIdeal.τ).loc Cert.KernelQueryIdeal.main_arg2) = m ((c.tc : Thread Cert.KernelQueryIdeal.nD Cert.KernelQueryIdeal.τ).loc Cert.KernelQueryIdeal.main_arg2))
      ∧ θ_run (Cert.ReferenceQueryIdeal.defs (F := Ideal)) (onTc (τ := Cert.ReferenceQueryIdeal.τ) (Cert.ReferenceQueryIdeal.main (F := Ideal))) ⟨m', fun _ => 0, g'⟩ (fun r => ∀ c : Dev Cert.ReferenceQueryIdeal.nD,
          r.2.mem ((c.tc : Thread Cert.ReferenceQueryIdeal.nD Cert.ReferenceQueryIdeal.τ).loc Cert.ReferenceQueryIdeal.main_v13) = v0 c
          ∧ r.2.mem ((c.tc : Thread Cert.ReferenceQueryIdeal.nD Cert.ReferenceQueryIdeal.τ).loc Cert.ReferenceQueryIdeal.main_v12) = v1 c
          ∧ r.2.mem ((c.tc : Thread Cert.ReferenceQueryIdeal.nD Cert.ReferenceQueryIdeal.τ).loc Cert.ReferenceQueryIdeal.main_arg0) = m' ((c.tc : Thread Cert.ReferenceQueryIdeal.nD Cert.ReferenceQueryIdeal.τ).loc Cert.ReferenceQueryIdeal.main_arg0)
          ∧ r.2.mem ((c.tc : Thread Cert.ReferenceQueryIdeal.nD Cert.ReferenceQueryIdeal.τ).loc Cert.ReferenceQueryIdeal.main_arg1) = m' ((c.tc : Thread Cert.ReferenceQueryIdeal.nD Cert.ReferenceQueryIdeal.τ).loc Cert.ReferenceQueryIdeal.main_arg1)
          ∧ r.2.mem ((c.tc : Thread Cert.ReferenceQueryIdeal.nD Cert.ReferenceQueryIdeal.τ).loc Cert.ReferenceQueryIdeal.main_arg2) = m' ((c.tc : Thread Cert.ReferenceQueryIdeal.nD Cert.ReferenceQueryIdeal.τ).loc Cert.ReferenceQueryIdeal.main_arg2))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)) →
    ∃ (v0 : (c : Dev Cert.KernelKvIdeal.nD) → Buf (Elt Ideal) ((c.tc : Thread Cert.KernelKvIdeal.nD Cert.KernelKvIdeal.τ).loc Cert.KernelKvIdeal.main_v13_0)) (v1 : (c : Dev Cert.KernelKvIdeal.nD) → Buf (Elt Ideal) ((c.tc : Thread Cert.KernelKvIdeal.nD Cert.KernelKvIdeal.τ).loc Cert.KernelKvIdeal.main_v13_1)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v13_0) = v0 c
          ∧ r.2.mem ((c.tc : Thread Cert.KernelKvIdeal.nD Cert.KernelKvIdeal.τ).loc Cert.KernelKvIdeal.main_v13_1) = v1 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v17) = v0 c
          ∧ r.2.mem ((c.tc : Thread Cert.ReferenceKvIdeal.nD Cert.ReferenceKvIdeal.τ).loc Cert.ReferenceKvIdeal.main_v18) = v1 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v1) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelOut2_KernelOut2Ideal : Prop :=
  True

def algebraic_KernelOut2Ideal_ReferenceOut2Ideal [hKernelOut2Ideal : Cert.KernelOut2Ideal.Facts] [hReferenceOut2Ideal : Cert.ReferenceOut2Ideal.Facts] : Prop :=
  ∀ (m : (ℓ : Loc Cert.KernelOut2Ideal.nD Cert.KernelOut2Ideal.τ Cert.KernelOut2Ideal.sig) → Buf (Elt Ideal) ℓ) (g : Dev Cert.KernelOut2Ideal.nD → PrngReg)
    (m' : (ℓ : Loc Cert.ReferenceOut2Ideal.nD Cert.ReferenceOut2Ideal.τ Cert.ReferenceOut2Ideal.sig) → Buf (Elt Ideal) ℓ) (g' : Dev Cert.ReferenceOut2Ideal.nD → PrngReg), Pre_KernelOut2Ideal m →
    (∀ c : Dev Cert.KernelOut2Ideal.nD,
      m' ((c.tc : Thread Cert.ReferenceOut2Ideal.nD Cert.ReferenceOut2Ideal.τ).loc Cert.ReferenceOut2Ideal.main_arg0) = m ((c.tc : Thread Cert.KernelOut2Ideal.nD Cert.KernelOut2Ideal.τ).loc Cert.KernelOut2Ideal.main_arg0)
      ∧ m' ((c.tc : Thread Cert.ReferenceOut2Ideal.nD Cert.ReferenceOut2Ideal.τ).loc Cert.ReferenceOut2Ideal.main_arg1) = m ((c.tc : Thread Cert.KernelOut2Ideal.nD Cert.KernelOut2Ideal.τ).loc Cert.KernelOut2Ideal.main_arg1)
      ∧ m' ((c.tc : Thread Cert.ReferenceOut2Ideal.nD Cert.ReferenceOut2Ideal.τ).loc Cert.ReferenceOut2Ideal.main_arg2) = m ((c.tc : Thread Cert.KernelOut2Ideal.nD Cert.KernelOut2Ideal.τ).loc Cert.KernelOut2Ideal.main_arg2)
      ∧ m' ((c.tc : Thread Cert.ReferenceOut2Ideal.nD Cert.ReferenceOut2Ideal.τ).loc Cert.ReferenceOut2Ideal.main_arg3) = m ((c.tc : Thread Cert.KernelOut2Ideal.nD Cert.KernelOut2Ideal.τ).loc Cert.KernelOut2Ideal.main_arg3)) →
    ∃ (v0 : (c : Dev Cert.KernelOut2Ideal.nD) → Buf (Elt Ideal) ((c.tc : Thread Cert.KernelOut2Ideal.nD Cert.KernelOut2Ideal.τ).loc Cert.KernelOut2Ideal.main_v3)),
      θ_run (Cert.KernelOut2Ideal.defs (F := Ideal)) (onTc (τ := Cert.KernelOut2Ideal.τ) (Cert.KernelOut2Ideal.main (F := Ideal))) ⟨m, fun _ => 0, g⟩ (fun r => ∀ c : Dev Cert.KernelOut2Ideal.nD,
          r.2.mem ((c.tc : Thread Cert.KernelOut2Ideal.nD Cert.KernelOut2Ideal.τ).loc Cert.KernelOut2Ideal.main_v3) = v0 c
          ∧ r.2.mem ((c.tc : Thread Cert.KernelOut2Ideal.nD Cert.KernelOut2Ideal.τ).loc Cert.KernelOut2Ideal.main_arg0) = m ((c.tc : Thread Cert.KernelOut2Ideal.nD Cert.KernelOut2Ideal.τ).loc Cert.KernelOut2Ideal.main_arg0)
          ∧ r.2.mem ((c.tc : Thread Cert.KernelOut2Ideal.nD Cert.KernelOut2Ideal.τ).loc Cert.KernelOut2Ideal.main_arg1) = m ((c.tc : Thread Cert.KernelOut2Ideal.nD Cert.KernelOut2Ideal.τ).loc Cert.KernelOut2Ideal.main_arg1)
          ∧ r.2.mem ((c.tc : Thread Cert.KernelOut2Ideal.nD Cert.KernelOut2Ideal.τ).loc Cert.KernelOut2Ideal.main_arg2) = m ((c.tc : Thread Cert.KernelOut2Ideal.nD Cert.KernelOut2Ideal.τ).loc Cert.KernelOut2Ideal.main_arg2)
          ∧ r.2.mem ((c.tc : Thread Cert.KernelOut2Ideal.nD Cert.KernelOut2Ideal.τ).loc Cert.KernelOut2Ideal.main_arg3) = m ((c.tc : Thread Cert.KernelOut2Ideal.nD Cert.KernelOut2Ideal.τ).loc Cert.KernelOut2Ideal.main_arg3))
      ∧ θ_run (Cert.ReferenceOut2Ideal.defs (F := Ideal)) (onTc (τ := Cert.ReferenceOut2Ideal.τ) (Cert.ReferenceOut2Ideal.main (F := Ideal))) ⟨m', fun _ => 0, g'⟩ (fun r => ∀ c : Dev Cert.ReferenceOut2Ideal.nD,
          r.2.mem ((c.tc : Thread Cert.ReferenceOut2Ideal.nD Cert.ReferenceOut2Ideal.τ).loc Cert.ReferenceOut2Ideal.main_v2) = v0 c
          ∧ r.2.mem ((c.tc : Thread Cert.ReferenceOut2Ideal.nD Cert.ReferenceOut2Ideal.τ).loc Cert.ReferenceOut2Ideal.main_arg0) = m' ((c.tc : Thread Cert.ReferenceOut2Ideal.nD Cert.ReferenceOut2Ideal.τ).loc Cert.ReferenceOut2Ideal.main_arg0)
          ∧ r.2.mem ((c.tc : Thread Cert.ReferenceOut2Ideal.nD Cert.ReferenceOut2Ideal.τ).loc Cert.ReferenceOut2Ideal.main_arg1) = m' ((c.tc : Thread Cert.ReferenceOut2Ideal.nD Cert.ReferenceOut2Ideal.τ).loc Cert.ReferenceOut2Ideal.main_arg1)
          ∧ r.2.mem ((c.tc : Thread Cert.ReferenceOut2Ideal.nD Cert.ReferenceOut2Ideal.τ).loc Cert.ReferenceOut2Ideal.main_arg2) = m' ((c.tc : Thread Cert.ReferenceOut2Ideal.nD Cert.ReferenceOut2Ideal.τ).loc Cert.ReferenceOut2Ideal.main_arg2)
          ∧ r.2.mem ((c.tc : Thread Cert.ReferenceOut2Ideal.nD Cert.ReferenceOut2Ideal.τ).loc Cert.ReferenceOut2Ideal.main_arg3) = m' ((c.tc : Thread Cert.ReferenceOut2Ideal.nD Cert.ReferenceOut2Ideal.τ).loc Cert.ReferenceOut2Ideal.main_arg3))

def preserves_KernelEven_KernelEvenIdeal : Prop :=
  True

def algebraic_KernelEvenIdeal_ReferenceEvenIdeal [hKernelEvenIdeal : Cert.KernelEvenIdeal.Facts] [hReferenceEvenIdeal : Cert.ReferenceEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg)
    (m' : (ℓ : Loc Cert.ReferenceEvenIdeal.nD Cert.ReferenceEvenIdeal.τ Cert.ReferenceEvenIdeal.sig) → Buf (Elt Ideal) ℓ) (g' : Dev Cert.ReferenceEvenIdeal.nD → PrngReg), Pre_KernelEvenIdeal m →
    (∀ c : Dev Cert.KernelEvenIdeal.nD,
      m' ((c.tc : Thread Cert.ReferenceEvenIdeal.nD Cert.ReferenceEvenIdeal.τ).loc Cert.ReferenceEvenIdeal.main_arg0) = m ((c.tc : Thread Cert.KernelEvenIdeal.nD Cert.KernelEvenIdeal.τ).loc Cert.KernelEvenIdeal.main_arg0)
      ∧ m' ((c.tc : Thread Cert.ReferenceEvenIdeal.nD Cert.ReferenceEvenIdeal.τ).loc Cert.ReferenceEvenIdeal.main_arg1) = m ((c.tc : Thread Cert.KernelEvenIdeal.nD Cert.KernelEvenIdeal.τ).loc Cert.KernelEvenIdeal.main_arg1)
      ∧ m' ((c.tc : Thread Cert.ReferenceEvenIdeal.nD Cert.ReferenceEvenIdeal.τ).loc Cert.ReferenceEvenIdeal.main_arg2) = m ((c.tc : Thread Cert.KernelEvenIdeal.nD Cert.KernelEvenIdeal.τ).loc Cert.KernelEvenIdeal.main_arg2)
      ∧ m' ((c.tc : Thread Cert.ReferenceEvenIdeal.nD Cert.ReferenceEvenIdeal.τ).loc Cert.ReferenceEvenIdeal.main_arg3) = m ((c.tc : Thread Cert.KernelEvenIdeal.nD Cert.KernelEvenIdeal.τ).loc Cert.KernelEvenIdeal.main_arg3)) →
    ∃ (v0 : (c : Dev Cert.KernelEvenIdeal.nD) → Buf (Elt Ideal) ((c.tc : Thread Cert.KernelEvenIdeal.nD Cert.KernelEvenIdeal.τ).loc Cert.KernelEvenIdeal.main_v40_0)) (v1 : (c : Dev Cert.KernelEvenIdeal.nD) → Buf (Elt Ideal) ((c.tc : Thread Cert.KernelEvenIdeal.nD Cert.KernelEvenIdeal.τ).loc Cert.KernelEvenIdeal.main_v40_1)) (v2 : (c : Dev Cert.KernelEvenIdeal.nD) → Buf (Elt Ideal) ((c.tc : Thread Cert.KernelEvenIdeal.nD Cert.KernelEvenIdeal.τ).loc Cert.KernelEvenIdeal.main_v40_2)) (v3 : (c : Dev Cert.KernelEvenIdeal.nD) → Buf (Elt Ideal) ((c.tc : Thread Cert.KernelEvenIdeal.nD Cert.KernelEvenIdeal.τ).loc Cert.KernelEvenIdeal.main_v40_3)) (v4 : (c : Dev Cert.KernelEvenIdeal.nD) → Buf (Elt Ideal) ((c.tc : Thread Cert.KernelEvenIdeal.nD Cert.KernelEvenIdeal.τ).loc Cert.KernelEvenIdeal.main_v40_4)) (v5 : (c : Dev Cert.KernelEvenIdeal.nD) → Buf (Elt Ideal) ((c.tc : Thread Cert.KernelEvenIdeal.nD Cert.KernelEvenIdeal.τ).loc Cert.KernelEvenIdeal.main_v40_5)) (v6 : (c : Dev Cert.KernelEvenIdeal.nD) → Buf (Elt Ideal) ((c.tc : Thread Cert.KernelEvenIdeal.nD Cert.KernelEvenIdeal.τ).loc Cert.KernelEvenIdeal.main_v40_6)),
      θ_run (Cert.KernelEvenIdeal.defs (F := Ideal)) (onTc (τ := Cert.KernelEvenIdeal.τ) (Cert.KernelEvenIdeal.main (F := Ideal))) ⟨m, fun _ => 0, g⟩ (fun r => ∀ c : Dev Cert.KernelEvenIdeal.nD,
          r.2.mem ((c.tc : Thread Cert.KernelEvenIdeal.nD Cert.KernelEvenIdeal.τ).loc Cert.KernelEvenIdeal.main_v40_0) = v0 c
          ∧ r.2.mem ((c.tc : Thread Cert.KernelEvenIdeal.nD Cert.KernelEvenIdeal.τ).loc Cert.KernelEvenIdeal.main_v40_1) = v1 c
          ∧ r.2.mem ((c.tc : Thread Cert.KernelEvenIdeal.nD Cert.KernelEvenIdeal.τ).loc Cert.KernelEvenIdeal.main_v40_2) = v2 c
          ∧ r.2.mem ((c.tc : Thread Cert.KernelEvenIdeal.nD Cert.KernelEvenIdeal.τ).loc Cert.KernelEvenIdeal.main_v40_3) = v3 c
          ∧ r.2.mem ((c.tc : Thread Cert.KernelEvenIdeal.nD Cert.KernelEvenIdeal.τ).loc Cert.KernelEvenIdeal.main_v40_4) = v4 c
          ∧ r.2.mem ((c.tc : Thread Cert.KernelEvenIdeal.nD Cert.KernelEvenIdeal.τ).loc Cert.KernelEvenIdeal.main_v40_5) = v5 c
          ∧ r.2.mem ((c.tc : Thread Cert.KernelEvenIdeal.nD Cert.KernelEvenIdeal.τ).loc Cert.KernelEvenIdeal.main_v40_6) = v6 c
          ∧ r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
          ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
          ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
          ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3))
      ∧ θ_run (Cert.ReferenceEvenIdeal.defs (F := Ideal)) (onTc (τ := Cert.ReferenceEvenIdeal.τ) (Cert.ReferenceEvenIdeal.main (F := Ideal))) ⟨m', fun _ => 0, g'⟩ (fun r => ∀ c : Dev Cert.ReferenceEvenIdeal.nD,
          r.2.mem ((c.tc : Thread Cert.ReferenceEvenIdeal.nD Cert.ReferenceEvenIdeal.τ).loc Cert.ReferenceEvenIdeal.main_v126) = v0 c
          ∧ r.2.mem ((c.tc : Thread Cert.ReferenceEvenIdeal.nD Cert.ReferenceEvenIdeal.τ).loc Cert.ReferenceEvenIdeal.main_v127) = v1 c
          ∧ r.2.mem ((c.tc : Thread Cert.ReferenceEvenIdeal.nD Cert.ReferenceEvenIdeal.τ).loc Cert.ReferenceEvenIdeal.main_v128) = v2 c
          ∧ r.2.mem ((c.tc : Thread Cert.ReferenceEvenIdeal.nD Cert.ReferenceEvenIdeal.τ).loc Cert.ReferenceEvenIdeal.main_v129) = v3 c
          ∧ r.2.mem ((c.tc : Thread Cert.ReferenceEvenIdeal.nD Cert.ReferenceEvenIdeal.τ).loc Cert.ReferenceEvenIdeal.main_v130) = v4 c
          ∧ r.2.mem ((c.tc : Thread Cert.ReferenceEvenIdeal.nD Cert.ReferenceEvenIdeal.τ).loc Cert.ReferenceEvenIdeal.main_v131) = v5 c
          ∧ r.2.mem ((c.tc : Thread Cert.ReferenceEvenIdeal.nD Cert.ReferenceEvenIdeal.τ).loc Cert.ReferenceEvenIdeal.main_v132) = v6 c
          ∧ r.2.mem ((c.tc : Thread Cert.ReferenceEvenIdeal.nD Cert.ReferenceEvenIdeal.τ).loc Cert.ReferenceEvenIdeal.main_arg0) = m' ((c.tc : Thread Cert.ReferenceEvenIdeal.nD Cert.ReferenceEvenIdeal.τ).loc Cert.ReferenceEvenIdeal.main_arg0)
          ∧ r.2.mem ((c.tc : Thread Cert.ReferenceEvenIdeal.nD Cert.ReferenceEvenIdeal.τ).loc Cert.ReferenceEvenIdeal.main_arg1) = m' ((c.tc : Thread Cert.ReferenceEvenIdeal.nD Cert.ReferenceEvenIdeal.τ).loc Cert.ReferenceEvenIdeal.main_arg1)
          ∧ r.2.mem ((c.tc : Thread Cert.ReferenceEvenIdeal.nD Cert.ReferenceEvenIdeal.τ).loc Cert.ReferenceEvenIdeal.main_arg2) = m' ((c.tc : Thread Cert.ReferenceEvenIdeal.nD Cert.ReferenceEvenIdeal.τ).loc Cert.ReferenceEvenIdeal.main_arg2)
          ∧ r.2.mem ((c.tc : Thread Cert.ReferenceEvenIdeal.nD Cert.ReferenceEvenIdeal.τ).loc Cert.ReferenceEvenIdeal.main_arg3) = m' ((c.tc : Thread Cert.ReferenceEvenIdeal.nD Cert.ReferenceEvenIdeal.τ).loc Cert.ReferenceEvenIdeal.main_arg3))

def preserves_KernelLatent_KernelLatentIdeal : Prop :=
  True

def algebraic_KernelLatentIdeal_ReferenceLatentIdeal [hKernelLatentIdeal : Cert.KernelLatentIdeal.Facts] [hReferenceLatentIdeal : Cert.ReferenceLatentIdeal.Facts] : Prop :=
  ∀ (m : (ℓ : Loc Cert.KernelLatentIdeal.nD Cert.KernelLatentIdeal.τ Cert.KernelLatentIdeal.sig) → Buf (Elt Ideal) ℓ) (g : Dev Cert.KernelLatentIdeal.nD → PrngReg)
    (m' : (ℓ : Loc Cert.ReferenceLatentIdeal.nD Cert.ReferenceLatentIdeal.τ Cert.ReferenceLatentIdeal.sig) → Buf (Elt Ideal) ℓ) (g' : Dev Cert.ReferenceLatentIdeal.nD → PrngReg), Pre_KernelLatentIdeal m →
    (∀ c : Dev Cert.KernelLatentIdeal.nD,
      m' ((c.tc : Thread Cert.ReferenceLatentIdeal.nD Cert.ReferenceLatentIdeal.τ).loc Cert.ReferenceLatentIdeal.main_arg0) = m ((c.tc : Thread Cert.KernelLatentIdeal.nD Cert.KernelLatentIdeal.τ).loc Cert.KernelLatentIdeal.main_arg0)
      ∧ m' ((c.tc : Thread Cert.ReferenceLatentIdeal.nD Cert.ReferenceLatentIdeal.τ).loc Cert.ReferenceLatentIdeal.main_arg1) = m ((c.tc : Thread Cert.KernelLatentIdeal.nD Cert.KernelLatentIdeal.τ).loc Cert.KernelLatentIdeal.main_arg1)
      ∧ m' ((c.tc : Thread Cert.ReferenceLatentIdeal.nD Cert.ReferenceLatentIdeal.τ).loc Cert.ReferenceLatentIdeal.main_arg2) = m ((c.tc : Thread Cert.KernelLatentIdeal.nD Cert.KernelLatentIdeal.τ).loc Cert.KernelLatentIdeal.main_arg2)
      ∧ m' ((c.tc : Thread Cert.ReferenceLatentIdeal.nD Cert.ReferenceLatentIdeal.τ).loc Cert.ReferenceLatentIdeal.main_arg3) = m ((c.tc : Thread Cert.KernelLatentIdeal.nD Cert.KernelLatentIdeal.τ).loc Cert.KernelLatentIdeal.main_arg3)) →
    ∃ (v0 : (c : Dev Cert.KernelLatentIdeal.nD) → Buf (Elt Ideal) ((c.tc : Thread Cert.KernelLatentIdeal.nD Cert.KernelLatentIdeal.τ).loc Cert.KernelLatentIdeal.main_v29_0)) (v1 : (c : Dev Cert.KernelLatentIdeal.nD) → Buf (Elt Ideal) ((c.tc : Thread Cert.KernelLatentIdeal.nD Cert.KernelLatentIdeal.τ).loc Cert.KernelLatentIdeal.main_v29_1)) (v2 : (c : Dev Cert.KernelLatentIdeal.nD) → Buf (Elt Ideal) ((c.tc : Thread Cert.KernelLatentIdeal.nD Cert.KernelLatentIdeal.τ).loc Cert.KernelLatentIdeal.main_v29_2)),
      θ_run (Cert.KernelLatentIdeal.defs (F := Ideal)) (onTc (τ := Cert.KernelLatentIdeal.τ) (Cert.KernelLatentIdeal.main (F := Ideal))) ⟨m, fun _ => 0, g⟩ (fun r => ∀ c : Dev Cert.KernelLatentIdeal.nD,
          r.2.mem ((c.tc : Thread Cert.KernelLatentIdeal.nD Cert.KernelLatentIdeal.τ).loc Cert.KernelLatentIdeal.main_v29_0) = v0 c
          ∧ r.2.mem ((c.tc : Thread Cert.KernelLatentIdeal.nD Cert.KernelLatentIdeal.τ).loc Cert.KernelLatentIdeal.main_v29_1) = v1 c
          ∧ r.2.mem ((c.tc : Thread Cert.KernelLatentIdeal.nD Cert.KernelLatentIdeal.τ).loc Cert.KernelLatentIdeal.main_v29_2) = v2 c
          ∧ r.2.mem ((c.tc : Thread Cert.KernelLatentIdeal.nD Cert.KernelLatentIdeal.τ).loc Cert.KernelLatentIdeal.main_arg0) = m ((c.tc : Thread Cert.KernelLatentIdeal.nD Cert.KernelLatentIdeal.τ).loc Cert.KernelLatentIdeal.main_arg0)
          ∧ r.2.mem ((c.tc : Thread Cert.KernelLatentIdeal.nD Cert.KernelLatentIdeal.τ).loc Cert.KernelLatentIdeal.main_arg1) = m ((c.tc : Thread Cert.KernelLatentIdeal.nD Cert.KernelLatentIdeal.τ).loc Cert.KernelLatentIdeal.main_arg1)
          ∧ r.2.mem ((c.tc : Thread Cert.KernelLatentIdeal.nD Cert.KernelLatentIdeal.τ).loc Cert.KernelLatentIdeal.main_arg2) = m ((c.tc : Thread Cert.KernelLatentIdeal.nD Cert.KernelLatentIdeal.τ).loc Cert.KernelLatentIdeal.main_arg2)
          ∧ r.2.mem ((c.tc : Thread Cert.KernelLatentIdeal.nD Cert.KernelLatentIdeal.τ).loc Cert.KernelLatentIdeal.main_arg3) = m ((c.tc : Thread Cert.KernelLatentIdeal.nD Cert.KernelLatentIdeal.τ).loc Cert.KernelLatentIdeal.main_arg3))
      ∧ θ_run (Cert.ReferenceLatentIdeal.defs (F := Ideal)) (onTc (τ := Cert.ReferenceLatentIdeal.τ) (Cert.ReferenceLatentIdeal.main (F := Ideal))) ⟨m', fun _ => 0, g'⟩ (fun r => ∀ c : Dev Cert.ReferenceLatentIdeal.nD,
          r.2.mem ((c.tc : Thread Cert.ReferenceLatentIdeal.nD Cert.ReferenceLatentIdeal.τ).loc Cert.ReferenceLatentIdeal.main_v52) = v0 c
          ∧ r.2.mem ((c.tc : Thread Cert.ReferenceLatentIdeal.nD Cert.ReferenceLatentIdeal.τ).loc Cert.ReferenceLatentIdeal.main_v53) = v1 c
          ∧ r.2.mem ((c.tc : Thread Cert.ReferenceLatentIdeal.nD Cert.ReferenceLatentIdeal.τ).loc Cert.ReferenceLatentIdeal.main_v54) = v2 c
          ∧ r.2.mem ((c.tc : Thread Cert.ReferenceLatentIdeal.nD Cert.ReferenceLatentIdeal.τ).loc Cert.ReferenceLatentIdeal.main_arg0) = m' ((c.tc : Thread Cert.ReferenceLatentIdeal.nD Cert.ReferenceLatentIdeal.τ).loc Cert.ReferenceLatentIdeal.main_arg0)
          ∧ r.2.mem ((c.tc : Thread Cert.ReferenceLatentIdeal.nD Cert.ReferenceLatentIdeal.τ).loc Cert.ReferenceLatentIdeal.main_arg1) = m' ((c.tc : Thread Cert.ReferenceLatentIdeal.nD Cert.ReferenceLatentIdeal.τ).loc Cert.ReferenceLatentIdeal.main_arg1)
          ∧ r.2.mem ((c.tc : Thread Cert.ReferenceLatentIdeal.nD Cert.ReferenceLatentIdeal.τ).loc Cert.ReferenceLatentIdeal.main_arg2) = m' ((c.tc : Thread Cert.ReferenceLatentIdeal.nD Cert.ReferenceLatentIdeal.τ).loc Cert.ReferenceLatentIdeal.main_arg2)
          ∧ r.2.mem ((c.tc : Thread Cert.ReferenceLatentIdeal.nD Cert.ReferenceLatentIdeal.τ).loc Cert.ReferenceLatentIdeal.main_arg3) = m' ((c.tc : Thread Cert.ReferenceLatentIdeal.nD Cert.ReferenceLatentIdeal.τ).loc Cert.ReferenceLatentIdeal.main_arg3))

def preserves_KernelUq_KernelUqIdeal : Prop :=
  True

def algebraic_KernelUqIdeal_ReferenceUqIdeal [hKernelUqIdeal : Cert.KernelUqIdeal.Facts] [hReferenceUqIdeal : Cert.ReferenceUqIdeal.Facts] : Prop :=
  ∀ (m : (ℓ : Loc Cert.KernelUqIdeal.nD Cert.KernelUqIdeal.τ Cert.KernelUqIdeal.sig) → Buf (Elt Ideal) ℓ) (g : Dev Cert.KernelUqIdeal.nD → PrngReg)
    (m' : (ℓ : Loc Cert.ReferenceUqIdeal.nD Cert.ReferenceUqIdeal.τ Cert.ReferenceUqIdeal.sig) → Buf (Elt Ideal) ℓ) (g' : Dev Cert.ReferenceUqIdeal.nD → PrngReg), Pre_KernelUqIdeal m →
    (∀ c : Dev Cert.KernelUqIdeal.nD,
      m' ((c.tc : Thread Cert.ReferenceUqIdeal.nD Cert.ReferenceUqIdeal.τ).loc Cert.ReferenceUqIdeal.main_arg0) = m ((c.tc : Thread Cert.KernelUqIdeal.nD Cert.KernelUqIdeal.τ).loc Cert.KernelUqIdeal.main_arg0)
      ∧ m' ((c.tc : Thread Cert.ReferenceUqIdeal.nD Cert.ReferenceUqIdeal.τ).loc Cert.ReferenceUqIdeal.main_arg1) = m ((c.tc : Thread Cert.KernelUqIdeal.nD Cert.KernelUqIdeal.τ).loc Cert.KernelUqIdeal.main_arg1)
      ∧ m' ((c.tc : Thread Cert.ReferenceUqIdeal.nD Cert.ReferenceUqIdeal.τ).loc Cert.ReferenceUqIdeal.main_arg2) = m ((c.tc : Thread Cert.KernelUqIdeal.nD Cert.KernelUqIdeal.τ).loc Cert.KernelUqIdeal.main_arg2)
      ∧ m' ((c.tc : Thread Cert.ReferenceUqIdeal.nD Cert.ReferenceUqIdeal.τ).loc Cert.ReferenceUqIdeal.main_arg3) = m ((c.tc : Thread Cert.KernelUqIdeal.nD Cert.KernelUqIdeal.τ).loc Cert.KernelUqIdeal.main_arg3)) →
    ∃ (v0 : (c : Dev Cert.KernelUqIdeal.nD) → Buf (Elt Ideal) ((c.tc : Thread Cert.KernelUqIdeal.nD Cert.KernelUqIdeal.τ).loc Cert.KernelUqIdeal.main_v39_0)) (v1 : (c : Dev Cert.KernelUqIdeal.nD) → Buf (Elt Ideal) ((c.tc : Thread Cert.KernelUqIdeal.nD Cert.KernelUqIdeal.τ).loc Cert.KernelUqIdeal.main_v39_1)),
      θ_run (Cert.KernelUqIdeal.defs (F := Ideal)) (onTc (τ := Cert.KernelUqIdeal.τ) (Cert.KernelUqIdeal.main (F := Ideal))) ⟨m, fun _ => 0, g⟩ (fun r => ∀ c : Dev Cert.KernelUqIdeal.nD,
          r.2.mem ((c.tc : Thread Cert.KernelUqIdeal.nD Cert.KernelUqIdeal.τ).loc Cert.KernelUqIdeal.main_v39_0) = v0 c
          ∧ r.2.mem ((c.tc : Thread Cert.KernelUqIdeal.nD Cert.KernelUqIdeal.τ).loc Cert.KernelUqIdeal.main_v39_1) = v1 c
          ∧ r.2.mem ((c.tc : Thread Cert.KernelUqIdeal.nD Cert.KernelUqIdeal.τ).loc Cert.KernelUqIdeal.main_arg0) = m ((c.tc : Thread Cert.KernelUqIdeal.nD Cert.KernelUqIdeal.τ).loc Cert.KernelUqIdeal.main_arg0)
          ∧ r.2.mem ((c.tc : Thread Cert.KernelUqIdeal.nD Cert.KernelUqIdeal.τ).loc Cert.KernelUqIdeal.main_arg1) = m ((c.tc : Thread Cert.KernelUqIdeal.nD Cert.KernelUqIdeal.τ).loc Cert.KernelUqIdeal.main_arg1)
          ∧ r.2.mem ((c.tc : Thread Cert.KernelUqIdeal.nD Cert.KernelUqIdeal.τ).loc Cert.KernelUqIdeal.main_arg2) = m ((c.tc : Thread Cert.KernelUqIdeal.nD Cert.KernelUqIdeal.τ).loc Cert.KernelUqIdeal.main_arg2)
          ∧ r.2.mem ((c.tc : Thread Cert.KernelUqIdeal.nD Cert.KernelUqIdeal.τ).loc Cert.KernelUqIdeal.main_arg3) = m ((c.tc : Thread Cert.KernelUqIdeal.nD Cert.KernelUqIdeal.τ).loc Cert.KernelUqIdeal.main_arg3))
      ∧ θ_run (Cert.ReferenceUqIdeal.defs (F := Ideal)) (onTc (τ := Cert.ReferenceUqIdeal.τ) (Cert.ReferenceUqIdeal.main (F := Ideal))) ⟨m', fun _ => 0, g'⟩ (fun r => ∀ c : Dev Cert.ReferenceUqIdeal.nD,
          r.2.mem ((c.tc : Thread Cert.ReferenceUqIdeal.nD Cert.ReferenceUqIdeal.τ).loc Cert.ReferenceUqIdeal.main_v52) = v0 c
          ∧ r.2.mem ((c.tc : Thread Cert.ReferenceUqIdeal.nD Cert.ReferenceUqIdeal.τ).loc Cert.ReferenceUqIdeal.main_v53) = v1 c
          ∧ r.2.mem ((c.tc : Thread Cert.ReferenceUqIdeal.nD Cert.ReferenceUqIdeal.τ).loc Cert.ReferenceUqIdeal.main_arg0) = m' ((c.tc : Thread Cert.ReferenceUqIdeal.nD Cert.ReferenceUqIdeal.τ).loc Cert.ReferenceUqIdeal.main_arg0)
          ∧ r.2.mem ((c.tc : Thread Cert.ReferenceUqIdeal.nD Cert.ReferenceUqIdeal.τ).loc Cert.ReferenceUqIdeal.main_arg1) = m' ((c.tc : Thread Cert.ReferenceUqIdeal.nD Cert.ReferenceUqIdeal.τ).loc Cert.ReferenceUqIdeal.main_arg1)
          ∧ r.2.mem ((c.tc : Thread Cert.ReferenceUqIdeal.nD Cert.ReferenceUqIdeal.τ).loc Cert.ReferenceUqIdeal.main_arg2) = m' ((c.tc : Thread Cert.ReferenceUqIdeal.nD Cert.ReferenceUqIdeal.τ).loc Cert.ReferenceUqIdeal.main_arg2)
          ∧ r.2.mem ((c.tc : Thread Cert.ReferenceUqIdeal.nD Cert.ReferenceUqIdeal.τ).loc Cert.ReferenceUqIdeal.main_arg3) = m' ((c.tc : Thread Cert.ReferenceUqIdeal.nD Cert.ReferenceUqIdeal.τ).loc Cert.ReferenceUqIdeal.main_arg3))

def preserves_KernelMoba_KernelMobaIdeal : Prop :=
  True

def algebraic_KernelMobaIdeal_ReferenceMobaIdeal_pre_finite_block_scores [hKernelMobaIdeal : Cert.KernelMobaIdeal.Facts] [hReferenceMobaIdeal : Cert.ReferenceMobaIdeal.Facts] [hPre_finite_block_scores : Cert.Pre_finite_block_scores.Facts] : Prop :=
  ∀ (m : (ℓ : Loc Cert.KernelMobaIdeal.nD Cert.KernelMobaIdeal.τ Cert.KernelMobaIdeal.sig) → Buf (Elt Ideal) ℓ) (g : Dev Cert.KernelMobaIdeal.nD → PrngReg)
    (m' : (ℓ : Loc Cert.ReferenceMobaIdeal.nD Cert.ReferenceMobaIdeal.τ Cert.ReferenceMobaIdeal.sig) → Buf (Elt Ideal) ℓ) (g' : Dev Cert.ReferenceMobaIdeal.nD → PrngReg), Pre_KernelMobaIdeal_finite_block_scores m →
    (∀ c : Dev Cert.KernelMobaIdeal.nD,
      m' ((c.tc : Thread Cert.ReferenceMobaIdeal.nD Cert.ReferenceMobaIdeal.τ).loc Cert.ReferenceMobaIdeal.main_arg0) = m ((c.tc : Thread Cert.KernelMobaIdeal.nD Cert.KernelMobaIdeal.τ).loc Cert.KernelMobaIdeal.main_arg0)
      ∧ m' ((c.tc : Thread Cert.ReferenceMobaIdeal.nD Cert.ReferenceMobaIdeal.τ).loc Cert.ReferenceMobaIdeal.main_arg1) = m ((c.tc : Thread Cert.KernelMobaIdeal.nD Cert.KernelMobaIdeal.τ).loc Cert.KernelMobaIdeal.main_arg1)
      ∧ m' ((c.tc : Thread Cert.ReferenceMobaIdeal.nD Cert.ReferenceMobaIdeal.τ).loc Cert.ReferenceMobaIdeal.main_arg2) = m ((c.tc : Thread Cert.KernelMobaIdeal.nD Cert.KernelMobaIdeal.τ).loc Cert.KernelMobaIdeal.main_arg2)) →
    ∃ (v0 : (c : Dev Cert.KernelMobaIdeal.nD) → Buf (Elt Ideal) ((c.tc : Thread Cert.KernelMobaIdeal.nD Cert.KernelMobaIdeal.τ).loc Cert.KernelMobaIdeal.main_v7)),
      θ_run (Cert.KernelMobaIdeal.defs (F := Ideal)) (onTc (τ := Cert.KernelMobaIdeal.τ) (Cert.KernelMobaIdeal.main (F := Ideal))) ⟨m, fun _ => 0, g⟩ (fun r => ∀ c : Dev Cert.KernelMobaIdeal.nD,
          r.2.mem ((c.tc : Thread Cert.KernelMobaIdeal.nD Cert.KernelMobaIdeal.τ).loc Cert.KernelMobaIdeal.main_v7) = v0 c
          ∧ r.2.mem ((c.tc : Thread Cert.KernelMobaIdeal.nD Cert.KernelMobaIdeal.τ).loc Cert.KernelMobaIdeal.main_arg0) = m ((c.tc : Thread Cert.KernelMobaIdeal.nD Cert.KernelMobaIdeal.τ).loc Cert.KernelMobaIdeal.main_arg0)
          ∧ r.2.mem ((c.tc : Thread Cert.KernelMobaIdeal.nD Cert.KernelMobaIdeal.τ).loc Cert.KernelMobaIdeal.main_arg1) = m ((c.tc : Thread Cert.KernelMobaIdeal.nD Cert.KernelMobaIdeal.τ).loc Cert.KernelMobaIdeal.main_arg1)
          ∧ r.2.mem ((c.tc : Thread Cert.KernelMobaIdeal.nD Cert.KernelMobaIdeal.τ).loc Cert.KernelMobaIdeal.main_arg2) = m ((c.tc : Thread Cert.KernelMobaIdeal.nD Cert.KernelMobaIdeal.τ).loc Cert.KernelMobaIdeal.main_arg2))
      ∧ θ_run (Cert.ReferenceMobaIdeal.defs (F := Ideal)) (onTc (τ := Cert.ReferenceMobaIdeal.τ) (Cert.ReferenceMobaIdeal.main (F := Ideal))) ⟨m', fun _ => 0, g'⟩ (fun r => ∀ c : Dev Cert.ReferenceMobaIdeal.nD,
          r.2.mem ((c.tc : Thread Cert.ReferenceMobaIdeal.nD Cert.ReferenceMobaIdeal.τ).loc Cert.ReferenceMobaIdeal.main_v60) = v0 c
          ∧ r.2.mem ((c.tc : Thread Cert.ReferenceMobaIdeal.nD Cert.ReferenceMobaIdeal.τ).loc Cert.ReferenceMobaIdeal.main_arg0) = m' ((c.tc : Thread Cert.ReferenceMobaIdeal.nD Cert.ReferenceMobaIdeal.τ).loc Cert.ReferenceMobaIdeal.main_arg0)
          ∧ r.2.mem ((c.tc : Thread Cert.ReferenceMobaIdeal.nD Cert.ReferenceMobaIdeal.τ).loc Cert.ReferenceMobaIdeal.main_arg1) = m' ((c.tc : Thread Cert.ReferenceMobaIdeal.nD Cert.ReferenceMobaIdeal.τ).loc Cert.ReferenceMobaIdeal.main_arg1)
          ∧ r.2.mem ((c.tc : Thread Cert.ReferenceMobaIdeal.nD Cert.ReferenceMobaIdeal.τ).loc Cert.ReferenceMobaIdeal.main_arg2) = m' ((c.tc : Thread Cert.ReferenceMobaIdeal.nD Cert.ReferenceMobaIdeal.τ).loc Cert.ReferenceMobaIdeal.main_arg2))

def Claim : Prop :=
  ∃ (hKernel : Cert.Kernel.Facts) (hKernelIdeal : Cert.KernelIdeal.Facts) (hReferenceIdeal : Cert.ReferenceIdeal.Facts) (hKernelNorm : Cert.KernelNorm.Facts) (hKernelNormIdeal : Cert.KernelNormIdeal.Facts) (hReferenceNormIdeal : Cert.ReferenceNormIdeal.Facts) (hKernelQuery : Cert.KernelQuery.Facts) (hKernelQueryIdeal : Cert.KernelQueryIdeal.Facts) (hReferenceQueryIdeal : Cert.ReferenceQueryIdeal.Facts) (hKernelKv : Cert.KernelKv.Facts) (hKernelKvIdeal : Cert.KernelKvIdeal.Facts) (hReferenceKvIdeal : Cert.ReferenceKvIdeal.Facts) (hKernelOut : Cert.KernelOut.Facts) (hKernelOutIdeal : Cert.KernelOutIdeal.Facts) (hReferenceOutIdeal : Cert.ReferenceOutIdeal.Facts) (hKernelOut2 : Cert.KernelOut2.Facts) (hKernelOut2Ideal : Cert.KernelOut2Ideal.Facts) (hReferenceOut2Ideal : Cert.ReferenceOut2Ideal.Facts) (hKernelEven : Cert.KernelEven.Facts) (hKernelEvenIdeal : Cert.KernelEvenIdeal.Facts) (hReferenceEvenIdeal : Cert.ReferenceEvenIdeal.Facts) (hKernelLatent : Cert.KernelLatent.Facts) (hKernelLatentIdeal : Cert.KernelLatentIdeal.Facts) (hReferenceLatentIdeal : Cert.ReferenceLatentIdeal.Facts) (hKernelUq : Cert.KernelUq.Facts) (hKernelUqIdeal : Cert.KernelUqIdeal.Facts) (hReferenceUqIdeal : Cert.ReferenceUqIdeal.Facts) (hKernelMoba : Cert.KernelMoba.Facts) (hKernelMobaIdeal : Cert.KernelMobaIdeal.Facts) (hReferenceMobaIdeal : Cert.ReferenceMobaIdeal.Facts) (hPre_finite_scores : Cert.Pre_finite_scores.Facts) (hPre_finite_block_scores : Cert.Pre_finite_block_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelQuery (hKernelQuery := hKernelQuery)
    ∧ quiescent_KernelQueryIdeal (hKernelQueryIdeal := hKernelQueryIdeal)
    ∧ quiescent_ReferenceQueryIdeal (hReferenceQueryIdeal := hReferenceQueryIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelOut2 (hKernelOut2 := hKernelOut2)
    ∧ quiescent_KernelOut2Ideal (hKernelOut2Ideal := hKernelOut2Ideal)
    ∧ quiescent_ReferenceOut2Ideal (hReferenceOut2Ideal := hReferenceOut2Ideal)
    ∧ quiescent_KernelEven (hKernelEven := hKernelEven)
    ∧ quiescent_KernelEvenIdeal (hKernelEvenIdeal := hKernelEvenIdeal)
    ∧ quiescent_ReferenceEvenIdeal (hReferenceEvenIdeal := hReferenceEvenIdeal)
    ∧ quiescent_KernelLatent (hKernelLatent := hKernelLatent)
    ∧ quiescent_KernelLatentIdeal (hKernelLatentIdeal := hKernelLatentIdeal)
    ∧ quiescent_ReferenceLatentIdeal (hReferenceLatentIdeal := hReferenceLatentIdeal)
    ∧ quiescent_KernelUq (hKernelUq := hKernelUq)
    ∧ quiescent_KernelUqIdeal (hKernelUqIdeal := hKernelUqIdeal)
    ∧ quiescent_ReferenceUqIdeal (hReferenceUqIdeal := hReferenceUqIdeal)
    ∧ quiescent_KernelMoba (hKernelMoba := hKernelMoba)
    ∧ quiescent_KernelMobaIdeal (hKernelMobaIdeal := hKernelMobaIdeal)
    ∧ quiescent_KernelMobaIdeal_pre_finite_block_scores (hKernelMobaIdeal := hKernelMobaIdeal) (hPre_finite_block_scores := hPre_finite_block_scores)
    ∧ quiescent_ReferenceMobaIdeal (hReferenceMobaIdeal := hReferenceMobaIdeal)
    ∧ quiescent_ReferenceMobaIdeal_pre_finite_block_scores (hReferenceMobaIdeal := hReferenceMobaIdeal) (hPre_finite_block_scores := hPre_finite_block_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelNorm_KernelNormIdeal
    ∧ algebraic_KernelNormIdeal_ReferenceNormIdeal (hKernelNormIdeal := hKernelNormIdeal) (hReferenceNormIdeal := hReferenceNormIdeal)
    ∧ preserves_KernelQuery_KernelQueryIdeal
    ∧ algebraic_KernelQueryIdeal_ReferenceQueryIdeal (hKernelQueryIdeal := hKernelQueryIdeal) (hReferenceQueryIdeal := hReferenceQueryIdeal)
    ∧ preserves_KernelKv_KernelKvIdeal
    ∧ algebraic_KernelKvIdeal_ReferenceKvIdeal (hKernelKvIdeal := hKernelKvIdeal) (hReferenceKvIdeal := hReferenceKvIdeal)
    ∧ preserves_KernelOut_KernelOutIdeal
    ∧ algebraic_KernelOutIdeal_ReferenceOutIdeal (hKernelOutIdeal := hKernelOutIdeal) (hReferenceOutIdeal := hReferenceOutIdeal)
    ∧ preserves_KernelOut2_KernelOut2Ideal
    ∧ algebraic_KernelOut2Ideal_ReferenceOut2Ideal (hKernelOut2Ideal := hKernelOut2Ideal) (hReferenceOut2Ideal := hReferenceOut2Ideal)
    ∧ preserves_KernelEven_KernelEvenIdeal
    ∧ algebraic_KernelEvenIdeal_ReferenceEvenIdeal (hKernelEvenIdeal := hKernelEvenIdeal) (hReferenceEvenIdeal := hReferenceEvenIdeal)
    ∧ preserves_KernelLatent_KernelLatentIdeal
    ∧ algebraic_KernelLatentIdeal_ReferenceLatentIdeal (hKernelLatentIdeal := hKernelLatentIdeal) (hReferenceLatentIdeal := hReferenceLatentIdeal)
    ∧ preserves_KernelUq_KernelUqIdeal
    ∧ algebraic_KernelUqIdeal_ReferenceUqIdeal (hKernelUqIdeal := hKernelUqIdeal) (hReferenceUqIdeal := hReferenceUqIdeal)
    ∧ preserves_KernelMoba_KernelMobaIdeal
    ∧ algebraic_KernelMobaIdeal_ReferenceMobaIdeal_pre_finite_block_scores (hKernelMobaIdeal := hKernelMobaIdeal) (hReferenceMobaIdeal := hReferenceMobaIdeal) (hPre_finite_block_scores := hPre_finite_block_scores)
-- ==== Pre_finite_block_scores.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) (main_arg2 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Pre_finite_scores.lean ====
abbrev S4096x1024 : Shape := ⟨2, ![4096, 1024]⟩
abbrev S4096x512 : Shape := ⟨2, ![4096, 512]⟩
abbrev S4096x128 : Shape := ⟨2, ![4096, 128]⟩
abbrev S_ : Shape := ⟨0, ![]⟩
abbrev S4096x32 : Shape := ⟨2, ![4096, 32]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  slices_S4096x128_S4096x32_0_0 : S4096x128.Slices ![0, 0] S4096x32
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_v13 : IVec S_ 1) (main_v15 : FVec F S4096x32 .f32) (main_v16 : FVec F S4096x32 .f32) : IVec S_ 1 :=
  let main_v17 : IVec S4096x32 1 := cmpf .olt main_v15 main_v16
  let main_c_5 : IVec S_ 1 := constantI S_ 1 1#1
  let main_v18 : IVec S_ 1 := (fun x v => Host.reduce IntOp.andi x v reducesTo_S4096x32_S_d0_1 h_S_) main_v17 main_c_5
  let main_v19 : IVec S_ 1 := andi main_v13 main_v18
  main_v19

def fn {F : FTy → Type} [FloatOps F] (main_arg0 : FVec F S4096x1024 .f32) (main_arg1 : FVec F S4096x512 .f32) (main_arg2 : FVec F S4096x1024 .f32) (main_arg3 : FVec F S4096x128 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x32 .f32 := (extractStridedSlice S4096x32 ![0, 0] · slices_S4096x128_S4096x32_0_0) main_arg3
  let main_v15 : FVec F S4096x32 .f32 := Host.absf main_v14
  let main_cst_4 : FVec F S_ .f32 := constant S_ .f32 0x7F800000#32
  let main_v16 : FVec F S4096x32 .f32 := broadcastInDim S4096x32 ![] bcast_S_S4096x32 main_cst_4
  fn_part1 (F := F) main_v13 main_v15 main_v16
-- ==== Kernel.lean ====
abbrev S4096x1024 : Shape := ⟨2, ![4096, 1024]⟩
abbrev S4096x512 : Shape := ⟨2, ![4096, 512]⟩
abbrev S4096x128 : Shape := ⟨2, ![4096, 128]⟩
abbrev S1024x1024 : Shape := ⟨2, ![1024, 1024]⟩
abbrev S256x256 : Shape := ⟨2, ![256, 256]⟩
abbrev S256x128 : Shape := ⟨2, ![256, 128]⟩
abbrev S512x256 : Shape := ⟨2, ![512, 256]⟩
abbrev S512x128 : Shape := ⟨2, ![512, 128]⟩
abbrev S256x512 : Shape := ⟨2, ![256, 512]⟩
abbrev S512x32 : Shape := ⟨2, ![512, 32]⟩
abbrev S256x64 : Shape := ⟨2, ![256, 64]⟩
abbrev S256x32 : Shape := ⟨2, ![256, 32]⟩
abbrev S512x64 : Shape := ⟨2, ![512, 64]⟩
abbrev S256 : Shape := ⟨1, ![256]⟩
abbrev S256x1 : Shape := ⟨2, ![256, 1]⟩
abbrev S1024x256 : Shape := ⟨2, ![1024, 256]⟩
abbrev S1024x128 : Shape := ⟨2, ![1024, 128]⟩
abbrev S256x1024 : Shape := ⟨2, ![256, 1024]⟩
abbrev S1024x32 : Shape := ⟨2, ![1024, 32]⟩
abbrev S1024x64 : Shape := ⟨2, ![1024, 64]⟩
abbrev S2048x1024 : Shape := ⟨2, ![2048, 1024]⟩
abbrev S2048x256 : Shape := ⟨2, ![2048, 256]⟩
abbrev S2048x128 : Shape := ⟨2, ![2048, 128]⟩
abbrev S256x2048 : Shape := ⟨2, ![256, 2048]⟩
abbrev S2048x32 : Shape := ⟨2, ![2048, 32]⟩
abbrev S2048x64 : Shape := ⟨2, ![2048, 64]⟩
abbrev S2x512x1024 : Shape := ⟨3, ![2, 512, 1024]⟩
abbrev S2x1024x1024 : Shape := ⟨3, ![2, 1024, 1024]⟩
abbrev S2x2048x1024 : Shape := ⟨3, ![2, 2048, 1024]⟩

abbrev nBuf : Space → Nat
  | .hbm => 13
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S4096x128, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2x512x1024, .f32⟩
  | .hbm, ⟨9, _⟩ => ⟨S2x512x1024, .f32⟩
  | .hbm, ⟨10, _⟩ => ⟨S2x1024x1024, .f32⟩
  | .hbm, ⟨11, _⟩ => ⟨S2x2048x1024, .f32⟩
  | .hbm, ⟨12, _⟩ => ⟨S4096x1024, .f32⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S512x256, .f32⟩
  | .local _ .vmem, ⟨9, _⟩ => ⟨S512x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x128, .f32⟩
  | .local _ .vmem, ⟨15, _⟩ => ⟨S256x128, .f32⟩
  | .local _ .vmem, ⟨16, _⟩ => ⟨S1024x256, .f32⟩
  | .local _ .vmem, ⟨17, _⟩ => ⟨S1024x256, .f32⟩
  | .local _ .vmem, ⟨18, _⟩ => ⟨S1024x128, .f32⟩
  | .local _ .vmem, ⟨19, _⟩ => ⟨S1024x128, .f32⟩
  | .local _ .vmem, ⟨20, _⟩ => ⟨S1024x256, .f32⟩
  | .local _ .vmem, ⟨21, _⟩ => ⟨S1024x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x128, .f32⟩
  | .local _ .vmem, ⟨27, _⟩ => ⟨S256x128, .f32⟩
  | .local _ .vmem, ⟨28, _⟩ => ⟨S2048x256, .f32⟩
  | .local _ .vmem, ⟨29, _⟩ => ⟨S2048x256, .f32⟩
  | .local _ .vmem, ⟨30, _⟩ => ⟨S2048x128, .f32⟩
  | .local _ .vmem, ⟨31, _⟩ => ⟨S2048x128, .f32⟩
  | .local _ .vmem, ⟨32, _⟩ => ⟨S2048x256, .f32⟩
  | .local _ .vmem, ⟨33, _⟩ => ⟨S2048x256, .f32⟩
  | .local _ .vmem, ⟨34, _⟩ => ⟨S256x256, .f32⟩
  | .local _ .vmem, ⟨35, _⟩ => ⟨S256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg2
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev grid1 : Pipeline.Grid := ⟨3, ![2, 4, 2], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c2_i32 : BitVec 32 := 2#32
  let v1 : BitVec 32 := Scalar.addi v0 c2_i32
  let v2 : BitVec 32 := Scalar.addi v1 arg2
  let c0_i32 : BitVec 32 := 0#32
  ![v2.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c2_i32 : BitVec 32 := 2#32
  let v1 : BitVec 32 := Scalar.addi v0 c2_i32
  let v2 : BitVec 32 := Scalar.addi v1 arg2
  let c0_i32 : BitVec 32 := 0#32
  ![v2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  ![v0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  ![v0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev grid2 : Pipeline.Grid := ⟨3, ![2, 4, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c4_i32 : BitVec 32 := 4#32
  let v1 : BitVec 32 := Scalar.addi v0 c4_i32
  let v2 : BitVec 32 := Scalar.addi v1 arg2
  let c0_i32 : BitVec 32 := 0#32
  ![v2.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c4_i32 : BitVec 32 := 4#32
  let v1 : BitVec 32 := Scalar.addi v0 c4_i32
  let v2 : BitVec 32 := Scalar.addi v1 arg2
  let c0_i32 : BitVec 32 := 0#32
  ![v2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  ![v0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let c0_i32_0 : BitVec 32 := 0#32
  ![v0.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  ![v0.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S2048x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S256x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]
-- ==== ReferenceIdeal.lean ====
abbrev S4096x1024 : Shape := ⟨2, ![4096, 1024]⟩
abbrev S4096x512 : Shape := ⟨2, ![4096, 512]⟩
abbrev S4096x128 : Shape := ⟨2, ![4096, 128]⟩
abbrev S2x2048x16x64 : Shape := ⟨4, ![2, 2048, 16, 64]⟩
abbrev S2x2048x16x32 : Shape := ⟨4, ![2, 2048, 16, 32]⟩
abbrev S2x2048x128 : Shape := ⟨3, ![2, 2048, 128]⟩
abbrev S2x2048x32 : Shape := ⟨3, ![2, 2048, 32]⟩
abbrev S2048 : Shape := ⟨1, ![2048]⟩
abbrev S2x16x2048x2048 : Shape := ⟨4, ![2, 16, 2048, 2048]⟩
abbrev S2x2048x2048x16 : Shape := ⟨4, ![2, 2048, 2048, 16]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S4096x128, .f32⟩
  | .hbm, ⟨4, _⟩ => ⟨S4096x1024, .f32⟩
  | .hbm, ⟨5, _⟩ => ⟨S2x2048x16x64, .f32⟩
  | .hbm, ⟨6, _⟩ => ⟨S2x2048x16x32, .f32⟩
  | .hbm, ⟨7, _⟩ => ⟨S2x2048x16x64, .f32⟩
  | .hbm, ⟨8, _⟩ => ⟨S2x2048x128, .f32⟩
  | .hbm, ⟨9, _⟩ => ⟨S2x2048x32, .f32⟩
  | .hbm, ⟨10, _⟩ => ⟨S2x2048x16x64, .f32⟩
  | .hbm, ⟨11, _⟩ => ⟨S2048, .i32⟩
  | .hbm, ⟨12, _⟩ => ⟨S2048, .i32⟩
  | .hbm, ⟨13, _⟩ => ⟨S2x16x2048x2048, .f32⟩
  | .hbm, ⟨14, _⟩ => ⟨S2x2048x2048x16, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048x2048, .f32⟩
  | .hbm, ⟨19, _⟩ => ⟨S2x16x2048x2048, .f32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S2x16x2048x2048, .i1⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S_, .f32⟩
  | .hbm, ⟨33, _⟩ => ⟨S2x16x2048, .f32⟩
  | .hbm, ⟨34, _⟩ => ⟨S2x16x2048, .f32⟩
  | .hbm, ⟨35, _⟩ => ⟨S2x16x2048x1, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x64x2048, .f32⟩
  | .hbm, ⟨45, _⟩ => ⟨S2x2048x16x64, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== KernelNorm.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelQuery.lean ====
abbrev S4096x1024 : Shape := ⟨2, ![4096, 1024]⟩
abbrev S1024 : Shape := ⟨1, ![1024]⟩
abbrev S1024x2048 : Shape := ⟨2, ![1024, 2048]⟩
abbrev S1x1024 : Shape := ⟨2, ![1, 1024]⟩
abbrev S4096x2048 : Shape := ⟨2, ![4096, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S4096x2048, .f32⟩
  | .hbm, ⟨6, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceQueryIdeal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelKv.lean ====
abbrev S4096x256 : Shape := ⟨2, ![4096, 256]⟩
abbrev S256 : Shape := ⟨1, ![256]⟩
abbrev S256x2048 : Shape := ⟨2, ![256, 2048]⟩
abbrev S1024 : Shape := ⟨1, ![1024]⟩
abbrev S_ : Shape := ⟨0, ![]⟩
abbrev S1024x1 : Shape := ⟨2, ![1024, 1]⟩
abbrev S256x1024 : Shape := ⟨2, ![256, 1024]⟩
abbrev S1x256 : Shape := ⟨2, ![1, 256]⟩
abbrev S4096x1024 : Shape := ⟨2, ![4096, 1024]⟩
abbrev S256x256 : Shape := ⟨2, ![256, 256]⟩
abbrev S256x1 : Shape := ⟨2, ![256, 1]⟩

abbrev nBuf : Space → Nat
  | .hbm => 24
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S256, .f32⟩
  | .hbm, ⟨2, _⟩ => ⟨S256x2048, .f32⟩
  | .hbm, ⟨3, _⟩ => ⟨S1024, .i32⟩
  | .hbm, ⟨4, _⟩ => ⟨S1024, .i1⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S256x1024, .f32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S256x1024, .f32⟩
  | .hbm, ⟨19, _⟩ => ⟨S256x2048, .f32⟩
  | .hbm, ⟨20, _⟩ => ⟨S256x2048, .bf16⟩
  | .hbm, ⟨21, _⟩ => ⟨S1x256, .f32⟩
  | .hbm, ⟨22, _⟩ => ⟨S4096x1024, .f32⟩
  | .hbm, ⟨23, _⟩ => ⟨S4096x1024, .f32⟩
  | .local _ .vmem, ⟨0, _⟩ => ⟨S256x256, .f32⟩
  | .local _ .vmem, ⟨1, _⟩ => ⟨S256x256, .f32⟩
  | .local _ .vmem, ⟨2, _⟩ => ⟨S1x256, .f32⟩
  | .local _ .vmem, ⟨3, _⟩ => ⟨S256x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceKvIdeal.lean ====
abbrev S4096x256 : Shape := ⟨2, ![4096, 256]⟩
abbrev S256 : Shape := ⟨1, ![256]⟩
abbrev S256x2048 : Shape := ⟨2, ![256, 2048]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S4096x2048 : Shape := ⟨2, ![4096, 2048]⟩
abbrev S4096x16x128 : Shape := ⟨3, ![4096, 16, 128]⟩
abbrev S4096x16x64 : Shape := ⟨3, ![4096, 16, 64]⟩
abbrev S4096x1024 : Shape := ⟨2, ![4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256, .f32⟩
  | .hbm, ⟨2, _⟩ => ⟨S256x2048, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x256, .f32⟩
  | .hbm, ⟨15, _⟩ => ⟨S4096x256, .f32⟩
  | .hbm, ⟨16, _⟩ => ⟨S1x256, .f32⟩
  | .hbm, ⟨17, _⟩ => ⟨S4096x256, .f32⟩
  | .hbm, ⟨18, _⟩ => ⟨S4096x256, .f32⟩
  | .hbm, ⟨19, _⟩ => ⟨S4096x2048, .f32⟩
  | .hbm, ⟨20, _⟩ => ⟨S4096x16x128, .f32⟩
  | .hbm, ⟨21, _⟩ => ⟨S4096x16x64, .f32⟩
  | .hbm, ⟨22, _⟩ => ⟨S4096x16x64, .f32⟩
  | .hbm, ⟨23, _⟩ => ⟨S4096x1024, .f32⟩
  | .hbm, ⟨24, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== KernelOut.lean ====
abbrev S4096x1024 : Shape := ⟨2, ![4096, 1024]⟩
abbrev S1024x1024 : Shape := ⟨2, ![1024, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .bf16⟩
  | .hbm, ⟨4, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceOutIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelOut2.lean ====
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S256x1024 : Shape := ⟨2, ![256, 1024]⟩
abbrev S256x512 : Shape := ⟨2, ![256, 512]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOut2Ideal.lean ====
abbrev S4096x1024 : Shape := ⟨2, ![4096, 1024]⟩
abbrev S4096x512 : Shape := ⟨2, ![4096, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== KernelEven.lean ====
abbrev S4096x1024 : Shape := ⟨2, ![4096, 1024]⟩
abbrev S2x2048 : Shape := ⟨2, ![2, 2048]⟩
abbrev S1024 : Shape := ⟨1, ![1024]⟩
abbrev S1024x2760 : Shape := ⟨2, ![1024, 2760]⟩
abbrev S4096x1 : Shape := ⟨2, ![4096, 1]⟩
abbrev S32 : Shape := ⟨1, ![32]⟩
abbrev S_ : Shape := ⟨0, ![]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S4096x128 : Shape := ⟨2, ![4096, 128]⟩
abbrev S1024x1 : Shape := ⟨2, ![1024, 1]⟩
abbrev S1024x128 : Shape := ⟨2, ![1024, 128]⟩
abbrev S1024x512 : Shape := ⟨2, ![1024, 512]⟩
abbrev S1024x64 : Shape := ⟨2, ![1024, 64]⟩
abbrev S1024x8 : Shape := ⟨2, ![1024, 8]⟩
abbrev S1024x72 : Shape := ⟨2, ![1024, 72]⟩
abbrev S1024x2816 : Shape := ⟨2, ![1024, 2816]⟩
abbrev S1x1024 : Shape := ⟨2, ![1, 1024]⟩
abbrev S4096x512 : Shape := ⟨2, ![4096, 512]⟩
abbrev S256x1024 : Shape := ⟨2, ![256, 1024]⟩
abbrev S256x128 : Shape := ⟨2, ![256, 128]⟩
abbrev S256x512 : Shape := ⟨2, ![256, 512]⟩
abbrev S256 : Shape := ⟨1, ![256]⟩
abbrev S256x1 : Shape := ⟨2, ![256, 1]⟩

abbrev nBuf : Space → Nat
  | .hbm => 61
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S2x2048, .i32⟩
  | .hbm, ⟨2, _⟩ => ⟨S1024, .f32⟩
  | .hbm, ⟨3, _⟩ => ⟨S1024x2760, .f32⟩
  | .hbm, ⟨4, _⟩ => ⟨S4096x1, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S64, .f32⟩
  | .hbm, ⟨22, _⟩ => ⟨S1x64, .f32⟩
  | .hbm, ⟨23, _⟩ => ⟨S2x64, .f32⟩
  | .hbm, ⟨24, _⟩ => ⟨S128, .f32⟩
  | .hbm, ⟨25, _⟩ => ⟨S1x128, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S64, .f32⟩
  | .hbm, ⟨32, _⟩ => ⟨S1x64, .f32⟩
  | .hbm, ⟨33, _⟩ => ⟨S2x64, .f32⟩
  | .hbm, ⟨34, _⟩ => ⟨S128, .f32⟩
  | .hbm, ⟨35, _⟩ => ⟨S1x128, .f32⟩
  | .hbm, ⟨36, _⟩ => ⟨S4096x128, .f32⟩
  | .hbm, ⟨37, _⟩ => ⟨S4096x128, .f32⟩
  | .hbm, ⟨38, _⟩ => ⟨S1024x512, .f32⟩
  | .hbm, ⟨39, _⟩ => ⟨S1024x64, .f32⟩
  | .hbm, ⟨40, _⟩ => ⟨S1024x64, .f32⟩
  | .hbm, ⟨41, _⟩ => ⟨S1024x512, .f32⟩
  | .hbm, ⟨42, _⟩ => ⟨S1024x64, .f32⟩
  | .hbm, ⟨43, _⟩ => ⟨S1024x8, .f32⟩
  | .hbm, ⟨44, _⟩ => ⟨S1024x512, .f32⟩
  | .hbm, ⟨45, _⟩ => ⟨S1024x512, .f32⟩
  | .hbm, ⟨46, _⟩ => ⟨S1024x512, .f32⟩
  | .hbm, ⟨47, _⟩ => ⟨S1024x72, .f32⟩
  | .hbm, ⟨48, _⟩ => ⟨S_, .i32⟩
  | .hbm, ⟨49, _⟩ => ⟨S_, .f32⟩
  | .hbm, ⟨50, _⟩ => ⟨S1024x128, .f32⟩
  | .hbm, ⟨51, _⟩ => ⟨S1024x2816, .f32⟩
  | .hbm, ⟨52, _⟩ => ⟨S1024x2816, .bf16⟩
  | .hbm, ⟨53, _⟩ => ⟨S1x1024, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x128, .f32⟩
  | .hbm, ⟨60, _⟩ => ⟨S4096x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1024x2816, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_call0_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40_0 : Ref sig .tc := ⟨.hbm, 54, rfl⟩
abbrev main_v40_1 : Ref sig .tc := ⟨.hbm, 55, rfl⟩
abbrev main_v40_2 : Ref sig .tc := ⟨.hbm, 56, rfl⟩
abbrev main_v40_3 : Ref sig .tc := ⟨.hbm, 57, rfl⟩
abbrev main_v40_4 : Ref sig .tc := ⟨.hbm, 58, rfl⟩
abbrev main_v40_5 : Ref sig .tc := ⟨.hbm, 59, rfl⟩
abbrev main_v40_6 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc1_stg11_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc1_sem11_0 : DmaSem sig := 28
abbrev cc1_sem11_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x2816 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceEvenIdeal.lean ====
abbrev S4096x1024 : Shape := ⟨2, ![4096, 1024]⟩
abbrev S2x2048 : Shape := ⟨2, ![2, 2048]⟩
abbrev S1024 : Shape := ⟨1, ![1024]⟩
abbrev S1024x2760 : Shape := ⟨2, ![1024, 2760]⟩
abbrev S32 : Shape := ⟨1, ![32]⟩
abbrev S_ : Shape := ⟨0, ![]⟩
abbrev S2x2048x1 : Shape := ⟨3, ![2, 2048, 1]⟩
abbrev S1x1x32 : Shape := ⟨3, ![1, 1, 32]⟩
abbrev S2x2048x32 : Shape := ⟨3, ![2, 2048, 32]⟩
abbrev S2x2048x1x32 : Shape := ⟨4, ![2, 2048, 1, 32]⟩
abbrev S2x2048x1024 : Shape := ⟨3, ![2, 2048, 1024]⟩
abbrev S1x1x1024 : Shape := ⟨3, ![1, 1, 1024]⟩
abbrev S2x2048x2760 : Shape := ⟨3, ![2, 2048, 2760]⟩
abbrev S2x2048x512 : Shape := ⟨3, ![2, 2048, 512]⟩
abbrev S2x2048x64 : Shape := ⟨3, ![2, 2048, 64]⟩
abbrev S2x2048x8 : Shape := ⟨3, ![2, 2048, 8]⟩
abbrev S2x2048x8x64 : Shape := ⟨4, ![2, 2048, 8, 64]⟩
abbrev S2x2048x8x32 : Shape := ⟨4, ![2, 2048, 8, 32]⟩
abbrev S2x2048x1x64 : Shape := ⟨4, ![2, 2048, 1, 64]⟩
abbrev S2x2048x128 : Shape := ⟨3, ![2, 2048, 128]⟩
abbrev S2x2048x56 : Shape := ⟨3, ![2, 2048, 56]⟩
abbrev S4096x512 : Shape := ⟨2, ![4096, 512]⟩
abbrev S4096x128 : Shape := ⟨2, ![4096, 128]⟩

abbrev nBuf : Space → Nat
  | .hbm => 146
  | .vmem => 0
  | .smem => 0
  | _ => 0

abbrev hbmTy0_0 (i : Nat) : BufTy := match i % 128 with
  | 0 => ⟨S4096x1024, .f32⟩
  | 1 => ⟨S2x2048, .i32⟩
  | 2 => ⟨S1024, .f32⟩
  | 3 => ⟨S1024x2760, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2x2048, .f32⟩
  | 21 => ⟨S2x2048x1, .f32⟩
  | 22 => ⟨S1x1x32, .f32⟩
  | 23 => ⟨S2x2048x32, .f32⟩
  | 24 => ⟨S2x2048x32, .f32⟩
  | 25 => ⟨S2x2048x32, .f32⟩
  | 26 => ⟨S2x2048x32, .f32⟩
  | 27 => ⟨S2x2048x1x32, .f32⟩
  | 28 => ⟨S2x2048x32, .f32⟩
  | 29 => ⟨S2x2048x1x32, .f32⟩
  | 30 => ⟨S2x2048x1024, .f32⟩
  | 31 => ⟨S2x2048x1024, .f32⟩
  | 32 => ⟨S_, .f32⟩
  | 33 => ⟨S2x2048, .f32⟩
  | 34 => ⟨S2x2048x1, .f32⟩
  | 35 => ⟨S_, .f32⟩
  | 36 => ⟨S2x2048x1, .f32⟩
  | 37 => ⟨S2x2048x1, .f32⟩
  | 38 => ⟨S_, .f32⟩
  | 39 => ⟨S2x2048x1, .f32⟩
  | 40 => ⟨S2x2048x1, .f32⟩
  | 41 => ⟨S2x2048x1, .f32⟩
  | 42 => ⟨S2x2048x1024, .f32⟩
  | 43 => ⟨S2x2048x1024, .f32⟩
  | 44 => ⟨S1x1x1024, .f32⟩
  | 45 => ⟨S2x2048x1024, .f32⟩
  | 46 => ⟨S2x2048x1024, .f32⟩
  | 47 => ⟨S2x2048x2760, .f32⟩
  | 48 => ⟨S2x2048x512, .f32⟩
  | 49 => ⟨S2x2048x64, .f32⟩
  | 50 => ⟨S2x2048x64, .f32⟩
  | 51 => ⟨S2x2048x512, .f32⟩
  | 52 => ⟨S2x2048x64, .f32⟩
  | 53 => ⟨S2x2048x8, .f32⟩
  | 54 => ⟨S2x2048x512, .f32⟩
  | 55 => ⟨S2x2048x512, .f32⟩
  | 56 => ⟨S2x2048x512, .f32⟩
  | 57 => ⟨S2x2048x8x64, .f32⟩
  | 58 => ⟨S2x2048x8x32, .f32⟩
  | 59 => ⟨S2x2048x8x32, .f32⟩
  | 60 => ⟨S2x2048x8x32, .f32⟩
  | 61 => ⟨S2x2048x8x32, .f32⟩
  | 62 => ⟨S2x2048x8x32, .f32⟩
  | 63 => ⟨S2x2048x8x32, .f32⟩
  | 64 => ⟨S2x2048x8x32, .f32⟩
  | 65 => ⟨S2x2048x8x32, .f32⟩
  | 66 => ⟨S2x2048x8x32, .f32⟩
  | 67 => ⟨S2x2048x8x32, .f32⟩
  | 68 => ⟨S2x2048x8x32, .f32⟩
  | 69 => ⟨S2x2048x8x32, .f32⟩
  | 70 => ⟨S2x2048x8x64, .f32⟩
  | 71 => ⟨S2x2048x1x64, .f32⟩
  | 72 => ⟨S2x2048x1x32, .f32⟩
  | 73 => ⟨S2x2048x1x32, .f32⟩
  | 74 => ⟨S2x2048x1x32, .f32⟩
  | 75 => ⟨S2x2048x1x32, .f32⟩
  | 76 => ⟨S2x2048x1x32, .f32⟩
  | 77 => ⟨S2x2048x1x32, .f32⟩
  | 78 => ⟨S2x2048x1x32, .f32⟩
  | 79 => ⟨S2x2048x1x32, .f32⟩
  | 80 => ⟨S2x2048x1x64, .f32⟩
  | 81 => ⟨S2x2048x64, .f32⟩
  | 82 => ⟨S2x2048x8x64, .f32⟩
  | 83 => ⟨S2x2048x8x32, .f32⟩
  | 84 => ⟨S2x2048x8x32, .f32⟩
  | 85 => ⟨S2x2048x8x32, .f32⟩
  | 86 => ⟨S2x2048x8x32, .f32⟩
  | 87 => ⟨S2x2048x8x32, .f32⟩
  | 88 => ⟨S2x2048x8x32, .f32⟩
  | 89 => ⟨S2x2048x8x32, .f32⟩
  | 90 => ⟨S2x2048x8x32, .f32⟩
  | 91 => ⟨S2x2048x8x32, .f32⟩
  | 92 => ⟨S2x2048x8x32, .f32⟩
  | 93 => ⟨S2x2048x8x32, .f32⟩
  | 94 => ⟨S2x2048x8x32, .f32⟩
  | 95 => ⟨S2x2048x8x64, .f32⟩
  | 96 => ⟨S2x2048x1x64, .f32⟩
  | 97 => ⟨S2x2048x1x32, .f32⟩
  | 98 => ⟨S2x2048x1x32, .f32⟩
  | 99 => ⟨S2x2048x1x32, .f32⟩
  | 100 => ⟨S2x2048x1x32, .f32⟩
  | 101 => ⟨S2x2048x1x32, .f32⟩
  | 102 => ⟨S2x2048x1x32, .f32⟩
  | 103 => ⟨S2x2048x1x32, .f32⟩
  | 104 => ⟨S2x2048x1x32, .f32⟩
  | 105 => ⟨S2x2048x1x64, .f32⟩
  | 106 => ⟨S2x2048x64, .f32⟩
  | 107 => ⟨S2x2048x8x64, .f32⟩
  | 108 => ⟨S2x2048x8x32, .f32⟩
  | 109 => ⟨S2x2048x8x32, .f32⟩
  | 110 => ⟨S2x2048x8x32, .f32⟩
  | 111 => ⟨S2x2048x8x32, .f32⟩
  | 112 => ⟨S2x2048x8x32, .f32⟩
  | 113 => ⟨S2x2048x8x32, .f32⟩
  | 114 => ⟨S2x2048x8x32, .f32⟩
  | 115 => ⟨S2x2048x8x32, .f32⟩
  | 116 => ⟨S2x2048x8x32, .f32⟩
  | 117 => ⟨S2x2048x8x32, .f32⟩
  | 118 => ⟨S2x2048x8x32, .f32⟩
  | 119 => ⟨S2x2048x8x32, .f32⟩
  | 120 => ⟨S2x2048x8x64, .f32⟩
  | 121 => ⟨S2x2048x8x64, .f32⟩
  | 122 => ⟨S2x2048x8x32, .f32⟩
  | 123 => ⟨S2x2048x8x32, .f32⟩
  | 124 => ⟨S2x2048x8x32, .f32⟩
  | 125 => ⟨S2x2048x8x32, .f32⟩
  | 126 => ⟨S2x2048x8x32, .f32⟩
  | 127 => ⟨S2x2048x8x32, .f32⟩
  | _ => ⟨S4096x1024, .f32⟩

abbrev hbmTy0_1 (i : Nat) : BufTy := match i % 128 with
  | 0 => ⟨S2x2048x8x32, .f32⟩
  | 1 => ⟨S2x2048x8x32, .f32⟩
  | 2 => ⟨S2x2048x8x32, .f32⟩
  | 3 => ⟨S2x2048x8x32, .f32⟩
  | 4 => ⟨S2x2048x8x32, .f32⟩
  | 5 => ⟨S2x2048x8x32, .f32⟩
  | 6 => ⟨S2x2048x8x64, .f32⟩
  | 7 => ⟨S2x2048x128, .f32⟩
  | 8 => ⟨S_, .f32⟩
  | 9 => ⟨S2x2048x56, .f32⟩
  | 10 => ⟨S2x2048x128, .f32⟩
  | 11 => ⟨S4096x512, .f32⟩
  | 12 => ⟨S4096x512, .f32⟩
  | 13 => ⟨S4096x512, .f32⟩
  | 14 => ⟨S4096x512, .f32⟩
  | 15 => ⟨S4096x512, .f32⟩
  | 16 => ⟨S4096x128, .f32⟩
  | 17 => ⟨S4096x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_cst_7 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩

abbrev nD : Nat := 1
abbrev τ : Topo := Topo.v7x

variable {F : FTy → Type} [FloatOps F]
-- ==== KernelLatent.lean ====
abbrev S4096x1024 : Shape := ⟨2, ![4096, 1024]⟩
abbrev S2x2048 : Shape := ⟨2, ![2, 2048]⟩
abbrev S1024 : Shape := ⟨1, ![1024]⟩
abbrev S1024x1056 : Shape := ⟨2, ![1024, 1056]⟩
abbrev S4096x1 : Shape := ⟨2, ![4096, 1]⟩
abbrev S16 : Shape := ⟨1, ![16]⟩
abbrev S_ : Shape := ⟨0, ![]⟩
abbrev S32 : Shape := ⟨1, ![32]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S4096x128 : Shape := ⟨2, ![4096, 128]⟩
abbrev S1024x1 : Shape := ⟨2, ![1024, 1]⟩
abbrev S1024x128 : Shape := ⟨2, ![1024, 128]⟩
abbrev S1024x1152 : Shape := ⟨2, ![1024, 1152]⟩
abbrev S1x1024 : Shape := ⟨2, ![1, 1024]⟩
abbrev S4096x768 : Shape := ⟨2, ![4096, 768]⟩
abbrev S4096x256 : Shape := ⟨2, ![4096, 256]⟩
abbrev S256x1024 : Shape := ⟨2, ![256, 1024]⟩
abbrev S256x128 : Shape := ⟨2, ![256, 128]⟩
abbrev S256x768 : Shape := ⟨2, ![256, 768]⟩
abbrev S256x256 : Shape := ⟨2, ![256, 256]⟩
abbrev S256 : Shape := ⟨1, ![256]⟩
abbrev S256x1 : Shape := ⟨2, ![256, 1]⟩
abbrev S1024x768 : Shape := ⟨2, ![1024, 768]⟩
abbrev S1024x256 : Shape := ⟨2, ![1024, 256]⟩

abbrev nBuf : Space → Nat
  | .hbm => 46
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S2x2048, .i32⟩
  | .hbm, ⟨2, _⟩ => ⟨S1024, .f32⟩
  | .hbm, ⟨3, _⟩ => ⟨S1024x1056, .f32⟩
  | .hbm, ⟨4, _⟩ => ⟨S4096x1, .i32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S32, .f32⟩
  | .hbm, ⟨22, _⟩ => ⟨S1x32, .f32⟩
  | .hbm, ⟨23, _⟩ => ⟨S4x32, .f32⟩
  | .hbm, ⟨24, _⟩ => ⟨S128, .f32⟩
  | .hbm, ⟨25, _⟩ => ⟨S1x128, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S32, .f32⟩
  | .hbm, ⟨32, _⟩ => ⟨S1x32, .f32⟩
  | .hbm, ⟨33, _⟩ => ⟨S4x32, .f32⟩
  | .hbm, ⟨34, _⟩ => ⟨S128, .f32⟩
  | .hbm, ⟨35, _⟩ => ⟨S1x128, .f32⟩
  | .hbm, ⟨36, _⟩ => ⟨S4096x128, .f32⟩
  | .hbm, ⟨37, _⟩ => ⟨S4096x128, .f32⟩
  | .hbm, ⟨38, _⟩ => ⟨S_, .i32⟩
  | .hbm, ⟨39, _⟩ => ⟨S_, .f32⟩
  | .hbm, ⟨40, _⟩ => ⟨S1024x1152, .f32⟩
  | .hbm, ⟨41, _⟩ => ⟨S1024x1152, .bf16⟩
  | .hbm, ⟨42, _⟩ => ⟨S1x1024, .f32⟩
  | .hbm, ⟨43, _⟩ => ⟨S4096x768, .f32⟩
  | .hbm, ⟨44, _⟩ => ⟨S4096x256, .f32⟩
  | .hbm, ⟨45, _⟩ => ⟨S4096x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1024x1152, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x768, .f32⟩
  | .local _ .vmem, ⟨17, _⟩ => ⟨S256x768, .f32⟩
  | .local _ .vmem, ⟨18, _⟩ => ⟨S256x256, .f32⟩
  | .local _ .vmem, ⟨19, _⟩ => ⟨S256x256, .f32⟩
  | .local _ .vmem, ⟨20, _⟩ => ⟨S256x128, .f32⟩
  | .local _ .vmem, ⟨21, _⟩ => ⟨S256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_c : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v29_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1152 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceLatentIdeal.lean ====
abbrev S4096x1024 : Shape := ⟨2, ![4096, 1024]⟩
abbrev S2x2048 : Shape := ⟨2, ![2, 2048]⟩
abbrev S1024 : Shape := ⟨1, ![1024]⟩
abbrev S1024x1056 : Shape := ⟨2, ![1024, 1056]⟩
abbrev S16 : Shape := ⟨1, ![16]⟩
abbrev S_ : Shape := ⟨0, ![]⟩
abbrev S2x2048x1 : Shape := ⟨3, ![2, 2048, 1]⟩
abbrev S1x1x16 : Shape := ⟨3, ![1, 1, 16]⟩
abbrev S2x2048x16 : Shape := ⟨3, ![2, 2048, 16]⟩
abbrev S2x2048x1x16 : Shape := ⟨4, ![2, 2048, 1, 16]⟩
abbrev S2x2048x1024 : Shape := ⟨3, ![2, 2048, 1024]⟩
abbrev S1x1x1024 : Shape := ⟨3, ![1, 1, 1024]⟩
abbrev S2x2048x1056 : Shape := ⟨3, ![2, 2048, 1056]⟩
abbrev S2x2048x768 : Shape := ⟨3, ![2, 2048, 768]⟩
abbrev S2x2048x256 : Shape := ⟨3, ![2, 2048, 256]⟩
abbrev S2x2048x32 : Shape := ⟨3, ![2, 2048, 32]⟩
abbrev S2x2048x1x32 : Shape := ⟨4, ![2, 2048, 1, 32]⟩
abbrev S2x2048x96 : Shape := ⟨3, ![2, 2048, 96]⟩
abbrev S2x2048x128 : Shape := ⟨3, ![2, 2048, 128]⟩
abbrev S4096x768 : Shape := ⟨2, ![4096, 768]⟩
abbrev S4096x256 : Shape := ⟨2, ![4096, 256]⟩
abbrev S4096x128 : Shape := ⟨2, ![4096, 128]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x2048, .i32⟩
  | .hbm, ⟨2, _⟩ => ⟨S1024, .f32⟩
  | .hbm, ⟨3, _⟩ => ⟨S1024x1056, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S2x2048, .f32⟩
  | .hbm, ⟨21, _⟩ => ⟨S2x2048x1, .f32⟩
  | .hbm, ⟨22, _⟩ => ⟨S1x1x16, .f32⟩
  | .hbm, ⟨23, _⟩ => ⟨S2x2048x16, .f32⟩
  | .hbm, ⟨24, _⟩ => ⟨S2x2048x16, .f32⟩
  | .hbm, ⟨25, _⟩ => ⟨S2x2048x16, .f32⟩
  | .hbm, ⟨26, _⟩ => ⟨S2x2048x16, .f32⟩
  | .hbm, ⟨27, _⟩ => ⟨S2x2048x1x16, .f32⟩
  | .hbm, ⟨28, _⟩ => ⟨S2x2048x16, .f32⟩
  | .hbm, ⟨29, _⟩ => ⟨S2x2048x1x16, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048, .f32⟩
  | .hbm, ⟨34, _⟩ => ⟨S2x2048x1, .f32⟩
  | .hbm, ⟨35, _⟩ => ⟨S_, .f32⟩
  | .hbm, ⟨36, _⟩ => ⟨S2x2048x1, .f32⟩
  | .hbm, ⟨37, _⟩ => ⟨S2x2048x1, .f32⟩
  | .hbm, ⟨38, _⟩ => ⟨S_, .f32⟩
  | .hbm, ⟨39, _⟩ => ⟨S2x2048x1, .f32⟩
  | .hbm, ⟨40, _⟩ => ⟨S2x2048x1, .f32⟩
  | .hbm, ⟨41, _⟩ => ⟨S2x2048x1, .f32⟩
  | .hbm, ⟨42, _⟩ => ⟨S2x2048x1024, .f32⟩
  | .hbm, ⟨43, _⟩ => ⟨S2x2048x1024, .f32⟩
  | .hbm, ⟨44, _⟩ => ⟨S1x1x1024, .f32⟩
  | .hbm, ⟨45, _⟩ => ⟨S2x2048x1024, .f32⟩
  | .hbm, ⟨46, _⟩ => ⟨S2x2048x1024, .f32⟩
  | .hbm, ⟨47, _⟩ => ⟨S2x2048x1056, .f32⟩
  | .hbm, ⟨48, _⟩ => ⟨S2x2048x768, .f32⟩
  | .hbm, ⟨49, _⟩ => ⟨S2x2048x256, .f32⟩
  | .hbm, ⟨50, _⟩ => ⟨S2x2048x32, .f32⟩
  | .hbm, ⟨51, _⟩ => ⟨S2x2048x1x32, .f32⟩
  | .hbm, ⟨52, _⟩ => ⟨S2x2048x1x16, .f32⟩
  | .hbm, ⟨53, _⟩ => ⟨S2x2048x1x16, .f32⟩
  | .hbm, ⟨54, _⟩ => ⟨S2x2048x1x16, .f32⟩
  | .hbm, ⟨55, _⟩ => ⟨S2x2048x1x16, .f32⟩
  | .hbm, ⟨56, _⟩ => ⟨S2x2048x1x16, .f32⟩
  | .hbm, ⟨57, _⟩ => ⟨S2x2048x1x16, .f32⟩
  | .hbm, ⟨58, _⟩ => ⟨S2x2048x1x16, .f32⟩
  | .hbm, ⟨59, _⟩ => ⟨S2x2048x1x16, .f32⟩
  | .hbm, ⟨60, _⟩ => ⟨S2x2048x1x32, .f32⟩
  | .hbm, ⟨61, _⟩ => ⟨S2x2048x32, .f32⟩
  | .hbm, ⟨62, _⟩ => ⟨S_, .f32⟩
  | .hbm, ⟨63, _⟩ => ⟨S2x2048x96, .f32⟩
  | .hbm, ⟨64, _⟩ => ⟨S2x2048x128, .f32⟩
  | .hbm, ⟨65, _⟩ => ⟨S4096x768, .f32⟩
  | .hbm, ⟨66, _⟩ => ⟨S4096x256, .f32⟩
  | .hbm, ⟨67, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== KernelUq.lean ====
abbrev S4096x768 : Shape := ⟨2, ![4096, 768]⟩
abbrev S2x2048 : Shape := ⟨2, ![2, 2048]⟩
abbrev S768 : Shape := ⟨1, ![768]⟩
abbrev S768x1536 : Shape := ⟨2, ![768, 1536]⟩
abbrev S1024 : Shape := ⟨1, ![1024]⟩
abbrev S512 : Shape := ⟨1, ![512]⟩
abbrev S4096x1 : Shape := ⟨2, ![4096, 1]⟩
abbrev S16 : Shape := ⟨1, ![16]⟩
abbrev S_ : Shape := ⟨0, ![]⟩
abbrev S32 : Shape := ⟨1, ![32]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S4096x128 : Shape := ⟨2, ![4096, 128]⟩
abbrev S1024x1 : Shape := ⟨2, ![1024, 1]⟩
abbrev S1024x128 : Shape := ⟨2, ![1024, 128]⟩
abbrev S768x1024 : Shape := ⟨2, ![768, 1024]⟩
abbrev S512x1 : Shape := ⟨2, ![512, 1]⟩
abbrev S768x512 : Shape := ⟨2, ![768, 512]⟩
abbrev S1x768 : Shape := ⟨2, ![1, 768]⟩
abbrev S4096x1024 : Shape := ⟨2, ![4096, 1024]⟩
abbrev S4096x512 : Shape := ⟨2, ![4096, 512]⟩
abbrev S256x768 : Shape := ⟨2, ![256, 768]⟩
abbrev S256x128 : Shape := ⟨2, ![256, 128]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 59
  | .vmem => 20
  | .smem => 0
  | _ => 0

abbrev bufTy : (tb : Table) → Fin (tcTables nBuf tb) → BufTy
  | .hbm, ⟨0, _⟩ => ⟨S4096x768, .f32⟩
  | .hbm, ⟨1, _⟩ => ⟨S2x2048, .i32⟩
  | .hbm, ⟨2, _⟩ => ⟨S768, .f32⟩
  | .hbm, ⟨3, _⟩ => ⟨S768x1536, .f32⟩
  | .hbm, ⟨4, _⟩ => ⟨S1024, .i32⟩
  | .hbm, ⟨5, _⟩ => ⟨S1024, .i1⟩
  | .hbm, ⟨6, _⟩ => ⟨S512, .i32⟩
  | .hbm, ⟨7, _⟩ => ⟨S512, .i1⟩
  | .hbm, ⟨8, _⟩ => ⟨S4096x1, .i32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S32, .f32⟩
  | .hbm, ⟨26, _⟩ => ⟨S1x32, .f32⟩
  | .hbm, ⟨27, _⟩ => ⟨S4x32, .f32⟩
  | .hbm, ⟨28, _⟩ => ⟨S128, .f32⟩
  | .hbm, ⟨29, _⟩ => ⟨S1x128, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S32, .f32⟩
  | .hbm, ⟨36, _⟩ => ⟨S1x32, .f32⟩
  | .hbm, ⟨37, _⟩ => ⟨S4x32, .f32⟩
  | .hbm, ⟨38, _⟩ => ⟨S128, .f32⟩
  | .hbm, ⟨39, _⟩ => ⟨S1x128, .f32⟩
  | .hbm, ⟨40, _⟩ => ⟨S4096x128, .f32⟩
  | .hbm, ⟨41, _⟩ => ⟨S4096x128, .f32⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1024x1, .i32⟩
  | .hbm, ⟨47, _⟩ => ⟨S768x1024, .f32⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S512x1, .i32⟩
  | .hbm, ⟨53, _⟩ => ⟨S768x512, .f32⟩
  | .hbm, ⟨54, _⟩ => ⟨S768x1536, .f32⟩
  | .hbm, ⟨55, _⟩ => ⟨S768x1536, .bf16⟩
  | .hbm, ⟨56, _⟩ => ⟨S1x768, .f32⟩
  | .hbm, ⟨57, _⟩ => ⟨S4096x1024, .f32⟩
  | .hbm, ⟨58, _⟩ => ⟨S4096x512, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S256x768, .f32⟩
  | .local _ .vmem, ⟨9, _⟩ => ⟨S256x768, .f32⟩
  | .local _ .vmem, ⟨10, _⟩ => ⟨S1x768, .f32⟩
  | .local _ .vmem, ⟨11, _⟩ => ⟨S768x1536, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x1024, .f32⟩
  | .local _ .vmem, ⟨17, _⟩ => ⟨S256x1024, .f32⟩
  | .local _ .vmem, ⟨18, _⟩ => ⟨S256x512, .f32⟩
  | .local _ .vmem, ⟨19, _⟩ => ⟨S256x512, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_3 : Ref sig .tc := ⟨.hbm, 13, rfl⟩
abbrev main_v4 : Ref sig .tc := ⟨.hbm, 14, rfl⟩
abbrev main_v5 : Ref sig .tc := ⟨.hbm, 15, rfl⟩
abbrev main_cst_4 : Ref sig .tc := ⟨.hbm, 16, rfl⟩
abbrev main_v6 : Ref sig .tc := ⟨.hbm, 17, rfl⟩
abbrev main_v7 : Ref sig .tc := ⟨.hbm, 18, rfl⟩
abbrev main_cst_5 : Ref sig .tc := ⟨.hbm, 19, rfl⟩
abbrev main_v8 : Ref sig .tc := ⟨.hbm, 20, rfl⟩
abbrev main_v9 : Ref sig .tc := ⟨.hbm, 21, rfl⟩
abbrev main_cst_6 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_7 : Ref sig .tc := ⟨.hbm, 30, rfl⟩
abbrev main_v17 : Ref sig .tc := ⟨.hbm, 31, rfl⟩
abbrev main_v18 : Ref sig .tc := ⟨.hbm, 32, rfl⟩
abbrev main_cst_8 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_c_9 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39_0 : Ref sig .tc := ⟨.hbm, 57, rfl⟩
abbrev main_v39_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S768x1536 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceUqIdeal.lean ====
abbrev S4096x768 : Shape := ⟨2, ![4096, 768]⟩
abbrev S2x2048 : Shape := ⟨2, ![2, 2048]⟩
abbrev S768 : Shape := ⟨1, ![768]⟩
abbrev S768x1536 : Shape := ⟨2, ![768, 1536]⟩
abbrev S16 : Shape := ⟨1, ![16]⟩
abbrev S_ : Shape := ⟨0, ![]⟩
abbrev S2x2048x1 : Shape := ⟨3, ![2, 2048, 1]⟩
abbrev S1x1x16 : Shape := ⟨3, ![1, 1, 16]⟩
abbrev S2x2048x16 : Shape := ⟨3, ![2, 2048, 16]⟩
abbrev S2x2048x1x16 : Shape := ⟨4, ![2, 2048, 1, 16]⟩
abbrev S2x2048x768 : Shape := ⟨3, ![2, 2048, 768]⟩
abbrev S1x1x768 : Shape := ⟨3, ![1, 1, 768]⟩
abbrev S2x2048x1536 : Shape := ⟨3, ![2, 2048, 1536]⟩
abbrev S2x2048x16x96 : Shape := ⟨4, ![2, 2048, 16, 96]⟩
abbrev S2x2048x16x64 : Shape := ⟨4, ![2, 2048, 16, 64]⟩
abbrev S2x2048x16x32 : Shape := ⟨4, ![2, 2048, 16, 32]⟩
abbrev S2x2048x16x16 : Shape := ⟨4, ![2, 2048, 16, 16]⟩
abbrev S4096x1024 : Shape := ⟨2, ![4096, 1024]⟩
abbrev S4096x512 : Shape := ⟨2, ![4096, 512]⟩

abbrev nBuf : Space → Nat
  | .hbm => 66
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S2x2048, .i32⟩
  | .hbm, ⟨2, _⟩ => ⟨S768, .f32⟩
  | .hbm, ⟨3, _⟩ => ⟨S768x1536, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S2x2048, .f32⟩
  | .hbm, ⟨21, _⟩ => ⟨S2x2048x1, .f32⟩
  | .hbm, ⟨22, _⟩ => ⟨S1x1x16, .f32⟩
  | .hbm, ⟨23, _⟩ => ⟨S2x2048x16, .f32⟩
  | .hbm, ⟨24, _⟩ => ⟨S2x2048x16, .f32⟩
  | .hbm, ⟨25, _⟩ => ⟨S2x2048x16, .f32⟩
  | .hbm, ⟨26, _⟩ => ⟨S2x2048x16, .f32⟩
  | .hbm, ⟨27, _⟩ => ⟨S2x2048x1x16, .f32⟩
  | .hbm, ⟨28, _⟩ => ⟨S2x2048x16, .f32⟩
  | .hbm, ⟨29, _⟩ => ⟨S2x2048x1x16, .f32⟩
  | .hbm, ⟨30, _⟩ => ⟨S2x2048x768, .f32⟩
  | .hbm, ⟨31, _⟩ => ⟨S2x2048x768, .f32⟩
  | .hbm, ⟨32, _⟩ => ⟨S_, .f32⟩
  | .hbm, ⟨33, _⟩ => ⟨S2x2048, .f32⟩
  | .hbm, ⟨34, _⟩ => ⟨S2x2048x1, .f32⟩
  | .hbm, ⟨35, _⟩ => ⟨S_, .f32⟩
  | .hbm, ⟨36, _⟩ => ⟨S2x2048x1, .f32⟩
  | .hbm, ⟨37, _⟩ => ⟨S2x2048x1, .f32⟩
  | .hbm, ⟨38, _⟩ => ⟨S_, .f32⟩
  | .hbm, ⟨39, _⟩ => ⟨S2x2048x1, .f32⟩
  | .hbm, ⟨40, _⟩ => ⟨S2x2048x1, .f32⟩
  | .hbm, ⟨41, _⟩ => ⟨S2x2048x1, .f32⟩
  | .hbm, ⟨42, _⟩ => ⟨S2x2048x768, .f32⟩
  | .hbm, ⟨43, _⟩ => ⟨S2x2048x768, .f32⟩
  | .hbm, ⟨44, _⟩ => ⟨S1x1x768, .f32⟩
  | .hbm, ⟨45, _⟩ => ⟨S2x2048x768, .f32⟩
  | .hbm, ⟨46, _⟩ => ⟨S2x2048x768, .f32⟩
  | .hbm, ⟨47, _⟩ => ⟨S2x2048x1536, .f32⟩
  | .hbm, ⟨48, _⟩ => ⟨S2x2048x16x96, .f32⟩
  | .hbm, ⟨49, _⟩ => ⟨S2x2048x16x64, .f32⟩
  | .hbm, ⟨50, _⟩ => ⟨S2x2048x16x32, .f32⟩
  | .hbm, ⟨51, _⟩ => ⟨S2x2048x16x16, .f32⟩
  | .hbm, ⟨52, _⟩ => ⟨S2x2048x16x16, .f32⟩
  | .hbm, ⟨53, _⟩ => ⟨S2x2048x16x16, .f32⟩
  | .hbm, ⟨54, _⟩ => ⟨S2x2048x16x16, .f32⟩
  | .hbm, ⟨55, _⟩ => ⟨S2x2048x16x16, .f32⟩
  | .hbm, ⟨56, _⟩ => ⟨S2x2048x16x16, .f32⟩
  | .hbm, ⟨57, _⟩ => ⟨S2x2048x16x16, .f32⟩
  | .hbm, ⟨58, _⟩ => ⟨S2x2048x16x16, .f32⟩
  | .hbm, ⟨59, _⟩ => ⟨S2x2048x16x16, .f32⟩
  | .hbm, ⟨60, _⟩ => ⟨S2x2048x16x16, .f32⟩
  | .hbm, ⟨61, _⟩ => ⟨S2x2048x16x16, .f32⟩
  | .hbm, ⟨62, _⟩ => ⟨S2x2048x16x16, .f32⟩
  | .hbm, ⟨63, _⟩ => ⟨S2x2048x16x32, .f32⟩
  | .hbm, ⟨64, _⟩ => ⟨S4096x1024, .f32⟩
  | .hbm, ⟨65, _⟩ => ⟨S4096x512, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== KernelMoba.lean ====
abbrev S4096x512 : Shape := ⟨2, ![4096, 512]⟩
abbrev S1024x512 : Shape := ⟨2, ![1024, 512]⟩
abbrev S256x128 : Shape := ⟨2, ![256, 128]⟩
abbrev S512x128 : Shape := ⟨2, ![512, 128]⟩
abbrev S256x512 : Shape := ⟨2, ![256, 512]⟩
abbrev S256x2 : Shape := ⟨2, ![256, 2]⟩
abbrev S2x512 : Shape := ⟨2, ![2, 512]⟩
abbrev S256x64 : Shape := ⟨2, ![256, 64]⟩
abbrev S512x64 : Shape := ⟨2, ![512, 64]⟩
abbrev S2x256x64 : Shape := ⟨3, ![2, 256, 64]⟩
abbrev S2x64 : Shape := ⟨2, ![2, 64]⟩
abbrev S256x1 : Shape := ⟨2, ![256, 1]⟩
abbrev S256 : Shape := ⟨1, ![256]⟩
abbrev S1024x128 : Shape := ⟨2, ![1024, 128]⟩
abbrev S256x1024 : Shape := ⟨2, ![256, 1024]⟩
abbrev S256x4 : Shape := ⟨2, ![256, 4]⟩
abbrev S4x1024 : Shape := ⟨2, ![4, 1024]⟩
abbrev S1024x64 : Shape := ⟨2, ![1024, 64]⟩
abbrev S4x256x64 : Shape := ⟨3, ![4, 256, 64]⟩
abbrev S4x64 : Shape := ⟨2, ![4, 64]⟩
abbrev S2048x512 : Shape := ⟨2, ![2048, 512]⟩
abbrev S2048x128 : Shape := ⟨2, ![2048, 128]⟩
abbrev S256x2048 : Shape := ⟨2, ![256, 2048]⟩
abbrev S256x8 : Shape := ⟨2, ![256, 8]⟩
abbrev S8x2048 : Shape := ⟨2, ![8, 2048]⟩
abbrev S2048x64 : Shape := ⟨2, ![2048, 64]⟩
abbrev S8x256x64 : Shape := ⟨3, ![8, 256, 64]⟩
abbrev S8x64 : Shape := ⟨2, ![8, 64]⟩
abbrev S2x512x512 : Shape := ⟨3, ![2, 512, 512]⟩
abbrev S2x1024x512 : Shape := ⟨3, ![2, 1024, 512]⟩
abbrev S2x2048x512 : Shape := ⟨3, ![2, 2048, 512]⟩

abbrev nBuf : Space → Nat
  | .hbm => 11
  | .vmem => 24
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1024x512, .f32⟩
  | .hbm, ⟨4, _⟩ => ⟨S1024x512, .f32⟩
  | .hbm, ⟨5, _⟩ => ⟨S2048x512, .f32⟩
  | .hbm, ⟨6, _⟩ => ⟨S2x512x512, .f32⟩
  | .hbm, ⟨7, _⟩ => ⟨S2x512x512, .f32⟩
  | .hbm, ⟨8, _⟩ => ⟨S2x1024x512, .f32⟩
  | .hbm, ⟨9, _⟩ => ⟨S2x2048x512, .f32⟩
  | .hbm, ⟨10, _⟩ => ⟨S4096x512, .f32⟩
  | .local _ .vmem, ⟨0, _⟩ => ⟨S256x128, .f32⟩
  | .local _ .vmem, ⟨1, _⟩ => ⟨S256x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S256x128, .f32⟩
  | .local _ .vmem, ⟨23, _⟩ => ⟨S256x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev grid1 : Pipeline.Grid := ⟨3, ![2, 4, 2], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c2_i32 : BitVec 32 := 2#32
  let v1 : BitVec 32 := Scalar.addi v0 c2_i32
  let v2 : BitVec 32 := Scalar.addi v1 arg2
  let c0_i32 : BitVec 32 := 0#32
  ![v2.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  ![v0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  ![v0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨3, ![2, 4, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c4_i32 : BitVec 32 := 4#32
  let v1 : BitVec 32 := Scalar.addi v0 c4_i32
  let v2 : BitVec 32 := Scalar.addi v1 arg2
  let c0_i32 : BitVec 32 := 0#32
  ![v2.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  ![v0.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  ![v0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]
-- ==== ReferenceMobaIdeal.lean ====
abbrev S4096x512 : Shape := ⟨2, ![4096, 512]⟩
abbrev S2x2048x8x64 : Shape := ⟨4, ![2, 2048, 8, 64]⟩
abbrev S2x8x256x8x64 : Shape := ⟨5, ![2, 8, 256, 8, 64]⟩
abbrev S_ : Shape := ⟨0, ![]⟩
abbrev S2x8x8x64 : Shape := ⟨4, ![2, 8, 8, 64]⟩
abbrev S8 : Shape := ⟨1, ![8]⟩
abbrev S2048 : Shape := ⟨1, ![2048]⟩
abbrev S1x8 : Shape := ⟨2, ![1, 8]⟩
abbrev S2048x1 : Shape := ⟨2, ![2048, 1]⟩
abbrev S2048x8 : Shape := ⟨2, ![2048, 8]⟩
abbrev S2x8x2048x8 : Shape := ⟨4, ![2, 8, 2048, 8]⟩
abbrev S2x8x2048x3 : Shape := ⟨4, ![2, 8, 2048, 3]⟩
abbrev S2x8x2048x3x1 : Shape := ⟨5, ![2, 8, 2048, 3, 1]⟩
abbrev S1x1x1x1x8 : Shape := ⟨5, ![1, 1, 1, 1, 8]⟩
abbrev S2x8x2048x3x8 : Shape := ⟨5, ![2, 8, 2048, 3, 8]⟩
abbrev S1x1x2048x8 : Shape := ⟨4, ![1, 1, 2048, 8]⟩
abbrev S2x8x2048x8x1 : Shape := ⟨5, ![2, 8, 2048, 8, 1]⟩
abbrev S2x8x2048x8x256 : Shape := ⟨5, ![2, 8, 2048, 8, 256]⟩
abbrev S2x8x2048x2048 : Shape := ⟨4, ![2, 8, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 97
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S2x2048x8x64, .f32⟩
  | .hbm, ⟨4, _⟩ => ⟨S2x2048x8x64, .f32⟩
  | .hbm, ⟨5, _⟩ => ⟨S2x2048x8x64, .f32⟩
  | .hbm, ⟨6, _⟩ => ⟨S2x8x256x8x64, .f32⟩
  | .hbm, ⟨7, _⟩ => ⟨S_, .f32⟩
  | .hbm, ⟨8, _⟩ => ⟨S2x8x8x64, .f32⟩
  | .hbm, ⟨9, _⟩ => ⟨S_, .f32⟩
  | .hbm, ⟨10, _⟩ => ⟨S2x8x8x64, .f32⟩
  | .hbm, ⟨11, _⟩ => ⟨S2x8x8x64, .f32⟩
  | .hbm, ⟨12, _⟩ => ⟨S8, .i32⟩
  | .hbm, ⟨13, _⟩ => ⟨S2048, .i32⟩
  | .hbm, ⟨14, _⟩ => ⟨S_, .i32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S1x8, .i32⟩
  | .hbm, ⟨33, _⟩ => ⟨S2048x1, .i32⟩
  | .hbm, ⟨34, _⟩ => ⟨S2048x8, .i32⟩
  | .hbm, ⟨35, _⟩ => ⟨S2048x8, .i32⟩
  | .hbm, ⟨36, _⟩ => ⟨S2048x8, .i1⟩
  | .hbm, ⟨37, _⟩ => ⟨S2x8x2048x8, .f32⟩
  | .hbm, ⟨38, _⟩ => ⟨S_, .f32⟩
  | .hbm, ⟨39, _⟩ => ⟨S_, .f32⟩
  | .hbm, ⟨40, _⟩ => ⟨S2x8x2048x8, .i1⟩
  | .hbm, ⟨41, _⟩ => ⟨S2x8x2048x8, .f32⟩
  | .hbm, ⟨42, _⟩ => ⟨S2x8x2048x8, .f32⟩
  | .hbm, ⟨43, _⟩ => ⟨S2x8x2048x3, .f32⟩
  | .hbm, ⟨44, _⟩ => ⟨S2x8x2048x3, .i32⟩
  | .hbm, ⟨45, _⟩ => ⟨S2x8x2048x3x1, .i32⟩
  | .hbm, ⟨46, _⟩ => ⟨S1x1x1x1x8, .i32⟩
  | .hbm, ⟨47, _⟩ => ⟨S2x8x2048x3x8, .i32⟩
  | .hbm, ⟨48, _⟩ => ⟨S2x8x2048x3x8, .i32⟩
  | .hbm, ⟨49, _⟩ => ⟨S2x8x2048x3x8, .i1⟩
  | .hbm, ⟨50, _⟩ => ⟨S_, .i1⟩
  | .hbm, ⟨51, _⟩ => ⟨S2x8x2048x8, .i1⟩
  | .hbm, ⟨52, _⟩ => ⟨S1x1x2048x8, .i1⟩
  | .hbm, ⟨53, _⟩ => ⟨S2x8x2048x8, .i1⟩
  | .hbm, ⟨54, _⟩ => ⟨S2x8x2048x8, .i1⟩
  | .hbm, ⟨55, _⟩ => ⟨S2x8x2048x8x1, .i1⟩
  | .hbm, ⟨56, _⟩ => ⟨S2x8x2048x8x256, .i1⟩
  | .hbm, ⟨57, _⟩ => ⟨S2x8x2048x2048, .i1⟩
  | .hbm, ⟨58, _⟩ => ⟨S1x2048, .i32⟩
  | .hbm, ⟨59, _⟩ => ⟨S2048x1, .i32⟩
  | .hbm, ⟨60, _⟩ => ⟨S2048x2048, .i32⟩
  | .hbm, ⟨61, _⟩ => ⟨S2048x2048, .i32⟩
  | .hbm, ⟨62, _⟩ => ⟨S2048x2048, .i1⟩
  | .hbm, ⟨63, _⟩ => ⟨S1x2048, .i32⟩
  | .hbm, ⟨64, _⟩ => ⟨S2048x1, .i32⟩
  | .hbm, ⟨65, _⟩ => ⟨S2048x2048, .i32⟩
  | .hbm, ⟨66, _⟩ => ⟨S2048x2048, .i32⟩
  | .hbm, ⟨67, _⟩ => ⟨S2048x2048, .i1⟩
  | .hbm, ⟨68, _⟩ => ⟨S2048x2048, .i1⟩
  | .hbm, ⟨69, _⟩ => ⟨S2x8x2048x2048, .f32⟩
  | .hbm, ⟨70, _⟩ => ⟨S_, .f32⟩
  | .hbm, ⟨71, _⟩ => ⟨S2x8x2048x2048, .f32⟩
  | .hbm, ⟨72, _⟩ => ⟨S2x8x2048x2048, .f32⟩
  | .hbm, ⟨73, _⟩ => ⟨S1x1x2048x2048, .i1⟩
  | .hbm, ⟨74, _⟩ => ⟨S2x8x2048x2048, .i1⟩
  | .hbm, ⟨75, _⟩ => ⟨S2x8x2048x2048, .i1⟩
  | .hbm, ⟨76, _⟩ => ⟨S_, .f32⟩
  | .hbm, ⟨77, _⟩ => ⟨S_, .f32⟩
  | .hbm, ⟨78, _⟩ => ⟨S2x8x2048x2048, .f32⟩
  | .hbm, ⟨79, _⟩ => ⟨S2x8x2048x2048, .f32⟩
  | .hbm, ⟨80, _⟩ => ⟨S_, .f32⟩
  | .hbm, ⟨81, _⟩ => ⟨S2x8x2048, .f32⟩
  | .hbm, ⟨82, _⟩ => ⟨S_, .f32⟩
  | .hbm, ⟨83, _⟩ => ⟨S2x8x2048, .f32⟩
  | .hbm, ⟨84, _⟩ => ⟨S2x8x2048, .f32⟩
  | .hbm, ⟨85, _⟩ => ⟨S2x8x2048x1, .f32⟩
  | .hbm, ⟨86, _⟩ => ⟨S2x8x2048x2048, .f32⟩
  | .hbm, ⟨87, _⟩ => ⟨S2x8x2048x2048, .f32⟩
  | .hbm, ⟨88, _⟩ => ⟨S2x8x2048x2048, .f32⟩
  | .hbm, ⟨89, _⟩ => ⟨S_, .f32⟩
  | .hbm, ⟨90, _⟩ => ⟨S2x8x2048, .f32⟩
  | .hbm, ⟨91, _⟩ => ⟨S2x8x2048x1, .f32⟩
  | .hbm, ⟨92, _⟩ => ⟨S2x8x2048x2048, .f32⟩
  | .hbm, ⟨93, _⟩ => ⟨S2x8x2048x2048, .f32⟩
  | .hbm, ⟨94, _⟩ => ⟨S2x8x64x2048, .f32⟩
  | .hbm, ⟨95, _⟩ => ⟨S2x2048x8x64, .f32⟩
  | .hbm, ⟨96, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v16 : Ref sig .tc := ⟨.hbm, 42, rfl⟩
abbrev main_values : Ref sig .tc := ⟨.hbm, 43, rfl⟩
abbrev main_indices : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_2 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_3 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_4 : Ref sig .tc := ⟨.hbm, 76, rfl⟩
abbrev main_call2_v0 : Ref sig .tc := ⟨.hbm, 77, rfl⟩
abbrev main_call2_v1 : Ref sig .tc := ⟨.hbm, 78, rfl⟩
abbrev main_v46 : Ref sig .tc := ⟨.hbm, 79, rfl⟩
abbrev main_cst_5 : Ref sig .tc := ⟨.hbm, 80, rfl⟩
abbrev main_v47 : Ref sig .tc := ⟨.hbm, 81, rfl⟩
abbrev main_cst_6 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_7 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩

abbrev nD : Nat := 1
abbrev τ : Topo := Topo.v7x

variable {F : FTy → Type} [FloatOps F]
-- ==== Proof.Proj.Spec.lean ====
module

public import Idealize.ShloMosaic.Lib.Pipeline.ValueKit
public import Idealize.ShloMosaic.Lib.WordCmp

@[expose] public section

/-!
The mathematics shared by the projections: a row over its root mean square times the gains, and its product with a column
of weights. Both programs of each pair are shown to hold these at every index, so no property of the entries is needed.
-/

noncomputable section

open Idealize.ShloMosaic

namespace Cert.Proj

/-- Entry `i` of a row `x` over its root mean square, times its gain; `n` is the float word of the row's width, the other
    word that of the norm's epsilon. -/
def normRow {k : ℕ} (n : BitVec 32) (x g : Fin k → EReal) (i : Fin k) : EReal :=
  x i * Ideal.rsqrt (Ideal.div (∑ q, x q * x q) (Ideal.ofBits .f32 n) + Ideal.ofBits .f32 0x358637BD#32) * g i

/-- The normalised row times a column of weights. -/
def proj {k : ℕ} (n : BitVec 32) (x g w : Fin k → EReal) : EReal := ∑ i, normRow n x g i * w i

theorem normRow_congr {k : ℕ} (n : BitVec 32) {x x' g g' : Fin k → EReal} (hx : ∀ i, x i = x' i) (hg : ∀ i, g i = g' i)
    (i : Fin k) : normRow n x g i = normRow n x' g' i := by
  rw [show x = x' from funext hx, show g = g' from funext hg]

theorem proj_congr {k : ℕ} (n : BitVec 32) {x x' g g' w w' : Fin k → EReal} (hx : ∀ i, x i = x' i) (hg : ∀ i, g i = g' i)
    (hw : ∀ i, w i = w' i) : proj n x g w = proj n x' g' w' := by
  rw [show x = x' from funext hx, show g = g' from funext hg, show w = w' from funext hw]

/-- A column of zero weights gives zero, whatever the row. -/
theorem proj_zero {k : ℕ} (n : BitVec 32) (x g : Fin k → EReal) : proj n x g (fun _ => 0) = 0 :=
  Finset.sum_eq_zero fun i _ => mul_zero _

/-- A residual entry plus a row's product with a column of weights. -/
def residual {k : ℕ} (x : EReal) (o w : Fin k → EReal) : EReal := x + ∑ i, o i * w i

theorem residual_congr {k : ℕ} {x x' : EReal} {o o' w w' : Fin k → EReal} (hx : x = x') (ho : ∀ i, o i = o' i)
    (hw : ∀ i, w i = w' i) : residual x o w = residual x' o' w' := by
  rw [hx, show o = o' from funext ho, show w = w' from funext hw]

end Cert.Proj

end
-- ==== Proof.Proj.Norm.lean ====
module

public import proofs.«01_k».proof.Proof.Gen.KernelNormIdeal.Frame
public import proofs.«01_k».proof.Proof.Gen.KernelNormIdeal.Value
public import proofs.«01_k».proof.Proof.Gen.ReferenceNormIdeal.Run
public import proofs.«01_k».proof.Proof.Gen.ReferenceNormIdeal.Read
public import proofs.«01_k».proof.Proof.Proj.Spec

@[expose] public section

/-!
The root mean square norm: the kernel's output array and the reference's result, index by index.
-/

set_option maxRecDepth 16384

noncomputable section

open Idealize.ShloMosaic Idealize.ShloMosaic.TcCoe Idealize.SL.Sem

namespace Cert.KernelNormIdeal.Value
open Cert.KernelNormIdeal Cert.KernelNormIdeal.Gen Cert.Proj

theorem out2_at (x0 : Vec Ideal S512x1024 .f32) (x1 : Vec Ideal S1x1024 .f32) (y : S512x1024.Idx) :
    out0_2 (F := Ideal) x0 x1 y
      = normRow 0x44800000#32 (fun i => x0 (ix2 (y 0) i)) (fun i => x1 (ix2 0 i)) (y 1) := by
  frame_out
  pointwise [k0_pay1]
  show _ = x0 (ix2 (y 0) (y 1)) * _ * _
  rw [← eq_ix2 y]

variable (m : (ℓ : Loc nD τ sig) → Buf (Elt Ideal) ℓ)

theorem idx0 : ∀ t : Fin grid0.N, win0_0.index t = ![(grid0.coords t 0).val, 0] := by decide +kernel
theorem idx1 : ∀ t : Fin grid0.N, win0_1.index t = ![0, 0] := by decide +kernel
theorem idx2 : ∀ t : Fin grid0.N, win0_2.index t = ![(grid0.coords t 0).val, 0] := by decide +kernel

/-- The output array's contents, from what the region finds. -/
def normed (c : Dev nD) : FVec Ideal S4096x1024 .f32 := fun j =>
  normRow 0x44800000#32 (fun i => V m c main_arg0 (ix2 (j 0) i)) (fun i => V m c main_v0 (ix2 0 i)) (j 1)

theorem final2 (c : Dev nD) : (dats m 0 c).arrAt 2 cfg0.N = normed m c := by
  refine (dats m 0 c).arrAt_eq_of_covers 2 _ (by decide +kernel) fun t _ y => ?_
  blk_simp
  rw [after0_2, out2_at]
  have h0 : (grid0.coords t 0).val < 8 := (grid0.coords t 0).isLt
  have e0 : ((((cfg0.win 2).blk t).view.emb y) 0).val = (grid0.coords t 0).val * 512 + (y 0).val := by
    blk_simp [idx2]
  have e1 : (((cfg0.win 2).blk t).view.emb y) 1 = y 1 := Fin.ext (by
    blk_simp [idx2])
  generalize ((cfg0.win 2).blk t).view.emb y = j at e0 e1 ⊢
  unfold normed
  rw [e1]
  refine normRow_congr _ (fun i => ?_) (fun i => ?_) _
  · blk_ext [iblk, idx0, e0, e1]
  · blk_ext [iblk, idx1, e0, e1]

/-- The host's preparation of the gains. -/
def gains (g : FVec Ideal S1024 .f32) : FVec Ideal S1x1024 .f32 := shapeCast S1x1024 g shapeCasts_S1024_S1x1024

theorem V_gains (c : Dev nD) : V m c main_v0 = gains (m ((c : Thread nD τ).loc main_arg1)) := by
  show StableHlo.after hostOps0 (fun b => m (c, b)) (Proc.devRef .tc main_v0) = _
  after_results_simp
  rfl
theorem gains_at (g : FVec Ideal S1024 .f32) (i : Fin 1024) : gains g (ix2 0 i) = g (ix1 i) := by
  pointwise [gains]

/-- The output array from the arguments. -/
theorem normed_val (c : Dev nD) (j : S4096x1024.Idx) : normed m c j = normRow 0x44800000#32
    (fun i => m ((c : Thread nD τ).loc main_arg0) (ix2 (j 0) i)) (fun i => m ((c : Thread nD τ).loc main_arg1) (ix1 i)) (j 1) := by
  unfold normed
  rw [V_gains, V_main_arg0]
  exact normRow_congr _ (fun i => rfl) (fun i => gains_at _ i) _

end Cert.KernelNormIdeal.Value

namespace Cert.ReferenceNormIdeal.Read
open Cert.ReferenceNormIdeal Cert.ReferenceNormIdeal.Gen Cert.Proj

theorem normed_at (x : FVec Ideal S4096x1024 .f32) (g : FVec Ideal S1024 .f32) (j : S4096x1024.Idx) :
    val_main_v12 (F := Ideal) x g j = normRow 0x44800000#32 (fun i => x (ix2 (j 0) i)) (fun i => g (ix1 i)) (j 1) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  show _ = x (ix2 (j 0) (j 1)) * _ * _
  rw [← eq_ix2 j]

end Cert.ReferenceNormIdeal.Read

end
-- ==== Proof.Proj.NormClaim.lean ====
module

public import proofs.«01_k».proof.Defs
public import proofs.«01_k».proof.Proof.Gen.KernelNormIdeal
public import proofs.«01_k».proof.Proof.Gen.ReferenceNormIdeal
public import proofs.«01_k».proof.Proof.Proj.Norm

@[expose] public section

/-!
The root mean square norm: the reference's frame, and the equation of the two programs.
-/

set_option maxRecDepth 16384

noncomputable section

open Idealize.ShloMosaic Idealize.ShloMosaic.TcCoe Idealize.SL.Sem

namespace Cert.NormClaim

/-- The reference's frame: its run keeps the arguments, and the machine it runs on has no semaphore. -/
theorem reference_frame : Cert.quiescent_ReferenceNormIdeal (hReferenceNormIdeal := Cert.ReferenceNormIdeal.Gen.facts) :=
  fun m ρ _ => (θ_run _ _ _).mono (fun r h => ⟨fun c => (h c).2, sem_eq_zero_of_no_sems (by decide) r.2⟩)
    (Cert.ReferenceNormIdeal.Value.run m ρ)

/-- The norm and its reference hold equal results. -/
theorem eq : Cert.algebraic_KernelNormIdeal_ReferenceNormIdeal (hKernelNormIdeal := Cert.KernelNormIdeal.Gen.facts)
    (hReferenceNormIdeal := Cert.ReferenceNormIdeal.Gen.facts) := by
  intro m g m' g' _ hargs
  refine ⟨fun c => Cert.KernelNormIdeal.Value.normed m c,
    (θ_run _ _ _).mono (fun r h c => ?_) (Cert.KernelNormIdeal.Value.run_blocks m g),
    (θ_run _ _ _).mono (fun r h c => ?_) (Cert.ReferenceNormIdeal.Value.run m' g')⟩
  · obtain ⟨h0, hkeep⟩ := h c
    exact ⟨h0.trans (Cert.KernelNormIdeal.Value.final2 m c), hkeep⟩
  · obtain ⟨h0, hkeep⟩ := h c
    obtain ⟨e0, e1⟩ := hargs c
    refine ⟨h0.trans ?_, hkeep⟩
    · rw [e0, e1]
      refine (Cert.ReferenceNormIdeal.Read.val_main_v12_eq _ _).trans (funext fun j => ?_)
      exact (Cert.ReferenceNormIdeal.Read.normed_at _ _ j).trans (Cert.KernelNormIdeal.Value.normed_val m c j).symm

end Cert.NormClaim

end
-- ==== Proof.Proj.Query.lean ====
module

public import proofs.«01_k».proof.Proof.Gen.KernelQueryIdeal.Frame
public import proofs.«01_k».proof.Proof.Gen.KernelQueryIdeal.Value
public import proofs.«01_k».proof.Proof.Gen.ReferenceQueryIdeal.Run
public import proofs.«01_k».proof.Proof.Gen.ReferenceQueryIdeal.Read
public import proofs.«01_k».proof.Proof.Proj.Spec

@[expose] public section

/-!
The experts' query projection: the kernel's two output arrays and the reference's two results, index by index.
-/

set_option maxRecDepth 16384

noncomputable section

open Idealize.ShloMosaic Idealize.ShloMosaic.TcCoe Idealize.SL.Sem

namespace Cert.KernelQueryIdeal.Value
open Cert.KernelQueryIdeal Cert.KernelQueryIdeal.Gen Cert.Proj

/-- One block's normalised rows. -/
theorem normed_at (x0 : Vec Ideal S256x1024 .f32) (x1 : Vec Ideal S1x1024 .f32) (y : S256x1024.Idx) :
    k0_pay1 (F := Ideal) x0 x1 y
      = normRow 0x44800000#32 (fun i => x0 (ix2 (y 0) i)) (fun i => x1 (ix2 0 i)) (y 1) := by
  pointwise [k0_pay1]
  show _ = x0 (ix2 (y 0) (y 1)) * _ * _
  rw [← eq_ix2 y]

theorem out3_at (x0 : Vec Ideal S256x1024 .f32) (x1 : Vec Ideal S1x1024 .f32) (x2 : Vec Ideal S1024x2048 .bf16)
    (y : S256x2048.Idx) : out0_3 (F := Ideal) x0 x1 x2 y
      = proj 0x44800000#32 (fun i => x0 (ix2 (y 0) i)) (fun i => x1 (ix2 0 i)) (fun i => x2 (ix2 i (y 1))) := by
  frame_out
  pointwise [k0_pay2]
  exact Finset.sum_congr rfl fun i _ => congrArg (· * _) (normed_at x0 x1 _)

theorem out4_at (x0 : Vec Ideal S256x1024 .f32) (x1 : Vec Ideal S1x1024 .f32) (x2 : Vec Ideal S1024x2048 .bf16)
    (y : S256x1024.Idx) : out0_4 (F := Ideal) x0 x1 x2 y
      = normRow 0x44800000#32 (fun i => x0 (ix2 (y 0) i)) (fun i => x1 (ix2 0 i)) (y 1) := by
  frame_out
  exact normed_at _ _ _

variable (m : (ℓ : Loc nD τ sig) → Buf (Elt Ideal) ℓ)

theorem idx0 : ∀ t : Fin grid0.N, win0_0.index t = ![(grid0.coords t 0).val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![(grid0.coords t 0).val, 0] := by decide +kernel
theorem idx4 : ∀ t : Fin grid0.N, win0_4.index t = ![(grid0.coords t 0).val, 0] := by decide +kernel

/-- The two output arrays' contents, from what the region finds. -/
def query (c : Dev nD) : FVec Ideal S4096x2048 .f32 := fun j =>
  proj 0x44800000#32 (fun i => V m c main_arg0 (ix2 (j 0) i)) (fun i => V m c main_v1 (ix2 0 i)) (fun i => V m c main_v0 (ix2 i (j 1)))
def normed (c : Dev nD) : FVec Ideal S4096x1024 .f32 := fun j =>
  normRow 0x44800000#32 (fun i => V m c main_arg0 (ix2 (j 0) i)) (fun i => V m c main_v1 (ix2 0 i)) (j 1)

theorem final3 (c : Dev nD) : (dats m 0 c).arrAt 3 cfg0.N = query m c := by
  refine (dats m 0 c).arrAt_eq_of_covers 3 _ (by decide +kernel) fun t _ y => ?_
  blk_simp
  rw [after0_3, out3_at]
  have h0 : (grid0.coords t 0).val < 16 := (grid0.coords t 0).isLt
  have e0 : ((((cfg0.win 3).blk t).view.emb y) 0).val = (grid0.coords t 0).val * 256 + (y 0).val := by
    blk_simp [idx3]
  have e1 : ((((cfg0.win 3).blk t).view.emb y) 1).val = (y 1).val := by
    blk_simp [idx3]
  generalize ((cfg0.win 3).blk t).view.emb y = j at e0 e1 ⊢
  refine proj_congr _ (fun i => ?_) (fun i => ?_) (fun i => ?_)
  · blk_ext [iblk, idx0, e0, e1]
  · blk_ext [iblk, idx1, e0, e1]
  · blk_ext [iblk, idx2, e0, e1]

theorem final4 (c : Dev nD) : (dats m 0 c).arrAt 4 cfg0.N = normed m c := by
  refine (dats m 0 c).arrAt_eq_of_covers 4 _ (by decide +kernel) fun t _ y => ?_
  blk_simp
  rw [after0_4, out4_at]
  have h0 : (grid0.coords t 0).val < 16 := (grid0.coords t 0).isLt
  have e0 : ((((cfg0.win 4).blk t).view.emb y) 0).val = (grid0.coords t 0).val * 256 + (y 0).val := by
    blk_simp [idx4]
  have e1 : (((cfg0.win 4).blk t).view.emb y) 1 = y 1 := Fin.ext (by
    blk_simp [idx4])
  generalize ((cfg0.win 4).blk t).view.emb y = j at e0 e1 ⊢
  unfold normed
  rw [e1]
  refine normRow_congr _ (fun i => ?_) (fun i => ?_) _
  · blk_ext [iblk, idx0, e0, e1]
  · blk_ext [iblk, idx1, e0, e1]

/-- The host's preparation of the weights and of the gains. -/
def weights (w : FVec Ideal S1024x2048 .f32) : FVec Ideal S1024x2048 .bf16 := truncf .bf16 w bitsLt_bf16_f32
def gains (g : FVec Ideal S1024 .f32) : FVec Ideal S1x1024 .f32 := shapeCast S1x1024 g shapeCasts_S1024_S1x1024

theorem V_weights (c : Dev nD) : V m c main_v0 = weights (m ((c : Thread nD τ).loc main_arg2)) := by
  show StableHlo.after hostOps0 (fun b => m (c, b)) (Proc.devRef .tc main_v0) = _
  after_results_simp
  rfl
theorem V_gains (c : Dev nD) : V m c main_v1 = gains (m ((c : Thread nD τ).loc main_arg1)) := by
  show StableHlo.after hostOps0 (fun b => m (c, b)) (Proc.devRef .tc main_v1) = _
  after_results_simp
  rfl
theorem gains_at (g : FVec Ideal S1024 .f32) (i : Fin 1024) : gains g (ix2 0 i) = g (ix1 i) := by
  pointwise [gains]

/-- The two output arrays from the arguments. -/
theorem query_at (c : Dev nD) (j : S4096x2048.Idx) : query m c j = proj 0x44800000#32
    (fun i => m ((c : Thread nD τ).loc main_arg0) (ix2 (j 0) i)) (fun i => m ((c : Thread nD τ).loc main_arg1) (ix1 i))
    (fun i => m ((c : Thread nD τ).loc main_arg2) (ix2 i (j 1))) := by
  unfold query
  rw [V_weights, V_gains, V_main_arg0]
  exact proj_congr _ (fun i => rfl) (fun i => gains_at _ i) (fun i => rfl)
theorem normed_val (c : Dev nD) (j : S4096x1024.Idx) : normed m c j = normRow 0x44800000#32
    (fun i => m ((c : Thread nD τ).loc main_arg0) (ix2 (j 0) i)) (fun i => m ((c : Thread nD τ).loc main_arg1) (ix1 i)) (j 1) := by
  unfold normed
  rw [V_gains, V_main_arg0]
  exact normRow_congr _ (fun i => rfl) (fun i => gains_at _ i) _

end Cert.KernelQueryIdeal.Value

namespace Cert.ReferenceQueryIdeal.Read
open Cert.ReferenceQueryIdeal Cert.ReferenceQueryIdeal.Gen Cert.Proj

theorem normed_at (x : FVec Ideal S4096x1024 .f32) (g : FVec Ideal S1024 .f32) (j : S4096x1024.Idx) :
    val_main_v12 (F := Ideal) x g j = normRow 0x44800000#32 (fun i => x (ix2 (j 0) i)) (fun i => g (ix1 i)) (j 1) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  show _ = x (ix2 (j 0) (j 1)) * _ * _
  rw [← eq_ix2 j]

theorem query_at (x : FVec Ideal S4096x1024 .f32) (g : FVec Ideal S1024 .f32) (w : FVec Ideal S1024x2048 .f32)
    (j : S4096x2048.Idx) : val_main_v13 (F := Ideal) x g w j
      = proj 0x44800000#32 (fun i => x (ix2 (j 0) i)) (fun i => g (ix1 i)) (fun i => w (ix2 i (j 1))) := by
  pointwise [val_main_v13]
  exact Finset.sum_congr rfl fun i _ => congrArg (· * _) (normed_at x g _)

end Cert.ReferenceQueryIdeal.Read

end
-- ==== Proof.Proj.QueryClaim.lean ====
module

public import proofs.«01_k».proof.Defs
public import proofs.«01_k».proof.Proof.Gen.KernelQueryIdeal
public import proofs.«01_k».proof.Proof.Gen.ReferenceQueryIdeal
public import proofs.«01_k».proof.Proof.Proj.Query

@[expose] public section

/-!
The experts' query projection: the reference's frame, and the equation of the two programs.
-/

set_option maxRecDepth 16384

noncomputable section

open Idealize.ShloMosaic Idealize.ShloMosaic.TcCoe Idealize.SL.Sem

namespace Cert.QueryClaim

/-- The reference's frame: its run keeps the arguments, and the machine it runs on has no semaphore. -/
theorem reference_frame : Cert.quiescent_ReferenceQueryIdeal (hReferenceQueryIdeal := Cert.ReferenceQueryIdeal.Gen.facts) :=
  fun m ρ _ => (θ_run _ _ _).mono (fun r h => ⟨fun c => (h c).2.2, sem_eq_zero_of_no_sems (by decide) r.2⟩)
    (Cert.ReferenceQueryIdeal.Value.run m ρ)

/-- The projection and its reference hold equal results: the queries, and the normalised rows. -/
theorem eq : Cert.algebraic_KernelQueryIdeal_ReferenceQueryIdeal (hKernelQueryIdeal := Cert.KernelQueryIdeal.Gen.facts)
    (hReferenceQueryIdeal := Cert.ReferenceQueryIdeal.Gen.facts) := by
  intro m g m' g' _ hargs
  refine ⟨fun c => Cert.KernelQueryIdeal.Value.query m c, fun c => Cert.KernelQueryIdeal.Value.normed m c,
    (θ_run _ _ _).mono (fun r h c => ?_) (Cert.KernelQueryIdeal.Value.run_blocks m g),
    (θ_run _ _ _).mono (fun r h c => ?_) (Cert.ReferenceQueryIdeal.Value.run m' g')⟩
  · obtain ⟨h0, h1, hkeep⟩ := h c
    exact ⟨h0.trans (Cert.KernelQueryIdeal.Value.final3 m c), h1.trans (Cert.KernelQueryIdeal.Value.final4 m c), hkeep⟩
  · obtain ⟨h0, h1, hkeep⟩ := h c
    obtain ⟨e0, e1, e2⟩ := hargs c
    refine ⟨h0.trans ?_, h1.trans ?_, hkeep⟩
    · rw [e0, e1, e2]
      refine (Cert.ReferenceQueryIdeal.Read.val_main_v13_eq _ _ _).trans (funext fun j => ?_)
      exact (Cert.ReferenceQueryIdeal.Read.query_at _ _ _ j).trans (Cert.KernelQueryIdeal.Value.query_at m c j).symm
    · rw [e0, e1]
      refine (Cert.ReferenceQueryIdeal.Read.val_main_v12_eq _ _).trans (funext fun j => ?_)
      exact (Cert.ReferenceQueryIdeal.Read.normed_at _ _ j).trans (Cert.KernelQueryIdeal.Value.normed_val m c j).symm

end Cert.QueryClaim

end
-- ==== Proof.Proj.Gather.lean ====
module

public import Idealize.ShloMosaic.Lib.Pipeline.ValueKit
public import Idealize.ShloMosaic.Lib.WordCmp

@[expose] public section

/-!
A gather of columns of a matrix by a list of column numbers, read at an index.
-/

noncomputable section

open Idealize.ShloMosaic

namespace Cert.Proj

/-- The dimension numbers of `w[:, cols]` for `w : [R, C]` and `B` column numbers. -/
abbrev colDims (R C B : Nat) (wf : GatherDims.WF ⟨2, ![R, C]⟩ ⟨2, ![B, 1]⟩ ⟨2, ![R, B]⟩ [0] [1] [] [1] [] 1 ![R, 1]) :
    GatherDims ⟨2, ![R, C]⟩ ⟨2, ![B, 1]⟩ ⟨2, ![R, B]⟩ where
  offsetDims := [0]
  collapsedSliceDims := [1]
  operandBatchingDims := []
  startIndicesBatchingDims := []
  startIndexMap := [1]
  indexVectorDim := 1
  sliceSizes := ![R, 1]
  wf := wf

/-- Where the list holds the column number `b` at `j`, entry `(r, j)` of the gather is the matrix's entry `(r, b)`. -/
theorem gather_col {α : Type} {R C B : Nat}
    (wf : GatherDims.WF ⟨2, ![R, C]⟩ ⟨2, ![B, 1]⟩ ⟨2, ![R, B]⟩ [0] [1] [] [1] [] 1 ![R, 1])
    (x : (⟨2, ![R, C]⟩ : Shape).Idx → α) (cols : IVec ⟨2, ![B, 1]⟩ 32) (r : Fin R) (j : Fin B) (b : Fin C)
    (hC : C < 2 ^ 31) (hb : cols (ix2 j (0 : Fin 1)) = BitVec.ofNat 32 b.val) :
    Host.gather (colDims R C B wf) x cols (ix2 r j) = x (ix2 r b) := by
  have hbl := b.isLt
  unfold Host.gather
  refine congrArg x (funext fun a => Fin.ext ?_)
  show (colDims R C B wf).start (ix2 r j) cols a + (colDims R C B wf).batchCoord (ix2 r j) a
      + (colDims R C B wf).offCoord (ix2 r j) a = _
  have hbat : (colDims R C B wf).batchCoord (ix2 r j) a = 0 := GatherDims.batchCoord_eq_zero _ _ _ List.not_mem_nil
  rw [hbat, Nat.add_zero]
  match a with
  | ⟨0, _⟩ =>
    have hm : ¬ (0 : Fin 2) ∈ (colDims R C B wf).startIndexMap := fun h => (show (0 : Fin 2) ≠ 1 by decide) (List.mem_singleton.1 h)
    have hk : (0 : Fin 2) ∈ (colDims R C B wf).sKept := (GatherDims.mem_sKept _ _).2
      ⟨fun h => (show (0 : Fin 2) ≠ 1 by decide) (List.mem_singleton.1 h), List.not_mem_nil⟩
    show (colDims R C B wf).start (ix2 r j) cols 0 + (colDims R C B wf).offCoord (ix2 r j) 0 = r.val
    unfold GatherDims.start GatherDims.offCoord
    rw [dif_neg hm, dif_pos hk, Nat.zero_add]
    rfl
  | ⟨1, _⟩ =>
    have hm : (1 : Fin 2) ∈ (colDims R C B wf).startIndexMap := List.mem_singleton.2 rfl
    show (colDims R C B wf).start (ix2 r j) cols 1 + (colDims R C B wf).offCoord (ix2 r j) 1 = b.val
    rw [GatherDims.offCoord_eq_zero _ _ _ (fun h => ((GatherDims.mem_sKept _ _).1 h).1 (List.mem_singleton.2 rfl)), Nat.add_zero]
    unfold GatherDims.start
    rw [dif_pos hm]
    have hsi : (colDims R C B wf).siIdx (ix2 r j) ⟨List.idxOf (1 : Fin 2) (colDims R C B wf).startIndexMap,
        List.idxOf_lt_length_iff.2 hm⟩ = ix2 j (0 : Fin 1) := by
      funext k
      refine Fin.ext ?_
      match k with
      | ⟨0, _⟩ => rfl
      | ⟨1, _⟩ => rfl
    have hn : (BitVec.ofNat 32 b.val).toInt.toNat = b.val := by
      rw [BitVec.toInt_eq_toNat_of_lt] <;> rw [BitVec.toNat_ofNat] <;> omega
    rw [hsi, hb]
    show min (BitVec.ofNat 32 b.val).toInt.toNat (C - 1) = b.val
    rw [hn]
    omega

end Cert.Proj

end
-- ==== Proof.Proj.Kv.lean ====
module

public import proofs.«01_k».proof.Proof.Gen.KernelKvIdeal.Frame
public import proofs.«01_k».proof.Proof.Gen.KernelKvIdeal.Value
public import proofs.«01_k».proof.Proof.Gen.ReferenceKvIdeal.Run
public import proofs.«01_k».proof.Proof.Gen.ReferenceKvIdeal.Read
public import proofs.«01_k».proof.Proof.Proj.Spec
public import proofs.«01_k».proof.Proof.Proj.Gather

@[expose] public section

/-!
The latent's expansion to keys and values: the kernel's two output arrays and the reference's two results, index by index.
The kernel takes the columns of the keys, then those of the values, off the weights by a table of column numbers; the
reference splits each head's columns after the product.
-/

set_option maxRecDepth 16384

noncomputable section

open Idealize.ShloMosaic Idealize.ShloMosaic.TcCoe Idealize.SL.Sem

namespace Cert.Proj

/-- The column of head `k / 64`'s key entry `k % 64`, and that of its value entry. -/
def keyCol (k : Fin 1024) : Fin 2048 := ⟨k.val / 64 * 128 + k.val % 64, by omega⟩
def valueCol (k : Fin 1024) : Fin 2048 := ⟨k.val / 64 * 128 + 64 + k.val % 64, by omega⟩

end Cert.Proj

namespace Cert.KernelKvIdeal.Value
open Cert.KernelKvIdeal Cert.KernelKvIdeal.Gen Cert.Proj

/-- One block's normalised rows. -/
theorem normed_at (x0 : Vec Ideal S256x256 .f32) (x1 : Vec Ideal S1x256 .f32) (y : S256x256.Idx) :
    k0_pay1 (F := Ideal) x0 x1 y
      = normRow 0x43800000#32 (fun i => x0 (ix2 (y 0) i)) (fun i => x1 (ix2 0 i)) (y 1) := by
  pointwise [k0_pay1]
  show _ = x0 (ix2 (y 0) (y 1)) * _ * _
  rw [← eq_ix2 y]

theorem out3_at (x0 : Vec Ideal S256x256 .f32) (x1 : Vec Ideal S1x256 .f32) (x2 : Vec Ideal S256x2048 .bf16)
    (y : S256x1024.Idx) : out0_3 (F := Ideal) x0 x1 x2 y
      = proj 0x43800000#32 (fun i => x0 (ix2 (y 0) i)) (fun i => x1 (ix2 0 i))
          (fun i => x2 (ix2 i (Fin.castAdd 1024 (y 1) : Fin 2048))) := by
  frame_out
  pointwise [k0_pay2]
  refine Finset.sum_congr rfl fun i _ => congrArg₂ (· * ·) (normed_at x0 x1 _) (congrArg x2 (funext fun a => Fin.ext ?_))
  fin_cases a <;> rfl

theorem out4_at (x0 : Vec Ideal S256x256 .f32) (x1 : Vec Ideal S1x256 .f32) (x2 : Vec Ideal S256x2048 .bf16)
    (y : S256x1024.Idx) : out0_4 (F := Ideal) x0 x1 x2 y
      = proj 0x43800000#32 (fun i => x0 (ix2 (y 0) i)) (fun i => x1 (ix2 0 i))
          (fun i => x2 (ix2 i (Fin.natAdd 1024 (y 1) : Fin 2048))) := by
  frame_out
  pointwise [k0_pay3]
  refine Finset.sum_congr rfl fun i _ => congrArg₂ (· * ·) (normed_at x0 x1 _) (congrArg x2 (funext fun a => Fin.ext ?_))
  fin_cases a <;> rfl

variable (m : (ℓ : Loc nD τ sig) → Buf (Elt Ideal) ℓ)

theorem idx0 : ∀ t : Fin grid0.N, win0_0.index t = ![(grid0.coords t 0).val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![(grid0.coords t 0).val, 0] := by decide +kernel
theorem idx4 : ∀ t : Fin grid0.N, win0_4.index t = ![(grid0.coords t 0).val, 0] := by decide +kernel

/-- The two output arrays' contents, from what the region finds. -/
def keys (c : Dev nD) : FVec Ideal S4096x1024 .f32 := fun j =>
  proj 0x43800000#32 (fun i => V m c main_arg0 (ix2 (j 0) i)) (fun i => V m c main_v12 (ix2 0 i))
    (fun i => V m c main_v11 (ix2 i (Fin.castAdd 1024 (j 1) : Fin 2048)))
def values (c : Dev nD) : FVec Ideal S4096x1024 .f32 := fun j =>
  proj 0x43800000#32 (fun i => V m c main_arg0 (ix2 (j 0) i)) (fun i => V m c main_v12 (ix2 0 i))
    (fun i => V m c main_v11 (ix2 i (Fin.natAdd 1024 (j 1) : Fin 2048)))

theorem final3 (c : Dev nD) : (dats m 0 c).arrAt 3 cfg0.N = keys m c := by
  refine (dats m 0 c).arrAt_eq_of_covers 3 _ (by decide +kernel) fun t _ y => ?_
  blk_simp
  rw [after0_3, out3_at]
  have h0 : (grid0.coords t 0).val < 16 := (grid0.coords t 0).isLt
  have e0 : ((((cfg0.win 3).blk t).view.emb y) 0).val = (grid0.coords t 0).val * 256 + (y 0).val := by
    blk_simp [idx3]
  have e1 : (((cfg0.win 3).blk t).view.emb y) 1 = y 1 := Fin.ext (by
    blk_simp [idx3])
  generalize ((cfg0.win 3).blk t).view.emb y = j at e0 e1 ⊢
  unfold keys
  rw [e1]
  generalize (Fin.castAdd 1024 (y 1) : Fin 2048) = k
  refine proj_congr _ (fun i => ?_) (fun i => ?_) (fun i => ?_)
  · blk_ext [iblk, idx0, e0, e1]
  · blk_ext [iblk, idx1, e0, e1]
  · blk_ext [iblk, idx2, e0, e1]

theorem final4 (c : Dev nD) : (dats m 0 c).arrAt 4 cfg0.N = values m c := by
  refine (dats m 0 c).arrAt_eq_of_covers 4 _ (by decide +kernel) fun t _ y => ?_
  blk_simp
  rw [after0_4, out4_at]
  have h0 : (grid0.coords t 0).val < 16 := (grid0.coords t 0).isLt
  have e0 : ((((cfg0.win 4).blk t).view.emb y) 0).val = (grid0.coords t 0).val * 256 + (y 0).val := by
    blk_simp [idx4]
  have e1 : (((cfg0.win 4).blk t).view.emb y) 1 = y 1 := Fin.ext (by
    blk_simp [idx4])
  generalize ((cfg0.win 4).blk t).view.emb y = j at e0 e1 ⊢
  unfold values
  rw [e1]
  refine proj_congr _ (fun i => ?_) (fun i => ?_) (fun i => ?_)
  · blk_ext [iblk, idx0, e0, e1]
  · blk_ext [iblk, idx1, e0, e1]
  · blk_ext [iblk, idx2, e0, e1]
    rfl

/-- A table of column numbers as the host hands it to the gather: a negative number would count from the end, and none is. -/
def cols (t : Fin 1024 → BitVec 32) : IVec S1024x1 32 :=
  broadcastInDim S1024x1 ![0] bcast_S1024_S1024x1_0
    (select (constantI S1024 1 0#1) (addi (fun i => t (S1024.rowMajor i)) (broadcastInDim S1024 ![] bcast_S_S1024 (constantI S_ 32 2048#32)))
      (fun i => t (S1024.rowMajor i)))

/-- The host's preparation of the weights and of the gains. -/
def weights (w : FVec Ideal S256x2048 .f32) : FVec Ideal S256x2048 .bf16 :=
  truncf .bf16 (concatenate S256x2048 1
    [⟨S256x1024, Host.gather gather_S256x2048_S1024x1_S256x1024_0_1_n_n_1_1_2561 w (cols lit0)⟩,
     ⟨S256x1024, Host.gather gather_S256x2048_S1024x1_S256x1024_0_1_n_n_1_1_2561 w (cols lit1)⟩]
    concatenates_S256x1024_S256x1024_S256x2048_d1) bitsLt_bf16_f32
def gains (g : FVec Ideal S256 .f32) : FVec Ideal S1x256 .f32 := shapeCast S1x256 g shapeCasts_S256_S1x256

theorem V_weights (c : Dev nD) : V m c main_v11 = weights (m ((c : Thread nD τ).loc main_arg2)) := by
  show StableHlo.after hostOps0 (fun b => m (c, b)) (Proc.devRef .tc main_v11) = _
  after_results_simp
  rfl
theorem V_gains (c : Dev nD) : V m c main_v12 = gains (m ((c : Thread nD τ).loc main_arg1)) := by
  show StableHlo.after hostOps0 (fun b => m (c, b)) (Proc.devRef .tc main_v12) = _
  after_results_simp
  rfl
theorem gains_at (g : FVec Ideal S256 .f32) (i : Fin 256) : gains g (ix2 0 i) = g (ix1 i) := by
  pointwise [gains]

theorem table0 : ∀ k : Fin 1024, lit0 k = BitVec.ofNat 32 (keyCol k).val := by decide +kernel
theorem table1 : ∀ k : Fin 1024, lit1 k = BitVec.ofNat 32 (valueCol k).val := by decide +kernel

theorem cols_at (t : Fin 1024 → BitVec 32) (k : Fin 1024) : cols t (ix2 k (0 : Fin 1)) = t k := by
  show t _ = t k
  exact congrArg t (Fin.ext (Shape.rowMajor_val_one _))

theorem weights_left (w : FVec Ideal S256x2048 .f32) (i : Fin 256) (k : Fin 1024) :
    weights w (ix2 i (Fin.castAdd 1024 k : Fin 2048)) = w (ix2 i (keyCol k)) := by
  have hk : (Fin.castAdd 1024 k : Fin 2048).val < 1024 := k.isLt
  pointwise [weights]
  rw [dif_pos hk]
  exact gather_col gather_S256x2048_S1024x1_S256x1024_0_1_n_n_1_1_2561_wf w (cols lit0) i k (keyCol k) (by decide)
    ((cols_at _ k).trans (table0 k))
theorem weights_right (w : FVec Ideal S256x2048 .f32) (i : Fin 256) (k : Fin 1024) :
    weights w (ix2 i (Fin.natAdd 1024 k : Fin 2048)) = w (ix2 i (valueCol k)) := by
  have hk : ¬ (Fin.natAdd 1024 k : Fin 2048).val < 1024 := by simp
  have e : (⟨(Fin.natAdd 1024 k : Fin 2048).val - 1024, by simp⟩ : Fin 1024) = k := Fin.ext (by simp)
  pointwise [weights]
  rw [dif_neg hk]
  refine Eq.trans ?_ (gather_col gather_S256x2048_S1024x1_S256x1024_0_1_n_n_1_1_2561_wf w (cols lit1) i k (valueCol k) (by decide)
    ((cols_at _ k).trans (table1 k)))
  exact congrArg (fun k' : Fin 1024 => Host.gather gather_S256x2048_S1024x1_S256x1024_0_1_n_n_1_1_2561 w (cols lit1) (ix2 i k')) e

/-- The two output arrays from the arguments. -/
theorem keys_at (c : Dev nD) (j : S4096x1024.Idx) : keys m c j = proj 0x43800000#32
    (fun i => m ((c : Thread nD τ).loc main_arg0) (ix2 (j 0) i)) (fun i => m ((c : Thread nD τ).loc main_arg1) (ix1 i))
    (fun i => m ((c : Thread nD τ).loc main_arg2) (ix2 i (keyCol (j 1)))) := by
  unfold keys
  rw [V_weights, V_gains, V_main_arg0]
  exact proj_congr _ (fun i => rfl) (fun i => gains_at _ i) (fun i => weights_left _ i (j 1))
theorem values_at (c : Dev nD) (j : S4096x1024.Idx) : values m c j = proj 0x43800000#32
    (fun i => m ((c : Thread nD τ).loc main_arg0) (ix2 (j 0) i)) (fun i => m ((c : Thread nD τ).loc main_arg1) (ix1 i))
    (fun i => m ((c : Thread nD τ).loc main_arg2) (ix2 i (valueCol (j 1)))) := by
  unfold values
  rw [V_weights, V_gains, V_main_arg0]
  exact proj_congr _ (fun i => rfl) (fun i => gains_at _ i) (fun i => weights_right _ i (j 1))

end Cert.KernelKvIdeal.Value

namespace Cert.ReferenceKvIdeal.Read
open Cert.ReferenceKvIdeal Cert.ReferenceKvIdeal.Gen Cert.Proj

theorem normed_at (x : FVec Ideal S4096x256 .f32) (g : FVec Ideal S256 .f32) (j : S4096x256.Idx) :
    val_main_v12 (F := Ideal) x g j = normRow 0x43800000#32 (fun i => x (ix2 (j 0) i)) (fun i => g (ix1 i)) (j 1) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  show _ = x (ix2 (j 0) (j 1)) * _ * _
  rw [← eq_ix2 j]

theorem expanded_at (x : FVec Ideal S4096x256 .f32) (g : FVec Ideal S256 .f32) (w : FVec Ideal S256x2048 .f32)
    (j : S4096x2048.Idx) : val_main_v13 (F := Ideal) x g w j
      = proj 0x43800000#32 (fun i => x (ix2 (j 0) i)) (fun i => g (ix1 i)) (fun i => w (ix2 i (j 1))) := by
  pointwise [val_main_v13]
  exact Finset.sum_congr rfl fun i _ => congrArg (· * _) (normed_at x g _)

theorem keys_at (x : FVec Ideal S4096x256 .f32) (g : FVec Ideal S256 .f32) (w : FVec Ideal S256x2048 .f32)
    (j : S4096x1024.Idx) : val_main_v17 (F := Ideal) x g w j
      = proj 0x43800000#32 (fun i => x (ix2 (j 0) i)) (fun i => g (ix1 i)) (fun i => w (ix2 i (keyCol (j 1)))) := by
  refine Eq.trans ?_ (expanded_at x g w (ix2 (j 0) (keyCol (j 1))))
  pointwise [val_main_v17, val_main_v15, val_main_v14]
  rfl

theorem values_at (x : FVec Ideal S4096x256 .f32) (g : FVec Ideal S256 .f32) (w : FVec Ideal S256x2048 .f32)
    (j : S4096x1024.Idx) : val_main_v18 (F := Ideal) x g w j
      = proj 0x43800000#32 (fun i => x (ix2 (j 0) i)) (fun i => g (ix1 i)) (fun i => w (ix2 i (valueCol (j 1)))) := by
  refine Eq.trans ?_ (expanded_at x g w (ix2 (j 0) (valueCol (j 1))))
  pointwise [val_main_v18, val_main_v16, val_main_v14]
  exact congrArg (fun k => val_main_v13 (F := Ideal) x g w (ix2 (j 0) k)) (Fin.ext (Nat.add_assoc _ _ _).symm)

end Cert.ReferenceKvIdeal.Read

end
-- ==== Proof.Proj.KvClaim.lean ====
module

public import proofs.«01_k».proof.Defs
public import proofs.«01_k».proof.Proof.Gen.KernelKvIdeal
public import proofs.«01_k».proof.Proof.Gen.ReferenceKvIdeal
public import proofs.«01_k».proof.Proof.Proj.Kv

@[expose] public section

/-!
The latent's expansion to keys and values: the reference's frame, and the equation of the two programs.
-/

set_option maxRecDepth 16384

noncomputable section

open Idealize.ShloMosaic Idealize.ShloMosaic.TcCoe Idealize.SL.Sem

namespace Cert.KvClaim

/-- The reference's frame: its run keeps the arguments, and the machine it runs on has no semaphore. -/
theorem reference_frame : Cert.quiescent_ReferenceKvIdeal (hReferenceKvIdeal := Cert.ReferenceKvIdeal.Gen.facts) :=
  fun m ρ _ => (θ_run _ _ _).mono (fun r h => ⟨fun c => (h c).2.2, sem_eq_zero_of_no_sems (by decide) r.2⟩)
    (Cert.ReferenceKvIdeal.Value.run m ρ)

/-- The expansion and its reference hold equal keys and equal values. -/
theorem eq : Cert.algebraic_KernelKvIdeal_ReferenceKvIdeal (hKernelKvIdeal := Cert.KernelKvIdeal.Gen.facts)
    (hReferenceKvIdeal := Cert.ReferenceKvIdeal.Gen.facts) := by
  intro m g m' g' _ hargs
  refine ⟨fun c => Cert.KernelKvIdeal.Value.keys m c, fun c => Cert.KernelKvIdeal.Value.values m c,
    (θ_run _ _ _).mono (fun r h c => ?_) (Cert.KernelKvIdeal.Value.run_blocks m g),
    (θ_run _ _ _).mono (fun r h c => ?_) (Cert.ReferenceKvIdeal.Value.run m' g')⟩
  · obtain ⟨h0, h1, hkeep⟩ := h c
    exact ⟨h0.trans (Cert.KernelKvIdeal.Value.final3 m c), h1.trans (Cert.KernelKvIdeal.Value.final4 m c), hkeep⟩
  · obtain ⟨h0, h1, hkeep⟩ := h c
    obtain ⟨e0, e1, e2⟩ := hargs c
    refine ⟨h0.trans ?_, h1.trans ?_, hkeep⟩
    · rw [e0, e1, e2]
      refine (Cert.ReferenceKvIdeal.Read.val_main_v17_eq _ _ _).trans (funext fun j => ?_)
      exact (Cert.ReferenceKvIdeal.Read.keys_at _ _ _ j).trans (Cert.KernelKvIdeal.Value.keys_at m c j).symm
    · rw [e0, e1, e2]
      refine (Cert.ReferenceKvIdeal.Read.val_main_v18_eq _ _ _).trans (funext fun j => ?_)
      exact (Cert.ReferenceKvIdeal.Read.values_at _ _ _ j).trans (Cert.KernelKvIdeal.Value.values_at m c j).symm

end Cert.KvClaim

end
-- ==== Proof.Proj.Out.lean ====
module

public import proofs.«01_k».proof.Proof.Gen.KernelOutIdeal.Frame
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Proj.Spec

@[expose] public section

/-!
The attention's output projection and the residual sum: the kernel's output array and the reference's result, index by index.
-/

set_option maxRecDepth 16384

noncomputable section

open Idealize.ShloMosaic Idealize.ShloMosaic.TcCoe Idealize.SL.Sem

namespace Cert.KernelOutIdeal.Value
open Cert.KernelOutIdeal Cert.KernelOutIdeal.Gen Cert.Proj

theorem out3_at (x0 x1 : Vec Ideal S256x1024 .f32) (x2 : Vec Ideal S1024x1024 .bf16)
    (y : S256x1024.Idx) : out0_3 (F := Ideal) x0 x1 x2 y
      = residual (x0 (ix2 (y 0) (y 1))) (fun i => x1 (ix2 (y 0) i)) (fun i => x2 (ix2 i (y 1))) := by
  frame_out
  pointwise [k0_pay1]
  rfl

variable (m : (ℓ : Loc nD τ sig) → Buf (Elt Ideal) ℓ)

theorem idx0 : ∀ t : Fin grid0.N, win0_0.index t = ![(grid0.coords t 0).val, 0] := by decide +kernel
theorem idx1 : ∀ t : Fin grid0.N, win0_1.index t = ![(grid0.coords t 0).val, 0] := by decide +kernel
theorem idx2 : ∀ t : Fin grid0.N, win0_2.index t = ![0, 0] := by decide +kernel
theorem idx3 : ∀ t : Fin grid0.N, win0_3.index t = ![(grid0.coords t 0).val, 0] := by decide +kernel

/-- The output array's contents, from what the region finds. -/
def summed (c : Dev nD) : FVec Ideal S4096x1024 .f32 := fun j =>
  residual (V m c main_arg0 (ix2 (j 0) (j 1))) (fun i => V m c main_arg1 (ix2 (j 0) i)) (fun i => V m c main_v0 (ix2 i (j 1)))

theorem final3 (c : Dev nD) : (dats m 0 c).arrAt 3 cfg0.N = summed m c := by
  refine (dats m 0 c).arrAt_eq_of_covers 3 _ (by decide +kernel) fun t _ y => ?_
  blk_simp
  rw [after0_3, out3_at]
  have h0 : (grid0.coords t 0).val < 16 := (grid0.coords t 0).isLt
  have e0 : ((((cfg0.win 3).blk t).view.emb y) 0).val = (grid0.coords t 0).val * 256 + (y 0).val := by
    blk_simp [idx3]
  have e1 : ((((cfg0.win 3).blk t).view.emb y) 1).val = (y 1).val := by
    blk_simp [idx3]
  generalize ((cfg0.win 3).blk t).view.emb y = j at e0 e1 ⊢
  refine residual_congr ?_ (fun i => ?_) (fun i => ?_)
  · blk_ext [iblk, idx0, e0, e1]
  · blk_ext [iblk, idx1, e0, e1]
  · blk_ext [iblk, idx2, e0, e1]

/-- The host's preparation of the weights. -/
def weights (w : FVec Ideal S1024x1024 .f32) : FVec Ideal S1024x1024 .bf16 := truncf .bf16 w bitsLt_bf16_f32

theorem V_weights (c : Dev nD) : V m c main_v0 = weights (m ((c : Thread nD τ).loc main_arg2)) := by
  show StableHlo.after hostOps0 (fun b => m (c, b)) (Proc.devRef .tc main_v0) = _
  after_results_simp
  rfl

/-- The output array from the arguments. -/
theorem summed_at (c : Dev nD) (j : S4096x1024.Idx) : summed m c j = residual
    (m ((c : Thread nD τ).loc main_arg0) (ix2 (j 0) (j 1))) (fun i => m ((c : Thread nD τ).loc main_arg1) (ix2 (j 0) i))
    (fun i => m ((c : Thread nD τ).loc main_arg2) (ix2 i (j 1))) := by
  unfold summed
  rw [V_weights, V_main_arg0, V_main_arg1]
  exact residual_congr rfl (fun i => rfl) (fun i => rfl)

end Cert.KernelOutIdeal.Value

namespace Cert.ReferenceOutIdeal.Read
open Cert.ReferenceOutIdeal Cert.ReferenceOutIdeal.Gen Cert.Proj

theorem summed_at (x o : FVec Ideal S4096x1024 .f32) (w : FVec Ideal S1024x1024 .f32) (j : S4096x1024.Idx) :
    val_main_v1 (F := Ideal) x o w j
      = residual (x (ix2 (j 0) (j 1))) (fun i => o (ix2 (j 0) i)) (fun i => w (ix2 i (j 1))) := by
  pointwise [val_main_v1, val_main_v0]
  rfl

end Cert.ReferenceOutIdeal.Read

end
-- ==== Proof.Proj.OutClaim.lean ====
module

public import proofs.«01_k».proof.Defs
public import proofs.«01_k».proof.Proof.Gen.KernelOutIdeal
public import proofs.«01_k».proof.Proof.Gen.ReferenceOutIdeal
public import proofs.«01_k».proof.Proof.Proj.Out

@[expose] public section

/-!
The output projection: the reference's frame, and the equation of the two programs.
-/

set_option maxRecDepth 16384

noncomputable section

open Idealize.ShloMosaic Idealize.ShloMosaic.TcCoe Idealize.SL.Sem

namespace Cert.OutClaim

/-- The reference's frame: its run keeps the arguments, and the machine it runs on has no semaphore. -/
theorem reference_frame : Cert.quiescent_ReferenceOutIdeal (hReferenceOutIdeal := Cert.ReferenceOutIdeal.Gen.facts) :=
  fun m ρ _ => (θ_run _ _ _).mono (fun r h => ⟨fun c => (h c).2, sem_eq_zero_of_no_sems (by decide) r.2⟩)
    (Cert.ReferenceOutIdeal.Value.run m ρ)

/-- The projection with its residual and its reference hold equal results. -/
theorem eq : Cert.algebraic_KernelOutIdeal_ReferenceOutIdeal (hKernelOutIdeal := Cert.KernelOutIdeal.Gen.facts)
    (hReferenceOutIdeal := Cert.ReferenceOutIdeal.Gen.facts) := by
  intro m g m' g' _ hargs
  refine ⟨fun c => Cert.KernelOutIdeal.Value.summed m c,
    (θ_run _ _ _).mono (fun r h c => ?_) (Cert.KernelOutIdeal.Value.run_blocks m g),
    (θ_run _ _ _).mono (fun r h c => ?_) (Cert.ReferenceOutIdeal.Value.run m' g')⟩
  · obtain ⟨h0, hkeep⟩ := h c
    exact ⟨h0.trans (Cert.KernelOutIdeal.Value.final3 m c), hkeep⟩
  · obtain ⟨h0, hkeep⟩ := h c
    obtain ⟨e0, e1, e2⟩ := hargs c
    refine ⟨h0.trans ?_, hkeep⟩
    · rw [e0, e1, e2]
      refine (Cert.ReferenceOutIdeal.Read.val_main_v1_eq _ _ _).trans (funext fun j => ?_)
      exact (Cert.ReferenceOutIdeal.Read.summed_at _ _ _ j).trans (Cert.KernelOutIdeal.Value.summed_at m c j).symm

end Cert.OutClaim

end
-- ==== Proof.Proj.Out2.lean ====
module

public import proofs.«01_k».proof.Proof.Gen.KernelOut2Ideal.Frame
public import proofs.«01_k».proof.Proof.Gen.KernelOut2Ideal.Value
public import proofs.«01_k».proof.Proof.Gen.ReferenceOut2Ideal.Run
public import proofs.«01_k».proof.Proof.Gen.ReferenceOut2Ideal.Read
public import proofs.«01_k».proof.Proof.Proj.Spec

@[expose] public section

/-!
The output projection of two halves side by side and the residual sum: the kernel's output array and the
reference's result, index by index.
-/

set_option maxRecDepth 16384

noncomputable section

open Idealize.ShloMosaic Idealize.ShloMosaic.TcCoe Idealize.SL.Sem

namespace Cert.KernelOut2Ideal.Value
open Cert.KernelOut2Ideal Cert.KernelOut2Ideal.Gen Cert.Proj

theorem out5_at (x0 : Vec Ideal S256x1024 .f32) (x1 x2 : Vec Ideal S256x512 .f32) (x3 x4 : Vec Ideal S512x1024 .bf16)
    (y : S256x1024.Idx) : out0_5 (F := Ideal) x0 x1 x2 x3 x4 y
      = residual (residual (x0 (ix2 (y 0) (y 1))) (fun i => x1 (ix2 (y 0) i)) (fun i => x3 (ix2 i (y 1))))
          (fun i => x2 (ix2 (y 0) i)) (fun i => x4 (ix2 i (y 1))) := by
  frame_out
  pointwise [k0_pay1]
  rfl

variable (m : (ℓ : Loc nD τ sig) → Buf (Elt Ideal) ℓ)

theorem idx0 : ∀ t : Fin grid0.N, win0_0.index t = ![(grid0.coords t 0).val, 0] := by decide +kernel
theorem idx1 : ∀ t : Fin grid0.N, win0_1.index t = ![(grid0.coords t 0).val, 0] := by decide +kernel
theorem idx2 : ∀ t : Fin grid0.N, win0_2.index t = ![(grid0.coords t 0).val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![(grid0.coords t 0).val, 0] := by decide +kernel

/-- The output array's contents, from what the region finds. -/
def summed (c : Dev nD) : FVec Ideal S4096x1024 .f32 := fun j =>
  residual (residual (V m c main_arg0 (ix2 (j 0) (j 1))) (fun i => V m c main_arg1 (ix2 (j 0) i)) (fun i => V m c main_v1 (ix2 i (j 1))))
    (fun i => V m c main_arg2 (ix2 (j 0) i)) (fun i => V m c main_v2 (ix2 i (j 1)))

theorem final5 (c : Dev nD) : (dats m 0 c).arrAt 5 cfg0.N = summed m c := by
  refine (dats m 0 c).arrAt_eq_of_covers 5 _ (by decide +kernel) fun t _ y => ?_
  blk_simp
  rw [after0_5, out5_at]
  have h0 : (grid0.coords t 0).val < 16 := (grid0.coords t 0).isLt
  have e0 : ((((cfg0.win 5).blk t).view.emb y) 0).val = (grid0.coords t 0).val * 256 + (y 0).val := by
    blk_simp [idx5]
  have e1 : ((((cfg0.win 5).blk t).view.emb y) 1).val = (y 1).val := by
    blk_simp [idx5]
  generalize ((cfg0.win 5).blk t).view.emb y = j at e0 e1 ⊢
  refine residual_congr (residual_congr ?_ (fun i => ?_) (fun i => ?_)) (fun i => ?_) (fun i => ?_)
  · blk_ext [iblk, idx0, e0, e1]
  · blk_ext [iblk, idx1, e0, e1]
  · blk_ext [iblk, idx3, e0, e1]
  · blk_ext [iblk, idx2, e0, e1]
  · blk_ext [iblk, idx4, e0, e1]

/-- The host's preparation of the weights: the upper rows and the lower ones. -/
def upper (w : FVec Ideal S1024x1024 .f32) : FVec Ideal S512x1024 .bf16 :=
  extractStridedSlice S512x1024 ![0, 0] (truncf .bf16 w bitsLt_bf16_f32) slices_S1024x1024_S512x1024_0_0
def lower (w : FVec Ideal S1024x1024 .f32) : FVec Ideal S512x1024 .bf16 :=
  extractStridedSlice S512x1024 ![512, 0] (truncf .bf16 w bitsLt_bf16_f32) slices_S1024x1024_S512x1024_512_0

theorem V_upper (c : Dev nD) : V m c main_v1 = upper (m ((c : Thread nD τ).loc main_arg3)) := by
  show StableHlo.after hostOps0 (fun b => m (c, b)) (Proc.devRef .tc main_v1) = _
  after_results_simp
  rfl
theorem V_lower (c : Dev nD) : V m c main_v2 = lower (m ((c : Thread nD τ).loc main_arg3)) := by
  show StableHlo.after hostOps0 (fun b => m (c, b)) (Proc.devRef .tc main_v2) = _
  after_results_simp
  rfl
theorem upper_at (w : FVec Ideal S1024x1024 .f32) (i : Fin 512) (k : Fin 1024) :
    upper w (ix2 i k) = w (ix2 (Fin.castAdd 512 i) k) := by
  unfold upper
  show w _ = w _
  refine congrArg w (funext fun a => Fin.ext ?_)
  fin_cases a
  · exact Nat.zero_add _
  · exact Nat.zero_add _
theorem lower_at (w : FVec Ideal S1024x1024 .f32) (i : Fin 512) (k : Fin 1024) :
    lower w (ix2 i k) = w (ix2 (Fin.natAdd 512 i) k) := by
  unfold lower
  show w _ = w _
  refine congrArg w (funext fun a => Fin.ext ?_)
  fin_cases a
  · rfl
  · exact Nat.zero_add _

/-- The output array from the arguments. -/
theorem summed_at (c : Dev nD) (j : S4096x1024.Idx) : summed m c j = residual (residual
    (m ((c : Thread nD τ).loc main_arg0) (ix2 (j 0) (j 1))) (fun i => m ((c : Thread nD τ).loc main_arg1) (ix2 (j 0) i))
      (fun i : Fin 512 => m ((c : Thread nD τ).loc main_arg3) (ix2 (Fin.castAdd 512 i) (j 1))))
    (fun i => m ((c : Thread nD τ).loc main_arg2) (ix2 (j 0) i))
    (fun i : Fin 512 => m ((c : Thread nD τ).loc main_arg3) (ix2 (Fin.natAdd 512 i) (j 1))) := by
  unfold summed
  rw [V_upper, V_lower, V_main_arg0, V_main_arg1, V_main_arg2]
  exact residual_congr (residual_congr rfl (fun i => rfl) (fun i => upper_at _ i _)) (fun i => rfl) (fun i => lower_at _ i _)

end Cert.KernelOut2Ideal.Value

namespace Cert.ReferenceOut2Ideal.Read
open Cert.ReferenceOut2Ideal Cert.ReferenceOut2Ideal.Gen Cert.Proj

theorem left_at (a b : FVec Ideal S4096x512 .f32) (r : Fin 4096) (i : Fin 512) :
    val_main_v0 (F := Ideal) a b (ix2 r (Fin.castAdd 512 i)) = a (ix2 r i) := by
  have hi : (Fin.castAdd 512 i).val < 512 := i.isLt
  pointwise [val_main_v0]
  rw [dif_pos hi]
  rfl
theorem right_at (a b : FVec Ideal S4096x512 .f32) (r : Fin 4096) (i : Fin 512) :
    val_main_v0 (F := Ideal) a b (ix2 r (Fin.natAdd 512 i)) = b (ix2 r i) := by
  have hi : ¬ (Fin.natAdd 512 i).val < 512 := by simp
  pointwise [val_main_v0]
  rw [dif_neg hi]
  refine congrArg b (congrArg (ix2 r) (Fin.ext ?_))
  simp

theorem summed_at (x : FVec Ideal S4096x1024 .f32) (a b : FVec Ideal S4096x512 .f32) (w : FVec Ideal S1024x1024 .f32)
    (j : S4096x1024.Idx) : val_main_v2 (F := Ideal) x a b w j
      = residual (residual (x (ix2 (j 0) (j 1))) (fun i => a (ix2 (j 0) i)) (fun i : Fin 512 => w (ix2 (Fin.castAdd 512 i) (j 1))))
          (fun i => b (ix2 (j 0) i)) (fun i : Fin 512 => w (ix2 (Fin.natAdd 512 i) (j 1))) := by
  pointwise [val_main_v2, val_main_v1]
  refine (congrArg (x j + ·) (Fin.sum_univ_add (a := 512) (b := 512) _)).trans ?_
  rw [← add_assoc]
  unfold Proj.residual
  refine congrArg₂ (· + ·) (congrArg₂ (· + ·) rfl (Finset.sum_congr rfl fun i _ => ?_)) (Finset.sum_congr rfl fun i _ => ?_)
  · exact congrArg (· * _) (left_at a b (j 0) i)
  · exact congrArg (· * _) (right_at a b (j 0) i)

end Cert.ReferenceOut2Ideal.Read

end
-- ==== Proof.Proj.Out2Claim.lean ====
module

public import proofs.«01_k».proof.Defs
public import proofs.«01_k».proof.Proof.Gen.KernelOut2Ideal
public import proofs.«01_k».proof.Proof.Gen.ReferenceOut2Ideal
public import proofs.«01_k».proof.Proof.Proj.Out2

@[expose] public section

/-!
The output projection of two halves: the reference's frame, and the equation of the two programs.
-/

set_option maxRecDepth 16384

noncomputable section

open Idealize.ShloMosaic Idealize.ShloMosaic.TcCoe Idealize.SL.Sem

namespace Cert.Out2Claim

/-- The reference's frame: its run keeps the arguments, and the machine it runs on has no semaphore. -/
theorem reference_frame : Cert.quiescent_ReferenceOut2Ideal (hReferenceOut2Ideal := Cert.ReferenceOut2Ideal.Gen.facts) :=
  fun m ρ _ => (θ_run _ _ _).mono (fun r h => ⟨fun c => (h c).2, sem_eq_zero_of_no_sems (by decide) r.2⟩)
    (Cert.ReferenceOut2Ideal.Value.run m ρ)

/-- The projection with its residual and its reference hold equal results. -/
theorem eq : Cert.algebraic_KernelOut2Ideal_ReferenceOut2Ideal (hKernelOut2Ideal := Cert.KernelOut2Ideal.Gen.facts)
    (hReferenceOut2Ideal := Cert.ReferenceOut2Ideal.Gen.facts) := by
  intro m g m' g' _ hargs
  refine ⟨fun c => Cert.KernelOut2Ideal.Value.summed m c,
    (θ_run _ _ _).mono (fun r h c => ?_) (Cert.KernelOut2Ideal.Value.run_blocks m g),
    (θ_run _ _ _).mono (fun r h c => ?_) (Cert.ReferenceOut2Ideal.Value.run m' g')⟩
  · obtain ⟨h0, hkeep⟩ := h c
    exact ⟨h0.trans (Cert.KernelOut2Ideal.Value.final5 m c), hkeep⟩
  · obtain ⟨h0, hkeep⟩ := h c
    obtain ⟨e0, e1, e2, e3⟩ := hargs c
    refine ⟨h0.trans ?_, hkeep⟩
    · rw [e0, e1, e2, e3]
      refine (Cert.ReferenceOut2Ideal.Read.val_main_v2_eq _ _ _ _).trans (funext fun j => ?_)
      exact (Cert.ReferenceOut2Ideal.Read.summed_at _ _ _ _ j).trans (Cert.KernelOut2Ideal.Value.summed_at m c j).symm

end Cert.Out2Claim

end
-- ==== Proof.Proj.Rope.lean ====
module

public import Idealize.ShloMosaic.Lib.Pipeline.ValueKit
public import Idealize.ShloMosaic.Lib.WordCmp

@[expose] public section

/-!
The rotary embedding, by columns. A row of groups of `2 h` columns is turned pair by pair: column `q` of a group with
column `q + h`, by the token's angle at `q`. The reference turns the two halves of each group and joins them; the kernel
turns every lane with its partner, found by rotating the whole row forwards or backwards, and puts the minus sign into the
sine's table.
-/

noncomputable section

open Idealize.ShloMosaic

namespace Cert.Proj

/-- The columns `h` ahead of and `h` behind a column, around the row's end. -/
def ahead {n : ℕ} (h : ℕ) (j : Fin n) : Fin n := ⟨(j.val + h) % n, Nat.mod_lt _ (Nat.zero_lt_of_lt j.isLt)⟩
def behind {n : ℕ} (h : ℕ) (j : Fin n) : Fin n := ⟨(j.val + (n - h)) % n, Nat.mod_lt _ (Nat.zero_lt_of_lt j.isLt)⟩

/-- The sign in the sine's table. -/
def laneSign (h j : ℕ) : EReal := if j % (2 * h) < h then -1 else 1

/-- Column `j` of a row turned by the angle `t`, in groups of `2 h` columns. -/
def roped {n : ℕ} (h : ℕ) (t : EReal) (a : Fin n → EReal) (j : Fin n) : EReal :=
  if j.val % (2 * h) < h then a j * Ideal.cos t - a (ahead h j) * Ideal.sin t
  else a (behind h j) * Ideal.sin t + a j * Ideal.cos t

/-- The kernel's form: the lane times the cosine plus its partner times the signed sine. -/
theorem roped_lane {n : ℕ} (h : ℕ) (t : EReal) (a : Fin n → EReal) (j : Fin n) :
    a j * Ideal.cos t + (if j.val % (2 * h) < h then a (ahead h j) else a (behind h j)) * (Ideal.sin t * laneSign h j.val)
      = roped h t a j := by
  unfold roped laneSign
  by_cases hj : j.val % (2 * h) < h
  · rw [if_pos hj, if_pos hj, if_pos hj, mul_neg, mul_one, mul_neg, sub_eq_add_neg]
  · rw [if_neg hj, if_neg hj, if_neg hj, mul_one, add_comm]

theorem roped_congr {n : ℕ} (h : ℕ) {t t' : EReal} {a a' : Fin n → EReal} (j : Fin n) (ht : t = t') (ha : ∀ i, a i = a' i) :
    roped h t a j = roped h t' a' j := by
  rw [ht, show a = a' from funext ha]

/-- The inverse frequency at `q`: one over the base to the power `2 q / d`, where `d` is the float word of the group's
    width. -/
def invFreq (d : BitVec 32) (q : ℕ) : EReal :=
  Ideal.div 1 (Ideal.pow (Ideal.ofBits .f32 0x461C4000#32)
    (Ideal.div (Ideal.ofBits .f32 0x40000000#32 * (FloatOps.sitofp .f32 (BitVec.ofNat 32 q) : Ideal .f32)) (Ideal.ofBits .f32 d)))

/-- A token's angle at column `j` of groups of `2 h` columns. -/
def angle (h : ℕ) (d p : BitVec 32) (j : ℕ) : EReal := (FloatOps.sitofp .f32 p : Ideal .f32) * invFreq d (j % h)

/-- The kernel's mask: whether lane `l`, modulo the period `p`, lies before `h`, in machine words. -/
def laneMask (p h : BitVec 32) (l : ℕ) : BitVec 1 :=
  IntOp.cmpi .slt
    (Scalar.select
      (IntOp.andi (IntOp.xori (IntOp.cmpi .slt (IntOp.remsi .vector (BitVec.ofNat 32 l) p) 0#32) (Scalar.cmpi .slt p 0#32))
        (IntOp.cmpi .ne (IntOp.remsi .vector (BitVec.ofNat 32 l) p) 0#32))
      (IntOp.addi (IntOp.remsi .vector (BitVec.ofNat 32 l) p) p)
      (IntOp.remsi .vector (BitVec.ofNat 32 l) p)) h

theorem laneMask_16 : ∀ l : Fin 512, laneMask (Scalar.select (Scalar.cmpi .eq 32#32 0#32) 1#32 32#32) 16#32 l.val
    = if l.val % (2 * 16) < 16 then 1#1 else 0#1 := by decide +kernel
theorem laneMask_32 : ∀ l : Fin 512, laneMask (Scalar.select (Scalar.cmpi .eq 64#32 0#32) 1#32 64#32) 32#32 l.val
    = if l.val % (2 * 32) < 32 then 1#1 else 0#1 := by decide +kernel

/-- A choice by the mask. -/
theorem select_lane {α : Type} (b : BitVec 1) (p : Prop) [Decidable p] (hb : b = if p then 1#1 else 0#1) (u d : α) :
    Scalar.select b u d = if p then u else d := by
  rw [hb]
  by_cases hp : p
  · rw [if_pos hp, if_pos hp]; rfl
  · rw [if_neg hp, if_neg hp]; rfl

/-- A row of zeros stays zero. -/
theorem roped_zero {n : ℕ} (h : ℕ) (t : EReal) (a : Fin n → EReal) (j : Fin n) (h0 : a j = 0)
    (h1 : a (ahead h j) = 0) (h2 : a (behind h j) = 0) : roped h t a j = 0 := by
  unfold roped
  rw [h0, h1, h2, zero_mul, zero_mul, sub_zero, zero_add, ite_self]

end Cert.Proj

end
-- ==== Proof.Proj.EvenTables.lean ====
module

public import proofs.«01_k».proof.Proof.Gen.KernelEvenIdeal.Frame
public import proofs.«01_k».proof.Proof.Proj.Rope

@[expose] public section

/-!
The even layer's projection's rotary tables, as its first segment leaves them, and the launch of its two segments.
-/

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelEvenIdeal.Value
open Cert.KernelEvenIdeal Cert.KernelEvenIdeal.Gen Cert.Proj

local notation "𝕄" => MT nD τ sig Unit (Elt Ideal) ℕ (UR sig nD τ) ℕ

section Launch
variable (m : (ℓ : Loc nD τ sig) → Buf (Elt Ideal) ℓ) (ρ : Dev nD → PrngReg)

set_option backward.isDefEq.respectTransparency.types false in
/-- The launch, keeping the result buffers. -/
theorem run_result : θ_run defs (onTc (τ := τ) (main (F := Ideal))) ⟨m, fun _ => 0, ρ⟩ (fun r => ∀ c : Dev nD,
      r.2.mem ((c.tc : Thread nD τ).loc main_v40_0) = W6 m ρ c (Proc.devRef .tc main_v40_0)
      ∧ r.2.mem ((c.tc : Thread nD τ).loc main_v40_1) = W6 m ρ c (Proc.devRef .tc main_v40_1)
      ∧ r.2.mem ((c.tc : Thread nD τ).loc main_v40_2) = W6 m ρ c (Proc.devRef .tc main_v40_2)
      ∧ r.2.mem ((c.tc : Thread nD τ).loc main_v40_3) = W6 m ρ c (Proc.devRef .tc main_v40_3)
      ∧ r.2.mem ((c.tc : Thread nD τ).loc main_v40_4) = W6 m ρ c (Proc.devRef .tc main_v40_4)
      ∧ r.2.mem ((c.tc : Thread nD τ).loc main_v40_5) = W6 m ρ c (Proc.devRef .tc main_v40_5)
      ∧ r.2.mem ((c.tc : Thread nD τ).loc main_v40_6) = W6 m ρ c (Proc.devRef .tc main_v40_6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v40_0 (by decide)),
       h c _ (mem_uc main_v40_1 (by decide)),
       h c _ (mem_uc main_v40_2 (by decide)),
       h c _ (mem_uc main_v40_3 (by decide)),
       h c _ (mem_uc main_v40_4 (by decide)),
       h c _ (mem_uc main_v40_5 (by decide)),
       h c _ (mem_uc main_v40_6 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Launch

theorem out0_3_at (x0 : Vec Ideal S1024x1 .i32) (x1 x2 : Vec Ideal S1x128 .f32) (y : S1024x128.Idx) :
    out0_3 (F := Ideal) x0 x1 x2 y
      = Ideal.cos ((FloatOps.sitofp .f32 (x0 (ix2 (y 0) 0)) : Ideal .f32) * x1 (ix2 0 (y 1))) := by
  frame_out
  pointwise [k0_pay1, k0_pay2]

theorem out0_4_at (x0 : Vec Ideal S1024x1 .i32) (x1 x2 : Vec Ideal S1x128 .f32) (y : S1024x128.Idx) :
    out0_4 (F := Ideal) x0 x1 x2 y
      = Ideal.sin ((FloatOps.sitofp .f32 (x0 (ix2 (y 0) 0)) : Ideal .f32) * x1 (ix2 0 (y 1))) * x2 (ix2 0 (y 1)) := by
  frame_out
  pointwise [k0_pay1, k0_pay3]

section Tables
variable (V : (c : Dev nD) → (b : Ref sig .tc) → Buf (Elt Ideal) ((c : Thread nD τ).loc b))

theorem idx0_0 : ∀ t : Fin grid0.N, win0_0.index t = ![(grid0.coords t 0).val, 0] := by decide +kernel
theorem idx0_1 : ∀ t : Fin grid0.N, win0_1.index t = ![0, 0] := by decide +kernel
theorem idx0_2 : ∀ t : Fin grid0.N, win0_2.index t = ![0, 0] := by decide +kernel
theorem idx0_3 : ∀ t : Fin grid0.N, win0_3.index t = ![(grid0.coords t 0).val, 0] := by decide +kernel
theorem idx0_4 : ∀ t : Fin grid0.N, win0_4.index t = ![(grid0.coords t 0).val, 0] := by decide +kernel

/-- The two tables' contents, from what the segment finds. -/
def cosTab (c : Dev nD) : FVec Ideal S4096x128 .f32 := fun j =>
  Ideal.cos ((FloatOps.sitofp .f32 ((V c main_v0 : IVec S4096x1 32) (ix2 (j 0) 0)) : Ideal .f32)
    * (V c main_v16 : FVec Ideal S1x128 .f32) (ix2 0 (j 1)))
def sinTab (c : Dev nD) : FVec Ideal S4096x128 .f32 := fun j =>
  Ideal.sin ((FloatOps.sitofp .f32 ((V c main_v0 : IVec S4096x1 32) (ix2 (j 0) 0)) : Ideal .f32)
    * (V c main_v16 : FVec Ideal S1x128 .f32) (ix2 0 (j 1))) * (V c main_v24 : FVec Ideal S1x128 .f32) (ix2 0 (j 1))

theorem final0_3 (c : Dev nD) : (dat0 V c).arrAt 3 cfg0.N = cosTab V c := by
  refine (dat0 V c).arrAt_eq_of_covers 3 _ (by decide +kernel) fun t _ y => ?_
  blk_simp
  rw [after0_3, out0_3_at]
  have h0 : (grid0.coords t 0).val < 4 := (grid0.coords t 0).isLt
  have e0 : ((((cfg0.win 3).blk t).view.emb y) 0).val = (grid0.coords t 0).val * 1024 + (y 0).val := by
    blk_simp [idx0_3]
  have e1 : (((cfg0.win 3).blk t).view.emb y) 1 = y 1 := Fin.ext (by
    blk_simp [idx0_3])
  generalize ((cfg0.win 3).blk t).view.emb y = j at e0 e1 ⊢
  unfold cosTab
  rw [e1]
  refine congrArg Ideal.cos (congrArg₂ (· * ·) (congrArg (FloatOps.sitofp .f32) ?_) ?_)
  · blk_ext [iblk0, idx0_0, e0, e1]
  · blk_ext [iblk0, idx0_1, e0, e1]

theorem final0_4 (c : Dev nD) : (dat0 V c).arrAt 4 cfg0.N = sinTab V c := by
  refine (dat0 V c).arrAt_eq_of_covers 4 _ (by decide +kernel) fun t _ y => ?_
  blk_simp
  rw [after0_4, out0_4_at]
  have h0 : (grid0.coords t 0).val < 4 := (grid0.coords t 0).isLt
  have e0 : ((((cfg0.win 4).blk t).view.emb y) 0).val = (grid0.coords t 0).val * 1024 + (y 0).val := by
    blk_simp [idx0_4]
  have e1 : (((cfg0.win 4).blk t).view.emb y) 1 = y 1 := Fin.ext (by
    blk_simp [idx0_4])
  generalize ((cfg0.win 4).blk t).view.emb y = j at e0 e1 ⊢
  unfold sinTab
  rw [e1]
  refine congrArg₂ (· * ·) (congrArg Ideal.sin (congrArg₂ (· * ·) (congrArg (FloatOps.sitofp .f32) ?_) ?_)) ?_
  · blk_ext [iblk0, idx0_0, e0, e1]
  · blk_ext [iblk0, idx0_1, e0, e1]
  · blk_ext [iblk0, idx0_2, e0, e1]

end Tables

/-- The host's frequencies and signs, and their rows over the lanes. -/
def freqs : FVec Ideal S32 .f32 :=
  Host.divf (broadcastInDim S32 ![] bcast_S_S32 (constant S_ .f32 0x3F800000#32))
    (Host.powf (broadcastInDim S32 ![] bcast_S_S32 (constant S_ .f32 0x461C4000#32))
      (Host.divf (addf (broadcastInDim S32 ![] bcast_S_S32 (constant S_ .f32 0x00000000#32))
          (mulf (broadcastInDim S32 ![] bcast_S_S32 (constant S_ .f32 0x40000000#32)) (sitofp .f32 (iotaInDim S32 32 0))))
        (broadcastInDim S32 ![] bcast_S_S32 (constant S_ .f32 0x42800000#32))))
def overLanes (a b : FVec Ideal S32 .f32) : FVec Ideal S1x128 .f32 :=
  broadcastInDim S1x128 ![1] bcast_S128_S1x128_1 (shapeCast S128
    (broadcastInDim S2x64 ![0, 1] bcast_S1x64_S2x64_0_1 (shapeCast S1x64
      (concatenate S64 0 [⟨S32, a⟩, ⟨S32, b⟩] concatenates_S32_S32_S64_d0) shapeCasts_S64_S1x64)) shapeCasts_S2x64_S128)
def ones : FVec Ideal S32 .f32 := broadcastInDim S32 ![] bcast_S_S32 (constant S_ .f32 0x3F800000#32)

theorem freqs_at (k : Fin 32) : freqs (ix1 k) = invFreq 0x42800000#32 k.val := by
  pointwise [freqs]
  rfl

theorem overLanes_at (a b : FVec Ideal S32 .f32) (l : Fin 128) : overLanes a b (ix2 0 l)
    = if l.val % (2 * 32) < 32 then a (ix1 ⟨l.val % 32, Nat.mod_lt _ (by decide)⟩) else b (ix1 ⟨l.val % 32, Nat.mod_lt _ (by decide)⟩) := by
  pointwise [overLanes]
  by_cases hl : l.val % (2 * 32) < 32
  · rw [if_pos hl, dif_pos hl]
    exact congrArg (fun q => a (ix1 q)) (Fin.ext (by dsimp only; omega))
  · rw [if_neg hl, dif_neg hl]
    exact congrArg (fun q => b (ix1 q)) (Fin.ext (by dsimp only; omega))

section Host
variable (m : (ℓ : Loc nD τ sig) → Buf (Elt Ideal) ℓ) (ρ : Dev nD → PrngReg)

theorem V1_positions (c : Dev nD) : (V1 m ρ c main_v0 : IVec S4096x1 32)
    = shapeCast S4096x1 (m ((c : Thread nD τ).loc main_arg1) : IVec S2x2048 32) shapeCasts_S2x2048_S4096x1 := by
  show StableHlo.after hostOps0 (W0 m ρ c) (Proc.devRef .tc main_v0) = _
  after_results_simp
  rfl
theorem V1_freqs (c : Dev nD) : V1 m ρ c main_v16 = overLanes freqs freqs := by
  show StableHlo.after hostOps0 (W0 m ρ c) (Proc.devRef .tc main_v16) = _
  after_results_simp
  rfl
theorem V1_signs (c : Dev nD) : V1 m ρ c main_v24 = overLanes (Host.negf ones) ones := by
  show StableHlo.after hostOps0 (W0 m ρ c) (Proc.devRef .tc main_v24) = _
  after_results_simp
  rfl

theorem sign_at (l : Fin 128) : overLanes (Host.negf ones) ones (ix2 0 l) = laneSign 32 l.val := by
  rw [overLanes_at]
  unfold laneSign
  refine if_congr Iff.rfl ?_ ?_
  · pointwise [ones]
  · pointwise [ones]

/-- The position of a row's token. -/
def posOf (p : IVec S2x2048 32) (r : Fin 4096) : BitVec 32 :=
  p (ix2 (⟨r.val / 2048, by omega⟩ : Fin 2) (⟨r.val % 2048, Nat.mod_lt _ (by decide)⟩ : Fin 2048))

theorem positions_at (p : IVec S2x2048 32) (r : Fin 4096) :
    shapeCast S4096x1 p shapeCasts_S2x2048_S4096x1 (ix2 r 0) = posOf p r := by
  pointwise [posOf]

/-- A table's entry at lane `l`: the cosine of the token's angle there, and its sine with the lane's sign. -/
theorem cosTab_at (c : Dev nD) (r : Fin 4096) (l : Fin 128) : cosTab (V1 m ρ) c (ix2 r l)
    = Ideal.cos (angle 32 0x42800000#32 (posOf (m ((c : Thread nD τ).loc main_arg1)) r) l.val) := by
  show Ideal.cos ((FloatOps.sitofp .f32 ((V1 m ρ c main_v0 : IVec S4096x1 32) (ix2 r 0)) : Ideal .f32)
    * (V1 m ρ c main_v16 : FVec Ideal S1x128 .f32) (ix2 0 l)) = _
  rw [V1_positions, V1_freqs, positions_at, overLanes_at, ite_self, freqs_at]
  rfl
theorem sinTab_at (c : Dev nD) (r : Fin 4096) (l : Fin 128) : sinTab (V1 m ρ) c (ix2 r l)
    = Ideal.sin (angle 32 0x42800000#32 (posOf (m ((c : Thread nD τ).loc main_arg1)) r) l.val) * laneSign 32 l.val := by
  show Ideal.sin ((FloatOps.sitofp .f32 ((V1 m ρ c main_v0 : IVec S4096x1 32) (ix2 r 0)) : Ideal .f32)
    * (V1 m ρ c main_v16 : FVec Ideal S1x128 .f32) (ix2 0 l)) * (V1 m ρ c main_v24 : FVec Ideal S1x128 .f32) (ix2 0 l) = _
  rw [V1_positions, V1_freqs, V1_signs, positions_at, overLanes_at freqs, ite_self, freqs_at, sign_at]
  rfl

end Host

end Cert.KernelEvenIdeal.Value

end
-- ==== Proof.Proj.Even.lean ====
module

public import proofs.«01_k».proof.Proof.Proj.Spec
public import proofs.«01_k».proof.Proof.Proj.EvenTables
public import Idealize.ShloMosaic.Lib.KernelVsHost

@[expose] public section

/-!
The even layers' product: nine parts of the columns of `w_in`, six of them turned by the token's angles.  The kernel lays the
parts out anew, two heads' keys side by side and the small parts in one group padded with zero columns.
-/

set_option maxRecDepth 16384

noncomputable section

open Idealize.ShloMosaic Idealize.ShloMosaic.TcCoe Idealize.SL.Sem

namespace Cert.Proj

/-- The columns of `w_in` the two keys' lanes and the small group's first 72 lanes take. -/
def keysCol (q : Fin 128) : Fin 2760 := ⟨if q.val < 64 then 512 + q.val else 1088 + q.val, by split <;> omega⟩
def smallCol (q : Fin 128) : Fin 2760 := ⟨if q.val < 64 then 576 + q.val else 1152 + q.val, by split <;> omega⟩

end Cert.Proj

namespace Cert.KernelEvenIdeal.Value
open Cert.KernelEvenIdeal Cert.KernelEvenIdeal.Gen Cert.Proj

/-- The kernel's groups of columns. -/
def part0 (q : Fin 512) : Fin 2816 := ⟨q.val, by omega⟩
def part1 (q : Fin 512) : Fin 2816 := ⟨512 + q.val, by omega⟩
def part2 (q : Fin 512) : Fin 2816 := ⟨1024 + q.val, by omega⟩
def part3 (q : Fin 512) : Fin 2816 := ⟨1536 + q.val, by omega⟩
def part4 (q : Fin 512) : Fin 2816 := ⟨2048 + q.val, by omega⟩
def part5 (q : Fin 128) : Fin 2816 := ⟨2560 + q.val, by omega⟩
def part6 (q : Fin 128) : Fin 2816 := ⟨2688 + q.val, by omega⟩

/-- One block's normalised rows. -/
theorem normed_at (x0 : Vec Ideal S256x1024 .f32) (x1 : Vec Ideal S1x1024 .f32) (y : S256x1024.Idx) :
    k1_pay2 (F := Ideal) x0 x1 y
      = normRow 0x44800000#32 (fun i => x0 (ix2 (y 0) i)) (fun i => x1 (ix2 0 i)) (y 1) := by
  pointwise [k1_pay2]
  show _ = x0 (ix2 (y 0) (y 1)) * _ * _
  rw [← eq_ix2 y]

/-- A table repeated over the row's lanes. -/
theorem wide_at (x3 : Vec Ideal S256x128 .f32) (y : S256x512.Idx) :
    k1_pay15 (F := Ideal) x3 y = x3 (ix2 (y 0) (⟨(y 1).val % 128, Nat.mod_lt _ (by decide)⟩ : Fin 128)) := by
  have hy : (y 1).val < 512 := (y 1).isLt
  pointwise [k1_pay15]
  by_cases h : (y 1).val < 128
  · rw [dif_pos h]
    exact congrArg (fun q => x3 (ix2 (y 0) q)) (Fin.ext (by dsimp only; omega))
  rw [dif_neg h]
  by_cases h' : (y 1).val - 128 < 128
  · rw [dif_pos h']
    exact congrArg (fun q => x3 (ix2 (y 0) q)) (Fin.ext (by dsimp only; omega))
  rw [dif_neg h']
  by_cases h'' : (y 1).val - 128 - 128 < 128
  · rw [dif_pos h'']
    exact congrArg (fun q => x3 (ix2 (y 0) q)) (Fin.ext (by dsimp only; omega))
  rw [dif_neg h'']
  exact congrArg (fun q => x3 (ix2 (y 0) q)) (Fin.ext (by dsimp only; omega))

theorem partner_at (v : FVec Ideal S256x1024 .bf16) (w : Vec Ideal S1024x512 .bf16) (y : S256x512.Idx) :
    k1_pay16 (F := Ideal) v w y = if (y 1).val % (2 * 32) < 32 then k1_pay14 v w (ix2 (y 0) (ahead 32 (y 1)))
      else k1_pay14 v w (ix2 (y 0) (behind 32 (y 1))) := by
  rw [← select_lane _ _ (laneMask_32 (y 1))]
  pointwise [k1_pay16]
  rfl

/-- A group of 512 columns turned, from the group's columns. -/
theorem turned_at (v : FVec Ideal S256x1024 .bf16) (w : Vec Ideal S1024x512 .bf16) (x3 x4 : Vec Ideal S256x128 .f32)
    (y : S256x512.Idx) (a : Fin 512 → EReal) (ha : ∀ q : Fin 512, k1_pay14 (F := Ideal) v w (ix2 (y 0) q) = a q) :
    k1_pay18 (F := Ideal) (k1_pay15 x4) (k1_pay16 v w) (k1_pay17 v w x3) y
      = a (y 1) * x3 (ix2 (y 0) (⟨(y 1).val % 128, Nat.mod_lt _ (by decide)⟩ : Fin 128))
        + (if (y 1).val % (2 * 32) < 32 then a (ahead 32 (y 1)) else a (behind 32 (y 1)))
          * x4 (ix2 (y 0) (⟨(y 1).val % 128, Nat.mod_lt _ (by decide)⟩ : Fin 128)) := by
  show k1_pay14 (F := Ideal) v w y * k1_pay15 x3 y + k1_pay16 v w y * k1_pay15 x4 y = _
  refine congrArg₂ (· + ·) (congrArg₂ (· * ·) ?_ (wide_at x3 y)) (congrArg₂ (· * ·) ((partner_at v w y).trans
    (if_congr Iff.rfl (ha _) (ha _))) (wide_at x4 y))
  exact (congrArg (k1_pay14 (F := Ideal) v w) (eq_ix2 y)).trans (ha (y 1))

/-- The group of the two keys turned. -/
theorem turned_narrow_at (v : FVec Ideal S256x1024 .bf16) (w : Vec Ideal S1024x128 .bf16) (x3 x4 : Vec Ideal S256x128 .f32)
    (y : S256x128.Idx) (a : Fin 128 → EReal) (ha : ∀ q : Fin 128, k1_pay1 (F := Ideal) v w (ix2 (y 0) q) = a q) :
    k1_pay21 (F := Ideal) v w x3 x4 y
      = a (y 1) * x3 (ix2 (y 0) (y 1)) + (if (y 1).val % (2 * 32) < 32 then a (ahead 32 (y 1)) else a (behind 32 (y 1))) * x4 (ix2 (y 0) (y 1)) := by
  have hy : (y 1).val < 128 := (y 1).isLt
  have e : k1_pay21 (F := Ideal) v w x3 x4 y = k1_pay1 v w y * x3 y
      + (if (y 1).val % (2 * 32) < 32 then k1_pay1 v w (ix2 (y 0) (ahead 32 (y 1))) else k1_pay1 v w (ix2 (y 0) (behind 32 (y 1)))) * x4 y := by
    rw [← select_lane _ _ (laneMask_32 ⟨(y 1).val, by omega⟩)]
    pointwise [k1_pay21, k1_pay1]
    rfl
  rw [e]
  refine congrArg₂ (· + ·) (congrArg₂ (· * ·) ?_ (congrArg x3 (eq_ix2 y))) (congrArg₂ (· * ·) (if_congr Iff.rfl (ha _) (ha _)) (congrArg x4 (eq_ix2 y)))
  exact (congrArg (k1_pay1 (F := Ideal) v w) (eq_ix2 y)).trans (ha (y 1))

section Block
variable (x0 : Vec Ideal S256x1024 .f32) (x1 : Vec Ideal S1x1024 .f32) (x2 : Vec Ideal S1024x2816 .bf16) (x3 x4 : Vec Ideal S256x128 .f32)

/-- The kernel normalises the block once and keeps it for the later groups. -/
theorem shared : k1_pay22 (F := Ideal) x0 x1 x2 x3 x4 = k1_pay2 x0 x1 := by
  show k1_pay2 (View.ld x0 r1_0) (View.ld x1 r1_1) = _
  refine congrArg₂ (fun a b => k1_pay2 (F := Ideal) a b) (funext fun z => congrArg x0 (funext fun a => Fin.ext ?_))
    (funext fun z => congrArg x1 (funext fun a => Fin.ext ?_))
  · fin_cases a <;> exact (Nat.zero_add _).trans (Nat.one_mul _)
  · fin_cases a <;> exact (Nat.zero_add _).trans (Nat.one_mul _)

theorem acc0_at (y : S256x512.Idx) : k1_pay14 (F := Ideal) (k1_pay2 x0 x1) (View.ld x2 r1_2) y
      = proj 0x44800000#32 (fun i => x0 (ix2 (y 0) i)) (fun i => x1 (ix2 0 i)) (fun i => x2 (ix2 i (part0 (y 1)))) := by
  pointwise [k1_pay14]
  refine Finset.sum_congr rfl fun i _ => congrArg₂ (· * ·) (normed_at x0 x1 _) (congrArg x2 (funext fun a => Fin.ext ?_))
  fin_cases a <;> rfl
theorem acc1_at (y : S256x512.Idx) : k1_pay14 (F := Ideal) (k1_pay2 x0 x1) (View.ld x2 r1_5) y
      = proj 0x44800000#32 (fun i => x0 (ix2 (y 0) i)) (fun i => x1 (ix2 0 i)) (fun i => x2 (ix2 i (part1 (y 1)))) := by
  pointwise [k1_pay14]
  refine Finset.sum_congr rfl fun i _ => congrArg₂ (· * ·) (normed_at x0 x1 _) (congrArg x2 (funext fun a => Fin.ext ?_))
  fin_cases a <;> rfl
theorem acc2_at (y : S256x512.Idx) : k1_pay14 (F := Ideal) (k1_pay2 x0 x1) (View.ld x2 r1_6) y
      = proj 0x44800000#32 (fun i => x0 (ix2 (y 0) i)) (fun i => x1 (ix2 0 i)) (fun i => x2 (ix2 i (part2 (y 1)))) := by
  pointwise [k1_pay14]
  refine Finset.sum_congr rfl fun i _ => congrArg₂ (· * ·) (normed_at x0 x1 _) (congrArg x2 (funext fun a => Fin.ext ?_))
  fin_cases a <;> rfl
theorem acc3_at (y : S256x512.Idx) : k1_pay14 (F := Ideal) (k1_pay2 x0 x1) (View.ld x2 r1_7) y
      = proj 0x44800000#32 (fun i => x0 (ix2 (y 0) i)) (fun i => x1 (ix2 0 i)) (fun i => x2 (ix2 i (part3 (y 1)))) := by
  pointwise [k1_pay14]
  refine Finset.sum_congr rfl fun i _ => congrArg₂ (· * ·) (normed_at x0 x1 _) (congrArg x2 (funext fun a => Fin.ext ?_))
  fin_cases a <;> rfl
theorem acc4_at (y : S256x512.Idx) : k1_pay14 (F := Ideal) (k1_pay2 x0 x1) (View.ld x2 r1_8) y
      = proj 0x44800000#32 (fun i => x0 (ix2 (y 0) i)) (fun i => x1 (ix2 0 i)) (fun i => x2 (ix2 i (part4 (y 1)))) := by
  pointwise [k1_pay14]
  refine Finset.sum_congr rfl fun i _ => congrArg₂ (· * ·) (normed_at x0 x1 _) (congrArg x2 (funext fun a => Fin.ext ?_))
  fin_cases a <;> rfl
theorem acc5_at (y : S256x128.Idx) : k1_pay1 (F := Ideal) (k1_pay2 x0 x1) (View.ld x2 r1_9) y
      = proj 0x44800000#32 (fun i => x0 (ix2 (y 0) i)) (fun i => x1 (ix2 0 i)) (fun i => x2 (ix2 i (part5 (y 1)))) := by
  pointwise [k1_pay1]
  refine Finset.sum_congr rfl fun i _ => congrArg₂ (· * ·) (normed_at x0 x1 _) (congrArg x2 (funext fun a => Fin.ext ?_))
  fin_cases a <;> rfl
theorem acc6_at (y : S256x128.Idx) : k1_pay1 (F := Ideal) (k1_pay2 x0 x1) (View.ld x2 r1_10) y
      = proj 0x44800000#32 (fun i => x0 (ix2 (y 0) i)) (fun i => x1 (ix2 0 i)) (fun i => x2 (ix2 i (part6 (y 1)))) := by
  pointwise [k1_pay1]
  refine Finset.sum_congr rfl fun i _ => congrArg₂ (· * ·) (normed_at x0 x1 _) (congrArg x2 (funext fun a => Fin.ext ?_))
  fin_cases a <;> rfl
theorem out1_5_at (y : S256x512.Idx) (a : Fin 512 → EReal)
    (ha : ∀ q, a q = proj 0x44800000#32 (fun i => x0 (ix2 (y 0) i)) (fun i => x1 (ix2 0 i)) (fun i => x2 (ix2 i (part0 q)))) :
    out1_5 (F := Ideal) x0 x1 x2 x3 x4 y
      = a (y 1) * x3 (ix2 (y 0) (⟨(y 1).val % 128, Nat.mod_lt _ (by decide)⟩ : Fin 128)) + (if (y 1).val % (2 * 32) < 32 then a (ahead 32 (y 1)) else a (behind 32 (y 1))) * x4 (ix2 (y 0) (⟨(y 1).val % 128, Nat.mod_lt _ (by decide)⟩ : Fin 128)) := by
  frame_out
  exact turned_at (k1_pay2 x0 x1) (View.ld x2 r1_2) x3 x4 y a fun q => (acc0_at x0 x1 x2 (ix2 (y 0) q)).trans (ha q).symm
theorem out1_6_at (y : S256x512.Idx) (a : Fin 512 → EReal)
    (ha : ∀ q, a q = proj 0x44800000#32 (fun i => x0 (ix2 (y 0) i)) (fun i => x1 (ix2 0 i)) (fun i => x2 (ix2 i (part1 q)))) :
    out1_6 (F := Ideal) x0 x1 x2 x3 x4 y
      = a (y 1) * x3 (ix2 (y 0) (⟨(y 1).val % 128, Nat.mod_lt _ (by decide)⟩ : Fin 128)) + (if (y 1).val % (2 * 32) < 32 then a (ahead 32 (y 1)) else a (behind 32 (y 1))) * x4 (ix2 (y 0) (⟨(y 1).val % 128, Nat.mod_lt _ (by decide)⟩ : Fin 128)) := by
  frame_out
  rw [shared]
  exact turned_at (k1_pay2 x0 x1) (View.ld x2 r1_5) x3 x4 y a fun q => (acc1_at x0 x1 x2 (ix2 (y 0) q)).trans (ha q).symm
theorem out1_7_at (y : S256x512.Idx) (a : Fin 512 → EReal)
    (ha : ∀ q, a q = proj 0x44800000#32 (fun i => x0 (ix2 (y 0) i)) (fun i => x1 (ix2 0 i)) (fun i => x2 (ix2 i (part2 q)))) :
    out1_7 (F := Ideal) x0 x1 x2 x3 x4 y
      = a (y 1) * x3 (ix2 (y 0) (⟨(y 1).val % 128, Nat.mod_lt _ (by decide)⟩ : Fin 128)) + (if (y 1).val % (2 * 32) < 32 then a (ahead 32 (y 1)) else a (behind 32 (y 1))) * x4 (ix2 (y 0) (⟨(y 1).val % 128, Nat.mod_lt _ (by decide)⟩ : Fin 128)) := by
  frame_out
  rw [shared]
  exact turned_at (k1_pay2 x0 x1) (View.ld x2 r1_6) x3 x4 y a fun q => (acc2_at x0 x1 x2 (ix2 (y 0) q)).trans (ha q).symm
theorem out1_8_at (y : S256x512.Idx) (a : Fin 512 → EReal)
    (ha : ∀ q, a q = proj 0x44800000#32 (fun i => x0 (ix2 (y 0) i)) (fun i => x1 (ix2 0 i)) (fun i => x2 (ix2 i (part3 q)))) :
    out1_8 (F := Ideal) x0 x1 x2 x3 x4 y
      = a (y 1) * x3 (ix2 (y 0) (⟨(y 1).val % 128, Nat.mod_lt _ (by decide)⟩ : Fin 128)) + (if (y 1).val % (2 * 32) < 32 then a (ahead 32 (y 1)) else a (behind 32 (y 1))) * x4 (ix2 (y 0) (⟨(y 1).val % 128, Nat.mod_lt _ (by decide)⟩ : Fin 128)) := by
  frame_out
  rw [shared]
  exact turned_at (k1_pay2 x0 x1) (View.ld x2 r1_7) x3 x4 y a fun q => (acc3_at x0 x1 x2 (ix2 (y 0) q)).trans (ha q).symm
theorem out1_9_at (y : S256x512.Idx) : out1_9 (F := Ideal) x0 x1 x2 x3 x4 y
      = proj 0x44800000#32 (fun i => x0 (ix2 (y 0) i)) (fun i => x1 (ix2 0 i)) (fun i => x2 (ix2 i (part4 (y 1)))) := by
  frame_out
  rw [shared]
  exact acc4_at x0 x1 x2 y
theorem out1_10_at (y : S256x128.Idx) (a : Fin 128 → EReal)
    (ha : ∀ q, a q = proj 0x44800000#32 (fun i => x0 (ix2 (y 0) i)) (fun i => x1 (ix2 0 i)) (fun i => x2 (ix2 i (part5 q)))) :
    out1_10 (F := Ideal) x0 x1 x2 x3 x4 y
      = a (y 1) * x3 (ix2 (y 0) (y 1)) + (if (y 1).val % (2 * 32) < 32 then a (ahead 32 (y 1)) else a (behind 32 (y 1))) * x4 (ix2 (y 0) (y 1)) := by
  frame_out
  rw [shared]
  exact turned_narrow_at (k1_pay2 x0 x1) (View.ld x2 r1_9) x3 x4 y a fun q => (acc5_at x0 x1 x2 (ix2 (y 0) q)).trans (ha q).symm
theorem out1_11_at (y : S256x128.Idx) : out1_11 (F := Ideal) x0 x1 x2 x3 x4 y
      = proj 0x44800000#32 (fun i => x0 (ix2 (y 0) i)) (fun i => x1 (ix2 0 i)) (fun i => x2 (ix2 i (part6 (y 1)))) := by
  frame_out
  rw [shared]
  exact acc6_at x0 x1 x2 y

end Block

section Region
variable (V : (c : Dev nD) → (b : Ref sig .tc) → Buf (Elt Ideal) ((c : Thread nD τ).loc b))

theorem idx1_0 : ∀ t : Fin grid1.N, win1_0.index t = ![(grid1.coords t 0).val, 0] := by decide +kernel
theorem idx1_1 : ∀ t : Fin grid1.N, win1_1.index t = ![0, 0] := by decide +kernel
theorem idx1_2 : ∀ t : Fin grid1.N, win1_2.index t = ![0, 0] := by decide +kernel
theorem idx1_3 : ∀ t : Fin grid1.N, win1_3.index t = ![(grid1.coords t 0).val, 0] := by decide +kernel
theorem idx1_4 : ∀ t : Fin grid1.N, win1_4.index t = ![(grid1.coords t 0).val, 0] := by decide +kernel
theorem idx1_5 : ∀ t : Fin grid1.N, win1_5.index t = ![(grid1.coords t 0).val, 0] := by decide +kernel
theorem idx1_6 : ∀ t : Fin grid1.N, win1_6.index t = ![(grid1.coords t 0).val, 0] := by decide +kernel
theorem idx1_7 : ∀ t : Fin grid1.N, win1_7.index t = ![(grid1.coords t 0).val, 0] := by decide +kernel
theorem idx1_8 : ∀ t : Fin grid1.N, win1_8.index t = ![(grid1.coords t 0).val, 0] := by decide +kernel
theorem idx1_9 : ∀ t : Fin grid1.N, win1_9.index t = ![(grid1.coords t 0).val, 0] := by decide +kernel
theorem idx1_10 : ∀ t : Fin grid1.N, win1_10.index t = ![(grid1.coords t 0).val, 0] := by decide +kernel
theorem idx1_11 : ∀ t : Fin grid1.N, win1_11.index t = ![(grid1.coords t 0).val, 0] := by decide +kernel

/-- Column `k` of the product of a row, as the second segment finds the operands. -/
def column (c : Dev nD) (r : Fin 4096) (k : Fin 2816) : EReal :=
  proj 0x44800000#32 (fun i => V c main_arg0 (ix2 r i)) (fun i => V c main_v39 (ix2 0 i)) (fun i => V c main_v38 (ix2 i k))

/-- An entry of a turned group of 512 columns, and of the turned group of 128. -/
def wideEntry (p : Fin 512 → Fin 2816) (c : Dev nD) (r : Fin 4096) (k : Fin 512) : EReal :=
  column V c r (p k) * V c main_v25_0 (ix2 r (⟨k.val % 128, Nat.mod_lt _ (by decide)⟩ : Fin 128))
    + (if k.val % (2 * 32) < 32 then column V c r (p (ahead 32 k)) else column V c r (p (behind 32 k)))
      * V c main_v25_1 (ix2 r (⟨k.val % 128, Nat.mod_lt _ (by decide)⟩ : Fin 128))
def narrowEntry (p : Fin 128 → Fin 2816) (c : Dev nD) (r : Fin 4096) (k : Fin 128) : EReal :=
  column V c r (p k) * V c main_v25_0 (ix2 r k)
    + (if k.val % (2 * 32) < 32 then column V c r (p (ahead 32 k)) else column V c r (p (behind 32 k))) * V c main_v25_1 (ix2 r k)

/-- The seven output arrays' contents, from what the segment finds. -/
def res0 (c : Dev nD) : FVec Ideal S4096x512 .f32 := fun j => wideEntry V part0 c (j 0) (j 1)
def res1 (c : Dev nD) : FVec Ideal S4096x512 .f32 := fun j => wideEntry V part1 c (j 0) (j 1)
def res2 (c : Dev nD) : FVec Ideal S4096x512 .f32 := fun j => wideEntry V part2 c (j 0) (j 1)
def res3 (c : Dev nD) : FVec Ideal S4096x512 .f32 := fun j => wideEntry V part3 c (j 0) (j 1)
def res4 (c : Dev nD) : FVec Ideal S4096x512 .f32 := fun j => column V c (j 0) (part4 (j 1))
def res5 (c : Dev nD) : FVec Ideal S4096x128 .f32 := fun j => narrowEntry V part5 c (j 0) (j 1)
def res6 (c : Dev nD) : FVec Ideal S4096x128 .f32 := fun j => column V c (j 0) (part6 (j 1))

theorem final1_5 (c : Dev nD) : (dat1 V c).arrAt 5 cfg1.N = res0 V c := by
  refine (dat1 V c).arrAt_eq_of_covers 5 _ (by decide +kernel) fun t _ y => ?_
  blk_simp
  rw [after1_5]
  have h0 : (grid1.coords t 0).val < 16 := (grid1.coords t 0).isLt
  have e0 : ((((cfg1.win 5).blk t).view.emb y) 0).val = (grid1.coords t 0).val * 256 + (y 0).val := by
    blk_simp [idx1_5]
  have e1 : (((cfg1.win 5).blk t).view.emb y) 1 = y 1 := Fin.ext (by
    blk_simp [idx1_5])
  generalize ((cfg1.win 5).blk t).view.emb y = j at e0 e1 ⊢
  rw [out1_5_at _ _ _ _ _ y (fun q => column V c (j 0) (part0 q)) (fun q => by
    generalize part0 q = k
    unfold column
    refine proj_congr _ (fun i => ?_) (fun i => ?_) (fun i => ?_)
    · symm; blk_ext [iblk1, idx1_0, e0, e1]
    · symm; blk_ext [iblk1, idx1_1, e0, e1]
    · symm; blk_ext [iblk1, idx1_2, e0, e1])]
  show _ = wideEntry V part0 c (j 0) (j 1)
  rw [e1]
  unfold wideEntry
  refine congrArg₂ (· + ·) (congrArg₂ (· * ·) rfl ?_) (congrArg₂ (· * ·) rfl ?_)
  · generalize (⟨(y 1).val % 128, Nat.mod_lt _ (by decide)⟩ : Fin 128) = l
    blk_ext [iblk1, idx1_3, e0, e1]
  · generalize (⟨(y 1).val % 128, Nat.mod_lt _ (by decide)⟩ : Fin 128) = l
    blk_ext [iblk1, idx1_4, e0, e1]

theorem final1_6 (c : Dev nD) : (dat1 V c).arrAt 6 cfg1.N = res1 V c := by
  refine (dat1 V c).arrAt_eq_of_covers 6 _ (by decide +kernel) fun t _ y => ?_
  blk_simp
  rw [after1_6]
  have h0 : (grid1.coords t 0).val < 16 := (grid1.coords t 0).isLt
  have e0 : ((((cfg1.win 6).blk t).view.emb y) 0).val = (grid1.coords t 0).val * 256 + (y 0).val := by
    blk_simp [idx1_6]
  have e1 : (((cfg1.win 6).blk t).view.emb y) 1 = y 1 := Fin.ext (by
    blk_simp [idx1_6])
  generalize ((cfg1.win 6).blk t).view.emb y = j at e0 e1 ⊢
  rw [out1_6_at _ _ _ _ _ y (fun q => column V c (j 0) (part1 q)) (fun q => by
    generalize part1 q = k
    unfold column
    refine proj_congr _ (fun i => ?_) (fun i => ?_) (fun i => ?_)
    · symm; blk_ext [iblk1, idx1_0, e0, e1]
    · symm; blk_ext [iblk1, idx1_1, e0, e1]
    · symm; blk_ext [iblk1, idx1_2, e0, e1])]
  show _ = wideEntry V part1 c (j 0) (j 1)
  rw [e1]
  unfold wideEntry
  refine congrArg₂ (· + ·) (congrArg₂ (· * ·) rfl ?_) (congrArg₂ (· * ·) rfl ?_)
  · generalize (⟨(y 1).val % 128, Nat.mod_lt _ (by decide)⟩ : Fin 128) = l
    blk_ext [iblk1, idx1_3, e0, e1]
  · generalize (⟨(y 1).val % 128, Nat.mod_lt _ (by decide)⟩ : Fin 128) = l
    blk_ext [iblk1, idx1_4, e0, e1]

theorem final1_7 (c : Dev nD) : (dat1 V c).arrAt 7 cfg1.N = res2 V c := by
  refine (dat1 V c).arrAt_eq_of_covers 7 _ (by decide +kernel) fun t _ y => ?_
  blk_simp
  rw [after1_7]
  have h0 : (grid1.coords t 0).val < 16 := (grid1.coords t 0).isLt
  have e0 : ((((cfg1.win 7).blk t).view.emb y) 0).val = (grid1.coords t 0).val * 256 + (y 0).val := by
    blk_simp [idx1_7]
  have e1 : (((cfg1.win 7).blk t).view.emb y) 1 = y 1 := Fin.ext (by
    blk_simp [idx1_7])
  generalize ((cfg1.win 7).blk t).view.emb y = j at e0 e1 ⊢
  rw [out1_7_at _ _ _ _ _ y (fun q => column V c (j 0) (part2 q)) (fun q => by
    generalize part2 q = k
    unfold column
    refine proj_congr _ (fun i => ?_) (fun i => ?_) (fun i => ?_)
    · symm; blk_ext [iblk1, idx1_0, e0, e1]
    · symm; blk_ext [iblk1, idx1_1, e0, e1]
    · symm; blk_ext [iblk1, idx1_2, e0, e1])]
  show _ = wideEntry V part2 c (j 0) (j 1)
  rw [e1]
  unfold wideEntry
  refine congrArg₂ (· + ·) (congrArg₂ (· * ·) rfl ?_) (congrArg₂ (· * ·) rfl ?_)
  · generalize (⟨(y 1).val % 128, Nat.mod_lt _ (by decide)⟩ : Fin 128) = l
    blk_ext [iblk1, idx1_3, e0, e1]
  · generalize (⟨(y 1).val % 128, Nat.mod_lt _ (by decide)⟩ : Fin 128) = l
    blk_ext [iblk1, idx1_4, e0, e1]

theorem final1_8 (c : Dev nD) : (dat1 V c).arrAt 8 cfg1.N = res3 V c := by
  refine (dat1 V c).arrAt_eq_of_covers 8 _ (by decide +kernel) fun t _ y => ?_
  blk_simp
  rw [after1_8]
  have h0 : (grid1.coords t 0).val < 16 := (grid1.coords t 0).isLt
  have e0 : ((((cfg1.win 8).blk t).view.emb y) 0).val = (grid1.coords t 0).val * 256 + (y 0).val := by
    blk_simp [idx1_8]
  have e1 : (((cfg1.win 8).blk t).view.emb y) 1 = y 1 := Fin.ext (by
    blk_simp [idx1_8])
  generalize ((cfg1.win 8).blk t).view.emb y = j at e0 e1 ⊢
  rw [out1_8_at _ _ _ _ _ y (fun q => column V c (j 0) (part3 q)) (fun q => by
    generalize part3 q = k
    unfold column
    refine proj_congr _ (fun i => ?_) (fun i => ?_) (fun i => ?_)
    · symm; blk_ext [iblk1, idx1_0, e0, e1]
    · symm; blk_ext [iblk1, idx1_1, e0, e1]
    · symm; blk_ext [iblk1, idx1_2, e0, e1])]
  show _ = wideEntry V part3 c (j 0) (j 1)
  rw [e1]
  unfold wideEntry
  refine congrArg₂ (· + ·) (congrArg₂ (· * ·) rfl ?_) (congrArg₂ (· * ·) rfl ?_)
  · generalize (⟨(y 1).val % 128, Nat.mod_lt _ (by decide)⟩ : Fin 128) = l
    blk_ext [iblk1, idx1_3, e0, e1]
  · generalize (⟨(y 1).val % 128, Nat.mod_lt _ (by decide)⟩ : Fin 128) = l
    blk_ext [iblk1, idx1_4, e0, e1]

theorem final1_9 (c : Dev nD) : (dat1 V c).arrAt 9 cfg1.N = res4 V c := by
  refine (dat1 V c).arrAt_eq_of_covers 9 _ (by decide +kernel) fun t _ y => ?_
  blk_simp
  rw [after1_9, out1_9_at]
  have h0 : (grid1.coords t 0).val < 16 := (grid1.coords t 0).isLt
  have e0 : ((((cfg1.win 9).blk t).view.emb y) 0).val = (grid1.coords t 0).val * 256 + (y 0).val := by
    blk_simp [idx1_9]
  have e1 : (((cfg1.win 9).blk t).view.emb y) 1 = y 1 := Fin.ext (by
    blk_simp [idx1_9])
  generalize ((cfg1.win 9).blk t).view.emb y = j at e0 e1 ⊢
  unfold res4 column
  rw [e1]
  generalize part4 (y 1) = k
  refine proj_congr _ (fun i => ?_) (fun i => ?_) (fun i => ?_)
  · blk_ext [iblk1, idx1_0, e0, e1]
  · blk_ext [iblk1, idx1_1, e0, e1]
  · blk_ext [iblk1, idx1_2, e0, e1]

theorem final1_10 (c : Dev nD) : (dat1 V c).arrAt 10 cfg1.N = res5 V c := by
  refine (dat1 V c).arrAt_eq_of_covers 10 _ (by decide +kernel) fun t _ y => ?_
  blk_simp
  rw [after1_10]
  have h0 : (grid1.coords t 0).val < 16 := (grid1.coords t 0).isLt
  have e0 : ((((cfg1.win 10).blk t).view.emb y) 0).val = (grid1.coords t 0).val * 256 + (y 0).val := by
    blk_simp [idx1_10]
  have e1 : (((cfg1.win 10).blk t).view.emb y) 1 = y 1 := Fin.ext (by
    blk_simp [idx1_10])
  generalize ((cfg1.win 10).blk t).view.emb y = j at e0 e1 ⊢
  rw [out1_10_at _ _ _ _ _ y (fun q => column V c (j 0) (part5 q)) (fun q => by
    generalize part5 q = k
    unfold column
    refine proj_congr _ (fun i => ?_) (fun i => ?_) (fun i => ?_)
    · symm; blk_ext [iblk1, idx1_0, e0, e1]
    · symm; blk_ext [iblk1, idx1_1, e0, e1]
    · symm; blk_ext [iblk1, idx1_2, e0, e1])]
  show _ = narrowEntry V part5 c (j 0) (j 1)
  rw [e1]
  unfold narrowEntry
  refine congrArg₂ (· + ·) (congrArg₂ (· * ·) rfl ?_) (congrArg₂ (· * ·) rfl ?_)
  · blk_ext [iblk1, idx1_3, e0, e1]
  · blk_ext [iblk1, idx1_4, e0, e1]

theorem final1_11 (c : Dev nD) : (dat1 V c).arrAt 11 cfg1.N = res6 V c := by
  refine (dat1 V c).arrAt_eq_of_covers 11 _ (by decide +kernel) fun t _ y => ?_
  blk_simp
  rw [after1_11, out1_11_at]
  have h0 : (grid1.coords t 0).val < 16 := (grid1.coords t 0).isLt
  have e0 : ((((cfg1.win 11).blk t).view.emb y) 0).val = (grid1.coords t 0).val * 256 + (y 0).val := by
    blk_simp [idx1_11]
  have e1 : (((cfg1.win 11).blk t).view.emb y) 1 = y 1 := Fin.ext (by
    blk_simp [idx1_11])
  generalize ((cfg1.win 11).blk t).view.emb y = j at e0 e1 ⊢
  unfold res6 column
  rw [e1]
  generalize part6 (y 1) = k
  refine proj_congr _ (fun i => ?_) (fun i => ?_) (fun i => ?_)
  · blk_ext [iblk1, idx1_0, e0, e1]
  · blk_ext [iblk1, idx1_1, e0, e1]
  · blk_ext [iblk1, idx1_2, e0, e1]

end Region

/-- The host's preparation of the weights: the parts of `w_in` in the kernel's order, the two small ones padded with zeros. -/
def small (w : FVec Ideal S1024x2760 .f32) : FVec Ideal S1024x72 .f32 :=
  concatenate S1024x72 1 [⟨S1024x64, extractStridedSlice S1024x64 ![0, 576] w slices_S1024x2760_S1024x64_0_576⟩,
    ⟨S1024x8, extractStridedSlice S1024x8 ![0, 1216] w slices_S1024x2760_S1024x8_0_1216⟩] concatenates_S1024x64_S1024x8_S1024x72_d1
def padded (s : FVec Ideal S1024x72 .f32) (z : IVec S_ 32) : FVec Ideal S1024x128 .f32 :=
  pad S1024x128 ![0, 0] ![0, 56] ![0, 0] s (sitofp (F := Ideal) .f32 z) pads_S1024x72_S1024x128_000_0560 h_S_
def joined (a b d e f : FVec Ideal S1024x512 .f32) (g h : FVec Ideal S1024x64 .f32) (s : FVec Ideal S1024x128 .f32) :
    FVec Ideal S1024x2816 .bf16 :=
  truncf .bf16 (concatenate S1024x2816 1 [⟨S1024x512, a⟩, ⟨S1024x512, b⟩, ⟨S1024x512, d⟩, ⟨S1024x512, e⟩, ⟨S1024x512, f⟩,
    ⟨S1024x64, g⟩, ⟨S1024x64, h⟩, ⟨S1024x128, s⟩]
    concatenates_S1024x512_S1024x512_S1024x512_S1024x512_S1024x512_S1024x64_S1024x64_S1024x128_S1024x2816_d1) bitsLt_bf16_f32
def weights (w : FVec Ideal S1024x2760 .f32) : FVec Ideal S1024x2816 .bf16 :=
  joined (extractStridedSlice S1024x512 ![0, 0] w slices_S1024x2760_S1024x512_0_0)
    (extractStridedSlice S1024x512 ![0, 640] w slices_S1024x2760_S1024x512_0_640)
    (extractStridedSlice S1024x512 ![0, 1224] w slices_S1024x2760_S1024x512_0_1224)
    (extractStridedSlice S1024x512 ![0, 1736] w slices_S1024x2760_S1024x512_0_1736)
    (extractStridedSlice S1024x512 ![0, 2248] w slices_S1024x2760_S1024x512_0_2248)
    (extractStridedSlice S1024x64 ![0, 512] w slices_S1024x2760_S1024x64_0_512)
    (extractStridedSlice S1024x64 ![0, 1152] w slices_S1024x2760_S1024x64_0_1152) (padded (small w) (constantI S_ 32 0#32))
def gains (g : FVec Ideal S1024 .f32) : FVec Ideal S1x1024 .f32 := shapeCast S1x1024 g shapeCasts_S1024_S1x1024

theorem gains_at (g : FVec Ideal S1024 .f32) (i : Fin 1024) : gains g (ix2 0 i) = g (ix1 i) := by
  pointwise [gains]

theorem small_at (w : FVec Ideal S1024x2760 .f32) (i : Fin 1024) (q : Fin 72) (k : Fin 2760)
    (h : (q.val < 64 ∧ k.val = 576 + q.val) ∨ (64 ≤ q.val ∧ k.val = 1152 + q.val)) : small w (ix2 i q) = w (ix2 i k) := by
  pointwise [small]
  by_cases hq : q.val < 64
  · rw [dif_pos hq]
    exact congrArg (fun l => w (ix2 i l)) (Fin.ext (by dsimp only; omega))
  · rw [dif_neg hq]
    exact congrArg (fun l => w (ix2 i l)) (Fin.ext (by dsimp only; omega))

theorem padded_inside (s : FVec Ideal S1024x72 .f32) (z : IVec S_ 32) (i : Fin 1024) (q : Fin 128) (k : Fin 72) (h : q.val = k.val) :
    padded s z (ix2 i q) = s (ix2 i k) :=
  pad_apply_of_inside _ _ _ s _ pads_S1024x72_S1024x128_000_0560 h_S_ (ix2 i q) (ix2 i k) (by
    intro a
    fin_cases a
    · show i.val = 0 + i.val * (0 + 1); omega
    · show q.val = 0 + k.val * (0 + 1); omega)
theorem padded_outside (s : FVec Ideal S1024x72 .f32) (i : Fin 1024) (q : Fin 128) (h : ¬ q.val < 72) :
    padded s (constantI S_ 32 0#32) (ix2 i q) = 0 := by
  refine (pad_apply_of_not_inside _ _ _ s _ pads_S1024x72_S1024x128_000_0560 h_S_ (ix2 i q) (1 : Fin 2) (by
    intro hin
    have e : (q.val - 0) / (0 + 1) < 72 := hin.2.2
    omega)).trans ?_
  show (((0#32 : BitVec 32).toInt : ℝ) : EReal) = 0
  simp

theorem weights_outside (w : FVec Ideal S1024x2760 .f32) (i : Fin 1024) (k : Fin 2816) (h : 2760 ≤ k.val) :
    weights w (ix2 i k) = 0 := by
  have hk : k.val < 2816 := k.isLt
  pointwise [weights, joined]
  rw [dif_neg (show ¬ k.val < 512 by omega)]
  rw [dif_neg (show ¬ k.val - 512 < 512 by omega)]
  rw [dif_neg (show ¬ k.val - 512 - 512 < 512 by omega)]
  rw [dif_neg (show ¬ k.val - 512 - 512 - 512 < 512 by omega)]
  rw [dif_neg (show ¬ k.val - 512 - 512 - 512 - 512 < 512 by omega)]
  rw [dif_neg (show ¬ k.val - 512 - 512 - 512 - 512 - 512 < 64 by omega)]
  rw [dif_neg (show ¬ k.val - 512 - 512 - 512 - 512 - 512 - 64 < 64 by omega)]
  exact padded_outside _ i _ (by dsimp only; omega)

theorem weights_inside (w : FVec Ideal S1024x2760 .f32) (i : Fin 1024) (k : Fin 2816) (l : Fin 2760)
    (h : (k.val < 512 ∧ l.val = k.val) ∨ (512 ≤ k.val ∧ k.val < 1024 ∧ l.val = k.val + 128)
      ∨ (1024 ≤ k.val ∧ k.val < 2560 ∧ l.val = k.val + 200) ∨ (2560 ≤ k.val ∧ k.val < 2624 ∧ l.val + 2048 = k.val)
      ∨ (2624 ≤ k.val ∧ k.val < 2688 ∧ l.val + 1472 = k.val) ∨ (2688 ≤ k.val ∧ k.val < 2752 ∧ l.val + 2112 = k.val)
      ∨ (2752 ≤ k.val ∧ k.val < 2760 ∧ l.val + 1536 = k.val)) : weights w (ix2 i k) = w (ix2 i l) := by
  have hk : k.val < 2816 := k.isLt
  pointwise [weights, joined]
  by_cases h5 : k.val < 512
  · rw [dif_pos h5]
    exact congrArg (fun q => w (ix2 i q)) (Fin.ext (by dsimp only; omega))
  rw [dif_neg h5]
  by_cases h11 : k.val - 512 < 512
  · rw [dif_pos h11]
    exact congrArg (fun q => w (ix2 i q)) (Fin.ext (by dsimp only; omega))
  rw [dif_neg h11]
  by_cases h17 : k.val - 512 - 512 < 512
  · rw [dif_pos h17]
    exact congrArg (fun q => w (ix2 i q)) (Fin.ext (by dsimp only; omega))
  rw [dif_neg h17]
  by_cases h23 : k.val - 512 - 512 - 512 < 512
  · rw [dif_pos h23]
    exact congrArg (fun q => w (ix2 i q)) (Fin.ext (by dsimp only; omega))
  rw [dif_neg h23]
  by_cases h29 : k.val - 512 - 512 - 512 - 512 < 512
  · rw [dif_pos h29]
    exact congrArg (fun q => w (ix2 i q)) (Fin.ext (by dsimp only; omega))
  rw [dif_neg h29]
  by_cases h35 : k.val - 512 - 512 - 512 - 512 - 512 < 64
  · rw [dif_pos h35]
    exact congrArg (fun q => w (ix2 i q)) (Fin.ext (by dsimp only; omega))
  rw [dif_neg h35]
  by_cases h40 : k.val - 512 - 512 - 512 - 512 - 512 - 64 < 64
  · rw [dif_pos h40]
    exact congrArg (fun q => w (ix2 i q)) (Fin.ext (by dsimp only; omega))
  rw [dif_neg h40]
  exact (padded_inside _ _ i _ ⟨k.val - 512 - 512 - 512 - 512 - 512 - 64 - 64, by omega⟩ rfl).trans (small_at w i _ l (by dsimp only; omega))

section Result
variable (m : (ℓ : Loc nD τ sig) → Buf (Elt Ideal) ℓ) (ρ : Dev nD → PrngReg)

theorem prepared_v26 (W : Valuation τ sig (Elt Ideal)) : StableHlo.after hostOps1 W (Proc.devRef .tc main_v26)
    = extractStridedSlice S1024x512 ![0, 0] (W (Proc.devRef .tc main_arg3) : FVec Ideal S1024x2760 .f32) slices_S1024x2760_S1024x512_0_0 := by
  after_results_simp
theorem prepared_v27 (W : Valuation τ sig (Elt Ideal)) : StableHlo.after hostOps1 W (Proc.devRef .tc main_v27)
    = extractStridedSlice S1024x64 ![0, 512] (W (Proc.devRef .tc main_arg3) : FVec Ideal S1024x2760 .f32) slices_S1024x2760_S1024x64_0_512 := by
  after_results_simp
theorem prepared_v29 (W : Valuation τ sig (Elt Ideal)) : StableHlo.after hostOps1 W (Proc.devRef .tc main_v29)
    = extractStridedSlice S1024x512 ![0, 640] (W (Proc.devRef .tc main_arg3) : FVec Ideal S1024x2760 .f32) slices_S1024x2760_S1024x512_0_640 := by
  after_results_simp
theorem prepared_v30 (W : Valuation τ sig (Elt Ideal)) : StableHlo.after hostOps1 W (Proc.devRef .tc main_v30)
    = extractStridedSlice S1024x64 ![0, 1152] (W (Proc.devRef .tc main_arg3) : FVec Ideal S1024x2760 .f32) slices_S1024x2760_S1024x64_0_1152 := by
  after_results_simp
theorem prepared_v32 (W : Valuation τ sig (Elt Ideal)) : StableHlo.after hostOps1 W (Proc.devRef .tc main_v32)
    = extractStridedSlice S1024x512 ![0, 1224] (W (Proc.devRef .tc main_arg3) : FVec Ideal S1024x2760 .f32) slices_S1024x2760_S1024x512_0_1224 := by
  after_results_simp
theorem prepared_v33 (W : Valuation τ sig (Elt Ideal)) : StableHlo.after hostOps1 W (Proc.devRef .tc main_v33)
    = extractStridedSlice S1024x512 ![0, 1736] (W (Proc.devRef .tc main_arg3) : FVec Ideal S1024x2760 .f32) slices_S1024x2760_S1024x512_0_1736 := by
  after_results_simp
theorem prepared_v34 (W : Valuation τ sig (Elt Ideal)) : StableHlo.after hostOps1 W (Proc.devRef .tc main_v34)
    = extractStridedSlice S1024x512 ![0, 2248] (W (Proc.devRef .tc main_arg3) : FVec Ideal S1024x2760 .f32) slices_S1024x2760_S1024x512_0_2248 := by
  after_results_simp
theorem prepared_small (W : Valuation τ sig (Elt Ideal)) : StableHlo.after hostOps1 W (Proc.devRef .tc main_v35)
    = small (W (Proc.devRef .tc main_arg3)) := by
  after_results_simp
  rfl
theorem prepared_zero (W : Valuation τ sig (Elt Ideal)) : StableHlo.after hostOps1 W (Proc.devRef .tc main_c)
    = (constantI S_ 32 0#32 : IVec S_ 32) := by
  after_results_simp
theorem prepared_pad (W : Valuation τ sig (Elt Ideal)) : StableHlo.after hostOps1_1 W (Proc.devRef .tc main_v36)
    = padded (W (Proc.devRef .tc main_v35)) (W (Proc.devRef .tc main_c)) := by
  after_results_simp
  rfl
theorem prepared_weights (W : Valuation τ sig (Elt Ideal)) : StableHlo.after hostOps1_2 W (Proc.devRef .tc main_v38)
    = joined (W (Proc.devRef .tc main_v26)) (W (Proc.devRef .tc main_v29)) (W (Proc.devRef .tc main_v32))
        (W (Proc.devRef .tc main_v33)) (W (Proc.devRef .tc main_v34)) (W (Proc.devRef .tc main_v27))
        (W (Proc.devRef .tc main_v30)) (W (Proc.devRef .tc main_v36)) := by
  after_results_simp
  rfl
theorem prepared_gains (W : Valuation τ sig (Elt Ideal)) : StableHlo.after hostOps1_2 W (Proc.devRef .tc main_v39)
    = gains (W (Proc.devRef .tc main_arg2)) := by
  after_results_simp
  rfl

theorem V5_weights (c : Dev nD) : V5 m ρ c main_v38 = weights (m ((c : Thread nD τ).loc main_arg3)) := by
  refine (prepared_weights (W4 m ρ c)).trans ?_
  have e26 := (W4_of m ρ c main_v26 (by decide)).trans (prepared_v26 (W2 m ρ c))
  have e27 := (W4_of m ρ c main_v27 (by decide)).trans (prepared_v27 (W2 m ρ c))
  have e29 := (W4_of m ρ c main_v29 (by decide)).trans (prepared_v29 (W2 m ρ c))
  have e30 := (W4_of m ρ c main_v30 (by decide)).trans (prepared_v30 (W2 m ρ c))
  have e32 := (W4_of m ρ c main_v32 (by decide)).trans (prepared_v32 (W2 m ρ c))
  have e33 := (W4_of m ρ c main_v33 (by decide)).trans (prepared_v33 (W2 m ρ c))
  have e34 := (W4_of m ρ c main_v34 (by decide)).trans (prepared_v34 (W2 m ρ c))
  have e36 : W4 m ρ c (Proc.devRef .tc main_v36) = _ := prepared_pad (W3 m ρ c)
  have e35 : W3 m ρ c (Proc.devRef .tc main_v35) = _ := prepared_small (W2 m ρ c)
  have z : W3 m ρ c (Proc.devRef .tc main_c) = _ := prepared_zero (W2 m ρ c)
  rw [e26, e27, e29, e30, e32, e33, e34, e36, e35, z, W2_args m ρ c main_arg3 (by decide)]
  rfl
theorem V5_gains (c : Dev nD) : V5 m ρ c main_v39 = gains (m ((c : Thread nD τ).loc main_arg2)) := by
  refine (prepared_gains (W4 m ρ c)).trans ?_
  rw [W4_args m ρ c main_arg2 (by decide)]
theorem V5_rows (c : Dev nD) : V5 m ρ c main_arg0 = m ((c : Thread nD τ).loc main_arg0) := W5_args m ρ c main_arg0 (by decide)
theorem V5_cos (c : Dev nD) : V5 m ρ c main_v25_0 = cosTab (V1 m ρ) c :=
  (W5_of m ρ c main_v25_0 (by decide)).trans ((W4_of m ρ c main_v25_0 (by decide)).trans
    ((W3_of m ρ c main_v25_0 (by decide)).trans (((hF0 m ρ c 3).symm).trans (final0_3 (V1 m ρ) c))))
theorem V5_sin (c : Dev nD) : V5 m ρ c main_v25_1 = sinTab (V1 m ρ) c :=
  (W5_of m ρ c main_v25_1 (by decide)).trans ((W4_of m ρ c main_v25_1 (by decide)).trans
    ((W3_of m ρ c main_v25_1 (by decide)).trans (((hF0 m ρ c 4).symm).trans (final0_4 (V1 m ρ) c))))

theorem W6_res0 (c : Dev nD) : W6 m ρ c (Proc.devRef .tc main_v40_0) = res0 (V5 m ρ) c :=
  ((hF1 m ρ c 5).symm).trans (final1_5 (V5 m ρ) c)
theorem W6_res1 (c : Dev nD) : W6 m ρ c (Proc.devRef .tc main_v40_1) = res1 (V5 m ρ) c :=
  ((hF1 m ρ c 6).symm).trans (final1_6 (V5 m ρ) c)
theorem W6_res2 (c : Dev nD) : W6 m ρ c (Proc.devRef .tc main_v40_2) = res2 (V5 m ρ) c :=
  ((hF1 m ρ c 7).symm).trans (final1_7 (V5 m ρ) c)
theorem W6_res3 (c : Dev nD) : W6 m ρ c (Proc.devRef .tc main_v40_3) = res3 (V5 m ρ) c :=
  ((hF1 m ρ c 8).symm).trans (final1_8 (V5 m ρ) c)
theorem W6_res4 (c : Dev nD) : W6 m ρ c (Proc.devRef .tc main_v40_4) = res4 (V5 m ρ) c :=
  ((hF1 m ρ c 9).symm).trans (final1_9 (V5 m ρ) c)
theorem W6_res5 (c : Dev nD) : W6 m ρ c (Proc.devRef .tc main_v40_5) = res5 (V5 m ρ) c :=
  ((hF1 m ρ c 10).symm).trans (final1_10 (V5 m ρ) c)
theorem W6_res6 (c : Dev nD) : W6 m ρ c (Proc.devRef .tc main_v40_6) = res6 (V5 m ρ) c :=
  ((hF1 m ρ c 11).symm).trans (final1_11 (V5 m ρ) c)

/-- A column of the product from the arguments: the weights' own, or zero in the padding. -/
theorem column_inside (c : Dev nD) (r : Fin 4096) (k : Fin 2816) (l : Fin 2760)
    (h : (k.val < 512 ∧ l.val = k.val) ∨ (512 ≤ k.val ∧ k.val < 1024 ∧ l.val = k.val + 128)
      ∨ (1024 ≤ k.val ∧ k.val < 2560 ∧ l.val = k.val + 200) ∨ (2560 ≤ k.val ∧ k.val < 2624 ∧ l.val + 2048 = k.val)
      ∨ (2624 ≤ k.val ∧ k.val < 2688 ∧ l.val + 1472 = k.val) ∨ (2688 ≤ k.val ∧ k.val < 2752 ∧ l.val + 2112 = k.val)
      ∨ (2752 ≤ k.val ∧ k.val < 2760 ∧ l.val + 1536 = k.val)) : column (V5 m ρ) c r k
    = proj 0x44800000#32 (fun i => m ((c : Thread nD τ).loc main_arg0) (ix2 r i)) (fun i => m ((c : Thread nD τ).loc main_arg2) (ix1 i))
        (fun i => m ((c : Thread nD τ).loc main_arg3) (ix2 i l)) := by
  unfold column
  rw [V5_weights, V5_gains, V5_rows]
  exact proj_congr _ (fun i => rfl) (fun i => gains_at _ i) (fun i => weights_inside _ i k l h)
theorem column_outside (c : Dev nD) (r : Fin 4096) (k : Fin 2816) (h : 2760 ≤ k.val) : column (V5 m ρ) c r k = 0 := by
  unfold column
  rw [V5_weights]
  refine Finset.sum_eq_zero fun i _ => ?_
  exact (congrArg (_ * ·) (weights_outside _ i k h)).trans (mul_zero _)

/-- The turned entries with the token's angle. -/
theorem wideEntry_at (p : Fin 512 → Fin 2816) (c : Dev nD) (r : Fin 4096) (k : Fin 512) : wideEntry (V5 m ρ) p c r k
    = roped 32 (angle 32 0x42800000#32 (posOf (m ((c : Thread nD τ).loc main_arg1)) r) k.val)
        (fun q => column (V5 m ρ) c r (p q)) k := by
  have hk : k.val < 512 := k.isLt
  refine Eq.trans ?_ (roped_lane 32 _ _ k)
  unfold wideEntry
  rw [V5_cos, V5_sin, cosTab_at, sinTab_at]
  have e1 : k.val % 128 % 32 = k.val % 32 := by omega
  have e2 : k.val % 128 % (2 * 32) = k.val % (2 * 32) := by omega
  unfold angle laneSign
  dsimp only
  rw [e1, e2]
theorem narrowEntry_at (p : Fin 128 → Fin 2816) (c : Dev nD) (r : Fin 4096) (k : Fin 128) : narrowEntry (V5 m ρ) p c r k
    = roped 32 (angle 32 0x42800000#32 (posOf (m ((c : Thread nD τ).loc main_arg1)) r) k.val)
        (fun q => column (V5 m ρ) c r (p q)) k := by
  refine Eq.trans ?_ (roped_lane 32 _ _ k)
  unfold narrowEntry
  rw [V5_cos, V5_sin, cosTab_at, sinTab_at]

end Result

end Cert.KernelEvenIdeal.Value

end
-- ==== Proof.Proj.Turn.lean ====
module

public import proofs.«01_k».proof.Proof.Proj.Rope

@[expose] public section

/-!
The reference's two halves of a rotation, each met with `roped`.
-/

noncomputable section

open Idealize.ShloMosaic

namespace Cert.Proj

theorem turned_first {n : ℕ} (h : ℕ) {t : EReal} {a : Fin n → EReal} (j : Fin n) (hj : j.val % (2 * h) < h)
    {u v x y : EReal} (hu : u = a j) (hx : x = t) (hv : v = a (ahead h j)) (hy : y = t) :
    u * Ideal.cos x - v * Ideal.sin y = roped h t a j := by
  subst hu hv hx hy
  exact (if_pos hj).symm

theorem turned_second {n : ℕ} (h : ℕ) {t : EReal} {a : Fin n → EReal} (j : Fin n) (hj : ¬ j.val % (2 * h) < h)
    {u v x y : EReal} (hu : u = a (behind h j)) (hx : x = t) (hv : v = a j) (hy : y = t) :
    u * Ideal.sin x + v * Ideal.cos y = roped h t a j := by
  subst hu hv hx
  obtain rfl := hy
  exact (if_neg hj).symm

end Cert.Proj

end
-- ==== Proof.Proj.EvenRef.lean ====
module

public import proofs.«01_k».proof.Proof.Gen.ReferenceEvenIdeal.Run
public import proofs.«01_k».proof.Proof.Gen.ReferenceEvenIdeal.Read
public import proofs.«01_k».proof.Proof.Proj.Even
public import proofs.«01_k».proof.Proof.Proj.Turn

@[expose] public section

/-!
The reference of the even layers' product, read at an index.
-/

set_option maxRecDepth 16384

noncomputable section

open Idealize.ShloMosaic Idealize.ShloMosaic.TcCoe Idealize.SL.Sem

namespace Cert.ReferenceEvenIdeal.Read
open Cert.ReferenceEvenIdeal Cert.ReferenceEvenIdeal.Gen Cert.Proj

theorem normed_at (x : FVec Ideal S4096x1024 .f32) (g : FVec Ideal S1024 .f32) (b : Fin 2) (s : Fin 2048) (i : Fin 1024) :
    val_main_v34 (F := Ideal) x g (ix3 b s i)
      = normRow 0x44800000#32 (fun i => x (ix2 (⟨b.val * 2048 + s.val, by omega⟩ : Fin 4096) i)) (fun i => g (ix1 i)) i := by
  pointwise [val_main_v34, val_main_v33, val_main_v32, val_main_v31, val_main_v30, val_main_v29, val_main_v28, val_main_v27,
    val_main_v26, val_main_v25, val_main_v24, val_main_v23, val_main_v22, val_main_v21, val_main_cst_4, val_main_cst_5, val_main_cst_6]
  rfl

theorem expanded_at (x : FVec Ideal S4096x1024 .f32) (g : FVec Ideal S1024 .f32) (w : FVec Ideal S1024x2760 .f32)
    (b : Fin 2) (s : Fin 2048) (k : Fin 2760) : val_main_v35 (F := Ideal) x g w (ix3 b s k)
      = proj 0x44800000#32 (fun i => x (ix2 (⟨b.val * 2048 + s.val, by omega⟩ : Fin 4096) i)) (fun i => g (ix1 i)) (fun i => w (ix2 i k)) := by
  pointwise [val_main_v35]
  exact Finset.sum_congr rfl fun i _ => congrArg (· * _) (normed_at x g _ _ _)

theorem column_at (x : FVec Ideal S4096x1024 .f32) (g : FVec Ideal S1024 .f32) (w : FVec Ideal S1024x2760 .f32)
    (r : Fin 4096) (k k' : Fin 2760) (h : k.val = k'.val) :
    val_main_v35 (F := Ideal) x g w (ix3 (⟨r.val / 2048, by omega⟩ : Fin 2) (⟨r.val % 2048, Nat.mod_lt _ (by decide)⟩ : Fin 2048) k)
      = proj 0x44800000#32 (fun i => x (ix2 r i)) (fun i => g (ix1 i)) (fun i => w (ix2 i k')) := by
  obtain rfl := Fin.ext h
  rw [expanded_at]
  exact proj_congr _ (fun i => congrArg (fun q => x (ix2 q i)) (Fin.ext (Nat.div_add_mod' _ _))) (fun _ => rfl) (fun _ => rfl)

theorem freq_at (k : Fin 32) : val_main_v10 (F := Ideal) (ix1 k) = invFreq 0x42800000#32 k.val := by
  pointwise [val_main_v10, val_main_v9, val_main_v8, val_main_v7, val_main_v6, val_main_v5, val_main_v4, val_main_v3,
    val_main_v2, val_main_v1, val_main_v0, val_main_cst, val_main_cst_0, val_main_cst_1, val_main_cst_2, val_main_cst_3]
  rfl

theorem angle_at (p : BitVec 32) (k : Fin 32) (l : ℕ) (h : k.val = l % 32) :
    (FloatOps.sitofp .f32 p : Ideal .f32) * val_main_v10 (F := Ideal) (ix1 k) = angle 32 0x42800000#32 p l := by
  rw [freq_at, h]
  rfl

theorem res126_at (x : FVec Ideal S4096x1024 .f32) (p : IVec S2x2048 32) (g : FVec Ideal S1024 .f32) (w : FVec Ideal S1024x2760 .f32)
    (j : S4096x512.Idx) : val_main_v126 (F := Ideal) x p g w j
      = roped 32 (angle 32 0x42800000#32 (Cert.KernelEvenIdeal.Value.posOf p (j 0)) (j 1).val)
          (fun q : Fin 512 => proj 0x44800000#32 (fun i => x (ix2 (j 0) i)) (fun i => g (ix1 i)) (fun i => w (ix2 i (⟨0 + q.val, by omega⟩ : Fin 2760)))) (j 1) := by
  have hj : (j 1).val < 512 := (j 1).isLt
  pointwise [val_main_v126, val_main_v58, val_main_v57, val_main_v56, val_main_v55, val_main_v54, val_main_v53,
    val_main_v52, val_main_v51, val_main_v50, val_main_v49, val_main_v48, val_main_v47, val_main_v46, val_main_v45,
    val_main_v36, val_main_v20, val_main_v19, val_main_v18, val_main_v17, val_main_v16, val_main_v15, val_main_v14,
    val_main_v13, val_main_v12, val_main_v11]
  by_cases h : (j 1).val % 64 < 32
  · refine (dif_pos h).trans (turned_first 32 (j 1) h (column_at x g w (j 0) _ _ ?_) (angle_at _ _ _ ?_)
      (column_at x g w (j 0) _ _ ?_) (angle_at _ _ _ ?_))
    · dsimp only
    · dsimp only; omega
    · show _ = ((j 1).val + 32) % 512
      dsimp only; omega
    · dsimp only; omega
  · refine (dif_neg h).trans (turned_second 32 (j 1) h (column_at x g w (j 0) _ _ ?_) (angle_at _ _ _ ?_)
      (column_at x g w (j 0) _ _ ?_) (angle_at _ _ _ ?_))
    · show _ = ((j 1).val + 480) % 512
      dsimp only; omega
    · dsimp only; omega
    · dsimp only; omega
    · dsimp only; omega

theorem res127_at (x : FVec Ideal S4096x1024 .f32) (p : IVec S2x2048 32) (g : FVec Ideal S1024 .f32) (w : FVec Ideal S1024x2760 .f32)
    (j : S4096x512.Idx) : val_main_v127 (F := Ideal) x p g w j
      = roped 32 (angle 32 0x42800000#32 (Cert.KernelEvenIdeal.Value.posOf p (j 0)) (j 1).val)
          (fun q : Fin 512 => proj 0x44800000#32 (fun i => x (ix2 (j 0) i)) (fun i => g (ix1 i)) (fun i => w (ix2 i (⟨640 + q.val, by omega⟩ : Fin 2760)))) (j 1) := by
  have hj : (j 1).val < 512 := (j 1).isLt
  pointwise [val_main_v127, val_main_v83, val_main_v82, val_main_v81, val_main_v80, val_main_v79, val_main_v78,
    val_main_v77, val_main_v76, val_main_v75, val_main_v74, val_main_v73, val_main_v72, val_main_v71, val_main_v70,
    val_main_v39, val_main_v20, val_main_v19, val_main_v18, val_main_v17, val_main_v16, val_main_v15, val_main_v14,
    val_main_v13, val_main_v12, val_main_v11]
  by_cases h : (j 1).val % 64 < 32
  · refine (dif_pos h).trans (turned_first 32 (j 1) h (column_at x g w (j 0) _ _ ?_) (angle_at _ _ _ ?_)
      (column_at x g w (j 0) _ _ ?_) (angle_at _ _ _ ?_))
    · dsimp only
    · dsimp only; omega
    · show _ = 640 + ((j 1).val + 32) % 512
      dsimp only; omega
    · dsimp only; omega
  · refine (dif_neg h).trans (turned_second 32 (j 1) h (column_at x g w (j 0) _ _ ?_) (angle_at _ _ _ ?_)
      (column_at x g w (j 0) _ _ ?_) (angle_at _ _ _ ?_))
    · show _ = 640 + ((j 1).val + 480) % 512
      dsimp only; omega
    · dsimp only; omega
    · dsimp only; omega
    · dsimp only; omega

theorem res128_at (x : FVec Ideal S4096x1024 .f32) (p : IVec S2x2048 32) (g : FVec Ideal S1024 .f32) (w : FVec Ideal S1024x2760 .f32)
    (j : S4096x512.Idx) : val_main_v128 (F := Ideal) x p g w j
      = roped 32 (angle 32 0x42800000#32 (Cert.KernelEvenIdeal.Value.posOf p (j 0)) (j 1).val)
          (fun q : Fin 512 => proj 0x44800000#32 (fun i => x (ix2 (j 0) i)) (fun i => g (ix1 i)) (fun i => w (ix2 i (⟨1224 + q.val, by omega⟩ : Fin 2760)))) (j 1) := by
  have hj : (j 1).val < 512 := (j 1).isLt
  pointwise [val_main_v128, val_main_v108, val_main_v107, val_main_v106, val_main_v105, val_main_v104, val_main_v103,
    val_main_v102, val_main_v101, val_main_v100, val_main_v99, val_main_v98, val_main_v97, val_main_v96,
    val_main_v95, val_main_v42, val_main_v20, val_main_v19, val_main_v18, val_main_v17, val_main_v16, val_main_v15,
    val_main_v14, val_main_v13, val_main_v12, val_main_v11]
  by_cases h : (j 1).val % 64 < 32
  · refine (dif_pos h).trans (turned_first 32 (j 1) h (column_at x g w (j 0) _ _ ?_) (angle_at _ _ _ ?_)
      (column_at x g w (j 0) _ _ ?_) (angle_at _ _ _ ?_))
    · dsimp only
    · dsimp only; omega
    · show _ = 1224 + ((j 1).val + 32) % 512
      dsimp only; omega
    · dsimp only; omega
  · refine (dif_neg h).trans (turned_second 32 (j 1) h (column_at x g w (j 0) _ _ ?_) (angle_at _ _ _ ?_)
      (column_at x g w (j 0) _ _ ?_) (angle_at _ _ _ ?_))
    · show _ = 1224 + ((j 1).val + 480) % 512
      dsimp only; omega
    · dsimp only; omega
    · dsimp only; omega
    · dsimp only; omega

theorem res129_at (x : FVec Ideal S4096x1024 .f32) (p : IVec S2x2048 32) (g : FVec Ideal S1024 .f32) (w : FVec Ideal S1024x2760 .f32)
    (j : S4096x512.Idx) : val_main_v129 (F := Ideal) x p g w j
      = roped 32 (angle 32 0x42800000#32 (Cert.KernelEvenIdeal.Value.posOf p (j 0)) (j 1).val)
          (fun q : Fin 512 => proj 0x44800000#32 (fun i => x (ix2 (j 0) i)) (fun i => g (ix1 i)) (fun i => w (ix2 i (⟨1736 + q.val, by omega⟩ : Fin 2760)))) (j 1) := by
  have hj : (j 1).val < 512 := (j 1).isLt
  pointwise [val_main_v129, val_main_v122, val_main_v121, val_main_v120, val_main_v119, val_main_v118, val_main_v117,
    val_main_v116, val_main_v115, val_main_v114, val_main_v113, val_main_v112, val_main_v111, val_main_v110,
    val_main_v109, val_main_v43, val_main_v20, val_main_v19, val_main_v18, val_main_v17, val_main_v16,
    val_main_v15, val_main_v14, val_main_v13, val_main_v12, val_main_v11]
  by_cases h : (j 1).val % 64 < 32
  · refine (dif_pos h).trans (turned_first 32 (j 1) h (column_at x g w (j 0) _ _ ?_) (angle_at _ _ _ ?_)
      (column_at x g w (j 0) _ _ ?_) (angle_at _ _ _ ?_))
    · dsimp only
    · dsimp only; omega
    · show _ = 1736 + ((j 1).val + 32) % 512
      dsimp only; omega
    · dsimp only; omega
  · refine (dif_neg h).trans (turned_second 32 (j 1) h (column_at x g w (j 0) _ _ ?_) (angle_at _ _ _ ?_)
      (column_at x g w (j 0) _ _ ?_) (angle_at _ _ _ ?_))
    · show _ = 1736 + ((j 1).val + 480) % 512
      dsimp only; omega
    · dsimp only; omega
    · dsimp only; omega
    · dsimp only; omega

theorem res130_at (x : FVec Ideal S4096x1024 .f32) (g : FVec Ideal S1024 .f32) (w : FVec Ideal S1024x2760 .f32)
    (j : S4096x512.Idx) (k : Fin 2760) (hk : k.val = 2248 + (j 1).val) : val_main_v130 (F := Ideal) x g w j
      = proj 0x44800000#32 (fun i => x (ix2 (j 0) i)) (fun i => g (ix1 i)) (fun i => w (ix2 i k)) := by
  pointwise [val_main_v130, val_main_v44]
  exact column_at x g w (j 0) _ k hk.symm

theorem res131_even (x : FVec Ideal S4096x1024 .f32) (p : IVec S2x2048 32) (g : FVec Ideal S1024 .f32) (w : FVec Ideal S1024x2760 .f32)
    (j : S4096x128.Idx) (hs : (j 1).val < 64) : val_main_v131 (F := Ideal) x p g w j
      = roped 32 (angle 32 0x42800000#32 (Cert.KernelEvenIdeal.Value.posOf p (j 0)) (j 1).val)
          (fun q : Fin 128 => proj 0x44800000#32 (fun i => x (ix2 (j 0) i)) (fun i => g (ix1 i)) (fun i => w (ix2 i (keysCol q)))) (j 1) := by
  have hj : (j 1).val < 128 := (j 1).isLt
  have hk : ∀ q : Fin 128, q.val < 64 → (keysCol q).val = 512 + q.val := fun q hq => if_pos hq
  have ha : (ahead 32 (j 1)).val = ((j 1).val + 32) % 128 := rfl
  have hb : (behind 32 (j 1)).val = ((j 1).val + 96) % 128 := rfl
  pointwise [val_main_v131, val_main_v123, val_main_v69, val_main_v68, val_main_v67, val_main_v66, val_main_v65,
    val_main_v64, val_main_v63, val_main_v62, val_main_v61, val_main_v60, val_main_v59, val_main_v37, val_main_v94,
    val_main_v93, val_main_v92, val_main_v91, val_main_v90, val_main_v89, val_main_v88, val_main_v87, val_main_v86,
    val_main_v85, val_main_v84, val_main_v40, val_main_v20, val_main_v19, val_main_v18, val_main_v17, val_main_v16,
    val_main_v15, val_main_v14, val_main_v13, val_main_v12, val_main_v11]
  refine (dif_pos hs).trans ?_
  by_cases h : (j 1).val < 32
  · have ka : (keysCol (ahead 32 (j 1))).val = 512 + ((j 1).val + 32) % 128 :=
      (hk _ (by show ((j 1).val + 32) % 128 < 64; omega)).trans (congrArg _ ha)
    refine (dif_pos h).trans (turned_first 32 (j 1) (by omega) (column_at x g w (j 0) _ (keysCol (j 1)) ?_) (angle_at _ _ _ ?_)
      (column_at x g w (j 0) _ (keysCol (ahead 32 (j 1))) ?_) (angle_at _ _ _ ?_))
    · exact (hk (j 1) hs).symm
    · dsimp only; omega
    · refine Eq.trans ?_ ka.symm
      dsimp only; omega
    · dsimp only; omega
  · have kb : (keysCol (behind 32 (j 1))).val = 512 + ((j 1).val + 96) % 128 :=
      (hk _ (by show ((j 1).val + 96) % 128 < 64; omega)).trans (congrArg _ hb)
    refine (dif_neg h).trans (turned_second 32 (j 1) (by omega) (column_at x g w (j 0) _ (keysCol (behind 32 (j 1))) ?_) (angle_at _ _ _ ?_)
      (column_at x g w (j 0) _ (keysCol (j 1)) ?_) (angle_at _ _ _ ?_))
    · refine Eq.trans ?_ kb.symm
      dsimp only; omega
    · dsimp only; omega
    · refine Eq.trans ?_ (hk (j 1) hs).symm
      dsimp only; omega
    · dsimp only; omega

theorem res131_odd (x : FVec Ideal S4096x1024 .f32) (p : IVec S2x2048 32) (g : FVec Ideal S1024 .f32) (w : FVec Ideal S1024x2760 .f32)
    (j : S4096x128.Idx) (hs : ¬ (j 1).val < 64) : val_main_v131 (F := Ideal) x p g w j
      = roped 32 (angle 32 0x42800000#32 (Cert.KernelEvenIdeal.Value.posOf p (j 0)) (j 1).val)
          (fun q : Fin 128 => proj 0x44800000#32 (fun i => x (ix2 (j 0) i)) (fun i => g (ix1 i)) (fun i => w (ix2 i (keysCol q)))) (j 1) := by
  have hj : (j 1).val < 128 := (j 1).isLt
  have hk : ∀ q : Fin 128, ¬ q.val < 64 → (keysCol q).val = 1088 + q.val := fun q hq => if_neg hq
  have ha : (ahead 32 (j 1)).val = ((j 1).val + 32) % 128 := rfl
  have hb : (behind 32 (j 1)).val = ((j 1).val + 96) % 128 := rfl
  pointwise [val_main_v131, val_main_v123, val_main_v69, val_main_v68, val_main_v67, val_main_v66, val_main_v65,
    val_main_v64, val_main_v63, val_main_v62, val_main_v61, val_main_v60, val_main_v59, val_main_v37, val_main_v94,
    val_main_v93, val_main_v92, val_main_v91, val_main_v90, val_main_v89, val_main_v88, val_main_v87, val_main_v86,
    val_main_v85, val_main_v84, val_main_v40, val_main_v20, val_main_v19, val_main_v18, val_main_v17, val_main_v16,
    val_main_v15, val_main_v14, val_main_v13, val_main_v12, val_main_v11]
  refine (dif_neg hs).trans ?_
  by_cases h : (j 1).val - 64 < 32
  · have ka : (keysCol (ahead 32 (j 1))).val = 1088 + ((j 1).val + 32) % 128 :=
      (hk _ (by show ¬ ((j 1).val + 32) % 128 < 64; omega)).trans (congrArg _ ha)
    refine (dif_pos h).trans (turned_first 32 (j 1) (by omega) (column_at x g w (j 0) _ (keysCol (j 1)) ?_) (angle_at _ _ _ ?_)
      (column_at x g w (j 0) _ (keysCol (ahead 32 (j 1))) ?_) (angle_at _ _ _ ?_))
    · refine Eq.trans ?_ (hk (j 1) hs).symm
      dsimp only; omega
    · dsimp only; omega
    · refine Eq.trans ?_ ka.symm
      dsimp only; omega
    · dsimp only; omega
  · have kb : (keysCol (behind 32 (j 1))).val = 1088 + ((j 1).val + 96) % 128 :=
      (hk _ (by show ¬ ((j 1).val + 96) % 128 < 64; omega)).trans (congrArg _ hb)
    refine (dif_neg h).trans (turned_second 32 (j 1) (by omega) (column_at x g w (j 0) _ (keysCol (behind 32 (j 1))) ?_) (angle_at _ _ _ ?_)
      (column_at x g w (j 0) _ (keysCol (j 1)) ?_) (angle_at _ _ _ ?_))
    · refine Eq.trans ?_ kb.symm
      dsimp only; omega
    · dsimp only; omega
    · refine Eq.trans ?_ (hk (j 1) hs).symm
      dsimp only; omega
    · dsimp only; omega

theorem res132_inside (x : FVec Ideal S4096x1024 .f32) (g : FVec Ideal S1024 .f32) (w : FVec Ideal S1024x2760 .f32)
    (j : S4096x128.Idx) (h : (j 1).val < 72) : val_main_v132 (F := Ideal) x g w j
      = proj 0x44800000#32 (fun i => x (ix2 (j 0) i)) (fun i => g (ix1 i)) (fun i => w (ix2 i (smallCol (j 1)))) := by
  pointwise [val_main_v132, val_main_v125, val_main_v124, val_main_v38, val_main_v41, val_main_cst_7]
  by_cases hs : (j 1).val < 64
  · refine (dif_pos hs).trans (column_at x g w (j 0) _ _ ?_)
    exact (if_pos hs : (smallCol (j 1)).val = _).symm
  · refine (dif_neg hs).trans ((dif_pos (show (j 1).val - 64 < 8 by omega)).trans (column_at x g w (j 0) _ _ ?_))
    rw [show (smallCol (j 1)).val = 1152 + (j 1).val from if_neg hs]
    dsimp only
    omega
theorem res132_outside (x : FVec Ideal S4096x1024 .f32) (g : FVec Ideal S1024 .f32) (w : FVec Ideal S1024x2760 .f32)
    (j : S4096x128.Idx) (h : ¬ (j 1).val < 72) : val_main_v132 (F := Ideal) x g w j = 0 := by
  pointwise [val_main_v132, val_main_v125, val_main_v124, val_main_v38, val_main_v41, val_main_cst_7]
  exact (dif_neg (show ¬ (j 1).val < 64 by omega)).trans (dif_neg (show ¬ (j 1).val - 64 < 8 by omega))

end Cert.ReferenceEvenIdeal.Read

end
-- ==== Proof.Proj.EvenClaim.lean ====
module

public import proofs.«01_k».proof.Defs
public import proofs.«01_k».proof.Proof.Gen.KernelEvenIdeal
public import proofs.«01_k».proof.Proof.Gen.ReferenceEvenIdeal
public import proofs.«01_k».proof.Proof.Proj.EvenRef

@[expose] public section

/-!
The even layers' product: the reference's frame, and the equation of the two programs.
-/

set_option maxRecDepth 16384

noncomputable section

open Idealize.ShloMosaic Idealize.ShloMosaic.TcCoe Idealize.SL.Sem Cert.Proj

namespace Cert.EvenClaim

/-- The reference's frame: its run keeps the arguments, and the machine it runs on has no semaphore. -/
theorem reference_frame : Cert.quiescent_ReferenceEvenIdeal (hReferenceEvenIdeal := Cert.ReferenceEvenIdeal.Gen.facts) :=
  fun m ρ _ => (θ_run _ _ _).mono (fun r h => ⟨fun c => (h c).2.2.2.2.2.2.2, sem_eq_zero_of_no_sems (by decide) r.2⟩)
    (Cert.ReferenceEvenIdeal.Value.run m ρ)

/-- The product and its reference hold equal parts. -/
theorem eq : Cert.algebraic_KernelEvenIdeal_ReferenceEvenIdeal (hKernelEvenIdeal := Cert.KernelEvenIdeal.Gen.facts)
    (hReferenceEvenIdeal := Cert.ReferenceEvenIdeal.Gen.facts) := by
  intro m g m' g' _ hargs
  refine ⟨fun c => Cert.KernelEvenIdeal.Value.res0 (Cert.KernelEvenIdeal.Gen.V5 m g) c,
    fun c => Cert.KernelEvenIdeal.Value.res1 (Cert.KernelEvenIdeal.Gen.V5 m g) c,
    fun c => Cert.KernelEvenIdeal.Value.res2 (Cert.KernelEvenIdeal.Gen.V5 m g) c,
    fun c => Cert.KernelEvenIdeal.Value.res3 (Cert.KernelEvenIdeal.Gen.V5 m g) c,
    fun c => Cert.KernelEvenIdeal.Value.res4 (Cert.KernelEvenIdeal.Gen.V5 m g) c,
    fun c => Cert.KernelEvenIdeal.Value.res5 (Cert.KernelEvenIdeal.Gen.V5 m g) c,
    fun c => Cert.KernelEvenIdeal.Value.res6 (Cert.KernelEvenIdeal.Gen.V5 m g) c,
    (θ_run _ _ _).mono (fun r h c => ?_) (Cert.KernelEvenIdeal.Value.run_result m g),
    (θ_run _ _ _).mono (fun r h c => ?_) (Cert.ReferenceEvenIdeal.Value.run m' g')⟩
  · obtain ⟨h0, h1, h2, h3, h4, h5, h6, hkeep⟩ := h c
    exact ⟨h0.trans (Cert.KernelEvenIdeal.Value.W6_res0 m g c), h1.trans (Cert.KernelEvenIdeal.Value.W6_res1 m g c), h2.trans (Cert.KernelEvenIdeal.Value.W6_res2 m g c), h3.trans (Cert.KernelEvenIdeal.Value.W6_res3 m g c), h4.trans (Cert.KernelEvenIdeal.Value.W6_res4 m g c), h5.trans (Cert.KernelEvenIdeal.Value.W6_res5 m g c), h6.trans (Cert.KernelEvenIdeal.Value.W6_res6 m g c), hkeep⟩
  · obtain ⟨h0, h1, h2, h3, h4, h5, h6, hkeep⟩ := h c
    obtain ⟨e0, e1, e2, e3⟩ := hargs c
    refine ⟨h0.trans ?_, h1.trans ?_, h2.trans ?_, h3.trans ?_, h4.trans ?_, h5.trans ?_, h6.trans ?_, hkeep⟩
    · rw [Cert.ReferenceEvenIdeal.Read.val_main_v126_eq, e0, e1, e2, e3]
      refine funext fun j => ?_
      refine (Cert.ReferenceEvenIdeal.Read.res126_at _ _ _ _ j).trans ((Cert.KernelEvenIdeal.Value.wideEntry_at m g Cert.KernelEvenIdeal.Value.part0 c (j 0) (j 1)).trans
        (roped_congr 32 (j 1) rfl fun q => Cert.KernelEvenIdeal.Value.column_inside m g c (j 0) _ _ ?_)).symm
      simp only [Cert.KernelEvenIdeal.Value.part0]
      omega
    · rw [Cert.ReferenceEvenIdeal.Read.val_main_v127_eq, e0, e1, e2, e3]
      refine funext fun j => ?_
      refine (Cert.ReferenceEvenIdeal.Read.res127_at _ _ _ _ j).trans ((Cert.KernelEvenIdeal.Value.wideEntry_at m g Cert.KernelEvenIdeal.Value.part1 c (j 0) (j 1)).trans
        (roped_congr 32 (j 1) rfl fun q => Cert.KernelEvenIdeal.Value.column_inside m g c (j 0) _ _ ?_)).symm
      simp only [Cert.KernelEvenIdeal.Value.part1]
      omega
    · rw [Cert.ReferenceEvenIdeal.Read.val_main_v128_eq, e0, e1, e2, e3]
      refine funext fun j => ?_
      refine (Cert.ReferenceEvenIdeal.Read.res128_at _ _ _ _ j).trans ((Cert.KernelEvenIdeal.Value.wideEntry_at m g Cert.KernelEvenIdeal.Value.part2 c (j 0) (j 1)).trans
        (roped_congr 32 (j 1) rfl fun q => Cert.KernelEvenIdeal.Value.column_inside m g c (j 0) _ _ ?_)).symm
      simp only [Cert.KernelEvenIdeal.Value.part2]
      omega
    · rw [Cert.ReferenceEvenIdeal.Read.val_main_v129_eq, e0, e1, e2, e3]
      refine funext fun j => ?_
      refine (Cert.ReferenceEvenIdeal.Read.res129_at _ _ _ _ j).trans ((Cert.KernelEvenIdeal.Value.wideEntry_at m g Cert.KernelEvenIdeal.Value.part3 c (j 0) (j 1)).trans
        (roped_congr 32 (j 1) rfl fun q => Cert.KernelEvenIdeal.Value.column_inside m g c (j 0) _ _ ?_)).symm
      simp only [Cert.KernelEvenIdeal.Value.part3]
      omega
    · rw [e0, e2, e3]
      refine (Cert.ReferenceEvenIdeal.Read.val_main_v130_eq _ _ _).trans (funext fun j => ?_)
      have hj : (j 1).val < 512 := (j 1).isLt
      refine (Cert.ReferenceEvenIdeal.Read.res130_at _ _ _ j ⟨2248 + (j 1).val, by omega⟩ rfl).trans (Cert.KernelEvenIdeal.Value.column_inside m g c (j 0) _ _ ?_).symm
      simp only [Cert.KernelEvenIdeal.Value.part4]
      omega
    · rw [Cert.ReferenceEvenIdeal.Read.val_main_v131_eq, e0, e1, e2, e3]
      refine funext fun j => ?_
      refine ((em ((j 1).val < 64)).elim (fun h => Cert.ReferenceEvenIdeal.Read.res131_even _ _ _ _ j h) (fun h => Cert.ReferenceEvenIdeal.Read.res131_odd _ _ _ _ j h)).trans ((Cert.KernelEvenIdeal.Value.narrowEntry_at m g Cert.KernelEvenIdeal.Value.part5 c (j 0) (j 1)).trans
        (roped_congr 32 (j 1) rfl fun q => Cert.KernelEvenIdeal.Value.column_inside m g c (j 0) _ _ ?_)).symm
      simp only [Cert.KernelEvenIdeal.Value.part5, keysCol]
      split <;> omega
    · rw [e0, e2, e3]
      refine (Cert.ReferenceEvenIdeal.Read.val_main_v132_eq _ _ _).trans (funext fun j => ?_)
      have hj : (j 1).val < 128 := (j 1).isLt
      by_cases h : (j 1).val < 72
      · refine (Cert.ReferenceEvenIdeal.Read.res132_inside _ _ _ j h).trans (Cert.KernelEvenIdeal.Value.column_inside m g c (j 0) _ _ ?_).symm
        simp only [Cert.KernelEvenIdeal.Value.part6, smallCol]
        split <;> omega
      · refine (Cert.ReferenceEvenIdeal.Read.res132_outside _ _ _ j h).trans (Cert.KernelEvenIdeal.Value.column_outside m g c (j 0) _ ?_).symm
        simp only [Cert.KernelEvenIdeal.Value.part6]
        omega

end Cert.EvenClaim

end
-- ==== Proof.Proj.LatentTables.lean ====
module

public import proofs.«01_k».proof.Proof.Gen.KernelLatentIdeal.Frame
public import proofs.«01_k».proof.Proof.Proj.Rope

@[expose] public section

/-!
The latent projection's rotary tables, as its first segment leaves them, and the launch of its two segments.
-/

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelLatentIdeal.Value
open Cert.KernelLatentIdeal Cert.KernelLatentIdeal.Gen Cert.Proj

local notation "𝕄" => MT nD τ sig Unit (Elt Ideal) ℕ (UR sig nD τ) ℕ

section Launch
variable (m : (ℓ : Loc nD τ sig) → Buf (Elt Ideal) ℓ) (ρ : Dev nD → PrngReg)

set_option backward.isDefEq.respectTransparency.types false in
/-- The launch, keeping the result buffers. -/
theorem run_result : θ_run defs (onTc (τ := τ) (main (F := Ideal))) ⟨m, fun _ => 0, ρ⟩ (fun r => ∀ c : Dev nD,
      r.2.mem ((c.tc : Thread nD τ).loc main_v29_0) = W6 m ρ c (Proc.devRef .tc main_v29_0)
      ∧ r.2.mem ((c.tc : Thread nD τ).loc main_v29_1) = W6 m ρ c (Proc.devRef .tc main_v29_1)
      ∧ r.2.mem ((c.tc : Thread nD τ).loc main_v29_2) = W6 m ρ c (Proc.devRef .tc main_v29_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v29_0 (by decide)),
       h c _ (mem_uc main_v29_1 (by decide)),
       h c _ (mem_uc main_v29_2 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Launch

theorem out0_3_at (x0 : Vec Ideal S1024x1 .i32) (x1 x2 : Vec Ideal S1x128 .f32) (y : S1024x128.Idx) :
    out0_3 (F := Ideal) x0 x1 x2 y
      = Ideal.cos ((FloatOps.sitofp .f32 (x0 (ix2 (y 0) 0)) : Ideal .f32) * x1 (ix2 0 (y 1))) := by
  frame_out
  pointwise [k0_pay1, k0_pay2]

theorem out0_4_at (x0 : Vec Ideal S1024x1 .i32) (x1 x2 : Vec Ideal S1x128 .f32) (y : S1024x128.Idx) :
    out0_4 (F := Ideal) x0 x1 x2 y
      = Ideal.sin ((FloatOps.sitofp .f32 (x0 (ix2 (y 0) 0)) : Ideal .f32) * x1 (ix2 0 (y 1))) * x2 (ix2 0 (y 1)) := by
  frame_out
  pointwise [k0_pay1, k0_pay3]

section Tables
variable (V : (c : Dev nD) → (b : Ref sig .tc) → Buf (Elt Ideal) ((c : Thread nD τ).loc b))

theorem idx0_0 : ∀ t : Fin grid0.N, win0_0.index t = ![(grid0.coords t 0).val, 0] := by decide +kernel
theorem idx0_1 : ∀ t : Fin grid0.N, win0_1.index t = ![0, 0] := by decide +kernel
theorem idx0_2 : ∀ t : Fin grid0.N, win0_2.index t = ![0, 0] := by decide +kernel
theorem idx0_3 : ∀ t : Fin grid0.N, win0_3.index t = ![(grid0.coords t 0).val, 0] := by decide +kernel
theorem idx0_4 : ∀ t : Fin grid0.N, win0_4.index t = ![(grid0.coords t 0).val, 0] := by decide +kernel

/-- The two tables' contents, from what the segment finds. -/
def cosTab (c : Dev nD) : FVec Ideal S4096x128 .f32 := fun j =>
  Ideal.cos ((FloatOps.sitofp .f32 ((V c main_v0 : IVec S4096x1 32) (ix2 (j 0) 0)) : Ideal .f32)
    * (V c main_v16 : FVec Ideal S1x128 .f32) (ix2 0 (j 1)))
def sinTab (c : Dev nD) : FVec Ideal S4096x128 .f32 := fun j =>
  Ideal.sin ((FloatOps.sitofp .f32 ((V c main_v0 : IVec S4096x1 32) (ix2 (j 0) 0)) : Ideal .f32)
    * (V c main_v16 : FVec Ideal S1x128 .f32) (ix2 0 (j 1))) * (V c main_v24 : FVec Ideal S1x128 .f32) (ix2 0 (j 1))

theorem final0_3 (c : Dev nD) : (dat0 V c).arrAt 3 cfg0.N = cosTab V c := by
  refine (dat0 V c).arrAt_eq_of_covers 3 _ (by decide +kernel) fun t _ y => ?_
  blk_simp
  rw [after0_3, out0_3_at]
  have h0 : (grid0.coords t 0).val < 4 := (grid0.coords t 0).isLt
  have e0 : ((((cfg0.win 3).blk t).view.emb y) 0).val = (grid0.coords t 0).val * 1024 + (y 0).val := by
    blk_simp [idx0_3]
  have e1 : (((cfg0.win 3).blk t).view.emb y) 1 = y 1 := Fin.ext (by
    blk_simp [idx0_3])
  generalize ((cfg0.win 3).blk t).view.emb y = j at e0 e1 ⊢
  unfold cosTab
  rw [e1]
  refine congrArg Ideal.cos (congrArg₂ (· * ·) (congrArg (FloatOps.sitofp .f32) ?_) ?_)
  · blk_ext [iblk0, idx0_0, e0, e1]
  · blk_ext [iblk0, idx0_1, e0, e1]

theorem final0_4 (c : Dev nD) : (dat0 V c).arrAt 4 cfg0.N = sinTab V c := by
  refine (dat0 V c).arrAt_eq_of_covers 4 _ (by decide +kernel) fun t _ y => ?_
  blk_simp
  rw [after0_4, out0_4_at]
  have h0 : (grid0.coords t 0).val < 4 := (grid0.coords t 0).isLt
  have e0 : ((((cfg0.win 4).blk t).view.emb y) 0).val = (grid0.coords t 0).val * 1024 + (y 0).val := by
    blk_simp [idx0_4]
  have e1 : (((cfg0.win 4).blk t).view.emb y) 1 = y 1 := Fin.ext (by
    blk_simp [idx0_4])
  generalize ((cfg0.win 4).blk t).view.emb y = j at e0 e1 ⊢
  unfold sinTab
  rw [e1]
  refine congrArg₂ (· * ·) (congrArg Ideal.sin (congrArg₂ (· * ·) (congrArg (FloatOps.sitofp .f32) ?_) ?_)) ?_
  · blk_ext [iblk0, idx0_0, e0, e1]
  · blk_ext [iblk0, idx0_1, e0, e1]
  · blk_ext [iblk0, idx0_2, e0, e1]

end Tables

/-- The host's frequencies and signs, and their rows over the lanes. -/
def freqs : FVec Ideal S16 .f32 :=
  Host.divf (broadcastInDim S16 ![] bcast_S_S16 (constant S_ .f32 0x3F800000#32))
    (Host.powf (broadcastInDim S16 ![] bcast_S_S16 (constant S_ .f32 0x461C4000#32))
      (Host.divf (addf (broadcastInDim S16 ![] bcast_S_S16 (constant S_ .f32 0x00000000#32))
          (mulf (broadcastInDim S16 ![] bcast_S_S16 (constant S_ .f32 0x40000000#32)) (sitofp .f32 (iotaInDim S16 32 0))))
        (broadcastInDim S16 ![] bcast_S_S16 (constant S_ .f32 0x42000000#32))))
def overLanes (a b : FVec Ideal S16 .f32) : FVec Ideal S1x128 .f32 :=
  broadcastInDim S1x128 ![1] bcast_S128_S1x128_1 (shapeCast S128
    (broadcastInDim S4x32 ![0, 1] bcast_S1x32_S4x32_0_1 (shapeCast S1x32
      (concatenate S32 0 [⟨S16, a⟩, ⟨S16, b⟩] concatenates_S16_S16_S32_d0) shapeCasts_S32_S1x32)) shapeCasts_S4x32_S128)
def ones : FVec Ideal S16 .f32 := broadcastInDim S16 ![] bcast_S_S16 (constant S_ .f32 0x3F800000#32)

theorem freqs_at (k : Fin 16) : freqs (ix1 k) = invFreq 0x42000000#32 k.val := by
  pointwise [freqs]
  rfl

theorem overLanes_at (a b : FVec Ideal S16 .f32) (l : Fin 128) : overLanes a b (ix2 0 l)
    = if l.val % (2 * 16) < 16 then a (ix1 ⟨l.val % 16, Nat.mod_lt _ (by decide)⟩) else b (ix1 ⟨l.val % 16, Nat.mod_lt _ (by decide)⟩) := by
  pointwise [overLanes]
  by_cases hl : l.val % (2 * 16) < 16
  · rw [if_pos hl, dif_pos hl]
    exact congrArg (fun q => a (ix1 q)) (Fin.ext (by dsimp only; omega))
  · rw [if_neg hl, dif_neg hl]
    exact congrArg (fun q => b (ix1 q)) (Fin.ext (by dsimp only; omega))

section Host
variable (m : (ℓ : Loc nD τ sig) → Buf (Elt Ideal) ℓ) (ρ : Dev nD → PrngReg)

theorem V1_positions (c : Dev nD) : (V1 m ρ c main_v0 : IVec S4096x1 32)
    = shapeCast S4096x1 (m ((c : Thread nD τ).loc main_arg1) : IVec S2x2048 32) shapeCasts_S2x2048_S4096x1 := by
  show StableHlo.after hostOps0 (W0 m ρ c) (Proc.devRef .tc main_v0) = _
  after_results_simp
  rfl
theorem V1_freqs (c : Dev nD) : V1 m ρ c main_v16 = overLanes freqs freqs := by
  show StableHlo.after hostOps0 (W0 m ρ c) (Proc.devRef .tc main_v16) = _
  after_results_simp
  rfl
theorem V1_signs (c : Dev nD) : V1 m ρ c main_v24 = overLanes (Host.negf ones) ones := by
  show StableHlo.after hostOps0 (W0 m ρ c) (Proc.devRef .tc main_v24) = _
  after_results_simp
  rfl

theorem sign_at (l : Fin 128) : overLanes (Host.negf ones) ones (ix2 0 l) = laneSign 16 l.val := by
  rw [overLanes_at]
  unfold laneSign
  refine if_congr Iff.rfl ?_ ?_
  · pointwise [ones]
  · pointwise [ones]

/-- The position of a row's token. -/
def posOf (p : IVec S2x2048 32) (r : Fin 4096) : BitVec 32 :=
  p (ix2 (⟨r.val / 2048, by omega⟩ : Fin 2) (⟨r.val % 2048, Nat.mod_lt _ (by decide)⟩ : Fin 2048))

theorem positions_at (p : IVec S2x2048 32) (r : Fin 4096) :
    shapeCast S4096x1 p shapeCasts_S2x2048_S4096x1 (ix2 r 0) = posOf p r := by
  pointwise [posOf]

/-- A table's entry at lane `l`: the cosine of the token's angle there, and its sine with the lane's sign. -/
theorem cosTab_at (c : Dev nD) (r : Fin 4096) (l : Fin 128) : cosTab (V1 m ρ) c (ix2 r l)
    = Ideal.cos (angle 16 0x42000000#32 (posOf (m ((c : Thread nD τ).loc main_arg1)) r) l.val) := by
  show Ideal.cos ((FloatOps.sitofp .f32 ((V1 m ρ c main_v0 : IVec S4096x1 32) (ix2 r 0)) : Ideal .f32)
    * (V1 m ρ c main_v16 : FVec Ideal S1x128 .f32) (ix2 0 l)) = _
  rw [V1_positions, V1_freqs, positions_at, overLanes_at, ite_self, freqs_at]
  rfl
theorem sinTab_at (c : Dev nD) (r : Fin 4096) (l : Fin 128) : sinTab (V1 m ρ) c (ix2 r l)
    = Ideal.sin (angle 16 0x42000000#32 (posOf (m ((c : Thread nD τ).loc main_arg1)) r) l.val) * laneSign 16 l.val := by
  show Ideal.sin ((FloatOps.sitofp .f32 ((V1 m ρ c main_v0 : IVec S4096x1 32) (ix2 r 0)) : Ideal .f32)
    * (V1 m ρ c main_v16 : FVec Ideal S1x128 .f32) (ix2 0 l)) * (V1 m ρ c main_v24 : FVec Ideal S1x128 .f32) (ix2 0 l) = _
  rw [V1_positions, V1_freqs, V1_signs, positions_at, overLanes_at freqs, ite_self, freqs_at, sign_at]
  rfl

end Host

end Cert.KernelLatentIdeal.Value

end
-- ==== Proof.Proj.Latent.lean ====
module

public import proofs.«01_k».proof.Proof.Proj.Spec
public import proofs.«01_k».proof.Proof.Proj.LatentTables
public import Idealize.ShloMosaic.Lib.KernelVsHost

@[expose] public section

/-!
The latent's product: the query's latent, the keys' and values' latent, and the shared rotary key turned by the token's
angles.  The kernel pads the weights with zero columns to whole lanes, so the rotary key's row ends in zeros.
-/

set_option maxRecDepth 16384

noncomputable section

open Idealize.ShloMosaic Idealize.ShloMosaic.TcCoe Idealize.SL.Sem

namespace Cert.Proj

/-- Column `q` of the rotary key: the product's column `1024 + q` for the first 32, zero beyond. -/
def latentKey (x g : Fin 1024 → EReal) (w : Fin 1024 → Fin 1056 → EReal) (q : Fin 128) : EReal :=
  if h : q.val < 32 then proj 0x44800000#32 x g (fun i => w i (⟨1024 + q.val, by omega⟩ : Fin 1056)) else 0

theorem latentKey_lt (x g : Fin 1024 → EReal) (w : Fin 1024 → Fin 1056 → EReal) (q : Fin 128) (h : q.val < 32) :
    latentKey x g w q = proj 0x44800000#32 x g (fun i => w i (⟨1024 + q.val, by omega⟩ : Fin 1056)) := dif_pos h
theorem latentKey_ge (x g : Fin 1024 → EReal) (w : Fin 1024 → Fin 1056 → EReal) (q : Fin 128) (h : ¬ q.val < 32) :
    latentKey x g w q = 0 := dif_neg h

theorem zero_word : (FloatOps.sitofp .f32 (0#32 : BitVec 32) : Ideal .f32) = 0 := by
  show (((0#32 : BitVec 32).toInt : ℝ) : EReal) = 0
  simp

/-- A row turned at a lane past the key's 32 is zero. -/
theorem latentKey_turned (x g : Fin 1024 → EReal) (w : Fin 1024 → Fin 1056 → EReal) (t : EReal) (q : Fin 128) (h : ¬ q.val < 32) :
    roped 16 t (latentKey x g w) q = 0 := by
  have hq : q.val < 128 := q.isLt
  unfold roped
  by_cases e : q.val % (2 * 16) < 16
  · rw [if_pos e, latentKey_ge x g w q h, latentKey_ge x g w (ahead 16 q) (by simp only [ahead]; omega), zero_mul, zero_mul, sub_zero]
  · rw [if_neg e, latentKey_ge x g w q h, latentKey_ge x g w (behind 16 q) (by simp only [behind]; omega), zero_mul, zero_mul, zero_add]

end Cert.Proj

namespace Cert.KernelLatentIdeal.Value
open Cert.KernelLatentIdeal Cert.KernelLatentIdeal.Gen Cert.Proj

/-- One block's normalised rows. -/
theorem normed_at (x0 : Vec Ideal S256x1024 .f32) (x1 : Vec Ideal S1x1024 .f32) (y : S256x1024.Idx) :
    k1_pay2 (F := Ideal) x0 x1 y
      = normRow 0x44800000#32 (fun i => x0 (ix2 (y 0) i)) (fun i => x1 (ix2 0 i)) (y 1) := by
  pointwise [k1_pay2]
  show _ = x0 (ix2 (y 0) (y 1)) * _ * _
  rw [← eq_ix2 y]

theorem out1_5_at (x0 : Vec Ideal S256x1024 .f32) (x1 : Vec Ideal S1x1024 .f32) (x2 : Vec Ideal S1024x1152 .bf16)
    (x3 x4 : Vec Ideal S256x128 .f32) (y : S256x768.Idx) : out1_5 (F := Ideal) x0 x1 x2 x3 x4 y
      = proj 0x44800000#32 (fun i => x0 (ix2 (y 0) i)) (fun i => x1 (ix2 0 i))
          (fun i => x2 (ix2 i (Fin.castAdd 384 (y 1) : Fin 1152))) := by
  frame_out
  pointwise [k1_pay3]
  refine Finset.sum_congr rfl fun i _ => congrArg₂ (· * ·) (normed_at x0 x1 _) (congrArg x2 (funext fun a => Fin.ext ?_))
  fin_cases a <;> rfl

/-- The second group of columns starts at the 768th. -/
def second (k : Fin 256) : Fin 1152 := ⟨768 + k.val, by omega⟩

theorem out1_6_at (x0 : Vec Ideal S256x1024 .f32) (x1 : Vec Ideal S1x1024 .f32) (x2 : Vec Ideal S1024x1152 .bf16)
    (x3 x4 : Vec Ideal S256x128 .f32) (y : S256x256.Idx) : out1_6 (F := Ideal) x0 x1 x2 x3 x4 y
      = proj 0x44800000#32 (fun i => x0 (ix2 (y 0) i)) (fun i => x1 (ix2 0 i)) (fun i => x2 (ix2 i (second (y 1)))) := by
  frame_out
  pointwise [k1_pay4]
  refine Finset.sum_congr rfl fun i _ => congrArg₂ (· * ·) (normed_at x0 x1 _) (congrArg x2 (funext fun a => Fin.ext ?_))
  fin_cases a <;> rfl

/-- The rotary columns before they are turned. -/
theorem acc_at (x0 : Vec Ideal S256x1024 .f32) (x1 : Vec Ideal S1x1024 .f32) (x2 : Vec Ideal S1024x1152 .bf16)
    (y : S256x128.Idx) : k1_pay5 (F := Ideal) x0 x1 (View.ld x2 r1_6) y
      = proj 0x44800000#32 (fun i => x0 (ix2 (y 0) i)) (fun i => x1 (ix2 0 i))
          (fun i => x2 (ix2 i (Fin.natAdd 1024 (y 1) : Fin 1152))) := by
  pointwise [k1_pay5]
  refine Finset.sum_congr rfl fun i _ => congrArg₂ (· * ·) (normed_at x0 x1 _) (congrArg x2 (funext fun a => Fin.ext ?_))
  fin_cases a <;> rfl

theorem turned_at (a b d : FVec Ideal S256x128 .f32) (y : S256x128.Idx) :
    k1_pay1 (F := Ideal) a b d (iota .tc S256x128 32 [1] iota_S256x128_d1_w32) 32#32 y
      = a y * b y + (if (y 1).val % (2 * 16) < 16 then a (ix2 (y 0) (ahead 16 (y 1))) else a (ix2 (y 0) (behind 16 (y 1)))) * d y := by
  have hy : (y 1).val < 128 := (y 1).isLt
  rw [← select_lane _ _ (laneMask_16 ⟨(y 1).val, by omega⟩)]
  pointwise [k1_pay1]
  rfl

theorem out1_7_at (x0 : Vec Ideal S256x1024 .f32) (x1 : Vec Ideal S1x1024 .f32) (x2 : Vec Ideal S1024x1152 .bf16)
    (x3 x4 : Vec Ideal S256x128 .f32) (y : S256x128.Idx) (a : Fin 128 → EReal)
    (ha : ∀ q, a q = proj 0x44800000#32 (fun i => x0 (ix2 (y 0) i)) (fun i => x1 (ix2 0 i))
          (fun i => x2 (ix2 i (Fin.natAdd 1024 q : Fin 1152)))) : out1_7 (F := Ideal) x0 x1 x2 x3 x4 y
      = a (y 1) * x3 (ix2 (y 0) (y 1)) + (if (y 1).val % (2 * 16) < 16 then a (ahead 16 (y 1)) else a (behind 16 (y 1))) * x4 (ix2 (y 0) (y 1)) := by
  frame_out
  rw [turned_at]
  refine congrArg₂ (· + ·) (congrArg₂ (· * ·) ((acc_at x0 x1 x2 y).trans (ha (y 1)).symm) ?_)
    (congrArg₂ (· * ·) (if_congr Iff.rfl ((acc_at x0 x1 x2 _).trans (ha _).symm) ((acc_at x0 x1 x2 _).trans (ha _).symm)) ?_)
  · pointwise [k1_pay6]
  · pointwise [k1_pay7]

section Region
variable (V : (c : Dev nD) → (b : Ref sig .tc) → Buf (Elt Ideal) ((c : Thread nD τ).loc b))

theorem idx1_0 : ∀ t : Fin grid1.N, win1_0.index t = ![(grid1.coords t 0).val, 0] := by decide +kernel
theorem idx1_1 : ∀ t : Fin grid1.N, win1_1.index t = ![0, 0] := by decide +kernel
theorem idx1_2 : ∀ t : Fin grid1.N, win1_2.index t = ![0, 0] := by decide +kernel
theorem idx1_3 : ∀ t : Fin grid1.N, win1_3.index t = ![(grid1.coords t 0).val, 0] := by decide +kernel
theorem idx1_4 : ∀ t : Fin grid1.N, win1_4.index t = ![(grid1.coords t 0).val, 0] := by decide +kernel
theorem idx1_5 : ∀ t : Fin grid1.N, win1_5.index t = ![(grid1.coords t 0).val, 0] := by decide +kernel
theorem idx1_6 : ∀ t : Fin grid1.N, win1_6.index t = ![(grid1.coords t 0).val, 0] := by decide +kernel
theorem idx1_7 : ∀ t : Fin grid1.N, win1_7.index t = ![(grid1.coords t 0).val, 0] := by decide +kernel

/-- Column `k` of the product of a row, as the second segment finds the operands. -/
def column (c : Dev nD) (r : Fin 4096) (k : Fin 1152) : EReal :=
  proj 0x44800000#32 (fun i => V c main_arg0 (ix2 r i)) (fun i => V c main_v28 (ix2 0 i)) (fun i => V c main_v27 (ix2 i k))

/-- The three output arrays' contents, from what the segment finds. -/
def query (c : Dev nD) : FVec Ideal S4096x768 .f32 := fun j => column V c (j 0) (Fin.castAdd 384 (j 1) : Fin 1152)
def latent (c : Dev nD) : FVec Ideal S4096x256 .f32 := fun j => column V c (j 0) (second (j 1))
def keyEntry (c : Dev nD) (r : Fin 4096) (k : Fin 128) : EReal :=
  column V c r (Fin.natAdd 1024 k : Fin 1152) * V c main_v25_0 (ix2 r k)
    + (if k.val % (2 * 16) < 16 then column V c r (Fin.natAdd 1024 (ahead 16 k) : Fin 1152)
        else column V c r (Fin.natAdd 1024 (behind 16 k) : Fin 1152)) * V c main_v25_1 (ix2 r k)
def key (c : Dev nD) : FVec Ideal S4096x128 .f32 := fun j => keyEntry V c (j 0) (j 1)

theorem final1_5 (c : Dev nD) : (dat1 V c).arrAt 5 cfg1.N = query V c := by
  refine (dat1 V c).arrAt_eq_of_covers 5 _ (by decide +kernel) fun t _ y => ?_
  blk_simp
  rw [after1_5, out1_5_at]
  have h0 : (grid1.coords t 0).val < 16 := (grid1.coords t 0).isLt
  have e0 : ((((cfg1.win 5).blk t).view.emb y) 0).val = (grid1.coords t 0).val * 256 + (y 0).val := by
    blk_simp [idx1_5]
  have e1 : (((cfg1.win 5).blk t).view.emb y) 1 = y 1 := Fin.ext (by
    blk_simp [idx1_5])
  generalize ((cfg1.win 5).blk t).view.emb y = j at e0 e1 ⊢
  unfold query column
  rw [e1]
  generalize (Fin.castAdd 384 (y 1) : Fin 1152) = k
  refine proj_congr _ (fun i => ?_) (fun i => ?_) (fun i => ?_)
  · blk_ext [iblk1, idx1_0, e0, e1]
  · blk_ext [iblk1, idx1_1, e0, e1]
  · blk_ext [iblk1, idx1_2, e0, e1]

theorem final1_6 (c : Dev nD) : (dat1 V c).arrAt 6 cfg1.N = latent V c := by
  refine (dat1 V c).arrAt_eq_of_covers 6 _ (by decide +kernel) fun t _ y => ?_
  blk_simp
  rw [after1_6, out1_6_at]
  have h0 : (grid1.coords t 0).val < 16 := (grid1.coords t 0).isLt
  have e0 : ((((cfg1.win 6).blk t).view.emb y) 0).val = (grid1.coords t 0).val * 256 + (y 0).val := by
    blk_simp [idx1_6]
  have e1 : (((cfg1.win 6).blk t).view.emb y) 1 = y 1 := Fin.ext (by
    blk_simp [idx1_6])
  generalize ((cfg1.win 6).blk t).view.emb y = j at e0 e1 ⊢
  unfold latent column
  rw [e1]
  generalize second (y 1) = k
  refine proj_congr _ (fun i => ?_) (fun i => ?_) (fun i => ?_)
  · blk_ext [iblk1, idx1_0, e0, e1]
  · blk_ext [iblk1, idx1_1, e0, e1]
  · blk_ext [iblk1, idx1_2, e0, e1]

theorem final1_7 (c : Dev nD) : (dat1 V c).arrAt 7 cfg1.N = key V c := by
  refine (dat1 V c).arrAt_eq_of_covers 7 _ (by decide +kernel) fun t _ y => ?_
  blk_simp
  rw [after1_7]
  have h0 : (grid1.coords t 0).val < 16 := (grid1.coords t 0).isLt
  have e0 : ((((cfg1.win 7).blk t).view.emb y) 0).val = (grid1.coords t 0).val * 256 + (y 0).val := by
    blk_simp [idx1_7]
  have e1 : (((cfg1.win 7).blk t).view.emb y) 1 = y 1 := Fin.ext (by
    blk_simp [idx1_7])
  generalize ((cfg1.win 7).blk t).view.emb y = j at e0 e1 ⊢
  rw [out1_7_at _ _ _ _ _ y (fun q => column V c (j 0) (Fin.natAdd 1024 q : Fin 1152)) (fun q => by
    generalize (Fin.natAdd 1024 q : Fin 1152) = k
    unfold column
    refine proj_congr _ (fun i => ?_) (fun i => ?_) (fun i => ?_)
    · symm; blk_ext [iblk1, idx1_0, e0, e1]
    · symm; blk_ext [iblk1, idx1_1, e0, e1]
    · symm; blk_ext [iblk1, idx1_2, e0, e1])]
  show _ = keyEntry V c (j 0) (j 1)
  rw [e1]
  unfold keyEntry
  refine congrArg₂ (· + ·) (congrArg₂ (· * ·) rfl ?_) (congrArg₂ (· * ·) rfl ?_)
  · blk_ext [iblk1, idx1_3, e0, e1]
  · blk_ext [iblk1, idx1_4, e0, e1]

end Region

/-- The host's preparation of the weights and of the gains. -/
def weightsOf (z : IVec S_ 32) (w : FVec Ideal S1024x1056 .f32) : FVec Ideal S1024x1152 .bf16 :=
  truncf .bf16 (pad S1024x1152 ![0, 0] ![0, 96] ![0, 0] w (sitofp (F := Ideal) .f32 z) pads_S1024x1056_S1024x1152_000_0960 h_S_) bitsLt_bf16_f32
def weights (w : FVec Ideal S1024x1056 .f32) : FVec Ideal S1024x1152 .bf16 := weightsOf (constantI S_ 32 0#32) w
def gains (g : FVec Ideal S1024 .f32) : FVec Ideal S1x1024 .f32 := shapeCast S1x1024 g shapeCasts_S1024_S1x1024

theorem gains_at (g : FVec Ideal S1024 .f32) (i : Fin 1024) : gains g (ix2 0 i) = g (ix1 i) := by
  pointwise [gains]

theorem weights_inside (w : FVec Ideal S1024x1056 .f32) (i : Fin 1024) (k : Fin 1152) (k' : Fin 1056) (h : k.val = k'.val) :
    weights w (ix2 i k) = w (ix2 i k') :=
  pad_apply_of_inside _ _ _ w _ pads_S1024x1056_S1024x1152_000_0960 h_S_ (ix2 i k) (ix2 i k') (by
    intro a
    fin_cases a
    · show i.val = 0 + i.val * (0 + 1); omega
    · show k.val = 0 + k'.val * (0 + 1); omega)
theorem weights_outside (w : FVec Ideal S1024x1056 .f32) (i : Fin 1024) (k : Fin 1152) (h : ¬ k.val < 1056) :
    weights w (ix2 i k) = 0 := by
  refine (pad_apply_of_not_inside _ _ _ w _ pads_S1024x1056_S1024x1152_000_0960 h_S_ (ix2 i k) (1 : Fin 2) (by
    intro hin
    have e : (k.val - 0) / (0 + 1) < 1056 := hin.2.2
    omega)).trans ?_
  show (FloatOps.sitofp .f32 (0#32 : BitVec 32) : Ideal .f32) = 0
  exact zero_word

section Result
variable (m : (ℓ : Loc nD τ sig) → Buf (Elt Ideal) ℓ) (ρ : Dev nD → PrngReg)

theorem prepared_zero (W : Valuation τ sig (Elt Ideal)) : StableHlo.after hostOps1 W (Proc.devRef .tc main_c)
    = (constantI S_ 32 0#32 : IVec S_ 32) := by
  after_results_simp
theorem prepared_pad (W : Valuation τ sig (Elt Ideal)) : StableHlo.after hostOps1_1 W (Proc.devRef .tc main_v26)
    = pad S1024x1152 ![0, 0] ![0, 96] ![0, 0] (W (Proc.devRef .tc main_arg3) : FVec Ideal S1024x1056 .f32)
        (sitofp (F := Ideal) .f32 (W (Proc.devRef .tc main_c) : IVec S_ 32)) pads_S1024x1056_S1024x1152_000_0960 h_S_ := by
  after_results_simp
  rfl
theorem prepared_weights (W : Valuation τ sig (Elt Ideal)) : StableHlo.after hostOps1_2 W (Proc.devRef .tc main_v27)
    = (truncf .bf16 (W (Proc.devRef .tc main_v26) : FVec Ideal S1024x1152 .f32) bitsLt_bf16_f32 : FVec Ideal S1024x1152 .bf16) := by
  after_results_simp
theorem prepared_gains (W : Valuation τ sig (Elt Ideal)) : StableHlo.after hostOps1_2 W (Proc.devRef .tc main_v28)
    = gains (W (Proc.devRef .tc main_arg2)) := by
  after_results_simp
  rfl

theorem V5_weights (c : Dev nD) : V5 m ρ c main_v27 = weights (m ((c : Thread nD τ).loc main_arg3)) := by
  refine (prepared_weights (W4 m ρ c)).trans ?_
  have e : W4 m ρ c (Proc.devRef .tc main_v26) = _ := prepared_pad (W3 m ρ c)
  have z : W3 m ρ c (Proc.devRef .tc main_c) = _ := prepared_zero (W2 m ρ c)
  rw [e, z, W3_args m ρ c main_arg3 (by decide)]
  rfl
theorem V5_gains (c : Dev nD) : V5 m ρ c main_v28 = gains (m ((c : Thread nD τ).loc main_arg2)) := by
  refine (prepared_gains (W4 m ρ c)).trans ?_
  rw [W4_args m ρ c main_arg2 (by decide)]
theorem V5_rows (c : Dev nD) : V5 m ρ c main_arg0 = m ((c : Thread nD τ).loc main_arg0) := W5_args m ρ c main_arg0 (by decide)
theorem V5_cos (c : Dev nD) : V5 m ρ c main_v25_0 = cosTab (V1 m ρ) c :=
  (W5_of m ρ c main_v25_0 (by decide)).trans ((W4_of m ρ c main_v25_0 (by decide)).trans
    ((W3_of m ρ c main_v25_0 (by decide)).trans (((hF0 m ρ c 3).symm).trans (final0_3 (V1 m ρ) c))))
theorem V5_sin (c : Dev nD) : V5 m ρ c main_v25_1 = sinTab (V1 m ρ) c :=
  (W5_of m ρ c main_v25_1 (by decide)).trans ((W4_of m ρ c main_v25_1 (by decide)).trans
    ((W3_of m ρ c main_v25_1 (by decide)).trans (((hF0 m ρ c 4).symm).trans (final0_4 (V1 m ρ) c))))

theorem W6_query (c : Dev nD) : W6 m ρ c (Proc.devRef .tc main_v29_0) = query (V5 m ρ) c :=
  ((hF1 m ρ c 5).symm).trans (final1_5 (V5 m ρ) c)
theorem W6_latent (c : Dev nD) : W6 m ρ c (Proc.devRef .tc main_v29_1) = latent (V5 m ρ) c :=
  ((hF1 m ρ c 6).symm).trans (final1_6 (V5 m ρ) c)
theorem W6_key (c : Dev nD) : W6 m ρ c (Proc.devRef .tc main_v29_2) = key (V5 m ρ) c :=
  ((hF1 m ρ c 7).symm).trans (final1_7 (V5 m ρ) c)

/-- A column of the product from the arguments: the weights' own, or zero in the padding. -/
theorem column_inside (c : Dev nD) (r : Fin 4096) (k : Fin 1152) (k' : Fin 1056) (h : k.val = k'.val) : column (V5 m ρ) c r k
    = proj 0x44800000#32 (fun i => m ((c : Thread nD τ).loc main_arg0) (ix2 r i)) (fun i => m ((c : Thread nD τ).loc main_arg2) (ix1 i))
        (fun i => m ((c : Thread nD τ).loc main_arg3) (ix2 i k')) := by
  unfold column
  rw [V5_weights, V5_gains, V5_rows]
  exact proj_congr _ (fun i => rfl) (fun i => gains_at _ i) (fun i => weights_inside _ i k k' h)
theorem column_outside (c : Dev nD) (r : Fin 4096) (k : Fin 1152) (h : ¬ k.val < 1056) : column (V5 m ρ) c r k = 0 := by
  unfold column
  rw [V5_weights]
  refine Finset.sum_eq_zero fun i _ => ?_
  exact (congrArg (_ * ·) (weights_outside _ i k h)).trans (mul_zero _)

theorem column_key (c : Dev nD) (r : Fin 4096) (q : Fin 128) : column (V5 m ρ) c r (Fin.natAdd 1024 q : Fin 1152)
    = latentKey (fun i => m ((c : Thread nD τ).loc main_arg0) (ix2 r i)) (fun i => m ((c : Thread nD τ).loc main_arg2) (ix1 i))
        (fun i k => m ((c : Thread nD τ).loc main_arg3) (ix2 i k)) q := by
  by_cases h : q.val < 32
  · rw [latentKey_lt _ _ _ q h]
    exact column_inside m ρ c r _ _ rfl
  · rw [latentKey_ge _ _ _ q h]
    exact column_outside m ρ c r _ (by simp only [Fin.val_natAdd]; omega)

/-- The rotary key from the arguments. -/
theorem keyEntry_at (c : Dev nD) (r : Fin 4096) (k : Fin 128) : keyEntry (V5 m ρ) c r k
    = roped 16 (angle 16 0x42000000#32 (posOf (m ((c : Thread nD τ).loc main_arg1)) r) k.val)
        (latentKey (fun i => m ((c : Thread nD τ).loc main_arg0) (ix2 r i)) (fun i => m ((c : Thread nD τ).loc main_arg2) (ix1 i))
          (fun i k => m ((c : Thread nD τ).loc main_arg3) (ix2 i k))) k := by
  refine Eq.trans ?_ (roped_lane 16 _ _ k)
  unfold keyEntry
  rw [V5_cos, V5_sin, cosTab_at, sinTab_at, column_key, column_key, column_key]

end Result

end Cert.KernelLatentIdeal.Value

end
-- ==== Proof.Proj.LatentRef.lean ====
module

public import proofs.«01_k».proof.Proof.Gen.ReferenceLatentIdeal.Run
public import proofs.«01_k».proof.Proof.Gen.ReferenceLatentIdeal.Read
public import proofs.«01_k».proof.Proof.Proj.Latent
public import proofs.«01_k».proof.Proof.Proj.Turn

@[expose] public section

/-!
The reference of the latent's product, read at an index.
-/

set_option maxRecDepth 16384

noncomputable section

open Idealize.ShloMosaic Idealize.ShloMosaic.TcCoe Idealize.SL.Sem

namespace Cert.ReferenceLatentIdeal.Read
open Cert.ReferenceLatentIdeal Cert.ReferenceLatentIdeal.Gen Cert.Proj

theorem normed_at (x : FVec Ideal S4096x1024 .f32) (g : FVec Ideal S1024 .f32) (b : Fin 2) (s : Fin 2048) (i : Fin 1024) :
    val_main_v34 (F := Ideal) x g (ix3 b s i)
      = normRow 0x44800000#32 (fun i => x (ix2 (⟨b.val * 2048 + s.val, by omega⟩ : Fin 4096) i)) (fun i => g (ix1 i)) i := by
  pointwise [val_main_v34, val_main_v33, val_main_v32, val_main_v31, val_main_v30, val_main_v29, val_main_v28, val_main_v27,
    val_main_v26, val_main_v25, val_main_v24, val_main_v23, val_main_v22, val_main_v21, val_main_cst_4, val_main_cst_5, val_main_cst_6]
  rfl

theorem expanded_at (x : FVec Ideal S4096x1024 .f32) (g : FVec Ideal S1024 .f32) (w : FVec Ideal S1024x1056 .f32)
    (b : Fin 2) (s : Fin 2048) (k : Fin 1056) : val_main_v35 (F := Ideal) x g w (ix3 b s k)
      = proj 0x44800000#32 (fun i => x (ix2 (⟨b.val * 2048 + s.val, by omega⟩ : Fin 4096) i)) (fun i => g (ix1 i)) (fun i => w (ix2 i k)) := by
  pointwise [val_main_v35]
  exact Finset.sum_congr rfl fun i _ => congrArg (· * _) (normed_at x g _ _ _)

theorem column_at (x : FVec Ideal S4096x1024 .f32) (g : FVec Ideal S1024 .f32) (w : FVec Ideal S1024x1056 .f32)
    (r : Fin 4096) (k k' : Fin 1056) (h : k.val = k'.val) :
    val_main_v35 (F := Ideal) x g w (ix3 (⟨r.val / 2048, by omega⟩ : Fin 2) (⟨r.val % 2048, Nat.mod_lt _ (by decide)⟩ : Fin 2048) k)
      = proj 0x44800000#32 (fun i => x (ix2 r i)) (fun i => g (ix1 i)) (fun i => w (ix2 i k')) := by
  obtain rfl := Fin.ext h
  rw [expanded_at]
  exact proj_congr _ (fun i => congrArg (fun q => x (ix2 q i)) (Fin.ext (Nat.div_add_mod' _ _))) (fun _ => rfl) (fun _ => rfl)

theorem freq_at (k : Fin 16) : val_main_v10 (F := Ideal) (ix1 k) = invFreq 0x42000000#32 k.val := by
  pointwise [val_main_v10, val_main_v9, val_main_v8, val_main_v7, val_main_v6, val_main_v5, val_main_v4, val_main_v3,
    val_main_v2, val_main_v1, val_main_v0, val_main_cst, val_main_cst_0, val_main_cst_1, val_main_cst_2, val_main_cst_3]
  rfl

theorem angle_at (p : BitVec 32) (k : Fin 16) (l : ℕ) (h : k.val = l % 16) :
    (FloatOps.sitofp .f32 p : Ideal .f32) * val_main_v10 (F := Ideal) (ix1 k) = angle 16 0x42000000#32 p l := by
  rw [freq_at, h]
  rfl

theorem query_at (x : FVec Ideal S4096x1024 .f32) (g : FVec Ideal S1024 .f32) (w : FVec Ideal S1024x1056 .f32)
    (j : S4096x768.Idx) : val_main_v52 (F := Ideal) x g w j
      = proj 0x44800000#32 (fun i => x (ix2 (j 0) i)) (fun i => g (ix1 i)) (fun i => w (ix2 i (Fin.castAdd 288 (j 1) : Fin 1056))) := by
  pointwise [val_main_v52, val_main_v36]
  exact column_at x g w (j 0) _ (Fin.castAdd 288 (j 1) : Fin 1056) rfl

theorem latent_at (x : FVec Ideal S4096x1024 .f32) (g : FVec Ideal S1024 .f32) (w : FVec Ideal S1024x1056 .f32)
    (j : S4096x256.Idx) (k : Fin 1056) (hk : k.val = 768 + (j 1).val) : val_main_v53 (F := Ideal) x g w j
      = proj 0x44800000#32 (fun i => x (ix2 (j 0) i)) (fun i => g (ix1 i)) (fun i => w (ix2 i k)) := by
  pointwise [val_main_v53, val_main_v37]
  exact column_at x g w (j 0) _ k hk.symm

theorem key_at (x : FVec Ideal S4096x1024 .f32) (p : IVec S2x2048 32) (g : FVec Ideal S1024 .f32) (w : FVec Ideal S1024x1056 .f32)
    (j : S4096x128.Idx) : val_main_v54 (F := Ideal) x p g w j
      = roped 16 (angle 16 0x42000000#32 (Cert.KernelLatentIdeal.Value.posOf p (j 0)) (j 1).val)
          (latentKey (fun i => x (ix2 (j 0) i)) (fun i => g (ix1 i)) (fun i k => w (ix2 i k))) (j 1) := by
  have hj : (j 1).val < 128 := (j 1).isLt
  pointwise [val_main_v54, val_main_v51, val_main_v50, val_main_v49, val_main_v48, val_main_v47, val_main_v46, val_main_v45,
    val_main_v44, val_main_v43, val_main_v42, val_main_v41, val_main_v40, val_main_v39, val_main_v38, val_main_cst_7, val_main_v20,
    val_main_v19, val_main_v18, val_main_v17, val_main_v16, val_main_v15, val_main_v14, val_main_v13, val_main_v12, val_main_v11]
  by_cases hw : (j 1).val < 32
  · refine (dif_pos hw).trans ?_
    have c0 := latentKey_lt (fun i => x (ix2 (j 0) i)) (fun i => g (ix1 i)) (fun i k => w (ix2 i k))
    by_cases h : (j 1).val < 16
    · refine (dif_pos h).trans (turned_first 16 (j 1) (by omega) ((column_at x g w (j 0) _ _ ?_).trans (c0 (j 1) hw).symm) (angle_at _ _ _ ?_)
        ((column_at x g w (j 0) _ _ ?_).trans (c0 (ahead 16 (j 1)) (by simp only [ahead]; omega)).symm) (angle_at _ _ _ ?_))
      · dsimp only
      · dsimp only; omega
      · simp only [ahead]; omega
      · dsimp only; omega
    · refine (dif_neg h).trans (turned_second 16 (j 1) (by omega)
        ((column_at x g w (j 0) _ _ ?_).trans (c0 (behind 16 (j 1)) (by simp only [behind]; omega)).symm) (angle_at _ _ _ ?_)
        ((column_at x g w (j 0) _ _ ?_).trans (c0 (j 1) hw).symm) (angle_at _ _ _ ?_))
      · simp only [behind]; omega
      · dsimp only; omega
      · dsimp only; omega
      · dsimp only; omega
  · refine (dif_neg hw).trans ?_
    exact (latentKey_turned _ _ _ _ (j 1) hw).symm

end Cert.ReferenceLatentIdeal.Read

end
-- ==== Proof.Proj.LatentClaim.lean ====
module

public import proofs.«01_k».proof.Defs
public import proofs.«01_k».proof.Proof.Gen.KernelLatentIdeal
public import proofs.«01_k».proof.Proof.Gen.ReferenceLatentIdeal
public import proofs.«01_k».proof.Proof.Proj.LatentRef

@[expose] public section

/-!
The latent's product: the reference's frame, and the equation of the two programs.
-/

set_option maxRecDepth 16384

noncomputable section

open Idealize.ShloMosaic Idealize.ShloMosaic.TcCoe Idealize.SL.Sem

namespace Cert.LatentClaim

/-- The reference's frame: its run keeps the arguments, and the machine it runs on has no semaphore. -/
theorem reference_frame : Cert.quiescent_ReferenceLatentIdeal (hReferenceLatentIdeal := Cert.ReferenceLatentIdeal.Gen.facts) :=
  fun m ρ _ => (θ_run _ _ _).mono (fun r h => ⟨fun c => (h c).2.2.2, sem_eq_zero_of_no_sems (by decide) r.2⟩)
    (Cert.ReferenceLatentIdeal.Value.run m ρ)

/-- The product and its reference hold equal query latents, equal latents and equal rotary keys. -/
theorem eq : Cert.algebraic_KernelLatentIdeal_ReferenceLatentIdeal (hKernelLatentIdeal := Cert.KernelLatentIdeal.Gen.facts)
    (hReferenceLatentIdeal := Cert.ReferenceLatentIdeal.Gen.facts) := by
  intro m g m' g' _ hargs
  refine ⟨fun c => Cert.KernelLatentIdeal.Value.query (Cert.KernelLatentIdeal.Gen.V5 m g) c,
    fun c => Cert.KernelLatentIdeal.Value.latent (Cert.KernelLatentIdeal.Gen.V5 m g) c,
    fun c => Cert.KernelLatentIdeal.Value.key (Cert.KernelLatentIdeal.Gen.V5 m g) c,
    (θ_run _ _ _).mono (fun r h c => ?_) (Cert.KernelLatentIdeal.Value.run_result m g),
    (θ_run _ _ _).mono (fun r h c => ?_) (Cert.ReferenceLatentIdeal.Value.run m' g')⟩
  · obtain ⟨h0, h1, h2, hkeep⟩ := h c
    exact ⟨h0.trans (Cert.KernelLatentIdeal.Value.W6_query m g c), h1.trans (Cert.KernelLatentIdeal.Value.W6_latent m g c),
      h2.trans (Cert.KernelLatentIdeal.Value.W6_key m g c), hkeep⟩
  · obtain ⟨h0, h1, h2, hkeep⟩ := h c
    obtain ⟨e0, e1, e2, e3⟩ := hargs c
    refine ⟨h0.trans ?_, h1.trans ?_, h2.trans ?_, hkeep⟩
    · rw [e0, e2, e3]
      refine (Cert.ReferenceLatentIdeal.Read.val_main_v52_eq _ _ _).trans (funext fun j => ?_)
      exact (Cert.ReferenceLatentIdeal.Read.query_at _ _ _ j).trans
        (Cert.KernelLatentIdeal.Value.column_inside m g c (j 0) _ _ rfl).symm
    · rw [e0, e2, e3]
      refine (Cert.ReferenceLatentIdeal.Read.val_main_v53_eq _ _ _).trans (funext fun j => ?_)
      have hj : (j 1).val < 256 := (j 1).isLt
      exact (Cert.ReferenceLatentIdeal.Read.latent_at _ _ _ j ⟨768 + (j 1).val, by omega⟩ rfl).trans
        (Cert.KernelLatentIdeal.Value.column_inside m g c (j 0) _ _ rfl).symm
    · rw [Cert.ReferenceLatentIdeal.Read.val_main_v54_eq, e0, e1, e2, e3]
      refine funext fun j => ?_
      exact (Cert.ReferenceLatentIdeal.Read.key_at _ _ _ _ j).trans (Cert.KernelLatentIdeal.Value.keyEntry_at m g c (j 0) (j 1)).symm

end Cert.LatentClaim

end
-- ==== Proof.Proj.UqTables.lean ====
module

public import proofs.«01_k».proof.Proof.Gen.KernelUqIdeal.Frame
public import proofs.«01_k».proof.Proof.Proj.Rope

@[expose] public section

/-!
The query expansion's rotary tables, as its first segment leaves them, and the launch of its two segments.
-/

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelUqIdeal.Value
open Cert.KernelUqIdeal Cert.KernelUqIdeal.Gen Cert.Proj

local notation "𝕄" => MT nD τ sig Unit (Elt Ideal) ℕ (UR sig nD τ) ℕ

section Launch
variable (m : (ℓ : Loc nD τ sig) → Buf (Elt Ideal) ℓ) (ρ : Dev nD → PrngReg)

set_option backward.isDefEq.respectTransparency.types false in
/-- The launch, keeping the result buffers. -/
theorem run_result : θ_run defs (onTc (τ := τ) (main (F := Ideal))) ⟨m, fun _ => 0, ρ⟩ (fun r => ∀ c : Dev nD,
      r.2.mem ((c.tc : Thread nD τ).loc main_v39_0) = W4 m ρ c (Proc.devRef .tc main_v39_0)
      ∧ r.2.mem ((c.tc : Thread nD τ).loc main_v39_1) = W4 m ρ c (Proc.devRef .tc main_v39_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v39_0 (by decide)),
       h c _ (mem_uc main_v39_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Launch

theorem out0_3_at (x0 : Vec Ideal S1024x1 .i32) (x1 x2 : Vec Ideal S1x128 .f32) (y : S1024x128.Idx) :
    out0_3 (F := Ideal) x0 x1 x2 y
      = Ideal.cos ((FloatOps.sitofp .f32 (x0 (ix2 (y 0) 0)) : Ideal .f32) * x1 (ix2 0 (y 1))) := by
  frame_out
  pointwise [k0_pay1, k0_pay2]

theorem out0_4_at (x0 : Vec Ideal S1024x1 .i32) (x1 x2 : Vec Ideal S1x128 .f32) (y : S1024x128.Idx) :
    out0_4 (F := Ideal) x0 x1 x2 y
      = Ideal.sin ((FloatOps.sitofp .f32 (x0 (ix2 (y 0) 0)) : Ideal .f32) * x1 (ix2 0 (y 1))) * x2 (ix2 0 (y 1)) := by
  frame_out
  pointwise [k0_pay1, k0_pay3]

section Tables
variable (V : (c : Dev nD) → (b : Ref sig .tc) → Buf (Elt Ideal) ((c : Thread nD τ).loc b))

theorem idx0_0 : ∀ t : Fin grid0.N, win0_0.index t = ![(grid0.coords t 0).val, 0] := by decide +kernel
theorem idx0_1 : ∀ t : Fin grid0.N, win0_1.index t = ![0, 0] := by decide +kernel
theorem idx0_2 : ∀ t : Fin grid0.N, win0_2.index t = ![0, 0] := by decide +kernel
theorem idx0_3 : ∀ t : Fin grid0.N, win0_3.index t = ![(grid0.coords t 0).val, 0] := by decide +kernel
theorem idx0_4 : ∀ t : Fin grid0.N, win0_4.index t = ![(grid0.coords t 0).val, 0] := by decide +kernel

/-- The two tables' contents, from what the segment finds. -/
def cosTab (c : Dev nD) : FVec Ideal S4096x128 .f32 := fun j =>
  Ideal.cos ((FloatOps.sitofp .f32 ((V c main_v0 : IVec S4096x1 32) (ix2 (j 0) 0)) : Ideal .f32)
    * (V c main_v16 : FVec Ideal S1x128 .f32) (ix2 0 (j 1)))
def sinTab (c : Dev nD) : FVec Ideal S4096x128 .f32 := fun j =>
  Ideal.sin ((FloatOps.sitofp .f32 ((V c main_v0 : IVec S4096x1 32) (ix2 (j 0) 0)) : Ideal .f32)
    * (V c main_v16 : FVec Ideal S1x128 .f32) (ix2 0 (j 1))) * (V c main_v24 : FVec Ideal S1x128 .f32) (ix2 0 (j 1))

theorem final0_3 (c : Dev nD) : (dat0 V c).arrAt 3 cfg0.N = cosTab V c := by
  refine (dat0 V c).arrAt_eq_of_covers 3 _ (by decide +kernel) fun t _ y => ?_
  blk_simp
  rw [after0_3, out0_3_at]
  have h0 : (grid0.coords t 0).val < 4 := (grid0.coords t 0).isLt
  have e0 : ((((cfg0.win 3).blk t).view.emb y) 0).val = (grid0.coords t 0).val * 1024 + (y 0).val := by
    blk_simp [idx0_3]
  have e1 : (((cfg0.win 3).blk t).view.emb y) 1 = y 1 := Fin.ext (by
    blk_simp [idx0_3])
  generalize ((cfg0.win 3).blk t).view.emb y = j at e0 e1 ⊢
  unfold cosTab
  rw [e1]
  refine congrArg Ideal.cos (congrArg₂ (· * ·) (congrArg (FloatOps.sitofp .f32) ?_) ?_)
  · blk_ext [iblk0, idx0_0, e0, e1]
  · blk_ext [iblk0, idx0_1, e0, e1]

theorem final0_4 (c : Dev nD) : (dat0 V c).arrAt 4 cfg0.N = sinTab V c := by
  refine (dat0 V c).arrAt_eq_of_covers 4 _ (by decide +kernel) fun t _ y => ?_
  blk_simp
  rw [after0_4, out0_4_at]
  have h0 : (grid0.coords t 0).val < 4 := (grid0.coords t 0).isLt
  have e0 : ((((cfg0.win 4).blk t).view.emb y) 0).val = (grid0.coords t 0).val * 1024 + (y 0).val := by
    blk_simp [idx0_4]
  have e1 : (((cfg0.win 4).blk t).view.emb y) 1 = y 1 := Fin.ext (by
    blk_simp [idx0_4])
  generalize ((cfg0.win 4).blk t).view.emb y = j at e0 e1 ⊢
  unfold sinTab
  rw [e1]
  refine congrArg₂ (· * ·) (congrArg Ideal.sin (congrArg₂ (· * ·) (congrArg (FloatOps.sitofp .f32) ?_) ?_)) ?_
  · blk_ext [iblk0, idx0_0, e0, e1]
  · blk_ext [iblk0, idx0_1, e0, e1]
  · blk_ext [iblk0, idx0_2, e0, e1]

end Tables

/-- The host's frequencies and signs, and their rows over the lanes. -/
def freqs : FVec Ideal S16 .f32 :=
  Host.divf (broadcastInDim S16 ![] bcast_S_S16 (constant S_ .f32 0x3F800000#32))
    (Host.powf (broadcastInDim S16 ![] bcast_S_S16 (constant S_ .f32 0x461C4000#32))
      (Host.divf (addf (broadcastInDim S16 ![] bcast_S_S16 (constant S_ .f32 0x00000000#32))
          (mulf (broadcastInDim S16 ![] bcast_S_S16 (constant S_ .f32 0x40000000#32)) (sitofp .f32 (iotaInDim S16 32 0))))
        (broadcastInDim S16 ![] bcast_S_S16 (constant S_ .f32 0x42000000#32))))
def overLanes (a b : FVec Ideal S16 .f32) : FVec Ideal S1x128 .f32 :=
  broadcastInDim S1x128 ![1] bcast_S128_S1x128_1 (shapeCast S128
    (broadcastInDim S4x32 ![0, 1] bcast_S1x32_S4x32_0_1 (shapeCast S1x32
      (concatenate S32 0 [⟨S16, a⟩, ⟨S16, b⟩] concatenates_S16_S16_S32_d0) shapeCasts_S32_S1x32)) shapeCasts_S4x32_S128)
def ones : FVec Ideal S16 .f32 := broadcastInDim S16 ![] bcast_S_S16 (constant S_ .f32 0x3F800000#32)

theorem freqs_at (k : Fin 16) : freqs (ix1 k) = invFreq 0x42000000#32 k.val := by
  pointwise [freqs]
  rfl

theorem overLanes_at (a b : FVec Ideal S16 .f32) (l : Fin 128) : overLanes a b (ix2 0 l)
    = if l.val % (2 * 16) < 16 then a (ix1 ⟨l.val % 16, Nat.mod_lt _ (by decide)⟩) else b (ix1 ⟨l.val % 16, Nat.mod_lt _ (by decide)⟩) := by
  pointwise [overLanes]
  by_cases hl : l.val % (2 * 16) < 16
  · rw [if_pos hl, dif_pos hl]
    exact congrArg (fun q => a (ix1 q)) (Fin.ext (by dsimp only; omega))
  · rw [if_neg hl, dif_neg hl]
    exact congrArg (fun q => b (ix1 q)) (Fin.ext (by dsimp only; omega))

section Host
variable (m : (ℓ : Loc nD τ sig) → Buf (Elt Ideal) ℓ) (ρ : Dev nD → PrngReg)

theorem V1_positions (c : Dev nD) : (V1 m ρ c main_v0 : IVec S4096x1 32)
    = shapeCast S4096x1 (m ((c : Thread nD τ).loc main_arg1) : IVec S2x2048 32) shapeCasts_S2x2048_S4096x1 := by
  show StableHlo.after hostOps0 (W0 m ρ c) (Proc.devRef .tc main_v0) = _
  after_results_simp
  rfl
theorem V1_freqs (c : Dev nD) : V1 m ρ c main_v16 = overLanes freqs freqs := by
  show StableHlo.after hostOps0 (W0 m ρ c) (Proc.devRef .tc main_v16) = _
  after_results_simp
  rfl
theorem V1_signs (c : Dev nD) : V1 m ρ c main_v24 = overLanes (Host.negf ones) ones := by
  show StableHlo.after hostOps0 (W0 m ρ c) (Proc.devRef .tc main_v24) = _
  after_results_simp
  rfl

theorem sign_at (l : Fin 128) : overLanes (Host.negf ones) ones (ix2 0 l) = laneSign 16 l.val := by
  rw [overLanes_at]
  unfold laneSign
  refine if_congr Iff.rfl ?_ ?_
  · pointwise [ones]
  · pointwise [ones]

/-- The position of a row's token. -/
def posOf (p : IVec S2x2048 32) (r : Fin 4096) : BitVec 32 :=
  p (ix2 (⟨r.val / 2048, by omega⟩ : Fin 2) (⟨r.val % 2048, Nat.mod_lt _ (by decide)⟩ : Fin 2048))

theorem positions_at (p : IVec S2x2048 32) (r : Fin 4096) :
    shapeCast S4096x1 p shapeCasts_S2x2048_S4096x1 (ix2 r 0) = posOf p r := by
  pointwise [posOf]

/-- A table's entry at lane `l`: the cosine of the token's angle there, and its sine with the lane's sign. -/
theorem cosTab_at (c : Dev nD) (r : Fin 4096) (l : Fin 128) : cosTab (V1 m ρ) c (ix2 r l)
    = Ideal.cos (angle 16 0x42000000#32 (posOf (m ((c : Thread nD τ).loc main_arg1)) r) l.val) := by
  show Ideal.cos ((FloatOps.sitofp .f32 ((V1 m ρ c main_v0 : IVec S4096x1 32) (ix2 r 0)) : Ideal .f32)
    * (V1 m ρ c main_v16 : FVec Ideal S1x128 .f32) (ix2 0 l)) = _
  rw [V1_positions, V1_freqs, positions_at, overLanes_at, ite_self, freqs_at]
  rfl
theorem sinTab_at (c : Dev nD) (r : Fin 4096) (l : Fin 128) : sinTab (V1 m ρ) c (ix2 r l)
    = Ideal.sin (angle 16 0x42000000#32 (posOf (m ((c : Thread nD τ).loc main_arg1)) r) l.val) * laneSign 16 l.val := by
  show Ideal.sin ((FloatOps.sitofp .f32 ((V1 m ρ c main_v0 : IVec S4096x1 32) (ix2 r 0)) : Ideal .f32)
    * (V1 m ρ c main_v16 : FVec Ideal S1x128 .f32) (ix2 0 l)) * (V1 m ρ c main_v24 : FVec Ideal S1x128 .f32) (ix2 0 l) = _
  rw [V1_positions, V1_freqs, V1_signs, positions_at, overLanes_at freqs, ite_self, freqs_at, sign_at]
  rfl

end Host

end Cert.KernelUqIdeal.Value

end
-- ==== Proof.Proj.Uq.lean ====
module

public import proofs.«01_k».proof.Proof.Proj.Spec
public import proofs.«01_k».proof.Proof.Proj.Gather
public import proofs.«01_k».proof.Proof.Proj.UqTables

@[expose] public section

/-!
The query's expansion: each head's 64 columns without positions and its 32 rotary columns, turned by the token's angles.
The kernel takes the first ones, then the rotary ones, off the weights by tables of column numbers; the reference splits
each head's columns after the product.
-/

set_option maxRecDepth 16384

noncomputable section

open Idealize.ShloMosaic Idealize.ShloMosaic.TcCoe Idealize.SL.Sem

namespace Cert.Proj

/-- The column of head `k / 64`'s entry `k % 64`, and that of head `k / 32`'s rotary entry `k % 32`. -/
def nopeCol (k : Fin 1024) : Fin 1536 := ⟨k.val / 64 * 96 + k.val % 64, by omega⟩
def ropeCol (k : Fin 512) : Fin 1536 := ⟨k.val / 32 * 96 + 64 + k.val % 32, by omega⟩

end Cert.Proj

namespace Cert.KernelUqIdeal.Value
open Cert.KernelUqIdeal Cert.KernelUqIdeal.Gen Cert.Proj

/-- One block's normalised rows. -/
theorem normed_at (x0 : Vec Ideal S256x768 .f32) (x1 : Vec Ideal S1x768 .f32) (y : S256x768.Idx) :
    k1_pay2 (F := Ideal) x0 x1 y
      = normRow 0x44400000#32 (fun i => x0 (ix2 (y 0) i)) (fun i => x1 (ix2 0 i)) (y 1) := by
  pointwise [k1_pay2]
  show _ = x0 (ix2 (y 0) (y 1)) * _ * _
  rw [← eq_ix2 y]

theorem out1_5_at (x0 : Vec Ideal S256x768 .f32) (x1 : Vec Ideal S1x768 .f32) (x2 : Vec Ideal S768x1536 .bf16)
    (x3 x4 : Vec Ideal S256x128 .f32) (y : S256x1024.Idx) : out1_5 (F := Ideal) x0 x1 x2 x3 x4 y
      = proj 0x44400000#32 (fun i => x0 (ix2 (y 0) i)) (fun i => x1 (ix2 0 i))
          (fun i => x2 (ix2 i (Fin.castAdd 512 (y 1) : Fin 1536))) := by
  frame_out
  pointwise [k1_pay3]
  refine Finset.sum_congr rfl fun i _ => congrArg₂ (· * ·) (normed_at x0 x1 _) (congrArg x2 (funext fun a => Fin.ext ?_))
  fin_cases a <;> rfl

/-- The rotary columns before they are turned. -/
theorem acc_at (x0 : Vec Ideal S256x768 .f32) (x1 : Vec Ideal S1x768 .f32) (x2 : Vec Ideal S768x1536 .bf16)
    (y : S256x512.Idx) : k1_pay4 (F := Ideal) x0 x1 (View.ld x2 r1_4) y
      = proj 0x44400000#32 (fun i => x0 (ix2 (y 0) i)) (fun i => x1 (ix2 0 i))
          (fun i => x2 (ix2 i (Fin.natAdd 1024 (y 1) : Fin 1536))) := by
  pointwise [k1_pay4]
  refine Finset.sum_congr rfl fun i _ => congrArg₂ (· * ·) (normed_at x0 x1 _) (congrArg x2 (funext fun a => Fin.ext ?_))
  fin_cases a <;> rfl

/-- A table repeated over the row's lanes. -/
theorem wide_at (x3 : Vec Ideal S256x128 .f32) (y : S256x512.Idx) :
    k1_pay5 (F := Ideal) x3 y = x3 (ix2 (y 0) (⟨(y 1).val % 128, Nat.mod_lt _ (by decide)⟩ : Fin 128)) := by
  have hy : (y 1).val < 512 := (y 1).isLt
  pointwise [k1_pay5]
  by_cases h : (y 1).val < 128
  · rw [dif_pos h]
    exact congrArg (fun q => x3 (ix2 (y 0) q)) (Fin.ext (by dsimp only; omega))
  rw [dif_neg h]
  by_cases h' : (y 1).val - 128 < 128
  · rw [dif_pos h']
    exact congrArg (fun q => x3 (ix2 (y 0) q)) (Fin.ext (by dsimp only; omega))
  rw [dif_neg h']
  by_cases h'' : (y 1).val - 128 - 128 < 128
  · rw [dif_pos h'']
    exact congrArg (fun q => x3 (ix2 (y 0) q)) (Fin.ext (by dsimp only; omega))
  rw [dif_neg h'']
  exact congrArg (fun q => x3 (ix2 (y 0) q)) (Fin.ext (by dsimp only; omega))

theorem turned_at (a b d : FVec Ideal S256x512 .f32) (y : S256x512.Idx) :
    k1_pay1 (F := Ideal) a b d (Scalar.select (Scalar.cmpi .eq 32#32 0#32) 1#32 32#32) k1_pay7 k1_pay8 y
      = a y * b y + (if (y 1).val % (2 * 16) < 16 then a (ix2 (y 0) (ahead 16 (y 1))) else a (ix2 (y 0) (behind 16 (y 1)))) * d y := by
  rw [← select_lane _ _ (laneMask_16 (y 1))]
  pointwise [k1_pay1, k1_pay7, k1_pay8]
  rfl

theorem out1_6_at (x0 : Vec Ideal S256x768 .f32) (x1 : Vec Ideal S1x768 .f32) (x2 : Vec Ideal S768x1536 .bf16)
    (x3 x4 : Vec Ideal S256x128 .f32) (y : S256x512.Idx) (a : Fin 512 → EReal)
    (ha : ∀ q, a q = proj 0x44400000#32 (fun i => x0 (ix2 (y 0) i)) (fun i => x1 (ix2 0 i))
          (fun i => x2 (ix2 i (Fin.natAdd 1024 q : Fin 1536)))) : out1_6 (F := Ideal) x0 x1 x2 x3 x4 y
      = a (y 1) * x3 (ix2 (y 0) (⟨(y 1).val % 128, Nat.mod_lt _ (by decide)⟩ : Fin 128))
        + (if (y 1).val % (2 * 16) < 16 then a (ahead 16 (y 1)) else a (behind 16 (y 1)))
          * x4 (ix2 (y 0) (⟨(y 1).val % 128, Nat.mod_lt _ (by decide)⟩ : Fin 128)) := by
  frame_out
  rw [turned_at]
  refine congrArg₂ (· + ·) (congrArg₂ (· * ·) ((acc_at x0 x1 x2 y).trans (ha (y 1)).symm) (wide_at x3 y))
    (congrArg₂ (· * ·) (if_congr Iff.rfl ((acc_at x0 x1 x2 _).trans (ha _).symm) ((acc_at x0 x1 x2 _).trans (ha _).symm))
      (wide_at x4 y))

section Region
variable (V : (c : Dev nD) → (b : Ref sig .tc) → Buf (Elt Ideal) ((c : Thread nD τ).loc b))

theorem idx1_0 : ∀ t : Fin grid1.N, win1_0.index t = ![(grid1.coords t 0).val, 0] := by decide +kernel
theorem idx1_1 : ∀ t : Fin grid1.N, win1_1.index t = ![0, 0] := by decide +kernel
theorem idx1_2 : ∀ t : Fin grid1.N, win1_2.index t = ![0, 0] := by decide +kernel
theorem idx1_3 : ∀ t : Fin grid1.N, win1_3.index t = ![(grid1.coords t 0).val, 0] := by decide +kernel
theorem idx1_4 : ∀ t : Fin grid1.N, win1_4.index t = ![(grid1.coords t 0).val, 0] := by decide +kernel
theorem idx1_5 : ∀ t : Fin grid1.N, win1_5.index t = ![(grid1.coords t 0).val, 0] := by decide +kernel
theorem idx1_6 : ∀ t : Fin grid1.N, win1_6.index t = ![(grid1.coords t 0).val, 0] := by decide +kernel

/-- Column `k` of the product of a row, as the second segment finds the operands. -/
def column (c : Dev nD) (r : Fin 4096) (k : Fin 1536) : EReal :=
  proj 0x44400000#32 (fun i => V c main_arg0 (ix2 r i)) (fun i => V c main_v38 (ix2 0 i)) (fun i => V c main_v37 (ix2 i k))

/-- The two output arrays' contents, from what the segment finds. -/
def nope (c : Dev nD) : FVec Ideal S4096x1024 .f32 := fun j => column V c (j 0) (Fin.castAdd 512 (j 1) : Fin 1536)
def ropeEntry (c : Dev nD) (r : Fin 4096) (k : Fin 512) : EReal :=
  column V c r (Fin.natAdd 1024 k : Fin 1536) * V c main_v25_0 (ix2 r (⟨k.val % 128, Nat.mod_lt _ (by decide)⟩ : Fin 128))
    + (if k.val % (2 * 16) < 16 then column V c r (Fin.natAdd 1024 (ahead 16 k) : Fin 1536)
        else column V c r (Fin.natAdd 1024 (behind 16 k) : Fin 1536))
      * V c main_v25_1 (ix2 r (⟨k.val % 128, Nat.mod_lt _ (by decide)⟩ : Fin 128))
def rope (c : Dev nD) : FVec Ideal S4096x512 .f32 := fun j => ropeEntry V c (j 0) (j 1)

theorem final1_5 (c : Dev nD) : (dat1 V c).arrAt 5 cfg1.N = nope V c := by
  refine (dat1 V c).arrAt_eq_of_covers 5 _ (by decide +kernel) fun t _ y => ?_
  blk_simp
  rw [after1_5, out1_5_at]
  have h0 : (grid1.coords t 0).val < 16 := (grid1.coords t 0).isLt
  have e0 : ((((cfg1.win 5).blk t).view.emb y) 0).val = (grid1.coords t 0).val * 256 + (y 0).val := by
    blk_simp [idx1_5]
  have e1 : (((cfg1.win 5).blk t).view.emb y) 1 = y 1 := Fin.ext (by
    blk_simp [idx1_5])
  generalize ((cfg1.win 5).blk t).view.emb y = j at e0 e1 ⊢
  unfold nope column
  rw [e1]
  generalize (Fin.castAdd 512 (y 1) : Fin 1536) = k
  refine proj_congr _ (fun i => ?_) (fun i => ?_) (fun i => ?_)
  · blk_ext [iblk1, idx1_0, e0, e1]
  · blk_ext [iblk1, idx1_1, e0, e1]
  · blk_ext [iblk1, idx1_2, e0, e1]

theorem final1_6 (c : Dev nD) : (dat1 V c).arrAt 6 cfg1.N = rope V c := by
  refine (dat1 V c).arrAt_eq_of_covers 6 _ (by decide +kernel) fun t _ y => ?_
  blk_simp
  rw [after1_6]
  have h0 : (grid1.coords t 0).val < 16 := (grid1.coords t 0).isLt
  have e0 : ((((cfg1.win 6).blk t).view.emb y) 0).val = (grid1.coords t 0).val * 256 + (y 0).val := by
    blk_simp [idx1_6]
  have e1 : (((cfg1.win 6).blk t).view.emb y) 1 = y 1 := Fin.ext (by
    blk_simp [idx1_6])
  generalize ((cfg1.win 6).blk t).view.emb y = j at e0 e1 ⊢
  rw [out1_6_at _ _ _ _ _ y (fun q => column V c (j 0) (Fin.natAdd 1024 q : Fin 1536)) (fun q => by
    generalize (Fin.natAdd 1024 q : Fin 1536) = k
    unfold column
    refine proj_congr _ (fun i => ?_) (fun i => ?_) (fun i => ?_)
    · symm; blk_ext [iblk1, idx1_0, e0, e1]
    · symm; blk_ext [iblk1, idx1_1, e0, e1]
    · symm; blk_ext [iblk1, idx1_2, e0, e1])]
  show _ = ropeEntry V c (j 0) (j 1)
  rw [e1]
  unfold ropeEntry
  refine congrArg₂ (· + ·) (congrArg₂ (· * ·) rfl ?_) (congrArg₂ (· * ·) rfl ?_)
  · generalize (⟨(y 1).val % 128, Nat.mod_lt _ (by decide)⟩ : Fin 128) = l
    blk_ext [iblk1, idx1_3, e0, e1]
  · generalize (⟨(y 1).val % 128, Nat.mod_lt _ (by decide)⟩ : Fin 128) = l
    blk_ext [iblk1, idx1_4, e0, e1]

end Region

/-- Tables of column numbers as the host hands them to the gathers: a negative number would count from the end, and none is. -/
def nopeColsOf (t : IVec S1024 32) (n : IVec S1024 1) : IVec S1024x1 32 :=
  broadcastInDim S1024x1 ![0] bcast_S1024_S1024x1_0
    (select n (addi t (broadcastInDim S1024 ![] bcast_S_S1024 (constantI S_ 32 1536#32))) t)
def ropeColsOf (t : IVec S512 32) (n : IVec S512 1) : IVec S512x1 32 :=
  broadcastInDim S512x1 ![0] bcast_S512_S512x1_0
    (select n (addi t (broadcastInDim S512 ![] bcast_S_S512 (constantI S_ 32 1536#32))) t)
def nopeCols : IVec S1024x1 32 := nopeColsOf (fun i => lit0 (S1024.rowMajor i)) (constantI S1024 1 0#1)
def ropeCols : IVec S512x1 32 := ropeColsOf (fun i => lit1 (S512.rowMajor i)) (constantI S512 1 0#1)

/-- The host's preparation of the weights and of the gains. -/
def weightsOf (a : IVec S1024x1 32) (b : IVec S512x1 32) (w : FVec Ideal S768x1536 .f32) : FVec Ideal S768x1536 .bf16 :=
  truncf .bf16 (concatenate S768x1536 1
    [⟨S768x1024, Host.gather gather_S768x1536_S1024x1_S768x1024_0_1_n_n_1_1_7681 w a⟩,
     ⟨S768x512, Host.gather gather_S768x1536_S512x1_S768x512_0_1_n_n_1_1_7681 w b⟩]
    concatenates_S768x1024_S768x512_S768x1536_d1) bitsLt_bf16_f32
def weights (w : FVec Ideal S768x1536 .f32) : FVec Ideal S768x1536 .bf16 := weightsOf nopeCols ropeCols w
def gains (g : FVec Ideal S768 .f32) : FVec Ideal S1x768 .f32 := shapeCast S1x768 g shapeCasts_S768_S1x768

theorem gains_at (g : FVec Ideal S768 .f32) (i : Fin 768) : gains g (ix2 0 i) = g (ix1 i) := by
  pointwise [gains]

theorem table0 : ∀ k : Fin 1024, lit0 k = BitVec.ofNat 32 (nopeCol k).val := by decide +kernel
theorem table1 : ∀ k : Fin 512, lit1 k = BitVec.ofNat 32 (ropeCol k).val := by decide +kernel

theorem nopeCols_at (k : Fin 1024) : nopeCols (ix2 k (0 : Fin 1)) = lit0 k := by
  show lit0 _ = lit0 k
  exact congrArg lit0 (Fin.ext (Shape.rowMajor_val_one _))
theorem ropeCols_at (k : Fin 512) : ropeCols (ix2 k (0 : Fin 1)) = lit1 k := by
  show lit1 _ = lit1 k
  exact congrArg lit1 (Fin.ext (Shape.rowMajor_val_one _))

theorem weights_left (w : FVec Ideal S768x1536 .f32) (i : Fin 768) (k : Fin 1024) :
    weights w (ix2 i (Fin.castAdd 512 k : Fin 1536)) = w (ix2 i (nopeCol k)) := by
  have hk : (Fin.castAdd 512 k : Fin 1536).val < 1024 := k.isLt
  pointwise [weights, weightsOf]
  rw [dif_pos hk]
  exact gather_col gather_S768x1536_S1024x1_S768x1024_0_1_n_n_1_1_7681_wf w nopeCols i k (nopeCol k) (by decide)
    ((nopeCols_at k).trans (table0 k))
theorem weights_right (w : FVec Ideal S768x1536 .f32) (i : Fin 768) (k : Fin 512) :
    weights w (ix2 i (Fin.natAdd 1024 k : Fin 1536)) = w (ix2 i (ropeCol k)) := by
  have hk : ¬ (Fin.natAdd 1024 k : Fin 1536).val < 1024 := by simp
  have e : (⟨(Fin.natAdd 1024 k : Fin 1536).val - 1024, by simp⟩ : Fin 512) = k := Fin.ext (by simp)
  pointwise [weights, weightsOf]
  rw [dif_neg hk]
  refine Eq.trans ?_ (gather_col gather_S768x1536_S512x1_S768x512_0_1_n_n_1_1_7681_wf w ropeCols i k (ropeCol k) (by decide)
    ((ropeCols_at k).trans (table1 k)))
  exact congrArg (fun k' : Fin 512 => Host.gather gather_S768x1536_S512x1_S768x512_0_1_n_n_1_1_7681 w ropeCols (ix2 i k')) e

/-- What the second host segment leaves in the weights' buffer, from any state. -/
theorem prepared_weights (W : Valuation τ sig (Elt Ideal)) : StableHlo.after hostOps1 W (Proc.devRef .tc main_v37)
    = weightsOf (nopeColsOf (W (Proc.devRef .tc main_c)) (W (Proc.devRef .tc main_c_0)))
      (ropeColsOf (W (Proc.devRef .tc main_c_1)) (W (Proc.devRef .tc main_c_2))) (W (Proc.devRef .tc main_arg3)) := by
  after_results_simp
  rfl

section Result
variable (m : (ℓ : Loc nD τ sig) → Buf (Elt Ideal) ℓ) (ρ : Dev nD → PrngReg)

theorem W2_const0 (c : Dev nD) : W2 m ρ c (Proc.devRef .tc main_c) = (fun i => lit0 (S1024.rowMajor i) : IVec S1024 32) := by
  rw [W2_of_ne m ρ c main_c (by decide)]
  after_results_simp
  rfl
theorem W2_const1 (c : Dev nD) : W2 m ρ c (Proc.devRef .tc main_c_0) = (constantI S1024 1 0#1 : IVec S1024 1) := by
  rw [W2_of_ne m ρ c main_c_0 (by decide)]
  after_results_simp
theorem W2_const2 (c : Dev nD) : W2 m ρ c (Proc.devRef .tc main_c_1) = (fun i => lit1 (S512.rowMajor i) : IVec S512 32) := by
  rw [W2_of_ne m ρ c main_c_1 (by decide)]
  after_results_simp
  rfl
theorem W2_const3 (c : Dev nD) : W2 m ρ c (Proc.devRef .tc main_c_2) = (constantI S512 1 0#1 : IVec S512 1) := by
  rw [W2_of_ne m ρ c main_c_2 (by decide)]
  after_results_simp

theorem V3_weights (c : Dev nD) : V3 m ρ c main_v37 = weights (m ((c : Thread nD τ).loc main_arg3)) := by
  refine (prepared_weights (W2 m ρ c)).trans ?_
  rw [W2_const0, W2_const1, W2_const2, W2_const3, W2_args m ρ c main_arg3 (by decide)]
  rfl
theorem V3_gains (c : Dev nD) : V3 m ρ c main_v38 = gains (m ((c : Thread nD τ).loc main_arg2)) := by
  rw [← W2_args m ρ c main_arg2 (by decide)]
  show StableHlo.after hostOps1 (W2 m ρ c) (Proc.devRef .tc main_v38) = _
  after_results_simp
  rfl
theorem V3_rows (c : Dev nD) : V3 m ρ c main_arg0 = m ((c : Thread nD τ).loc main_arg0) := W3_args m ρ c main_arg0 (by decide)
theorem V3_cos (c : Dev nD) : V3 m ρ c main_v25_0 = cosTab (V1 m ρ) c :=
  (W3_of m ρ c main_v25_0 (by decide)).trans (((hF0 m ρ c 3).symm).trans (final0_3 (V1 m ρ) c))
theorem V3_sin (c : Dev nD) : V3 m ρ c main_v25_1 = sinTab (V1 m ρ) c :=
  (W3_of m ρ c main_v25_1 (by decide)).trans (((hF0 m ρ c 4).symm).trans (final0_4 (V1 m ρ) c))

theorem W4_nope (c : Dev nD) : W4 m ρ c (Proc.devRef .tc main_v39_0) = nope (V3 m ρ) c :=
  ((hF1 m ρ c 5).symm).trans (final1_5 (V3 m ρ) c)
theorem W4_rope (c : Dev nD) : W4 m ρ c (Proc.devRef .tc main_v39_1) = rope (V3 m ρ) c :=
  ((hF1 m ρ c 6).symm).trans (final1_6 (V3 m ρ) c)

/-- A column of the product from the arguments. -/
theorem column_left (c : Dev nD) (r : Fin 4096) (k : Fin 1024) : column (V3 m ρ) c r (Fin.castAdd 512 k : Fin 1536)
    = proj 0x44400000#32 (fun i => m ((c : Thread nD τ).loc main_arg0) (ix2 r i)) (fun i => m ((c : Thread nD τ).loc main_arg2) (ix1 i))
        (fun i => m ((c : Thread nD τ).loc main_arg3) (ix2 i (nopeCol k))) := by
  unfold column
  rw [V3_weights, V3_gains, V3_rows]
  exact proj_congr _ (fun i => rfl) (fun i => gains_at _ i) (fun i => weights_left _ i k)
theorem column_right (c : Dev nD) (r : Fin 4096) (k : Fin 512) : column (V3 m ρ) c r (Fin.natAdd 1024 k : Fin 1536)
    = proj 0x44400000#32 (fun i => m ((c : Thread nD τ).loc main_arg0) (ix2 r i)) (fun i => m ((c : Thread nD τ).loc main_arg2) (ix1 i))
        (fun i => m ((c : Thread nD τ).loc main_arg3) (ix2 i (ropeCol k))) := by
  unfold column
  rw [V3_weights, V3_gains, V3_rows]
  exact proj_congr _ (fun i => rfl) (fun i => gains_at _ i) (fun i => weights_right _ i k)

/-- The rotary result from the arguments. -/
theorem ropeEntry_at (c : Dev nD) (r : Fin 4096) (k : Fin 512) : ropeEntry (V3 m ρ) c r k
    = roped 16 (angle 16 0x42000000#32 (posOf (m ((c : Thread nD τ).loc main_arg1)) r) k.val)
        (fun q : Fin 512 => proj 0x44400000#32 (fun i => m ((c : Thread nD τ).loc main_arg0) (ix2 r i))
          (fun i => m ((c : Thread nD τ).loc main_arg2) (ix1 i)) (fun i => m ((c : Thread nD τ).loc main_arg3) (ix2 i (ropeCol q)))) k := by
  have hk : k.val < 512 := k.isLt
  refine Eq.trans ?_ (roped_lane 16 _ _ k)
  unfold ropeEntry
  rw [V3_cos, V3_sin, cosTab_at, sinTab_at, column_right, column_right, column_right]
  have e1 : k.val % 128 % 16 = k.val % 16 := by omega
  have e2 : k.val % 128 % (2 * 16) = k.val % (2 * 16) := by omega
  unfold angle laneSign
  dsimp only
  rw [e1, e2]

end Result

end Cert.KernelUqIdeal.Value

end
-- ==== Proof.Proj.UqRef.lean ====
module

public import proofs.«01_k».proof.Proof.Gen.ReferenceUqIdeal.Run
public import proofs.«01_k».proof.Proof.Gen.ReferenceUqIdeal.Read
public import proofs.«01_k».proof.Proof.Proj.Uq
public import proofs.«01_k».proof.Proof.Proj.Turn

@[expose] public section

/-!
The reference of the query's expansion, read at an index.
-/

set_option maxRecDepth 16384

noncomputable section

open Idealize.ShloMosaic Idealize.ShloMosaic.TcCoe Idealize.SL.Sem

namespace Cert.ReferenceUqIdeal.Read
open Cert.ReferenceUqIdeal Cert.ReferenceUqIdeal.Gen Cert.Proj

theorem normed_at (x : FVec Ideal S4096x768 .f32) (g : FVec Ideal S768 .f32) (b : Fin 2) (s : Fin 2048) (i : Fin 768) :
    val_main_v34 (F := Ideal) x g (ix3 b s i)
      = normRow 0x44400000#32 (fun i => x (ix2 (⟨b.val * 2048 + s.val, by omega⟩ : Fin 4096) i)) (fun i => g (ix1 i)) i := by
  pointwise [val_main_v34, val_main_v33, val_main_v32, val_main_v31, val_main_v30, val_main_v29, val_main_v28, val_main_v27,
    val_main_v26, val_main_v25, val_main_v24, val_main_v23, val_main_v22, val_main_v21, val_main_cst_4, val_main_cst_5, val_main_cst_6]
  rfl

theorem expanded_at (x : FVec Ideal S4096x768 .f32) (g : FVec Ideal S768 .f32) (w : FVec Ideal S768x1536 .f32)
    (b : Fin 2) (s : Fin 2048) (k : Fin 1536) : val_main_v35 (F := Ideal) x g w (ix3 b s k)
      = proj 0x44400000#32 (fun i => x (ix2 (⟨b.val * 2048 + s.val, by omega⟩ : Fin 4096) i)) (fun i => g (ix1 i)) (fun i => w (ix2 i k)) := by
  pointwise [val_main_v35]
  exact Finset.sum_congr rfl fun i _ => congrArg (· * _) (normed_at x g _ _ _)

theorem column_at (x : FVec Ideal S4096x768 .f32) (g : FVec Ideal S768 .f32) (w : FVec Ideal S768x1536 .f32)
    (r : Fin 4096) (k k' : Fin 1536) (h : k.val = k'.val) :
    val_main_v35 (F := Ideal) x g w (ix3 (⟨r.val / 2048, by omega⟩ : Fin 2) (⟨r.val % 2048, Nat.mod_lt _ (by decide)⟩ : Fin 2048) k)
      = proj 0x44400000#32 (fun i => x (ix2 r i)) (fun i => g (ix1 i)) (fun i => w (ix2 i k')) := by
  obtain rfl := Fin.ext h
  rw [expanded_at]
  exact proj_congr _ (fun i => congrArg (fun q => x (ix2 q i)) (Fin.ext (Nat.div_add_mod' _ _))) (fun _ => rfl) (fun _ => rfl)

theorem freq_at (k : Fin 16) : val_main_v10 (F := Ideal) (ix1 k) = invFreq 0x42000000#32 k.val := by
  pointwise [val_main_v10, val_main_v9, val_main_v8, val_main_v7, val_main_v6, val_main_v5, val_main_v4, val_main_v3,
    val_main_v2, val_main_v1, val_main_v0, val_main_cst, val_main_cst_0, val_main_cst_1, val_main_cst_2, val_main_cst_3]
  rfl

theorem angle_at (p : BitVec 32) (k : Fin 16) (l : ℕ) (h : k.val = l % 16) :
    (FloatOps.sitofp .f32 p : Ideal .f32) * val_main_v10 (F := Ideal) (ix1 k) = angle 16 0x42000000#32 p l := by
  rw [freq_at, h]
  rfl

theorem nope_at (x : FVec Ideal S4096x768 .f32) (g : FVec Ideal S768 .f32) (w : FVec Ideal S768x1536 .f32)
    (j : S4096x1024.Idx) : val_main_v52 (F := Ideal) x g w j
      = proj 0x44400000#32 (fun i => x (ix2 (j 0) i)) (fun i => g (ix1 i)) (fun i => w (ix2 i (nopeCol (j 1)))) := by
  pointwise [val_main_v52, val_main_v37, val_main_v36]
  exact column_at x g w (j 0) _ (nopeCol (j 1)) rfl

theorem rope_at (x : FVec Ideal S4096x768 .f32) (p : IVec S2x2048 32) (g : FVec Ideal S768 .f32) (w : FVec Ideal S768x1536 .f32)
    (j : S4096x512.Idx) : val_main_v53 (F := Ideal) x p g w j
      = roped 16 (angle 16 0x42000000#32 (Cert.KernelUqIdeal.Value.posOf p (j 0)) (j 1).val)
          (fun q : Fin 512 => proj 0x44400000#32 (fun i => x (ix2 (j 0) i)) (fun i => g (ix1 i)) (fun i => w (ix2 i (ropeCol q))))
          (j 1) := by
  have hj : (j 1).val < 512 := (j 1).isLt
  pointwise [val_main_v53, val_main_v51, val_main_v50, val_main_v49, val_main_v48, val_main_v47, val_main_v46, val_main_v45,
    val_main_v44, val_main_v43, val_main_v42, val_main_v41, val_main_v40, val_main_v39, val_main_v38, val_main_v36, val_main_v20,
    val_main_v19, val_main_v18, val_main_v17, val_main_v16, val_main_v15, val_main_v14, val_main_v13, val_main_v12, val_main_v11]
  by_cases h : (j 1).val % 32 < 16
  · refine (dif_pos h).trans (turned_first 16 (j 1) h (column_at x g w (j 0) _ (ropeCol (j 1)) ?_) (angle_at _ _ _ ?_)
      (column_at x g w (j 0) _ (ropeCol (ahead 16 (j 1))) ?_) (angle_at _ _ _ ?_))
    · simp only [ropeCol]; omega
    · dsimp only; omega
    · simp only [ropeCol, ahead]; omega
    · dsimp only; omega
  · refine (dif_neg h).trans (turned_second 16 (j 1) h (column_at x g w (j 0) _ (ropeCol (behind 16 (j 1))) ?_) (angle_at _ _ _ ?_)
      (column_at x g w (j 0) _ (ropeCol (j 1)) ?_) (angle_at _ _ _ ?_))
    · simp only [ropeCol, behind]; omega
    · dsimp only; omega
    · simp only [ropeCol]; omega
    · dsimp only; omega

end Cert.ReferenceUqIdeal.Read

end
-- ==== Proof.Proj.UqClaim.lean ====
module

public import proofs.«01_k».proof.Defs
public import proofs.«01_k».proof.Proof.Gen.KernelUqIdeal
public import proofs.«01_k».proof.Proof.Gen.ReferenceUqIdeal
public import proofs.«01_k».proof.Proof.Proj.UqRef

@[expose] public section

/-!
The query's expansion: the reference's frame, and the equation of the two programs.
-/

set_option maxRecDepth 16384

noncomputable section

open Idealize.ShloMosaic Idealize.ShloMosaic.TcCoe Idealize.SL.Sem

namespace Cert.UqClaim

/-- The reference's frame: its run keeps the arguments, and the machine it runs on has no semaphore. -/
theorem reference_frame : Cert.quiescent_ReferenceUqIdeal (hReferenceUqIdeal := Cert.ReferenceUqIdeal.Gen.facts) :=
  fun m ρ _ => (θ_run _ _ _).mono (fun r h => ⟨fun c => (h c).2.2, sem_eq_zero_of_no_sems (by decide) r.2⟩)
    (Cert.ReferenceUqIdeal.Value.run m ρ)

/-- The expansion and its reference hold equal columns without positions and equal rotary columns. -/
theorem eq : Cert.algebraic_KernelUqIdeal_ReferenceUqIdeal (hKernelUqIdeal := Cert.KernelUqIdeal.Gen.facts)
    (hReferenceUqIdeal := Cert.ReferenceUqIdeal.Gen.facts) := by
  intro m g m' g' _ hargs
  refine ⟨fun c => Cert.KernelUqIdeal.Value.nope (Cert.KernelUqIdeal.Gen.V3 m g) c,
    fun c => Cert.KernelUqIdeal.Value.rope (Cert.KernelUqIdeal.Gen.V3 m g) c,
    (θ_run _ _ _).mono (fun r h c => ?_) (Cert.KernelUqIdeal.Value.run_result m g),
    (θ_run _ _ _).mono (fun r h c => ?_) (Cert.ReferenceUqIdeal.Value.run m' g')⟩
  · obtain ⟨h0, h1, hkeep⟩ := h c
    exact ⟨h0.trans (Cert.KernelUqIdeal.Value.W4_nope m g c), h1.trans (Cert.KernelUqIdeal.Value.W4_rope m g c), hkeep⟩
  · obtain ⟨h0, h1, hkeep⟩ := h c
    obtain ⟨e0, e1, e2, e3⟩ := hargs c
    refine ⟨h0.trans ?_, h1.trans ?_, hkeep⟩
    · rw [e0, e2, e3]
      refine (Cert.ReferenceUqIdeal.Read.val_main_v52_eq _ _ _).trans (funext fun j => ?_)
      exact (Cert.ReferenceUqIdeal.Read.nope_at _ _ _ j).trans (Cert.KernelUqIdeal.Value.column_left m g c (j 0) (j 1)).symm
    · rw [Cert.ReferenceUqIdeal.Read.val_main_v53_eq, e0, e1, e2, e3]
      refine funext fun j => ?_
      exact (Cert.ReferenceUqIdeal.Read.rope_at _ _ _ _ j).trans (Cert.KernelUqIdeal.Value.ropeEntry_at m g c (j 0) (j 1)).symm

end Cert.UqClaim

end
-- ==== Proof.Mla.Softmax.lean ====
module

public import Idealize.ShloMosaic.PureOps.Ideal
public import Mathlib.Data.EReal.Inv

@[expose] public section

/-!
Softmax attention over the extended reals, one query and one output column at a time.

`pooled s v` is what the kernel computes from a row of scores `s` and a column of values `v`: the exponentials of the
scores less their largest, weighted sum over the plain sum. `softmaxDot s v` is what the reference computes: every
weight divided by the sum of the weights first. `pooled_eq_softmaxDot` says they agree when the scores have a finite
maximum, also where the kernel leaves out trailing keys whose scores are all `⊥` (the causal mask).
-/

noncomputable section

namespace Cert.Mla

open Idealize.ShloMosaic

/-- The largest score. -/
def top {n : ℕ} (s : Fin n → EReal) : EReal := Finset.univ.fold max ⊥ s

/-- A key's unnormalised weight. -/
def weight {n : ℕ} (s : Fin n → EReal) (k : Fin n) : EReal := Ideal.exp (s k - top s)

/-- Weighted values summed, then divided by the weights' sum. -/
def pooled {n : ℕ} (s v : Fin n → EReal) : EReal :=
  Ideal.div (∑ k, weight s k * v k) (∑ k, weight s k)

/-- Values summed under the normalised weights. -/
def softmaxDot {n : ℕ} (s v : Fin n → EReal) : EReal :=
  ∑ k, v k * Ideal.div (weight s k) (∑ j, weight s j)

theorem top_eq_sup {n : ℕ} (s : Fin n → EReal) : top s = Finset.univ.sup s := rfl

theorem le_top' {n : ℕ} (s : Fin n → EReal) (k : Fin n) : s k ≤ top s := by
  rw [top_eq_sup]; exact Finset.le_sup (Finset.mem_univ k)

/-- Keys beyond `n` whose scores are `⊥` do not change the largest score. -/
theorem top_prefix {n N : ℕ} (h : n ≤ N) (s : Fin N → EReal) (hs : ∀ k : Fin N, n ≤ k.val → s k = ⊥) :
    top (fun k : Fin n => s (Fin.castLE h k)) = top s := by
  rw [top_eq_sup, top_eq_sup]
  apply le_antisymm
  · exact Finset.sup_le fun k _ => Finset.le_sup (f := s) (Finset.mem_univ _)
  · refine Finset.sup_le fun k _ => ?_
    by_cases hk : k.val < n
    · exact Finset.le_sup (f := fun k : Fin n => s (Fin.castLE h k)) (Finset.mem_univ (⟨k.val, hk⟩ : Fin n))
    · rw [hs k (by omega)]; exact bot_le

/-- A sum over `N` keys whose terms beyond the first `n` vanish is the sum over the first `n`. -/
theorem sum_prefix {n N : ℕ} (h : n ≤ N) (f : Fin N → EReal) (hf : ∀ k : Fin N, n ≤ k.val → f k = 0) :
    ∑ k : Fin n, f (Fin.castLE h k) = ∑ k, f k := by
  rw [← Finset.sum_image (s := Finset.univ) (g := Fin.castLE h) (f := f)
    (by intro a _ b _ hab; exact Fin.castLE_injective h hab)]
  refine Finset.sum_subset (Finset.subset_univ _) fun k _ hk => hf k ?_
  by_contra hlt
  exact hk (Finset.mem_image.2 ⟨⟨k.val, by omega⟩, Finset.mem_univ _, rfl⟩)

theorem exp_bot_sub (x : EReal) : Ideal.exp (⊥ - x) = 0 := by
  rw [sub_eq_add_neg, EReal.bot_add]; rfl

theorem exp_nonneg (x : EReal) : 0 ≤ Ideal.exp x := by
  induction x with
  | bot => exact le_rfl
  | top => exact le_top
  | coe r => exact EReal.coe_nonneg.2 (Real.exp_pos r).le

/-- A nonnegative finite factor distributes over a sum of extended reals. -/
theorem sum_mul_of_nonneg {ι : Type} (t : Finset ι) (f : ι → EReal) (c : EReal) (h0 : 0 ≤ c) (h1 : c ≠ ⊤) :
    (∑ k ∈ t, f k) * c = ∑ k ∈ t, f k * c := by
  classical
  induction t using Finset.induction_on with
  | empty => simp
  | insert a t ha ih =>
    rw [Finset.sum_insert ha, Finset.sum_insert ha, EReal.right_distrib_of_nonneg_of_ne_top h0 h1, ih]

/-- A sum of finite terms is finite. -/
theorem sum_ne_top {ι : Type} (t : Finset ι) (f : ι → EReal) (h : ∀ k ∈ t, f k ≠ ⊤) : ∑ k ∈ t, f k ≠ ⊤ := by
  classical
  induction t using Finset.induction_on with
  | empty => simp
  | insert a t ha ih =>
    rw [Finset.sum_insert ha]
    exact EReal.add_ne_top (h a (Finset.mem_insert_self ..)) (ih fun k hk => h k (Finset.mem_insert_of_mem hk))

theorem sum_ne_bot {ι : Type} (t : Finset ι) (f : ι → EReal) (h : ∀ k ∈ t, f k ≠ ⊥) : ∑ k ∈ t, f k ≠ ⊥ := by
  classical
  induction t using Finset.induction_on with
  | empty => simp
  | insert a t ha ih =>
    rw [Finset.sum_insert ha]
    exact EReal.add_ne_bot_iff.2
      ⟨h a (Finset.mem_insert_self ..), ih fun k hk => h k (Finset.mem_insert_of_mem hk)⟩

theorem mul_finite {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]; exact ⟨EReal.coe_ne_top _, EReal.coe_ne_bot _⟩

theorem add_finite {x y : EReal} (hx : x ≠ ⊤ ∧ x ≠ ⊥) (hy : y ≠ ⊤ ∧ y ≠ ⊥) : x + y ≠ ⊤ ∧ x + y ≠ ⊥ := by
  lift x to ℝ using hx
  lift y to ℝ using hy
  rw [← EReal.coe_add]; exact ⟨EReal.coe_ne_top _, EReal.coe_ne_bot _⟩

theorem sum_finite {ι : Type} (t : Finset ι) (f : ι → EReal) (h : ∀ k ∈ t, f k ≠ ⊤ ∧ f k ≠ ⊥) :
    ∑ k ∈ t, f k ≠ ⊤ ∧ ∑ k ∈ t, f k ≠ ⊥ :=
  ⟨sum_ne_top t f fun k hk => (h k hk).1, sum_ne_bot t f fun k hk => (h k hk).2⟩

section Weights

variable {N : ℕ} (s : Fin N → EReal) (hs : ∀ k, s k ≠ ⊤) (k₀ : Fin N) (h₀ : s k₀ ≠ ⊥)

include hs h₀

/-- The largest score is finite: no score is `⊤`, one is not `⊥`. -/
theorem top_finite : top s ≠ ⊤ ∧ top s ≠ ⊥ := by
  constructor
  · rw [top_eq_sup]
    exact ((Finset.sup_lt_iff (bot_lt_top)).2 fun k _ => lt_top_iff_ne_top.2 (hs k)).ne
  · intro h
    exact h₀ (le_bot_iff.1 (h ▸ le_top' s k₀))

theorem weight_ne_top (k : Fin N) : weight s k ≠ ⊤ := by
  have hm := top_finite s hs k₀ h₀
  unfold weight
  generalize top s = M at hm
  lift M to ℝ using hm
  have hk := hs k
  induction h : s k with
  | bot => rw [exp_bot_sub]; exact EReal.zero_ne_top
  | top => exact absurd h hk
  | coe r => rw [← EReal.coe_sub]; exact EReal.coe_ne_top _

theorem weight_pos : 0 < weight s k₀ := by
  have hm := top_finite s hs k₀ h₀
  unfold weight
  generalize top s = M at hm
  lift M to ℝ using hm
  have hk := hs k₀
  induction h : s k₀ with
  | bot => exact absurd h h₀
  | top => exact absurd h hk
  | coe r => rw [← EReal.coe_sub]; exact EReal.coe_pos.2 (Real.exp_pos _)

/-- The weights' sum is a positive finite number. -/
theorem total_pos : 0 < ∑ k, weight s k :=
  lt_of_lt_of_le (weight_pos s hs k₀ h₀)
    (Finset.single_le_sum (f := weight s) (fun k _ => exp_nonneg _) (Finset.mem_univ k₀))

/-- The kernel's order of the division and the sum against the reference's, over the keys the kernel reads. -/
theorem pooled_eq_softmaxDot (v : Fin N → EReal) {n : ℕ} (h : n ≤ N) (hm : ∀ k : Fin N, n ≤ k.val → s k = ⊥) :
    pooled (fun k : Fin n => s (Fin.castLE h k)) (fun k : Fin n => v (Fin.castLE h k)) = softmaxDot s v := by
  have hw : ∀ k : Fin n, weight (fun k : Fin n => s (Fin.castLE h k)) k = weight s (Fin.castLE h k) := fun k => by
    unfold weight; rw [top_prefix h s hm]
  have hz : ∀ k : Fin N, n ≤ k.val → weight s k = 0 := fun k hk => by
    unfold weight; rw [hm k hk, exp_bot_sub]
  unfold pooled
  simp only [hw]
  rw [sum_prefix h (fun k => weight s k * v k) (fun k hk => by simp only [hz k hk, zero_mul]),
    sum_prefix h (weight s) hz]
  unfold softmaxDot
  have hl := total_pos s hs k₀ h₀
  have hl' : ∑ k, weight s k ≠ ⊤ := sum_ne_top _ _ fun k _ => weight_ne_top s hs k₀ h₀ k
  generalize ∑ k, weight s k = l at hl hl'
  have hi : 0 ≤ l⁻¹ := EReal.inv_nonneg_of_nonneg hl.le
  have hi' : l⁻¹ ≠ ⊤ := by
    lift l to ℝ using ⟨hl', (bot_lt_iff_ne_bot.1 (lt_trans EReal.bot_lt_zero hl))⟩
    rw [← EReal.coe_inv]; exact EReal.coe_ne_top _
  unfold Ideal.div
  simp only [if_neg hl.ne']
  rw [sum_mul_of_nonneg _ _ _ hi hi']
  exact Finset.sum_congr rfl fun k _ => by rw [mul_comm (weight s k) (v k), mul_assoc]

end Weights

end Cert.Mla

end
-- ==== Proof.Mla.Spec.lean ====
module

public import proofs.«01_k».proof.Proof.Mla.Softmax
public import Idealize.ShloMosaic.Lib.Pipeline.ValueKit
public import Idealize.ShloMosaic.Lib.WordCmp

@[expose] public section

/-!
The attention's mathematics over the call's five arrays, at one query row and one output column: the score of a key, the
value column, and the attended value. Both programs are shown to hold `attended` at every index.
-/

set_option maxRecDepth 16384

noncomputable section

open Idealize.ShloMosaic

namespace Cert.Mla

/-- An array of the call: `n` columns, one row per token of the two batch rows. -/
abbrev Arr (n : ℕ) : Type := FVec Ideal ⟨2, ![4096, n]⟩ .f32

/-- The row of key `k` in the batch row of token `r`. -/
abbrev keyRow (r : Fin 4096) (k : Fin 2048) : Fin 4096 := ⟨r.val / 2048 * 2048 + k.val, by omega⟩
/-- Column `x` of head `h`, heads of 64 columns. -/
abbrev col64 (h : Fin 16) (x : Fin 64) : Fin 1024 := ⟨h.val * 64 + x.val, by omega⟩
/-- Column `x` of head `h`, heads of 32 columns. -/
abbrev col32 (h : Fin 16) (x : Fin 32) : Fin 512 := ⟨h.val * 32 + x.val, by omega⟩
/-- Column `x` of the keys' rotary part, which all heads share. -/
abbrev lane32 (x : Fin 32) : Fin 128 := ⟨x.val, by omega⟩

/-- The head of an output column. -/
abbrev headOf (c : Fin 1024) : Fin 16 := ⟨c.val / 64, by omega⟩
/-- The column within its head. -/
abbrev lane (c : Fin 1024) : Fin 64 := ⟨c.val % 64, by omega⟩

/-- The scale `96 ^ (-1/2)`, as both programs round it. -/
def scale : EReal := Ideal.ofBits .f32 0x3DD105EC#32

/-- The scaled dot product of token `r`'s query with key `k`, for head `h`. -/
def dots (qn : Arr 1024) (qr : Arr 512) (kn : Arr 1024) (kr : Arr 128) (r : Fin 4096) (h : Fin 16) (k : Fin 2048) :
    EReal :=
  ((∑ x : Fin 64, qn (ix2 r (col64 h x)) * kn (ix2 (keyRow r k) (col64 h x)))
    + (∑ x : Fin 32, qr (ix2 r (col32 h x)) * kr (ix2 (keyRow r k) (lane32 x)))) * scale

/-- The masked score: a key after the query has score `⊥`. -/
def score (qn : Arr 1024) (qr : Arr 512) (kn : Arr 1024) (kr : Arr 128) (r : Fin 4096) (h : Fin 16) (k : Fin 2048) :
    EReal :=
  if k.val ≤ r.val % 2048 then dots qn qr kn kr r h k else ⊥

/-- The value of key `k` in column `d` of head `h`, for a query at token `r`. -/
def val (v : Arr 1024) (r : Fin 4096) (h : Fin 16) (d : Fin 64) (k : Fin 2048) : EReal :=
  v (ix2 (keyRow r k) (col64 h d))

/-- What the reference's last product sums, at a token, a head and a column of it. -/
def attended (qn : Arr 1024) (qr : Arr 512) (kn : Arr 1024) (kr : Arr 128) (v : Arr 1024)
    (r : Fin 4096) (h : Fin 16) (d : Fin 64) : EReal :=
  softmaxDot (score qn qr kn kr r h) (val v r h d)

/-- What the kernel stores, reading the first `n` keys only. -/
def attendedK (n : ℕ) (hn : n ≤ 2048) (qn : Arr 1024) (qr : Arr 512) (kn : Arr 1024) (kr : Arr 128) (v : Arr 1024)
    (r : Fin 4096) (h : Fin 16) (d : Fin 64) : EReal :=
  pooled (fun k : Fin n => score qn qr kn kr r h (Fin.castLE hn k)) (fun k : Fin n => val v r h d (Fin.castLE hn k))

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

theorem scale_finite : scale ≠ ⊤ ∧ scale ≠ ⊥ := by
  unfold scale
  simp [Ideal.ofBits, Ideal.ieee, -EReal.coe_mul]

/-- Every entry of an array is a real number. -/
def Finite {s : Shape} (X : s.Idx → EReal) : Prop := ∀ i, X i ≠ ⊤ ∧ X i ≠ ⊥

/-- Every entry of the keys' rotary part is a real number. -/
def FiniteLanes (kr : Arr 128) : Prop :=
  ∀ (r : Fin 4096) (x : Fin 32), kr (ix2 r (lane32 x)) ≠ ⊤ ∧ kr (ix2 r (lane32 x)) ≠ ⊥

theorem dots_finite {qn : Arr 1024} {qr : Arr 512} {kn : Arr 1024} {kr : Arr 128} (h0 : Finite qn) (h1 : Finite qr)
    (h2 : Finite kn) (h3 : FiniteLanes kr)
    (r : Fin 4096) (h : Fin 16) (k : Fin 2048) : dots qn qr kn kr r h k ≠ ⊤ ∧ dots qn qr kn kr r h k ≠ ⊥ :=
  mul_finite (add_finite (sum_finite _ _ fun x _ => mul_finite (h0 _) (h2 _))
    (sum_finite _ _ fun x _ => mul_finite (h1 _) (h3 _ _))) scale_finite

/-- Kernel and reference agree at a token whose query comes before key `n`. -/
theorem attendedK_eq {qn : Arr 1024} {qr : Arr 512} {kn : Arr 1024} {kr : Arr 128} (v : Arr 1024)
    (h0 : Finite qn) (h1 : Finite qr) (h2 : Finite kn)
    (h3 : FiniteLanes kr)
    (n : ℕ) (hn : n ≤ 2048) (r : Fin 4096) (hr : r.val % 2048 < n) (h : Fin 16) (d : Fin 64) :
    attendedK n hn qn qr kn kr v r h d = attended qn qr kn kr v r h d := by
  refine pooled_eq_softmaxDot (score qn qr kn kr r h) (fun k => ?_) ⟨0, by omega⟩ ?_ (val v r h d) hn fun k hk => ?_
  · unfold score
    split
    · exact (dots_finite h0 h1 h2 h3 r h k).1
    · exact bot_ne_top
  · unfold score
    rw [if_pos (Nat.zero_le _)]
    exact (dots_finite h0 h1 h2 h3 r h _).2
  · unfold score
    rw [if_neg (by omega)]

/-- A one-bit comparison of two small words, as a choice. -/
theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat (w := 32) ha hb]
  by_cases h : a ≤ b <;> simp [h, Scalar.select]

end Cert.Mla

end
-- ==== Proof.Mla.Block.lean ====
module

public import proofs.«01_k».proof.Proof.Mla.Spec

@[expose] public section

/-!
What one grid step's stored tile holds, from the blocks it loads, whichever the segment.
-/

set_option maxRecDepth 16384

noncomputable section

open Idealize.ShloMosaic Idealize.ShloMosaic.TcCoe Idealize.SL.Sem

namespace Cert.Mla

/-- A query's position within its batch row, as the kernel's words compute it. -/
theorem query_word (o a b : ℕ) (ho : o < 8) (ha : a < 8) (hb : b < 256) :
    IntOp.addi (Scalar.muli (Scalar.addi (BitVec.ofNat 32 a) (BitVec.ofNat 32 o)) 256#32) (BitVec.ofNat 32 b)
      = BitVec.ofNat 32 ((a + o) * 256 + b) := by
  show (BitVec.ofNat 32 a + BitVec.ofNat 32 o) * BitVec.ofNat 32 256 + BitVec.ofNat 32 b = _
  rw [← BitVec.ofNat_add, ← BitVec.ofNat_mul, ← BitVec.ofNat_add]

/-- The mask's word at a query and a key, as a choice. -/
theorem mask_word (o a b k : ℕ) (ho : o < 8) (ha : a < 8) (hb : b < 256) (hk : k < 2048) (u w : EReal) :
    Scalar.select (IntOp.cmpi .sle (BitVec.ofNat 32 k)
      (IntOp.addi (Scalar.muli (Scalar.addi (BitVec.ofNat 32 a) (BitVec.ofNat 32 o)) 256#32) (BitVec.ofNat 32 b))) u w
        = if k ≤ (a + o) * 256 + b then u else w := by
  rw [query_word o a b ho ha hb]
  exact select_sle _ _ (by omega) (by omega) u w

/-- The masked scores of one block's queries against the segment's keys. -/
def blockScore {n : ℕ} (p : ℕ) (v7 : FVec Ideal ⟨2, ![n, 32]⟩ .f32) (v9 : FVec Ideal ⟨2, ![256, 64]⟩ .f32)
    (v11 : FVec Ideal ⟨2, ![256, 32]⟩ .f32) (v13 : FVec Ideal ⟨2, ![n, 64]⟩ .f32) (q : Fin 256) (k : Fin n) : EReal :=
  if k.val ≤ p + q.val then
    ((∑ x : Fin 64, v9 (ix2 q x) * v13 (ix2 k x)) + (∑ x : Fin 32, v11 (ix2 q x) * v7 (ix2 k x))) * scale
  else ⊥

/-- What one block's stored tile holds at an index, from the loaded blocks. -/
def blockOut {n : ℕ} (p : ℕ) (x0 : FVec Ideal ⟨2, ![256, 256]⟩ .f32) (x1 : FVec Ideal ⟨2, ![256, 128]⟩ .f32)
    (x2 : FVec Ideal ⟨2, ![n, 256]⟩ .f32) (x3 : FVec Ideal ⟨2, ![n, 128]⟩ .f32) (x4 : FVec Ideal ⟨2, ![n, 256]⟩ .f32)
    (q c : Fin 256) : EReal :=
  pooled (fun k : Fin n => if k.val ≤ p + q.val then
      ((∑ x : Fin 64, x0 (ix2 q ⟨c.val / 64 * 64 + x.val, by omega⟩) * x2 (ix2 k ⟨c.val / 64 * 64 + x.val, by omega⟩))
        + (∑ x : Fin 32, x1 (ix2 q ⟨c.val / 64 * 32 + x.val, by omega⟩) * x3 (ix2 k ⟨x.val, by omega⟩))) * scale
    else ⊥)
    (fun k => x4 (ix2 k c))

/-- A head's tile, from the columns it loads, is the block's tile at those columns. -/
theorem head_block {n : ℕ} (p : ℕ) (x0 : FVec Ideal ⟨2, ![256, 256]⟩ .f32) (x1 : FVec Ideal ⟨2, ![256, 128]⟩ .f32)
    (x2 : FVec Ideal ⟨2, ![n, 256]⟩ .f32) (x3 : FVec Ideal ⟨2, ![n, 128]⟩ .f32) (x4 : FVec Ideal ⟨2, ![n, 256]⟩ .f32)
    (q : Fin 256) (h : Fin 4) (d : Fin 64) (c : Fin 256) (hc : c.val = h.val * 64 + d.val)
    (v7 : FVec Ideal ⟨2, ![n, 32]⟩ .f32) (v9 : FVec Ideal ⟨2, ![256, 64]⟩ .f32)
    (v11 : FVec Ideal ⟨2, ![256, 32]⟩ .f32) (v13 v15 : FVec Ideal ⟨2, ![n, 64]⟩ .f32)
    (h7 : ∀ (k : Fin n) (x : Fin 32), v7 (ix2 k x) = x3 (ix2 k ⟨x.val, by omega⟩))
    (h9 : ∀ x : Fin 64, v9 (ix2 q x) = x0 (ix2 q ⟨h.val * 64 + x.val, by omega⟩))
    (h11 : ∀ x : Fin 32, v11 (ix2 q x) = x1 (ix2 q ⟨h.val * 32 + x.val, by omega⟩))
    (h13 : ∀ (k : Fin n) (x : Fin 64), v13 (ix2 k x) = x2 (ix2 k ⟨h.val * 64 + x.val, by omega⟩))
    (h15 : ∀ (k : Fin n) (x : Fin 64), v15 (ix2 k x) = x4 (ix2 k ⟨h.val * 64 + x.val, by omega⟩)) :
    pooled (blockScore p v7 v9 v11 v13 q) (fun k => v15 (ix2 k d)) = blockOut p x0 x1 x2 x3 x4 q c := by
  have hh : c.val / 64 = h.val := by omega
  have hcc : c = ⟨h.val * 64 + d.val, by omega⟩ := Fin.ext hc
  unfold blockOut blockScore
  simp only [h7, h9, h11, h13, h15, hh, ← hcc]

/-- A load of whole rows and some columns, at an index. -/
theorem ld_cols {a b o w : ℕ} (X : FVec Ideal ⟨2, ![a, b]⟩ .f32)
    (inb : ∀ d, (![0, o] : Fin 2 → ℕ) d + (![a, w] : Fin 2 → ℕ) d ≤ (⟨2, ![a, b]⟩ : Shape).size d) (q : Fin a) (x : Fin w)
    (i : Fin b) (hi : i.val = o + x.val) :
    View.ld (Val := Elt Ideal) (e' := .f32) X (Rect.unit (s := ⟨2, ![a, b]⟩) ![0, o] ![a, w] inb) (ix2 q x) = X (ix2 q i) := by
  refine View.ld_unit_apply_of (Val := Elt Ideal) (e := .f32) X _ _ inb (ix2 q x) (ix2 q i) fun d => ?_
  fin_cases d
  · exact (Nat.zero_add _).symm
  · exact hi

end Cert.Mla

end
-- ==== Proof.Mla.Head0.lean ====
module

public import proofs.«01_k».proof.Proof.Gen.KernelIdeal.Frame
public import proofs.«01_k».proof.Proof.Mla.Block

@[expose] public section

/-!
The first segment's stored tile at an index, from the blocks its body loads.
-/

set_option maxRecDepth 16384

noncomputable section

open Idealize.ShloMosaic Idealize.ShloMosaic.TcCoe Idealize.SL.Sem

namespace Cert.KernelIdeal.Value
open Cert.KernelIdeal Cert.KernelIdeal.Gen Cert.Mla

theorem coord0 (i : grid0.Coords) : (i 2).val < 2 := (i 2).isLt

/-- The first head's tile. -/
theorem head0 (i : grid0.Coords) (v7 : Vec Ideal S512x32 .f32) (v9 : Vec Ideal S256x64 .f32) (v11 : Vec Ideal S256x32 .f32)
    (v13 v15 : Vec Ideal S512x64 .f32) (y : S256x64.Idx) :
    k0_pay4 (F := Ideal) i v7 v9 v11 v13 v15 y
      = pooled (blockScore (((i 2).val + 0) * 256) v7 v9 v11 v13 (y 0)) (fun k => v15 (ix2 k (y 1))) := by
  have hi := coord0 i
  have hy : (y 0).val < 256 := (y 0).isLt
  pointwise [k0_pay4, k0_pay3, k0_pay2]
  have hm : ∀ x : Fin 512, ∀ u w : EReal, Scalar.select (IntOp.cmpi .sle (BitVec.ofNat 32 x.val)
      (IntOp.addi (Scalar.muli (Scalar.addi (BitVec.ofNat 32 (i 2).val) 0#32) 256#32) (BitVec.ofNat 32 (y 0).val))) u w
        = if x.val ≤ ((i 2).val + 0) * 256 + (y 0).val then u else w := fun x u w =>
    mask_word 0 _ _ _ (by omega) (by omega) hy (by omega) u w
  simp only [hm, neg_inf]
  rfl

/-- The other heads' tiles are the same function of what they load. -/
theorem same5_0 (i : grid0.Coords) (v7 : Vec Ideal S512x32 .f32) (v9 : Vec Ideal S256x64 .f32) (v11 : Vec Ideal S256x32 .f32)
    (v13 v15 : Vec Ideal S512x64 .f32) :
    k0_pay5 (F := Ideal) (k0_pay2 i) (k0_pay3 (F := Ideal) v7) v9 v11 v13 v15 = k0_pay4 (F := Ideal) i v7 v9 v11 v13 v15 := rfl
theorem same8_0 (i : grid0.Coords) (v7 : Vec Ideal S512x32 .f32) (v9 : Vec Ideal S256x64 .f32) (v11 : Vec Ideal S256x32 .f32)
    (v13 v15 : Vec Ideal S512x64 .f32) :
    k0_pay8 (F := Ideal) (k0_pay2 i) (k0_pay6 (F := Ideal) v15) (k0_pay7 (F := Ideal) (k0_pay3 (F := Ideal) v7) v9 v11 v13)
      (Scalar.ofBits .f32 0x3DD105EC#32) = k0_pay4 (F := Ideal) i v7 v9 v11 v13 v15 := rfl
theorem same9_0 (i : grid0.Coords) (v7 : Vec Ideal S512x32 .f32) (v9 : Vec Ideal S256x64 .f32) (v11 : Vec Ideal S256x32 .f32)
    (v13 v15 : Vec Ideal S512x64 .f32) :
    k0_pay9 (F := Ideal) (k0_pay2 i) (k0_pay3 (F := Ideal) v7) v9 v11 v13 v15 = k0_pay4 (F := Ideal) i v7 v9 v11 v13 v15 := rfl

theorem out0_at (i : grid0.Coords) (x0 : Vec Ideal S256x256 .f32) (x1 : Vec Ideal S256x128 .f32) (x2 : Vec Ideal S512x256 .f32)
    (x3 : Vec Ideal S512x128 .f32) (x4 : Vec Ideal S512x256 .f32) (y : S256x256.Idx) :
    out0_5 (F := Ideal) i x0 x1 x2 x3 x4 y = blockOut (((i 2).val + 0) * 256) x0 x1 x2 x3 x4 (y 0) (y 1) := by
  have hy : (y 1).val < 256 := (y 1).isLt
  frame_out
  unfold k0_pay10 k0_pay11
  rw [same5_0, same8_0, same9_0]
  pointwise [k0_pay1]
  by_cases h0 : (y 1).val < 64
  · rw [dif_pos h0, head0]
    exact head_block _ x0 x1 x2 x3 x4 (y 0) 0 _ (y 1) (by show (y 1).val = 0 * 64 + ((y 1).val); omega) _ _ _ _ _
      (fun k x => ld_cols x3 _ k x _ (Nat.zero_add _).symm) (fun x => ld_cols x0 _ _ x _ rfl) (fun x => ld_cols x1 _ _ x _ rfl)
      (fun k x => ld_cols x2 _ k x _ rfl) (fun k x => ld_cols x4 _ k x _ rfl)
  by_cases h1 : (y 1).val - 64 < 64
  · rw [dif_neg h0, dif_pos h1, head0]
    exact head_block _ x0 x1 x2 x3 x4 (y 0) 1 _ (y 1) (by show (y 1).val = 1 * 64 + ((y 1).val - 64); omega) _ _ _ _ _
      (fun k x => ld_cols x3 _ k x _ (Nat.zero_add _).symm) (fun x => ld_cols x0 _ _ x _ rfl) (fun x => ld_cols x1 _ _ x _ rfl)
      (fun k x => ld_cols x2 _ k x _ rfl) (fun k x => ld_cols x4 _ k x _ rfl)
  by_cases h2 : (y 1).val - 64 - 64 < 64
  · rw [dif_neg h0, dif_neg h1, dif_pos h2, head0]
    exact head_block _ x0 x1 x2 x3 x4 (y 0) 2 _ (y 1) (by show (y 1).val = 2 * 64 + ((y 1).val - 64 - 64); omega) _ _ _ _ _
      (fun k x => ld_cols x3 _ k x _ (Nat.zero_add _).symm) (fun x => ld_cols x0 _ _ x _ rfl) (fun x => ld_cols x1 _ _ x _ rfl)
      (fun k x => ld_cols x2 _ k x _ rfl) (fun k x => ld_cols x4 _ k x _ rfl)
  · rw [dif_neg h0, dif_neg h1, dif_neg h2, head0]
    exact head_block _ x0 x1 x2 x3 x4 (y 0) 3 _ (y 1) (by show (y 1).val = 3 * 64 + ((y 1).val - 64 - 64 - 64); omega) _ _ _ _ _
      (fun k x => ld_cols x3 _ k x _ (Nat.zero_add _).symm) (fun x => ld_cols x0 _ _ x _ rfl) (fun x => ld_cols x1 _ _ x _ rfl)
      (fun k x => ld_cols x2 _ k x _ rfl) (fun k x => ld_cols x4 _ k x _ rfl)

end Cert.KernelIdeal.Value

end
-- ==== Proof.Mla.Region0.lean ====
module

public import proofs.«01_k».proof.Proof.Mla.Head0

@[expose] public section

/-!
The first segment's output array: `attendedK` over its first 512 keys.
-/

set_option maxRecDepth 16384

noncomputable section

open Idealize.ShloMosaic Idealize.ShloMosaic.TcCoe Idealize.SL.Sem

namespace Cert.KernelIdeal.Value
open Cert.KernelIdeal Cert.KernelIdeal.Gen Cert.Mla

/-- The token a row of the segment's output stands for. -/
abbrev tok0 (r : Fin 1024) : Fin 4096 := ⟨r.val / 512 * 2048 + 0 + r.val % 512, by omega⟩

variable (V : (c : Dev nD) → (b : Ref sig .tc) → Buf (Elt Ideal) ((c : Thread nD τ).loc b))

/-- The contents claimed of the segment's output. -/
def seg0 (c : Dev nD) : FVec Ideal S1024x1024 .f32 := fun j =>
  attendedK 512 (by omega) (V c main_arg0) (V c main_arg1) (V c main_arg2) (V c main_arg3) (V c main_arg4)
    (tok0 (j 0)) (headOf (j 1)) (lane (j 1))

theorem seg0_at (c : Dev nD) (r : Fin 1024) (q : Fin 1024) : seg0 V c (ix2 r q)
    = attendedK 512 (by omega) (V c main_arg0) (V c main_arg1) (V c main_arg2) (V c main_arg3) (V c main_arg4)
        (tok0 r) (headOf q) (lane q) := rfl

theorem idx0_0 : ∀ t : Fin grid0.N, win0_0.index t = ![(grid0.coords t 0).val * 8 + 0 + (grid0.coords t 2).val, (grid0.coords t 1).val] := by
  decide +kernel
theorem idx0_1 : ∀ t : Fin grid0.N, win0_1.index t = ![(grid0.coords t 0).val * 8 + 0 + (grid0.coords t 2).val, (grid0.coords t 1).val] := by
  decide +kernel
theorem idx0_2 : ∀ t : Fin grid0.N, win0_2.index t = ![(grid0.coords t 0).val * 4, (grid0.coords t 1).val] := by
  decide +kernel
theorem idx0_3 : ∀ t : Fin grid0.N, win0_3.index t = ![(grid0.coords t 0).val * 4, 0] := by
  decide +kernel
theorem idx0_4 : ∀ t : Fin grid0.N, win0_4.index t = ![(grid0.coords t 0).val * 4, (grid0.coords t 1).val] := by
  decide +kernel
theorem idx0_5 : ∀ t : Fin grid0.N, win0_5.index t = ![(grid0.coords t 0).val * 2 + (grid0.coords t 2).val, (grid0.coords t 1).val] := by
  decide +kernel

/-- One grid step's stored tile is its part of the claimed contents. -/
theorem point0 (c : Dev nD) (t : Fin grid0.N) (y : S256x256.Idx) :
    blockOut (((grid0.coords t 2).val + 0) * 256) (iblk0 V c 0 t) (iblk0 V c 1 t) (iblk0 V c 2 t) (iblk0 V c 3 t)
      (iblk0 V c 4 t) (y 0) (y 1) = seg0 V c (((cfg0.win 5).blk t).view.emb y) := by
  have h0 : (grid0.coords t 0).val < 2 := (grid0.coords t 0).isLt
  have h1 : (grid0.coords t 1).val < 4 := (grid0.coords t 1).isLt
  have h2 : (grid0.coords t 2).val < 2 := (grid0.coords t 2).isLt
  have hy0 : (y 0).val < 256 := (y 0).isLt
  have hy1 : (y 1).val < 256 := (y 1).isLt
  have e0 : ((((cfg0.win 5).blk t).view.emb y) 0).val
      = ((grid0.coords t 0).val * 2 + (grid0.coords t 2).val) * 256 + (y 0).val := by
    blk_simp [idx0_5]
  have e1 : ((((cfg0.win 5).blk t).view.emb y) 1).val = (grid0.coords t 1).val * 256 + (y 1).val := by
    blk_simp [idx0_5]
  generalize ((cfg0.win 5).blk t).view.emb y = j at e0 e1 ⊢
  unfold blockOut seg0 attendedK score dots val
  refine congrArg₂ pooled (funext fun k => ?_) (funext fun k => ?_)
  · have hk : (Fin.castLE (show 512 ≤ 2048 by omega) k).val = k.val := rfl
    refine if_congr ?_ (congrArg (· * scale) (congrArg₂ (· + ·) (Finset.sum_congr rfl fun x _ => ?_)
      (Finset.sum_congr rfl fun x _ => ?_))) rfl
    · dsimp only [Fin.castLE]
      omega
    · have hx := x.isLt
      refine congrArg₂ (· * ·) ?_ ?_
      · blk_ext [iblk0, idx0_0, e0, e1]
      · blk_ext [iblk0, idx0_2, e0, e1]
    · have hx := x.isLt
      refine congrArg₂ (· * ·) ?_ ?_
      · blk_ext [iblk0, idx0_1, e0, e1]
      · blk_ext [iblk0, idx0_3, e0, e1]
  · have hk : (Fin.castLE (show 512 ≤ 2048 by omega) k).val = k.val := rfl
    blk_ext [iblk0, idx0_4, e0, e1]

/-- The segment's output array after all its grid steps. -/
theorem final0 (c : Dev nD) : (dat0 V c).arrAt 5 cfg0.N = seg0 V c := by
  refine (dat0 V c).arrAt_eq_of_covers 5 _ (by decide +kernel) fun t _ y => ?_
  blk_simp
  rw [after0_5, out0_at]
  exact point0 V c t y

end Cert.KernelIdeal.Value

end
-- ==== Proof.Mla.Head1.lean ====
module

public import proofs.«01_k».proof.Proof.Gen.KernelIdeal.Frame
public import proofs.«01_k».proof.Proof.Mla.Block

@[expose] public section

/-!
The second segment's stored tile at an index, from the blocks its body loads.
-/

set_option maxRecDepth 16384

noncomputable section

open Idealize.ShloMosaic Idealize.ShloMosaic.TcCoe Idealize.SL.Sem

namespace Cert.KernelIdeal.Value
open Cert.KernelIdeal Cert.KernelIdeal.Gen Cert.Mla

theorem coord1 (i : grid1.Coords) : (i 2).val < 2 := (i 2).isLt

/-- The first head's tile. -/
theorem head1 (i : grid1.Coords) (v7 : Vec Ideal S1024x32 .f32) (v9 : Vec Ideal S256x64 .f32) (v11 : Vec Ideal S256x32 .f32)
    (v13 v15 : Vec Ideal S1024x64 .f32) (y : S256x64.Idx) :
    k1_pay4 (F := Ideal) i v7 v9 v11 v13 v15 y
      = pooled (blockScore (((i 2).val + 2) * 256) v7 v9 v11 v13 (y 0)) (fun k => v15 (ix2 k (y 1))) := by
  have hi := coord1 i
  have hy : (y 0).val < 256 := (y 0).isLt
  pointwise [k1_pay4, k1_pay3, k1_pay2]
  have hm : ∀ x : Fin 1024, ∀ u w : EReal, Scalar.select (IntOp.cmpi .sle (BitVec.ofNat 32 x.val)
      (IntOp.addi (Scalar.muli (Scalar.addi (BitVec.ofNat 32 (i 2).val) 2#32) 256#32) (BitVec.ofNat 32 (y 0).val))) u w
        = if x.val ≤ ((i 2).val + 2) * 256 + (y 0).val then u else w := fun x u w =>
    mask_word 2 _ _ _ (by omega) (by omega) hy (by omega) u w
  simp only [hm, neg_inf]
  rfl

/-- The other heads' tiles are the same function of what they load. -/
theorem same5_1 (i : grid1.Coords) (v7 : Vec Ideal S1024x32 .f32) (v9 : Vec Ideal S256x64 .f32) (v11 : Vec Ideal S256x32 .f32)
    (v13 v15 : Vec Ideal S1024x64 .f32) :
    k1_pay5 (F := Ideal) (k1_pay2 i) (k1_pay3 (F := Ideal) v7) v9 v11 v13 v15 = k1_pay4 (F := Ideal) i v7 v9 v11 v13 v15 := rfl
theorem same8_1 (i : grid1.Coords) (v7 : Vec Ideal S1024x32 .f32) (v9 : Vec Ideal S256x64 .f32) (v11 : Vec Ideal S256x32 .f32)
    (v13 v15 : Vec Ideal S1024x64 .f32) :
    k1_pay8 (F := Ideal) (k1_pay2 i) (k1_pay6 (F := Ideal) v15) (k1_pay7 (F := Ideal) (k1_pay3 (F := Ideal) v7) v9 v11 v13)
      (Scalar.ofBits .f32 0x3DD105EC#32) = k1_pay4 (F := Ideal) i v7 v9 v11 v13 v15 := rfl
theorem same9_1 (i : grid1.Coords) (v7 : Vec Ideal S1024x32 .f32) (v9 : Vec Ideal S256x64 .f32) (v11 : Vec Ideal S256x32 .f32)
    (v13 v15 : Vec Ideal S1024x64 .f32) :
    k1_pay9 (F := Ideal) (k1_pay2 i) (k1_pay3 (F := Ideal) v7) v9 v11 v13 v15 = k1_pay4 (F := Ideal) i v7 v9 v11 v13 v15 := rfl

theorem out1_at (i : grid1.Coords) (x0 : Vec Ideal S256x256 .f32) (x1 : Vec Ideal S256x128 .f32) (x2 : Vec Ideal S1024x256 .f32)
    (x3 : Vec Ideal S1024x128 .f32) (x4 : Vec Ideal S1024x256 .f32) (y : S256x256.Idx) :
    out1_5 (F := Ideal) i x0 x1 x2 x3 x4 y = blockOut (((i 2).val + 2) * 256) x0 x1 x2 x3 x4 (y 0) (y 1) := by
  have hy : (y 1).val < 256 := (y 1).isLt
  frame_out
  unfold k1_pay10 k1_pay11
  rw [same5_1, same8_1, same9_1]
  pointwise [k1_pay1]
  by_cases h0 : (y 1).val < 64
  · rw [dif_pos h0, head1]
    exact head_block _ x0 x1 x2 x3 x4 (y 0) 0 _ (y 1) (by show (y 1).val = 0 * 64 + ((y 1).val); omega) _ _ _ _ _
      (fun k x => ld_cols x3 _ k x _ (Nat.zero_add _).symm) (fun x => ld_cols x0 _ _ x _ rfl) (fun x => ld_cols x1 _ _ x _ rfl)
      (fun k x => ld_cols x2 _ k x _ rfl) (fun k x => ld_cols x4 _ k x _ rfl)
  by_cases h1 : (y 1).val - 64 < 64
  · rw [dif_neg h0, dif_pos h1, head1]
    exact head_block _ x0 x1 x2 x3 x4 (y 0) 1 _ (y 1) (by show (y 1).val = 1 * 64 + ((y 1).val - 64); omega) _ _ _ _ _
      (fun k x => ld_cols x3 _ k x _ (Nat.zero_add _).symm) (fun x => ld_cols x0 _ _ x _ rfl) (fun x => ld_cols x1 _ _ x _ rfl)
      (fun k x => ld_cols x2 _ k x _ rfl) (fun k x => ld_cols x4 _ k x _ rfl)
  by_cases h2 : (y 1).val - 64 - 64 < 64
  · rw [dif_neg h0, dif_neg h1, dif_pos h2, head1]
    exact head_block _ x0 x1 x2 x3 x4 (y 0) 2 _ (y 1) (by show (y 1).val = 2 * 64 + ((y 1).val - 64 - 64); omega) _ _ _ _ _
      (fun k x => ld_cols x3 _ k x _ (Nat.zero_add _).symm) (fun x => ld_cols x0 _ _ x _ rfl) (fun x => ld_cols x1 _ _ x _ rfl)
      (fun k x => ld_cols x2 _ k x _ rfl) (fun k x => ld_cols x4 _ k x _ rfl)
  · rw [dif_neg h0, dif_neg h1, dif_neg h2, head1]
    exact head_block _ x0 x1 x2 x3 x4 (y 0) 3 _ (y 1) (by show (y 1).val = 3 * 64 + ((y 1).val - 64 - 64 - 64); omega) _ _ _ _ _
      (fun k x => ld_cols x3 _ k x _ (Nat.zero_add _).symm) (fun x => ld_cols x0 _ _ x _ rfl) (fun x => ld_cols x1 _ _ x _ rfl)
      (fun k x => ld_cols x2 _ k x _ rfl) (fun k x => ld_cols x4 _ k x _ rfl)

end Cert.KernelIdeal.Value

end
-- ==== Proof.Mla.Region1.lean ====
module

public import proofs.«01_k».proof.Proof.Mla.Head1

@[expose] public section

/-!
The second segment's output array: `attendedK` over its first 1024 keys.
-/

set_option maxRecDepth 16384

noncomputable section

open Idealize.ShloMosaic Idealize.ShloMosaic.TcCoe Idealize.SL.Sem

namespace Cert.KernelIdeal.Value
open Cert.KernelIdeal Cert.KernelIdeal.Gen Cert.Mla

/-- The token a row of the segment's output stands for. -/
abbrev tok1 (r : Fin 1024) : Fin 4096 := ⟨r.val / 512 * 2048 + 512 + r.val % 512, by omega⟩

variable (V : (c : Dev nD) → (b : Ref sig .tc) → Buf (Elt Ideal) ((c : Thread nD τ).loc b))

/-- The contents claimed of the segment's output. -/
def seg1 (c : Dev nD) : FVec Ideal S1024x1024 .f32 := fun j =>
  attendedK 1024 (by omega) (V c main_arg0) (V c main_arg1) (V c main_arg2) (V c main_arg3) (V c main_arg4)
    (tok1 (j 0)) (headOf (j 1)) (lane (j 1))

theorem seg1_at (c : Dev nD) (r : Fin 1024) (q : Fin 1024) : seg1 V c (ix2 r q)
    = attendedK 1024 (by omega) (V c main_arg0) (V c main_arg1) (V c main_arg2) (V c main_arg3) (V c main_arg4)
        (tok1 r) (headOf q) (lane q) := rfl

theorem idx1_0 : ∀ t : Fin grid1.N, win1_0.index t = ![(grid1.coords t 0).val * 8 + 2 + (grid1.coords t 2).val, (grid1.coords t 1).val] := by
  decide +kernel
theorem idx1_1 : ∀ t : Fin grid1.N, win1_1.index t = ![(grid1.coords t 0).val * 8 + 2 + (grid1.coords t 2).val, (grid1.coords t 1).val] := by
  decide +kernel
theorem idx1_2 : ∀ t : Fin grid1.N, win1_2.index t = ![(grid1.coords t 0).val * 2, (grid1.coords t 1).val] := by
  decide +kernel
theorem idx1_3 : ∀ t : Fin grid1.N, win1_3.index t = ![(grid1.coords t 0).val * 2, 0] := by
  decide +kernel
theorem idx1_4 : ∀ t : Fin grid1.N, win1_4.index t = ![(grid1.coords t 0).val * 2, (grid1.coords t 1).val] := by
  decide +kernel
theorem idx1_5 : ∀ t : Fin grid1.N, win1_5.index t = ![(grid1.coords t 0).val * 2 + (grid1.coords t 2).val, (grid1.coords t 1).val] := by
  decide +kernel

/-- One grid step's stored tile is its part of the claimed contents. -/
theorem point1 (c : Dev nD) (t : Fin grid1.N) (y : S256x256.Idx) :
    blockOut (((grid1.coords t 2).val + 2) * 256) (iblk1 V c 0 t) (iblk1 V c 1 t) (iblk1 V c 2 t) (iblk1 V c 3 t)
      (iblk1 V c 4 t) (y 0) (y 1) = seg1 V c (((cfg1.win 5).blk t).view.emb y) := by
  have h0 : (grid1.coords t 0).val < 2 := (grid1.coords t 0).isLt
  have h1 : (grid1.coords t 1).val < 4 := (grid1.coords t 1).isLt
  have h2 : (grid1.coords t 2).val < 2 := (grid1.coords t 2).isLt
  have hy0 : (y 0).val < 256 := (y 0).isLt
  have hy1 : (y 1).val < 256 := (y 1).isLt
  have e0 : ((((cfg1.win 5).blk t).view.emb y) 0).val
      = ((grid1.coords t 0).val * 2 + (grid1.coords t 2).val) * 256 + (y 0).val := by
    blk_simp [idx1_5]
  have e1 : ((((cfg1.win 5).blk t).view.emb y) 1).val = (grid1.coords t 1).val * 256 + (y 1).val := by
    blk_simp [idx1_5]
  generalize ((cfg1.win 5).blk t).view.emb y = j at e0 e1 ⊢
  unfold blockOut seg1 attendedK score dots val
  refine congrArg₂ pooled (funext fun k => ?_) (funext fun k => ?_)
  · have hk : (Fin.castLE (show 1024 ≤ 2048 by omega) k).val = k.val := rfl
    refine if_congr ?_ (congrArg (· * scale) (congrArg₂ (· + ·) (Finset.sum_congr rfl fun x _ => ?_)
      (Finset.sum_congr rfl fun x _ => ?_))) rfl
    · dsimp only [Fin.castLE]
      omega
    · have hx := x.isLt
      refine congrArg₂ (· * ·) ?_ ?_
      · blk_ext [iblk1, idx1_0, e0, e1]
      · blk_ext [iblk1, idx1_2, e0, e1]
    · have hx := x.isLt
      refine congrArg₂ (· * ·) ?_ ?_
      · blk_ext [iblk1, idx1_1, e0, e1]
      · blk_ext [iblk1, idx1_3, e0, e1]
  · have hk : (Fin.castLE (show 1024 ≤ 2048 by omega) k).val = k.val := rfl
    blk_ext [iblk1, idx1_4, e0, e1]

/-- The segment's output array after all its grid steps. -/
theorem final1 (c : Dev nD) : (dat1 V c).arrAt 5 cfg1.N = seg1 V c := by
  refine (dat1 V c).arrAt_eq_of_covers 5 _ (by decide +kernel) fun t _ y => ?_
  blk_simp
  rw [after1_5, out1_at]
  exact point1 V c t y

end Cert.KernelIdeal.Value

end
-- ==== Proof.Mla.Head2.lean ====
module

public import proofs.«01_k».proof.Proof.Gen.KernelIdeal.Frame
public import proofs.«01_k».proof.Proof.Mla.Block

@[expose] public section

/-!
The last segment's stored tile at an index, from the blocks its body loads.
-/

set_option maxRecDepth 16384

noncomputable section

open Idealize.ShloMosaic Idealize.ShloMosaic.TcCoe Idealize.SL.Sem

namespace Cert.KernelIdeal.Value
open Cert.KernelIdeal Cert.KernelIdeal.Gen Cert.Mla

theorem coord2 (i : grid2.Coords) : (i 2).val < 4 := (i 2).isLt

/-- The first head's tile. -/
theorem head2 (i : grid2.Coords) (v7 : Vec Ideal S2048x32 .f32) (v9 : Vec Ideal S256x64 .f32) (v11 : Vec Ideal S256x32 .f32)
    (v13 v15 : Vec Ideal S2048x64 .f32) (y : S256x64.Idx) :
    k2_pay4 (F := Ideal) i v7 v9 v11 v13 v15 y
      = pooled (blockScore (((i 2).val + 4) * 256) v7 v9 v11 v13 (y 0)) (fun k => v15 (ix2 k (y 1))) := by
  have hi := coord2 i
  have hy : (y 0).val < 256 := (y 0).isLt
  pointwise [k2_pay4, k2_pay3, k2_pay2]
  have hm : ∀ x : Fin 2048, ∀ u w : EReal, Scalar.select (IntOp.cmpi .sle (BitVec.ofNat 32 x.val)
      (IntOp.addi (Scalar.muli (Scalar.addi (BitVec.ofNat 32 (i 2).val) 4#32) 256#32) (BitVec.ofNat 32 (y 0).val))) u w
        = if x.val ≤ ((i 2).val + 4) * 256 + (y 0).val then u else w := fun x u w =>
    mask_word 4 _ _ _ (by omega) (by omega) hy (by omega) u w
  simp only [hm, neg_inf]
  rfl

/-- The other heads' tiles are the same function of what they load. -/
theorem same5_2 (i : grid2.Coords) (v7 : Vec Ideal S2048x32 .f32) (v9 : Vec Ideal S256x64 .f32) (v11 : Vec Ideal S256x32 .f32)
    (v13 v15 : Vec Ideal S2048x64 .f32) :
    k2_pay5 (F := Ideal) (k2_pay2 i) (k2_pay3 (F := Ideal) v7) v9 v11 v13 v15 = k2_pay4 (F := Ideal) i v7 v9 v11 v13 v15 := rfl
theorem same8_2 (i : grid2.Coords) (v7 : Vec Ideal S2048x32 .f32) (v9 : Vec Ideal S256x64 .f32) (v11 : Vec Ideal S256x32 .f32)
    (v13 v15 : Vec Ideal S2048x64 .f32) :
    k2_pay8 (F := Ideal) (k2_pay2 i) (k2_pay6 (F := Ideal) v15) (k2_pay7 (F := Ideal) (k2_pay3 (F := Ideal) v7) v9 v11 v13)
      (Scalar.ofBits .f32 0x3DD105EC#32) = k2_pay4 (F := Ideal) i v7 v9 v11 v13 v15 := rfl
theorem same9_2 (i : grid2.Coords) (v7 : Vec Ideal S2048x32 .f32) (v9 : Vec Ideal S256x64 .f32) (v11 : Vec Ideal S256x32 .f32)
    (v13 v15 : Vec Ideal S2048x64 .f32) :
    k2_pay9 (F := Ideal) (k2_pay2 i) (k2_pay3 (F := Ideal) v7) v9 v11 v13 v15 = k2_pay4 (F := Ideal) i v7 v9 v11 v13 v15 := rfl

theorem out2_at (i : grid2.Coords) (x0 : Vec Ideal S256x256 .f32) (x1 : Vec Ideal S256x128 .f32) (x2 : Vec Ideal S2048x256 .f32)
    (x3 : Vec Ideal S2048x128 .f32) (x4 : Vec Ideal S2048x256 .f32) (y : S256x256.Idx) :
    out2_5 (F := Ideal) i x0 x1 x2 x3 x4 y = blockOut (((i 2).val + 4) * 256) x0 x1 x2 x3 x4 (y 0) (y 1) := by
  have hy : (y 1).val < 256 := (y 1).isLt
  frame_out
  unfold k2_pay10 k2_pay11
  rw [same5_2, same8_2, same9_2]
  pointwise [k2_pay1]
  by_cases h0 : (y 1).val < 64
  · rw [dif_pos h0, head2]
    exact head_block _ x0 x1 x2 x3 x4 (y 0) 0 _ (y 1) (by show (y 1).val = 0 * 64 + ((y 1).val); omega) _ _ _ _ _
      (fun k x => ld_cols x3 _ k x _ (Nat.zero_add _).symm) (fun x => ld_cols x0 _ _ x _ rfl) (fun x => ld_cols x1 _ _ x _ rfl)
      (fun k x => ld_cols x2 _ k x _ rfl) (fun k x => ld_cols x4 _ k x _ rfl)
  by_cases h1 : (y 1).val - 64 < 64
  · rw [dif_neg h0, dif_pos h1, head2]
    exact head_block _ x0 x1 x2 x3 x4 (y 0) 1 _ (y 1) (by show (y 1).val = 1 * 64 + ((y 1).val - 64); omega) _ _ _ _ _
      (fun k x => ld_cols x3 _ k x _ (Nat.zero_add _).symm) (fun x => ld_cols x0 _ _ x _ rfl) (fun x => ld_cols x1 _ _ x _ rfl)
      (fun k x => ld_cols x2 _ k x _ rfl) (fun k x => ld_cols x4 _ k x _ rfl)
  by_cases h2 : (y 1).val - 64 - 64 < 64
  · rw [dif_neg h0, dif_neg h1, dif_pos h2, head2]
    exact head_block _ x0 x1 x2 x3 x4 (y 0) 2 _ (y 1) (by show (y 1).val = 2 * 64 + ((y 1).val - 64 - 64); omega) _ _ _ _ _
      (fun k x => ld_cols x3 _ k x _ (Nat.zero_add _).symm) (fun x => ld_cols x0 _ _ x _ rfl) (fun x => ld_cols x1 _ _ x _ rfl)
      (fun k x => ld_cols x2 _ k x _ rfl) (fun k x => ld_cols x4 _ k x _ rfl)
  · rw [dif_neg h0, dif_neg h1, dif_neg h2, head2]
    exact head_block _ x0 x1 x2 x3 x4 (y 0) 3 _ (y 1) (by show (y 1).val = 3 * 64 + ((y 1).val - 64 - 64 - 64); omega) _ _ _ _ _
      (fun k x => ld_cols x3 _ k x _ (Nat.zero_add _).symm) (fun x => ld_cols x0 _ _ x _ rfl) (fun x => ld_cols x1 _ _ x _ rfl)
      (fun k x => ld_cols x2 _ k x _ rfl) (fun k x => ld_cols x4 _ k x _ rfl)

end Cert.KernelIdeal.Value

end
-- ==== Proof.Mla.Region2.lean ====
module

public import proofs.«01_k».proof.Proof.Mla.Head2

@[expose] public section

/-!
The last segment's output array: `attendedK` over its first 2048 keys.
-/

set_option maxRecDepth 16384

noncomputable section

open Idealize.ShloMosaic Idealize.ShloMosaic.TcCoe Idealize.SL.Sem

namespace Cert.KernelIdeal.Value
open Cert.KernelIdeal Cert.KernelIdeal.Gen Cert.Mla

/-- The token a row of the segment's output stands for. -/
abbrev tok2 (r : Fin 2048) : Fin 4096 := ⟨r.val / 1024 * 2048 + 1024 + r.val % 1024, by omega⟩

variable (V : (c : Dev nD) → (b : Ref sig .tc) → Buf (Elt Ideal) ((c : Thread nD τ).loc b))

/-- The contents claimed of the segment's output. -/
def seg2 (c : Dev nD) : FVec Ideal S2048x1024 .f32 := fun j =>
  attendedK 2048 (by omega) (V c main_arg0) (V c main_arg1) (V c main_arg2) (V c main_arg3) (V c main_arg4)
    (tok2 (j 0)) (headOf (j 1)) (lane (j 1))

theorem seg2_at (c : Dev nD) (r : Fin 2048) (q : Fin 1024) : seg2 V c (ix2 r q)
    = attendedK 2048 (by omega) (V c main_arg0) (V c main_arg1) (V c main_arg2) (V c main_arg3) (V c main_arg4)
        (tok2 r) (headOf q) (lane q) := rfl

theorem idx2_0 : ∀ t : Fin grid2.N, win2_0.index t = ![(grid2.coords t 0).val * 8 + 4 + (grid2.coords t 2).val, (grid2.coords t 1).val] := by
  decide +kernel
theorem idx2_1 : ∀ t : Fin grid2.N, win2_1.index t = ![(grid2.coords t 0).val * 8 + 4 + (grid2.coords t 2).val, (grid2.coords t 1).val] := by
  decide +kernel
theorem idx2_2 : ∀ t : Fin grid2.N, win2_2.index t = ![(grid2.coords t 0).val * 1, (grid2.coords t 1).val] := by
  decide +kernel
theorem idx2_3 : ∀ t : Fin grid2.N, win2_3.index t = ![(grid2.coords t 0).val * 1, 0] := by
  decide +kernel
theorem idx2_4 : ∀ t : Fin grid2.N, win2_4.index t = ![(grid2.coords t 0).val * 1, (grid2.coords t 1).val] := by
  decide +kernel
theorem idx2_5 : ∀ t : Fin grid2.N, win2_5.index t = ![(grid2.coords t 0).val * 4 + (grid2.coords t 2).val, (grid2.coords t 1).val] := by
  decide +kernel

/-- One grid step's stored tile is its part of the claimed contents. -/
theorem point2 (c : Dev nD) (t : Fin grid2.N) (y : S256x256.Idx) :
    blockOut (((grid2.coords t 2).val + 4) * 256) (iblk2 V c 0 t) (iblk2 V c 1 t) (iblk2 V c 2 t) (iblk2 V c 3 t)
      (iblk2 V c 4 t) (y 0) (y 1) = seg2 V c (((cfg2.win 5).blk t).view.emb y) := by
  have h0 : (grid2.coords t 0).val < 2 := (grid2.coords t 0).isLt
  have h1 : (grid2.coords t 1).val < 4 := (grid2.coords t 1).isLt
  have h2 : (grid2.coords t 2).val < 4 := (grid2.coords t 2).isLt
  have hy0 : (y 0).val < 256 := (y 0).isLt
  have hy1 : (y 1).val < 256 := (y 1).isLt
  have e0 : ((((cfg2.win 5).blk t).view.emb y) 0).val
      = ((grid2.coords t 0).val * 4 + (grid2.coords t 2).val) * 256 + (y 0).val := by
    blk_simp [idx2_5]
  have e1 : ((((cfg2.win 5).blk t).view.emb y) 1).val = (grid2.coords t 1).val * 256 + (y 1).val := by
    blk_simp [idx2_5]
  generalize ((cfg2.win 5).blk t).view.emb y = j at e0 e1 ⊢
  unfold blockOut seg2 attendedK score dots val
  refine congrArg₂ pooled (funext fun k => ?_) (funext fun k => ?_)
  · have hk : (Fin.castLE (show 2048 ≤ 2048 by omega) k).val = k.val := rfl
    refine if_congr ?_ (congrArg (· * scale) (congrArg₂ (· + ·) (Finset.sum_congr rfl fun x _ => ?_)
      (Finset.sum_congr rfl fun x _ => ?_))) rfl
    · dsimp only [Fin.castLE]
      omega
    · have hx := x.isLt
      refine congrArg₂ (· * ·) ?_ ?_
      · blk_ext [iblk2, idx2_0, e0, e1]
      · blk_ext [iblk2, idx2_2, e0, e1]
    · have hx := x.isLt
      refine congrArg₂ (· * ·) ?_ ?_
      · blk_ext [iblk2, idx2_1, e0, e1]
      · blk_ext [iblk2, idx2_3, e0, e1]
  · have hk : (Fin.castLE (show 2048 ≤ 2048 by omega) k).val = k.val := rfl
    blk_ext [iblk2, idx2_4, e0, e1]

/-- The segment's output array after all its grid steps. -/
theorem final2 (c : Dev nD) : (dat2 V c).arrAt 5 cfg2.N = seg2 V c := by
  refine (dat2 V c).arrAt_eq_of_covers 5 _ (by decide +kernel) fun t _ y => ?_
  blk_simp
  rw [after2_5, out2_at]
  exact point2 V c t y

end Cert.KernelIdeal.Value

end
-- ==== Proof.Mla.Launch.lean ====
module

public import proofs.«01_k».proof.Proof.Mla.Region0
public import proofs.«01_k».proof.Proof.Mla.Region1
public import proofs.«01_k».proof.Proof.Mla.Region2

@[expose] public section

/-!
The kernel's run: every execution ends with the result buffer holding what the last host operations make of the three
segments' output arrays, and that is `attendedK` at every index.
-/

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Value
open Cert.KernelIdeal Cert.KernelIdeal.Gen Cert.Mla

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The launch, keeping the result buffer. -/
theorem run_result : θ_run defs (onTc (τ := τ) (main (F := Ideal))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- The segments' outputs as the last host operations find them. -/
theorem W3_seg0 (c : Dev nD) : W3 m ρ c (Proc.devRef .tc main_v0) = seg0 (V0 m ρ) c := by
  rw [W3_of_ne m ρ c main_v0 (by decide), W2_of_ne m ρ c main_v0 (by decide)]
  exact ((hF0 m ρ c 5).symm).trans (final0 (V0 m ρ) c)
theorem W3_seg1 (c : Dev nD) : W3 m ρ c (Proc.devRef .tc main_v1) = seg1 (V1 m ρ) c := by
  rw [W3_of_ne m ρ c main_v1 (by decide)]
  exact ((hF1 m ρ c 5).symm).trans (final1 (V1 m ρ) c)
theorem W3_seg2 (c : Dev nD) : W3 m ρ c (Proc.devRef .tc main_v2) = seg2 (V2 m ρ) c :=
  ((hF2 m ρ c 5).symm).trans (final2 (V2 m ρ) c)

/-- The rows of the three outputs, joined per batch row. -/
def joined (a b : FVec Ideal S1024x1024 .f32) (d : FVec Ideal S2048x1024 .f32) : FVec Ideal S4096x1024 .f32 :=
  shapeCast _ (concatenate S2x2048x1024 1 [⟨S2x512x1024, shapeCast _ a shapeCasts_S1024x1024_S2x512x1024⟩,
    ⟨S2x512x1024, shapeCast _ b shapeCasts_S1024x1024_S2x512x1024⟩, ⟨S2x1024x1024, shapeCast _ d shapeCasts_S2048x1024_S2x1024x1024⟩]
    concatenates_S2x512x1024_S2x512x1024_S2x1024x1024_S2x2048x1024_d1) shapeCasts_S2x2048x1024_S4096x1024

theorem W4_result (c : Dev nD) : W4 m ρ c (Proc.devRef .tc main_v7)
    = joined (W3 m ρ c (Proc.devRef .tc main_v0)) (W3 m ρ c (Proc.devRef .tc main_v1)) (W3 m ρ c (Proc.devRef .tc main_v2)) := by
  after_results_simp
  rfl

theorem joined_at (a b : FVec Ideal S1024x1024 .f32) (d : FVec Ideal S2048x1024 .f32) (r : Fin 4096) (c : Fin 1024) :
    joined a b d (ix2 r c) = if h : r.val % 2048 < 512 then a (ix2 ⟨r.val / 2048 * 512 + r.val % 2048, by omega⟩ c)
      else if h' : r.val % 2048 - 512 < 512 then b (ix2 ⟨r.val / 2048 * 512 + (r.val % 2048 - 512), by omega⟩ c)
      else d (ix2 ⟨r.val / 2048 * 1024 + (r.val % 2048 - 512 - 512), by omega⟩ c) := by
  pointwise [joined]

/-- A segment reads the argument arrays as they were launched. -/
theorem V0_arg (c : Dev nD) (a : Ref sig .tc) (h : a ∈ argRefs) : V0 m ρ c a = m ((c : Thread nD τ).loc a) := W0_args m ρ c a h
theorem V1_arg (c : Dev nD) (a : Ref sig .tc) (h : a ∈ argRefs) : V1 m ρ c a = m ((c : Thread nD τ).loc a) := W1_args m ρ c a h
theorem V2_arg (c : Dev nD) (a : Ref sig .tc) (h : a ∈ argRefs) : V2 m ρ c a = m ((c : Thread nD τ).loc a) := W2_args m ρ c a h

/-- The result at a token and a column. -/
theorem result_at (d : Dev nD)
    (h0 : Mla.Finite (m ((d.tc : Thread nD τ).loc main_arg0))) (h1 : Mla.Finite (m ((d.tc : Thread nD τ).loc main_arg1)))
    (h2 : Mla.Finite (m ((d.tc : Thread nD τ).loc main_arg2)))
    (h3 : FiniteLanes (m ((d.tc : Thread nD τ).loc main_arg3))) (r : Fin 4096) (c : Fin 1024) :
    W4 m ρ d (Proc.devRef .tc main_v7) (ix2 r c)
      = attended (m ((d.tc : Thread nD τ).loc main_arg0)) (m ((d.tc : Thread nD τ).loc main_arg1))
          (m ((d.tc : Thread nD τ).loc main_arg2)) (m ((d.tc : Thread nD τ).loc main_arg3))
          (m ((d.tc : Thread nD τ).loc main_arg4)) r (headOf c) (lane c) := by
  rw [W4_result, W3_seg0, W3_seg1, W3_seg2, joined_at]
  split
  · rename_i hr
    rw [seg0_at, V0_arg m ρ d main_arg0 (by decide), V0_arg m ρ d main_arg1 (by decide), V0_arg m ρ d main_arg2 (by decide),
      V0_arg m ρ d main_arg3 (by decide), V0_arg m ρ d main_arg4 (by decide)]
    have ht : tok0 ⟨r.val / 2048 * 512 + r.val % 2048, by omega⟩ = r := Fin.ext (by
      show (r.val / 2048 * 512 + r.val % 2048) / 512 * 2048 + 0 + (r.val / 2048 * 512 + r.val % 2048) % 512 = r.val
      omega)
    rw [ht]
    exact attendedK_eq _ h0 h1 h2 h3 512 _ r hr (headOf c) (lane c)
  · rename_i hr
    split
    · rename_i hr'
      rw [seg1_at, V1_arg m ρ d main_arg0 (by decide), V1_arg m ρ d main_arg1 (by decide), V1_arg m ρ d main_arg2 (by decide),
        V1_arg m ρ d main_arg3 (by decide), V1_arg m ρ d main_arg4 (by decide)]
      have ht : tok1 ⟨r.val / 2048 * 512 + (r.val % 2048 - 512), by omega⟩ = r := Fin.ext (by
        show (r.val / 2048 * 512 + (r.val % 2048 - 512)) / 512 * 2048 + 512 + (r.val / 2048 * 512 + (r.val % 2048 - 512)) % 512 = r.val
        omega)
      rw [ht]
      exact attendedK_eq _ h0 h1 h2 h3 1024 _ r (by omega) (headOf c) (lane c)
    · rw [seg2_at, V2_arg m ρ d main_arg0 (by decide), V2_arg m ρ d main_arg1 (by decide), V2_arg m ρ d main_arg2 (by decide),
        V2_arg m ρ d main_arg3 (by decide), V2_arg m ρ d main_arg4 (by decide)]
      have ht : tok2 ⟨r.val / 2048 * 1024 + (r.val % 2048 - 512 - 512), by omega⟩ = r := Fin.ext (by
        show (r.val / 2048 * 1024 + (r.val % 2048 - 512 - 512)) / 1024 * 2048 + 1024
          + (r.val / 2048 * 1024 + (r.val % 2048 - 512 - 512)) % 1024 = r.val
        omega)
      rw [ht]
      exact attendedK_eq _ h0 h1 h2 h3 2048 _ r (by omega) (headOf c) (lane c)

end Cert.KernelIdeal.Value

end
-- ==== Proof.Mla.Reference.lean ====
module

public import proofs.«01_k».proof.Proof.Gen.ReferenceIdeal.Run
public import proofs.«01_k».proof.Proof.Mla.Spec

@[expose] public section

/-!
The reference's result at an index: `attended` of the argument arrays.
-/

set_option maxRecDepth 16384

noncomputable section
open Idealize.ShloMosaic Idealize.ShloMosaic.TcCoe Idealize.SL.Sem
namespace Cert.ReferenceIdeal.Value
open Cert.ReferenceIdeal Cert.ReferenceIdeal.Gen Cert.Mla

/-- The reference's masked scores, by batch row, head, query and key. -/
def masked (qn : FVec Ideal S4096x1024 .f32) (qr : FVec Ideal S4096x512 .f32) (kn : FVec Ideal S4096x1024 .f32)
    (kr : FVec Ideal S4096x128 .f32) : FVec Ideal S2x16x2048x2048 .f32 :=
  select (broadcastInDim S2x16x2048x2048 ![2, 3] bcast_S2048x2048_S2x16x2048x2048_2_3
    (cmpi .sle (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0)))))
    (mulf (addf (Host.dotGeneral dot_S2x2048x16x64_S2x2048x16x64_S2x16x2048x2048_3_3_1_1_02_02 none
          (shapeCast _ qn shapeCasts_S4096x1024_S2x2048x16x64) (shapeCast _ kn shapeCasts_S4096x1024_S2x2048x16x64))
        (transpose S2x16x2048x2048 [0, 3, 2, 1] (Host.dotGeneral dot_S2x2048x32_S2x2048x16x32_S2x2048x2048x16_2_3_1_12_0_0 none
          (extractStridedSlice S2x2048x32 ![0, 0, 0] (shapeCast _ kr shapeCasts_S4096x128_S2x2048x128) slices_S2x2048x128_S2x2048x32_0_0_0)
          (shapeCast _ qr shapeCasts_S4096x512_S2x2048x16x32)) transposes_S2x2048x2048x16_S2x16x2048x2048_0_3_2_1))
      (broadcastInDim S2x16x2048x2048 ![] bcast_S_S2x16x2048x2048 (constant S_ .f32 0x3DD105EC#32)))
    (broadcastInDim S2x16x2048x2048 ![] bcast_S_S2x16x2048x2048 (id (constant S_ .f32 0xFF800000#32)))

/-- The largest score of each query. -/
def rowMax (s : FVec Ideal S2x16x2048x2048 .f32) : FVec Ideal S2x16x2048 .f32 :=
  Host.reduce FloatOps.maximumf s (constant S_ .f32 0xFF800000#32) reducesTo_S2x16x2048x2048_S2x16x2048_d3 h_S_

/-- The unnormalised weights of scores, given each query's largest. -/
def weights (s : FVec Ideal S2x16x2048x2048 .f32) (t : FVec Ideal S2x16x2048 .f32) : FVec Ideal S2x16x2048x2048 .f32 :=
  Host.exp (subf s (broadcastInDim S2x16x2048x2048 ![0, 1, 2, 3] bcast_S2x16x2048x1_S2x16x2048x2048_0_1_2_3
    (broadcastInDim S2x16x2048x1 ![0, 1, 2] bcast_S2x16x2048_S2x16x2048x1_0_1_2
      (maximumf (broadcastInDim S2x16x2048 ![] bcast_S_S2x16x2048 (constant S_ .f32 0xFF800000#32)) t))))

/-- The normalised weights. -/
def normed (w : FVec Ideal S2x16x2048x2048 .f32) : FVec Ideal S2x16x2048x2048 .f32 :=
  Host.divf w (broadcastInDim S2x16x2048x2048 ![0, 1, 2, 3] bcast_S2x16x2048x1_S2x16x2048x2048_0_1_2_3
    (broadcastInDim S2x16x2048x1 ![0, 1, 2] bcast_S2x16x2048_S2x16x2048x1_0_1_2
      (Host.reduceAdd w (constant S_ .f32 0x00000000#32) reducesTo_S2x16x2048x2048_S2x16x2048_d3 h_S_)))

/-- The values summed under the weights, laid out as the argument arrays are. -/
def summed (v : FVec Ideal S4096x1024 .f32) (p : FVec Ideal S2x16x2048x2048 .f32) : FVec Ideal S4096x1024 .f32 :=
  shapeCast _ (transpose S2x2048x16x64 [0, 3, 1, 2] (Host.dotGeneral dot_S2x2048x16x64_S2x16x2048x2048_S2x16x64x2048_1_3_3_2_02_01 none
    (shapeCast _ v shapeCasts_S4096x1024_S2x2048x16x64) p) transposes_S2x16x64x2048_S2x2048x16x64_0_3_1_2) shapeCasts_S2x2048x16x64_S4096x1024

theorem reduces_last : S2x16x2048x2048.Reduces [3] S2x16x2048 := by decide

theorem rowMax_at (s : FVec Ideal S2x16x2048x2048 .f32) (b : Fin 2) (h : Fin 16) (q : Fin 2048) :
    rowMax s (ix3 b h q) = top (fun k : Fin 2048 => s (ix4 b h q k)) := by
  unfold rowMax
  rw [Host.reduce_eq_fold_single FloatOps.maximumf s _ _ reduces_last]
  have hl : ∀ k : Fin 2048, reduces_last.lift (ix3 b h q) k = ix4 b h q k := fun k => by
    funext a
    refine Fin.ext ?_
    fin_cases a <;> rfl
  rw [show constant (F := Ideal) S_ .f32 0xFF800000#32 (Shape.Idx.first h_S_) = (⊥ : EReal) from neg_inf]
  exact congrArg (fun f : Fin 2048 → EReal => Finset.univ.fold max ⊥ f) (funext fun k => congrArg s (hl k))

theorem weights_at (s : FVec Ideal S2x16x2048x2048 .f32) (t : FVec Ideal S2x16x2048 .f32) (b : Fin 2) (h : Fin 16)
    (q k : Fin 2048) :
    weights s t (ix4 b h q k) = Ideal.exp (s (ix4 b h q k) - t (ix3 b h q)) := by
  pointwise [weights]
  rw [neg_inf, max_eq_right bot_le]

theorem masked_at (qn : FVec Ideal S4096x1024 .f32) (qr : FVec Ideal S4096x512 .f32) (kn : FVec Ideal S4096x1024 .f32)
    (kr : FVec Ideal S4096x128 .f32) (b : Fin 2) (h : Fin 16) (q k : Fin 2048) (r : Fin 4096)
    (hr : r.val = b.val * 2048 + q.val) :
    masked qn qr kn kr (ix4 b h q k) = score qn qr kn kr r h k := by
  pointwise [masked]
  have hi : (id (constant (F := Ideal) S_ .f32 4286578688#32) : S_.Idx → EReal) ix0 = ⊥ := neg_inf
  have hrow : r = ⟨b.val * 2048 + q.val, by omega⟩ := Fin.ext hr
  have hkey : (⟨b.val * 2048 + k.val, by omega⟩ : Fin 4096) = keyRow r k := Fin.ext (by show b.val * 2048 + k.val = r.val / 2048 * 2048 + k.val; omega)
  rw [select_sle _ _ (by omega) (by omega), hi]
  unfold score dots
  rw [show r.val % 2048 = q.val by omega]
  simp only [← hrow, hkey, mul_comm (kr _)]
  rfl

theorem normed_at (w : FVec Ideal S2x16x2048x2048 .f32) (b : Fin 2) (h : Fin 16) (q k : Fin 2048) :
    normed w (ix4 b h q k) = Ideal.div (w (ix4 b h q k)) (∑ j, w (ix4 b h q j)) := by
  pointwise [normed]

theorem summed_at (v : FVec Ideal S4096x1024 .f32) (p : FVec Ideal S2x16x2048x2048 .f32) (r : Fin 4096) (c : Fin 1024) :
    summed v p (ix2 r c) = ∑ k : Fin 2048, val v r (headOf c) (lane c) k
      * p (ix4 ⟨r.val / 2048, by omega⟩ (headOf c) ⟨r.val % 2048, by omega⟩ k) := by
  pointwise [summed]
  refine Finset.sum_congr rfl fun k _ => ?_
  have hc : c = col64 (headOf c) (lane c) := Fin.ext (by show c.val = c.val / 64 * 64 + c.val % 64; omega)
  unfold val
  rw [← hc]

/-- The reference's result. -/
theorem summed_eq (qn : FVec Ideal S4096x1024 .f32) (qr : FVec Ideal S4096x512 .f32) (kn : FVec Ideal S4096x1024 .f32)
    (kr : FVec Ideal S4096x128 .f32) (v : FVec Ideal S4096x1024 .f32) (r : Fin 4096) (c : Fin 1024) :
    summed v (normed (weights (masked qn qr kn kr) (rowMax (masked qn qr kn kr)))) (ix2 r c)
      = attended qn qr kn kr v r (headOf c) (lane c) := by
  rw [summed_at]
  have hm : ∀ k : Fin 2048, masked qn qr kn kr (ix4 ⟨r.val / 2048, by omega⟩ (headOf c) ⟨r.val % 2048, by omega⟩ k)
      = score qn qr kn kr r (headOf c) k := fun k =>
    masked_at qn qr kn kr _ _ _ k r (by show r.val = r.val / 2048 * 2048 + r.val % 2048; omega)
  simp only [normed_at, weights_at, rowMax_at, hm]
  rfl

theorem res_at (m : (ℓ : Loc nD τ sig) → Buf (Elt Ideal) ℓ) (d : Dev nD) (r : Fin 4096) (c : Fin 1024) :
    res_out0 m d (ix2 r c) = attended (m ((d.tc : Thread nD τ).loc main_arg0)) (m ((d.tc : Thread nD τ).loc main_arg1))
      (m ((d.tc : Thread nD τ).loc main_arg2)) (m ((d.tc : Thread nD τ).loc main_arg3))
      (m ((d.tc : Thread nD τ).loc main_arg4)) r (headOf c) (lane c) := by
  rw [← summed_eq]
  refine congrFun ?_ (ix2 r c)
  unfold res_out0 res_main_v33 summed normed weights rowMax masked
  rfl

end Cert.ReferenceIdeal.Value
end
-- ==== Proof.Mla.Precondition.lean ====
module

public import proofs.«01_k».proof.Proof.Gen.Pre_finite_scores
public import proofs.«01_k».proof.Proof.Mla.Spec
public import Idealize.ShloMosaic.Lib.ReduceAll

@[expose] public section

/-!
What the precondition says of the arguments: the queries and the keys' columns that are read hold real numbers.
-/

set_option maxRecDepth 16384

noncomputable section

open Idealize.ShloMosaic

namespace Cert.Pre_finite_scores
open Cert.Mla Cert.Pre_finite_scores.Gen

theorem and_one : ∀ a b : BitVec 1, IntOp.andi a b = 1#1 → a = 1#1 ∧ b = 1#1 := by decide

/-- An element below infinity in absolute value is a real number. -/
theorem real_of_abs_lt {s : Shape} (x : FVec Ideal s .f32) (h : S_.BroadcastsInDim s (![] : Fin 0 → Fin s.rank)) (i : s.Idx)
    (e : cmpf .olt (Host.absf x) (broadcastInDim s ![] h (constant S_ .f32 0x7F800000#32)) i = 1#1) : x i ≠ ⊤ ∧ x i ≠ ⊥ := by
  have e' : Ideal.cmp .olt (max (x i) (-x i)) (Ideal.ofBits .f32 0x7F800000#32) = 1#1 := e
  rw [pos_inf] at e'
  have hlt : max (x i) (-x i) < ⊤ := by
    by_contra hn
    simp [Ideal.cmp, hn] at e'
  obtain ⟨h1, h2⟩ := max_lt_iff.1 hlt
  refine ⟨h1.ne, fun hb => ?_⟩
  rw [hb, EReal.neg_bot] at h2
  exact lt_irrefl _ h2

theorem finite_of_pre [Facts] (a0 : Arr 1024) (a1 : Arr 512) (a2 : Arr 1024) (a3 : Arr 128) (a4 : Arr 1024)
    (h : fn (F := Ideal) a0 a1 a2 a3 a4 = fun _ => 1#1) : Mla.Finite a0 ∧ Mla.Finite a1 ∧ Mla.Finite a2 ∧ FiniteLanes a3 := by
  have h' := congrFun h ix0
  dsimp only [fn, fn_part1] at h'
  obtain ⟨h', h3⟩ := and_one _ _ h'
  obtain ⟨h', h2⟩ := and_one _ _ h'
  obtain ⟨h0, h1⟩ := and_one _ _ h'
  haveI : Subsingleton S_.Idx := ⟨fun a b => funext fun d => d.elim0⟩
  refine ⟨fun i => real_of_abs_lt a0 _ i (Host.reduce_andi_all _ _ _ _ _ h0 i),
    fun i => real_of_abs_lt a1 _ i (Host.reduce_andi_all _ _ _ _ _ h1 i),
    fun i => real_of_abs_lt a2 _ i (Host.reduce_andi_all _ _ _ _ _ h2 i), fun r x => ?_⟩
  have := real_of_abs_lt _ _ (ix2 r x) (Host.reduce_andi_all _ _ _ _ _ h3 (ix2 r x))
  pointwise at this
  exact this

end Cert.Pre_finite_scores

end
-- ==== Proof.Moba.Spec.lean ====
module

public import proofs.«01_k».proof.Proof.Mla.Block

@[expose] public section

/-!
Block-sparse attention over the extended reals: a query attends to the earlier key blocks it chooses by their mean key, and
to its own block up to itself.

Blocks hold 256 keys. A choice is stated over any number of blocks, because the kernel's segments look at two, four or all
eight of them; `blockScore_prefix` says the blocks left out are never chosen and change no other block's rank.
-/

set_option maxRecDepth 16384

noncomputable section

open Idealize.ShloMosaic
open scoped Classical

namespace Cert.Moba
open Cert.Mla

/-- One where block `b` comes before block `a` in the order of the gates, the earlier block first among equals. -/
def before {n : ℕ} (g : Fin n → EReal) (a b : Fin n) : EReal :=
  if g a < g b ∨ (g b = g a ∧ b.val < a.val) then 1 else 0

/-- How many blocks come before block `a`. -/
def rank {n : ℕ} (g : Fin n → EReal) (a : Fin n) : EReal := ∑ b, before g a b

/-- Block `a` is among the three first and lies before the query's own block `i`. -/
def Chosen {n : ℕ} (g : Fin n → EReal) (i : ℕ) (a : Fin n) : Prop :=
  rank g a < Ideal.ofBits .f32 0x40400000#32 ∧ a.val < i

/-- A block's gate: the query's product with the block's mean key, for a block before the query's own. -/
def blockGate {N nb : ℕ} (h : N = nb * 256) (i : ℕ) (q : Fin 64 → EReal) (k : Fin N → Fin 64 → EReal) (n : Fin nb) : EReal :=
  if n.val < i then
    ∑ x : Fin 64, q x * Ideal.div (∑ y : Fin 256, k ⟨n.val * 256 + y.val, by omega⟩ x) (Ideal.ofBits .f32 0x43800000#32)
  else ⊥

/-- A key's masked score, for the query at position `p` of block `i`. -/
def blockScore {N nb : ℕ} (h : N = nb * 256) (i p : ℕ) (q : Fin 64 → EReal) (k : Fin N → Fin 64 → EReal) (j : Fin N) : EReal :=
  if Chosen (blockGate h i q k) i ⟨j.val / 256, by omega⟩ ∨ (i * 256 ≤ j.val ∧ j.val ≤ p) then
    (∑ x : Fin 64, q x * k j x) * Ideal.ofBits .f32 0x3E000000#32
  else ⊥

theorem zero_bits : Ideal.ofBits .f32 0x00000000#32 = 0 := by simp [Ideal.ofBits, Ideal.ieee]
theorem half_bits : Ideal.ofBits .f32 0x3F000000#32 = ((1 / 2 : ℝ) : EReal) := by
  simp [Ideal.ofBits, Ideal.ieee]
  rw [← EReal.coe_mul]
  norm_num

/-- Blocks whose gates are `⊥` change no earlier block's rank. -/
theorem rank_prefix {n N i : ℕ} (h : n ≤ N) (g : Fin N → EReal) (hg : ∀ b : Fin N, n ≤ b.val → g b = ⊥) (a : Fin n) :
    rank (fun b : Fin n => g (Fin.castLE h b)) a = rank g (Fin.castLE h a) := by
  refine sum_prefix h (fun b => before g (Fin.castLE h a) b) fun b hb => ?_
  unfold before
  rw [if_neg]
  rw [hg b hb]
  rintro (hlt | ⟨-, hlt⟩)
  · exact not_lt_bot hlt
  · have := a.isLt
    simp only [Fin.val_castLE] at hlt
    omega

/-- A segment that leaves out the blocks after the query's own computes the same scores. -/
theorem blockScore_prefix {n N nb NB : ℕ} (h : n = nb * 256) (H : N = NB * 256) (hn : n ≤ N) (i p : ℕ) (hi : i < nb)
    (q : Fin 64 → EReal) (k : Fin N → Fin 64 → EReal) (j : Fin n) :
    blockScore h i p q (fun j => k (Fin.castLE hn j)) j = blockScore H i p q k (Fin.castLE hn j) := by
  have hb : nb ≤ NB := by omega
  have hgate : (blockGate h i q fun j => k (Fin.castLE hn j)) = fun b : Fin nb => blockGate H i q k (Fin.castLE hb b) := rfl
  unfold blockScore Chosen
  rw [hgate, rank_prefix (i := i) hb (blockGate H i q k) fun b hbb => by unfold blockGate; rw [if_neg (by omega)]]
  rfl

/-- Keys after the query have score `⊥`. -/
theorem blockScore_after {N nb : ℕ} (h : N = nb * 256) (i p : ℕ) (hp : i * 256 ≤ p) (q : Fin 64 → EReal)
    (k : Fin N → Fin 64 → EReal) (j : Fin N) (hj : p < j.val) : blockScore h i p q k j = ⊥ := by
  unfold blockScore
  refine if_neg ?_
  rintro (⟨-, hc⟩ | ⟨-, hc⟩)
  · simp only at hc
    omega
  · omega

/-- Column `x` of head `h`. -/
abbrev colOf (h : Fin 8) (x : Fin 64) : Fin 512 := ⟨h.val * 64 + x.val, by omega⟩
abbrev headOf (c : Fin 512) : Fin 8 := ⟨c.val / 64, by omega⟩
abbrev lane (c : Fin 512) : Fin 64 := ⟨c.val % 64, by omega⟩

/-- A query's row of one head, and its batch row's keys. -/
def query (q : Arr 512) (r : Fin 4096) (h : Fin 8) (x : Fin 64) : EReal := q (ix2 r (colOf h x))
def keys (k : Arr 512) (r : Fin 4096) (h : Fin 8) (j : Fin 2048) (x : Fin 64) : EReal := k (ix2 (keyRow r j) (colOf h x))

/-- The masked score of key `j` for the query at token `r`. -/
def score (q k : Arr 512) (r : Fin 4096) (h : Fin 8) (j : Fin 2048) : EReal :=
  blockScore (N := 2048) (nb := 8) rfl (r.val % 2048 / 256) (r.val % 2048) (query q r h) (keys k r h) j

/-- What the reference's last product sums. -/
def attended (q k v : Arr 512) (r : Fin 4096) (h : Fin 8) (d : Fin 64) : EReal :=
  softmaxDot (score q k r h) (fun j => keys v r h j d)

/-- What the kernel stores, reading the first `n` keys only. -/
def attendedK {n nb : ℕ} (hb : n = nb * 256) (hn : n ≤ 2048) (q k v : Arr 512) (r : Fin 4096) (h : Fin 8) (d : Fin 64) : EReal :=
  pooled (fun j : Fin n => blockScore hb (r.val % 2048 / 256) (r.val % 2048) (query q r h)
      (fun j => keys k r h (Fin.castLE hn j)) j)
    (fun j : Fin n => keys v r h (Fin.castLE hn j) d)

theorem eighth_finite : Ideal.ofBits .f32 0x3E000000#32 ≠ ⊤ ∧ Ideal.ofBits .f32 0x3E000000#32 ≠ ⊥ := by
  simp [Ideal.ofBits, Ideal.ieee, -EReal.coe_mul]

theorem product_finite {q k : Arr 512} (h0 : Mla.Finite q) (h1 : Mla.Finite k) (r : Fin 4096) (h : Fin 8) (j : Fin 2048) :
    (∑ x : Fin 64, query q r h x * keys k r h j x) * Ideal.ofBits .f32 0x3E000000#32 ≠ ⊤
    ∧ (∑ x : Fin 64, query q r h x * keys k r h j x) * Ideal.ofBits .f32 0x3E000000#32 ≠ ⊥ :=
  mul_finite (sum_finite _ _ fun x _ => mul_finite (h0 _) (h1 _)) eighth_finite

/-- Kernel and reference agree at a token whose query comes before key `n`. -/
theorem attendedK_eq {q k : Arr 512} (v : Arr 512) (h0 : Mla.Finite q) (h1 : Mla.Finite k) {n nb : ℕ} (hb : n = nb * 256)
    (hn : n ≤ 2048) (r : Fin 4096) (hr : r.val % 2048 < n) (h : Fin 8) (d : Fin 64) :
    attendedK hb hn q k v r h d = attended q k v r h d := by
  have hs : (fun j : Fin n => blockScore hb (r.val % 2048 / 256) (r.val % 2048) (query q r h)
      (fun j => keys k r h (Fin.castLE hn j)) j) = fun j : Fin n => score q k r h (Fin.castLE hn j) := funext fun j => by
    unfold score
    exact blockScore_prefix (N := 2048) (NB := 8) hb rfl hn _ _ (by omega) _ (keys k r h) j
  have ht : ∀ j, score q k r h j ≠ ⊤ := fun j => by
    unfold score blockScore
    split
    · exact (product_finite h0 h1 r h j).1
    · exact bot_ne_top
  have hown : score q k r h ⟨r.val % 2048, by omega⟩ ≠ ⊥ := by
    unfold score blockScore
    rw [if_pos (Or.inr ⟨by dsimp only; omega, le_rfl⟩)]
    exact (product_finite h0 h1 r h _).2
  have hafter : ∀ j : Fin 2048, n ≤ j.val → score q k r h j = ⊥ := fun j hj =>
    blockScore_after (N := 2048) (nb := 8) rfl _ _ (by omega) _ _ _ (by omega)
  unfold attendedK attended
  rw [hs]
  exact pooled_eq_softmaxDot (score q k r h) ht _ hown (fun j => keys v r h j d) hn hafter

/-- A one-bit word as a choice. -/
def bit (p : Prop) : BitVec 1 := if p then 1#1 else 0#1

theorem ofBool_bit (p : Prop) [Decidable p] : BitVec.ofBool (decide p) = bit p := by
  unfold bit
  by_cases h : p <;> simp [h]
theorem select_bit {α : Type} (p : Prop) [Decidable p] (u w : α) : Scalar.select (bit p) u w = if p then u else w := by
  unfold bit
  by_cases h : p <;> simp [h, Scalar.select]
theorem or_bit (p q : Prop) : IntOp.ori (bit p) (bit q) = bit (p ∨ q) := by
  unfold bit
  by_cases h : p <;> by_cases h' : q <;> simp [h, h', IntOp.ori]
theorem and_bit (p q : Prop) : IntOp.andi (bit p) (bit q) = bit (p ∧ q) := by
  unfold bit
  by_cases h : p <;> by_cases h' : q <;> simp [h, h', IntOp.andi]
theorem sle_bit (a b : ℕ) (ha : a < 2 ^ 31) (hb : b < 2 ^ 31) :
    IntOp.cmpi .sle (BitVec.ofNat 32 a) (BitVec.ofNat 32 b) = bit (a ≤ b) := by
  rw [WordCmp.cmpi_sle_ofNat (w := 32) ha hb]
  unfold bit
  by_cases h : a ≤ b <;> simp [h]
theorem sge_bit (a b : ℕ) (ha : a < 2 ^ 31) (hb : b < 2 ^ 31) :
    IntOp.cmpi .sge (BitVec.ofNat 32 a) (BitVec.ofNat 32 b) = bit (b ≤ a) := by
  rw [← sle_bit b a hb ha]; rfl
theorem slt_bit (a b : ℕ) (ha : a < 2 ^ 31) (hb : b < 2 ^ 31) :
    IntOp.cmpi .slt (BitVec.ofNat 32 a) (BitVec.ofNat 32 b) = bit (a < b) := by
  rw [WordCmp.cmpi_slt_ofNat (w := 32) ha hb]
  unfold bit
  by_cases h : a < b <;> simp [h]
theorem sgt_bit (a b : ℕ) (ha : a < 2 ^ 31) (hb : b < 2 ^ 31) :
    IntOp.cmpi .sgt (BitVec.ofNat 32 a) (BitVec.ofNat 32 b) = bit (b < a) := by
  rw [← slt_bit b a hb ha]; rfl
theorem eq_bit (a b : ℕ) (ha : a < 2 ^ 31) (hb : b < 2 ^ 31) :
    IntOp.cmpi .eq (BitVec.ofNat 32 a) (BitVec.ofNat 32 b) = bit (a = b) := by
  have h : BitVec.ofNat 32 a = BitVec.ofNat 32 b ↔ a = b := by
    constructor
    · intro h
      have := congrArg BitVec.toNat h
      simp only [BitVec.toNat_ofNat] at this
      omega
    · rintro rfl; rfl
  unfold bit
  by_cases hab : a = b
  · subst hab; simp [IntOp.cmpi]
  · have hne : BitVec.ofNat 32 a ≠ BitVec.ofNat 32 b := fun e => hab (h.1 e)
    simp only [hab, if_false]
    show BitVec.ofBool (BitVec.ofNat 32 a == BitVec.ofNat 32 b) = 0#1
    rw [beq_false_of_ne hne]
    rfl

/-- A choice spread over its block's keys: above one half exactly where the key's block is chosen. -/
theorem spread {nb : ℕ} (p : Fin nb → Prop) [DecidablePred p] (a : Fin nb) :
    Ideal.ofBits .f32 0x3F000000#32
      < ∑ n : Fin nb, (if p n then if a.val = n.val then (1 : EReal) else 0 else 0) ↔ p a := by
  have hsum : (∑ n : Fin nb, (if p n then if a.val = n.val then (1 : EReal) else 0 else 0))
      = if p a then 1 else 0 := by
    rw [Finset.sum_eq_single a]
    · rw [if_pos rfl]
    · intro b _ hb
      rw [if_neg (fun e : a.val = b.val => hb (Fin.ext e.symm)), ite_self]
    · intro hn; exact absurd (Finset.mem_univ a) hn
  rw [hsum, half_bits]
  by_cases h : p a
  · simp only [h, if_true, iff_true]
    exact_mod_cast (by norm_num : (1 / 2 : ℝ) < 1)
  · simp only [h, if_false, iff_false, not_lt]
    exact_mod_cast (by norm_num : (0 : ℝ) ≤ 1 / 2)

/-- What one block's stored tile holds at an index, from the loaded blocks. -/
def blockOut {N nb : ℕ} (hN : N = nb * 256) (a : ℕ) (x0 : FVec Ideal ⟨2, ![256, 128]⟩ .f32) (x1 x2 : FVec Ideal ⟨2, ![N, 128]⟩ .f32)
    (r : Fin 256) (c : Fin 128) : EReal :=
  pooled (blockScore hN a (a * 256 + r.val) (fun x => x0 (ix2 r ⟨c.val / 64 * 64 + x.val, by omega⟩))
    (fun j x => x1 (ix2 j ⟨c.val / 64 * 64 + x.val, by omega⟩))) (fun j => x2 (ix2 j c))

/-- A head's tile, from the columns it loads, is the block's tile at those columns. -/
theorem head_block {N nb : ℕ} (hN : N = nb * 256) (a : ℕ) (x0 : FVec Ideal ⟨2, ![256, 128]⟩ .f32)
    (x1 x2 : FVec Ideal ⟨2, ![N, 128]⟩ .f32) (r : Fin 256) (h : Fin 2) (d : Fin 64) (c : Fin 128) (hc : c.val = h.val * 64 + d.val)
    (q : FVec Ideal ⟨2, ![256, 64]⟩ .f32) (k v : FVec Ideal ⟨2, ![N, 64]⟩ .f32)
    (hq : ∀ x : Fin 64, q (ix2 r x) = x0 (ix2 r ⟨h.val * 64 + x.val, by omega⟩))
    (hk : ∀ (j : Fin N) (x : Fin 64), k (ix2 j x) = x1 (ix2 j ⟨h.val * 64 + x.val, by omega⟩))
    (hv : ∀ (j : Fin N) (x : Fin 64), v (ix2 j x) = x2 (ix2 j ⟨h.val * 64 + x.val, by omega⟩)) :
    pooled (blockScore hN a (a * 256 + r.val) (fun x => q (ix2 r x)) (fun j x => k (ix2 j x))) (fun j => v (ix2 j d))
      = blockOut hN a x0 x1 x2 r c := by
  have hh : c.val / 64 = h.val := by omega
  have hcc : c = ⟨h.val * 64 + d.val, by omega⟩ := Fin.ext hc
  unfold blockOut
  simp only [hq, hk, hv, hh, ← hcc]

end Cert.Moba

end
-- ==== Proof.Moba.Head0.lean ====
module

public import proofs.«01_k».proof.Proof.Gen.KernelMobaIdeal.Frame
public import proofs.«01_k».proof.Proof.Moba.Spec

@[expose] public section

/-!
The first segment's stored tile at an index, from the blocks its body loads.

The body's values for one head are stated again as tiles of this segment's shapes: the mean keys, the gates, the ranks, the
keys' mask and the attended tile. Each is then read at an index. Both heads of a block are the same function of what they load.
-/

set_option maxRecDepth 65536

noncomputable section

open Idealize.ShloMosaic Idealize.ShloMosaic.TcCoe Idealize.SL.Sem
open scoped Classical

namespace Cert.KernelMobaIdeal.Value
open Cert.KernelMobaIdeal Cert.KernelMobaIdeal.Gen Cert.Mla Cert.Moba

theorem coord0 (i : grid0.Coords) : (i 2).val < 2 := (i 2).isLt

/-- The query block a grid step works on, as a word. -/
def word0 (i : grid0.Coords) : BitVec 32 := Scalar.addi (BitVec.ofNat 32 (i 2).val) 0#32
/-- The number of each block, by lane. -/
def lanes0 : IVec S256x2 32 := iota .tc S256x2 32 [1] iota_S256x2_d1_w32

/-- The mean key of each block. -/
def means0 (k : FVec Ideal S512x64 .f32) : FVec Ideal S2x64 .f32 :=
  divf (multiReduction .add [1] S2x64 (shapeCast S2x256x64 k shapeCasts_S512x64_S2x256x64) 0x00000000#32
    reduces_S2x256x64_S2x64 (.inl rfl) rfl) (broadcast S2x64 (Scalar.ofBits .f32 0x43800000#32))

/-- The gates. -/
def gates0 (w : BitVec 32) (q : FVec Ideal S256x64 .f32) (k : FVec Ideal S512x64 .f32) : FVec Ideal S256x2 .f32 :=
  select (cmpi .slt lanes0 (broadcast S256x2 w))
    (matmul dot_S256x64_S2x64_S256x2_1_1_0_0_n_n none (truncf .bf16 q bitsLt_bf16_f32)
      (truncf .bf16 (means0 k) bitsLt_bf16_f32) (constant S256x2 .f32 0x00000000#32))
    (broadcast S256x2 (Scalar.ofBits .f32 0xFF800000#32))

/-- One where the gate column `c`, of the block numbered `b`, comes before a lane's block. -/
def beats0 (b : BitVec 32) (c : FVec Ideal S256x1 .f32) (g : FVec Ideal S256x2 .f32) : FVec Ideal S256x2 .f32 :=
  select (ori (cmpf .ogt (broadcastTo S256x2 c broadcasts_S256x1_S256x2) g)
      (andi (cmpf .oeq (broadcastTo S256x2 c broadcasts_S256x1_S256x2) g) (cmpi .sgt lanes0 (broadcast S256x2 b))))
    (broadcast S256x2 (Scalar.ofBits .f32 0x3F800000#32)) (broadcast S256x2 (Scalar.ofBits .f32 0x00000000#32))

/-- The ranks, one block's comparison added after another. -/
def ranks0 (g : FVec Ideal S256x2 .f32) : FVec Ideal S256x2 .f32 :=
  addf
    (addf (broadcast S256x2 (Scalar.ofBits .f32 0x00000000#32)) (beats0 0#32 (extractStridedSlice S256x1 ![0, 0] g slices_S256x2_o0_0_S256x1) g)) (beats0 1#32 (extractStridedSlice S256x1 ![0, 1] g slices_S256x2_o0_1_S256x1) g)

/-- The keys' mask: a chosen block's keys, or the query's own block up to the query. -/
def mask0 (w : BitVec 32) (own : IVec S256x512 1) (g : FVec Ideal S256x2 .f32) : IVec S256x512 1 :=
  ori (cmpf .ogt (matmul dot_S256x2_S2x512_S256x512_1_0_0_1_n_n none
      (truncf .bf16 (select (andi (cmpf .olt (ranks0 g) (broadcast S256x2 (Scalar.ofBits .f32 0x40400000#32)))
          (cmpi .slt lanes0 (broadcast S256x2 w)))
        (broadcast S256x2 (Scalar.ofBits .f32 0x3F800000#32)) (broadcast S256x2 (Scalar.ofBits .f32 0x00000000#32))) bitsLt_bf16_f32)
      (k0_pay3 (F := Ideal)) (constant S256x512 .f32 0x00000000#32)) (broadcast S256x512 (Scalar.ofBits .f32 0x3F000000#32)))
    own

/-- The masked scores. -/
def scores0 (w : BitVec 32) (own : IVec S256x512 1) (q : FVec Ideal S256x64 .f32) (k : FVec Ideal S512x64 .f32) : FVec Ideal S256x512 .f32 :=
  select (mask0 w own (gates0 w q k))
    (mulf (matmul dot_S256x64_S512x64_S256x512_1_1_0_0_n_n none (truncf .bf16 q bitsLt_bf16_f32) (truncf .bf16 k bitsLt_bf16_f32)
      (constant S256x512 .f32 0x00000000#32)) (broadcast S256x512 (Scalar.ofBits .f32 0x3E000000#32)))
    (broadcast S256x512 (Scalar.ofBits .f32 0xFF800000#32))

/-- The weights: exponentials of scores less their largest. -/
def weights0 (s : FVec Ideal S256x512 .f32) : FVec Ideal S256x512 .f32 :=
  exp (subf s (broadcastTo S256x512 (shapeCast S256x1 (multiReduction .maximumf [1] S256 s 0xFF800000#32 reduces_S256x512_S256
    (.inl rfl) rfl) shapeCasts_S256_S256x1) broadcasts_S256x1_S256x512))

/-- One head's tile from its scores and values. -/
def tile0 (s : FVec Ideal S256x512 .f32) (v : FVec Ideal S512x64 .f32) : FVec Ideal S256x64 .f32 :=
  divf (matmul dot_S256x512_S512x64_S256x64_1_0_0_1_n_n none (truncf .bf16 (weights0 s) bitsLt_bf16_f32)
      (truncf .bf16 v bitsLt_bf16_f32) (constant S256x64 .f32 0x00000000#32))
    (broadcastTo S256x64 (shapeCast S256x1 (multiReduction .add [1] S256 (weights0 s) 0x00000000#32 reduces_S256x512_S256
      (.inl rfl) rfl) shapeCasts_S256_S256x1) broadcasts_S256x1_S256x64)

theorem tile0_at (s : FVec Ideal S256x512 .f32) (v : FVec Ideal S512x64 .f32) (r : Fin 256) (c : Fin 64) :
    tile0 s v (ix2 r c) = pooled (fun k => s (ix2 r k)) (fun k => v (ix2 k c)) := by
  pointwise [tile0, weights0]
  rfl

theorem means0_at (k : FVec Ideal S512x64 .f32) (n : Fin 2) (x : Fin 64) :
    means0 k (ix2 n x) = Ideal.div (∑ y : Fin 256, k (ix2 ⟨n.val * 256 + y.val, by omega⟩ x)) (Ideal.ofBits .f32 0x43800000#32) := by
  pointwise [means0]

theorem word0_eq (i : grid0.Coords) : word0 i = BitVec.ofNat 32 ((i 2).val + 0) := by
  show BitVec.ofNat 32 (i 2).val + BitVec.ofNat 32 0 = _
  rw [← BitVec.ofNat_add]

theorem gates0_at (a : ℕ) (ha : a < 8) (q : FVec Ideal S256x64 .f32) (k : FVec Ideal S512x64 .f32) (r : Fin 256) (n : Fin 2) :
    gates0 (BitVec.ofNat 32 a) q k (ix2 r n)
      = blockGate (N := 512) (nb := 2) rfl a (fun x => q (ix2 r x)) (fun j x => k (ix2 j x)) n := by
  pointwise [gates0, lanes0]
  simp only [means0_at]
  rw [slt_bit _ _ (by omega) (by omega), select_bit, neg_inf]
  rfl

theorem beats0_at (b : ℕ) (hb : b < 2) (c : FVec Ideal S256x1 .f32) (g : FVec Ideal S256x2 .f32) (r : Fin 256) (a : Fin 2)
    (hc : c (ix2 r 0) = g (ix2 r ⟨b, hb⟩)) :
    beats0 (BitVec.ofNat 32 b) c g (ix2 r a) = before (fun n => g (ix2 r n)) a ⟨b, hb⟩ := by
  pointwise [beats0, lanes0]
  simp only [sgt_bit a.val b (by omega) (by omega), ofBool_bit, and_bit, or_bit, hc]
  unfold before
  rw [← select_bit]

theorem ranks0_at (g : FVec Ideal S256x2 .f32) (r : Fin 256) (a : Fin 2) :
    ranks0 g (ix2 r a) = rank (fun n => g (ix2 r n)) a := by
  unfold rank
  rw [Fin.sum_univ_two]
  have h0 := beats0_at 0 (by omega) (extractStridedSlice S256x1 ![0, 0] g slices_S256x2_o0_0_S256x1) g r a (by pointwise)
  have h1 := beats0_at 1 (by omega) (extractStridedSlice S256x1 ![0, 1] g slices_S256x2_o0_1_S256x1) g r a (by pointwise)
  show (Ideal.ofBits .f32 0x00000000#32 + beats0 0#32 (extractStridedSlice S256x1 ![0, 0] g slices_S256x2_o0_0_S256x1) g (ix2 r a)) + beats0 1#32 (extractStridedSlice S256x1 ![0, 1] g slices_S256x2_o0_1_S256x1) g (ix2 r a) = _
  rw [h0, h1, zero_bits, zero_add]
  rfl

/-- The number of a key's block, as the body's words compute it. -/
theorem blockNo0 : ∀ j : Fin 512, Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector (BitVec.ofNat 32 j.val) 256#32) 0#32))
      (IntOp.subi (IntOp.divsi ArithUnit.vector (BitVec.ofNat 32 j.val) 256#32) 1#32)
      (IntOp.divsi ArithUnit.vector (BitVec.ofNat 32 j.val) 256#32) = BitVec.ofNat 32 (j.val / 256) := by
  decide +kernel

theorem expand0_at (n : Fin 2) (j : Fin 512) : k0_pay3 (F := Ideal) (ix2 n j)
    = if j.val / 256 = n.val then 1 else 0 := by
  pointwise [k0_pay3]
  rw [blockNo0 j, eq_bit _ _ (by omega) (by omega), select_bit]

/-- The query's own block up to the query. -/
theorem own0_at (i : grid0.Coords) (a : ℕ) (ha : a = (i 2).val + 0) (r : Fin 256) (j : Fin 512) : k0_pay2 i (ix2 r j)
    = bit (a * 256 ≤ j.val ∧ j.val ≤ a * 256 + r.val) := by
  have hi := coord0 i
  have e := query_word 0 (i 2).val r.val (by omega) (by omega) (by omega)
  have e' : Scalar.muli (Scalar.addi (BitVec.ofNat 32 (i 2).val) 0#32) 256#32 = BitVec.ofNat 32 (((i 2).val + 0) * 256) := by
    show (BitVec.ofNat 32 (i 2).val + BitVec.ofNat 32 0) * BitVec.ofNat 32 256 = _
    rw [← BitVec.ofNat_add, ← BitVec.ofNat_mul]
  rw [← ha] at e e'
  pointwise [k0_pay2]
  rw [e, e', sge_bit _ _ (by omega) (by omega), sle_bit _ _ (by omega) (by omega), and_bit]

theorem mask0_at (a : ℕ) (ha : a < 8) (own : IVec S256x512 1) (g : FVec Ideal S256x2 .f32) (r : Fin 256) (j : Fin 512) (p : Prop)
    (ho : own (ix2 r j) = bit p) :
    mask0 (BitVec.ofNat 32 a) own g (ix2 r j) = bit (Chosen (fun n => g (ix2 r n)) a ⟨j.val / 256, by omega⟩ ∨ p) := by
  pointwise [mask0, lanes0]
  have hl : ∀ n : Fin 2, IntOp.cmpi .slt (BitVec.ofNat 32 n.val) (BitVec.ofNat 32 a) = bit (n.val < a) := fun n =>
    slt_bit _ _ (by omega) (by omega)
  simp only [expand0_at, ranks0_at, hl, ofBool_bit, and_bit, select_bit, ho, or_bit]
  have hs := spread (fun n : Fin 2 => rank (fun n => g (ix2 r n)) n < Ideal.ofBits .f32 0x40400000#32 ∧ n.val < a) ⟨j.val / 256, by omega⟩
  exact congrArg bit (propext (or_congr hs Iff.rfl))

theorem scores0_at (i : grid0.Coords) (a : ℕ) (ha : a = (i 2).val + 0) (q : FVec Ideal S256x64 .f32)
    (k : FVec Ideal S512x64 .f32) (r : Fin 256) (j : Fin 512) :
    scores0 (BitVec.ofNat 32 a) (k0_pay2 i) q k (ix2 r j)
      = blockScore (N := 512) (nb := 2) rfl a (a * 256 + r.val) (fun x => q (ix2 r x)) (fun j x => k (ix2 j x)) j := by
  have hi := coord0 i
  have hm := mask0_at a (by omega) (k0_pay2 i) (gates0 (BitVec.ofNat 32 a) q k) r j _ (own0_at i a ha r j)
  have hg : (fun n => gates0 (BitVec.ofNat 32 a) q k (ix2 r n))
      = blockGate (N := 512) (nb := 2) rfl a (fun x => q (ix2 r x)) (fun j x => k (ix2 j x)) := funext fun n =>
    gates0_at a (by omega) q k r n
  rw [hg] at hm
  pointwise [scores0]
  rw [hm, select_bit, neg_inf]
  rfl

/-- One head's tile, from the columns its body loads. -/
def head0 (i : grid0.Coords) (q : FVec Ideal S256x64 .f32) (k v : FVec Ideal S512x64 .f32) : FVec Ideal S256x64 .f32 :=
  tile0 (scores0 (word0 i) (k0_pay2 i) q k) v

theorem head0_at (i : grid0.Coords) (q : FVec Ideal S256x64 .f32) (k v : FVec Ideal S512x64 .f32) (r : Fin 256) (c : Fin 64) :
    head0 i q k v (ix2 r c) = pooled (blockScore (N := 512) (nb := 2) rfl ((i 2).val + 0) (((i 2).val + 0) * 256 + r.val)
      (fun x => q (ix2 r x)) (fun j x => k (ix2 j x))) (fun j => v (ix2 j c)) := by
  unfold head0
  rw [tile0_at, word0_eq]
  exact congrArg (fun s => pooled s _) (funext fun j => scores0_at i _ rfl q k r j)

/-- The stored tile is the two heads' side by side. -/
theorem out0_heads (i : grid0.Coords) (x0 : Vec Ideal S256x128 .f32) (x1 x2 : Vec Ideal S512x128 .f32) (y : S256x128.Idx) :
    out0_3 (F := Ideal) i x0 x1 x2 y = concatenate S256x128 1
      [⟨S256x64, head0 i (View.ld x0 r0_0) (View.ld x1 r0_1) (View.ld x2 r0_1)⟩,
       ⟨S256x64, head0 i (View.ld x0 r0_2) (View.ld x1 r0_3) (View.ld x2 r0_3)⟩]
      concatenates_S256x64_S256x64_S256x128_d1 y := by
  frame_out
  rfl

theorem out0_at (i : grid0.Coords) (x0 : Vec Ideal S256x128 .f32) (x1 x2 : Vec Ideal S512x128 .f32) (r : Fin 256) (c : Fin 128) :
    out0_3 (F := Ideal) i x0 x1 x2 (ix2 r c)
      = blockOut (N := 512) (nb := 2) rfl ((i 2).val + 0) x0 x1 x2 r c := by
  rw [out0_heads]
  pointwise
  by_cases h0 : c.val < 64
  · rw [dif_pos h0, head0_at]
    exact head_block (N := 512) (nb := 2) rfl ((i 2).val + 0) x0 x1 x2 r 0 _ c (by show c.val = 0 * 64 + c.val; omega) _ _ _
      (fun x => ld_cols x0 _ _ x _ rfl) (fun k x => ld_cols x1 _ k x _ rfl) (fun k x => ld_cols x2 _ k x _ rfl)
  · rw [dif_neg h0, head0_at]
    exact head_block (N := 512) (nb := 2) rfl ((i 2).val + 0) x0 x1 x2 r 1 _ c (by show c.val = 1 * 64 + (c.val - 64); omega) _ _ _
      (fun x => ld_cols x0 _ _ x _ rfl) (fun k x => ld_cols x1 _ k x _ rfl) (fun k x => ld_cols x2 _ k x _ rfl)

end Cert.KernelMobaIdeal.Value

end
-- ==== Proof.Moba.Region0.lean ====
module

public import proofs.«01_k».proof.Proof.Moba.Head0

@[expose] public section

/-!
The first segment's output array: `attendedK` over its first 512 keys.
-/

set_option maxRecDepth 16384

noncomputable section

open Idealize.ShloMosaic Idealize.ShloMosaic.TcCoe Idealize.SL.Sem
open scoped Classical

namespace Cert.KernelMobaIdeal.Value
open Cert.KernelMobaIdeal Cert.KernelMobaIdeal.Gen Cert.Moba
open Cert.Mla (pooled)

/-- The token a row of the segment's output stands for. -/
abbrev tok0 (r : Fin 1024) : Fin 4096 := ⟨r.val / 512 * 2048 + 0 + r.val % 512, by omega⟩

variable (V : (c : Dev nD) → (b : Ref sig .tc) → Buf (Elt Ideal) ((c : Thread nD τ).loc b))

/-- The contents claimed of the segment's output. -/
def seg0 (c : Dev nD) : FVec Ideal S1024x512 .f32 := fun j =>
  attendedK (n := 512) (nb := 2) rfl (by omega) (V c main_arg0) (V c main_arg1) (V c main_arg2)
    (tok0 (j 0)) (Moba.headOf (j 1)) (Moba.lane (j 1))

theorem seg0_at (c : Dev nD) (r : Fin 1024) (q : Fin 512) : seg0 V c (ix2 r q)
    = attendedK (n := 512) (nb := 2) rfl (by omega) (V c main_arg0) (V c main_arg1) (V c main_arg2)
        (tok0 r) (Moba.headOf q) (Moba.lane q) := rfl

theorem idx0_0 : ∀ t : Fin grid0.N, win0_0.index t = ![(grid0.coords t 0).val * 8 + 0 + (grid0.coords t 2).val, (grid0.coords t 1).val] := by
  decide +kernel
theorem idx0_1 : ∀ t : Fin grid0.N, win0_1.index t = ![(grid0.coords t 0).val * 4, (grid0.coords t 1).val] := by
  decide +kernel
theorem idx0_2 : ∀ t : Fin grid0.N, win0_2.index t = ![(grid0.coords t 0).val * 4, (grid0.coords t 1).val] := by
  decide +kernel
theorem idx0_3 : ∀ t : Fin grid0.N, win0_3.index t = ![(grid0.coords t 0).val * 2 + (grid0.coords t 2).val, (grid0.coords t 1).val] := by
  decide +kernel

/-- One grid step's stored tile is its part of the claimed contents. -/
theorem point0 (c : Dev nD) (t : Fin grid0.N) (y : S256x128.Idx) :
    blockOut (N := 512) (nb := 2) rfl ((grid0.coords t 2).val + 0) (iblk0 V c 0 t) (iblk0 V c 1 t) (iblk0 V c 2 t)
      (y 0) (y 1) = seg0 V c (((cfg0.win 3).blk t).view.emb y) := by
  have h0 : (grid0.coords t 0).val < 2 := (grid0.coords t 0).isLt
  have h1 : (grid0.coords t 1).val < 4 := (grid0.coords t 1).isLt
  have h2 : (grid0.coords t 2).val < 2 := (grid0.coords t 2).isLt
  have hy0 : (y 0).val < 256 := (y 0).isLt
  have hy1 : (y 1).val < 128 := (y 1).isLt
  have e0 : ((((cfg0.win 3).blk t).view.emb y) 0).val
      = ((grid0.coords t 0).val * 2 + (grid0.coords t 2).val) * 256 + (y 0).val := by
    blk_simp [idx0_3]
  have e1 : ((((cfg0.win 3).blk t).view.emb y) 1).val = (grid0.coords t 1).val * 128 + (y 1).val := by
    blk_simp [idx0_3]
  generalize ((cfg0.win 3).blk t).view.emb y = j at e0 e1 ⊢
  have hp : (tok0 (j 0)).val % 2048 = ((grid0.coords t 2).val + 0) * 256 + (y 0).val := by
    show ((j 0).val / 512 * 2048 + 0 + (j 0).val % 512) % 2048 = _
    omega
  have hb : (tok0 (j 0)).val % 2048 / 256 = (grid0.coords t 2).val + 0 := by
    rw [hp]; omega
  unfold Moba.blockOut seg0 attendedK
  rw [hp, show (((grid0.coords t 2).val + 0) * 256 + (y 0).val) / 256 = (grid0.coords t 2).val + 0 by omega]
  unfold query keys
  refine congrArg₂ pooled (congrArg₂ (blockScore (N := 512) (nb := 2) rfl _ _) (funext fun x => ?_)
    (funext fun k => funext fun x => ?_)) (funext fun k => ?_)
  · have hx := x.isLt
    blk_ext [iblk0, idx0_0, e0, e1]
  · have hx := x.isLt
    have hk : (Fin.castLE (show 512 ≤ 2048 by omega) k).val = k.val := rfl
    blk_ext [iblk0, idx0_1, e0, e1]
  · have hk : (Fin.castLE (show 512 ≤ 2048 by omega) k).val = k.val := rfl
    blk_ext [iblk0, idx0_2, e0, e1]

/-- The segment's output array after all its grid steps. -/
theorem final0 (c : Dev nD) : (dat0 V c).arrAt 3 cfg0.N = seg0 V c := by
  refine (dat0 V c).arrAt_eq_of_covers 3 _ (by decide +kernel) fun t _ y => ?_
  blk_simp
  rw [after0_3]
  exact (congrArg _ (eq_ix2 y)).trans ((out0_at _ _ _ _ (y 0) (y 1)).trans (point0 V c t y))

end Cert.KernelMobaIdeal.Value

end
-- ==== Proof.Moba.Head1.lean ====
module

public import proofs.«01_k».proof.Proof.Gen.KernelMobaIdeal.Frame
public import proofs.«01_k».proof.Proof.Moba.Spec

@[expose] public section

/-!
The second segment's stored tile at an index, from the blocks its body loads.

The body's values for one head are stated again as tiles of this segment's shapes: the mean keys, the gates, the ranks, the
keys' mask and the attended tile. Each is then read at an index. Both heads of a block are the same function of what they load.
-/

set_option maxRecDepth 65536

noncomputable section

open Idealize.ShloMosaic Idealize.ShloMosaic.TcCoe Idealize.SL.Sem
open scoped Classical

namespace Cert.KernelMobaIdeal.Value
open Cert.KernelMobaIdeal Cert.KernelMobaIdeal.Gen Cert.Mla Cert.Moba

theorem coord1 (i : grid1.Coords) : (i 2).val < 2 := (i 2).isLt

/-- The query block a grid step works on, as a word. -/
def word1 (i : grid1.Coords) : BitVec 32 := Scalar.addi (BitVec.ofNat 32 (i 2).val) 2#32
/-- The number of each block, by lane. -/
def lanes1 : IVec S256x4 32 := iota .tc S256x4 32 [1] iota_S256x4_d1_w32

/-- The mean key of each block. -/
def means1 (k : FVec Ideal S1024x64 .f32) : FVec Ideal S4x64 .f32 :=
  divf (multiReduction .add [1] S4x64 (shapeCast S4x256x64 k shapeCasts_S1024x64_S4x256x64) 0x00000000#32
    reduces_S4x256x64_S4x64 (.inl rfl) rfl) (broadcast S4x64 (Scalar.ofBits .f32 0x43800000#32))

/-- The gates. -/
def gates1 (w : BitVec 32) (q : FVec Ideal S256x64 .f32) (k : FVec Ideal S1024x64 .f32) : FVec Ideal S256x4 .f32 :=
  select (cmpi .slt lanes1 (broadcast S256x4 w))
    (matmul dot_S256x64_S4x64_S256x4_1_1_0_0_n_n none (truncf .bf16 q bitsLt_bf16_f32)
      (truncf .bf16 (means1 k) bitsLt_bf16_f32) (constant S256x4 .f32 0x00000000#32))
    (broadcast S256x4 (Scalar.ofBits .f32 0xFF800000#32))

/-- One where the gate column `c`, of the block numbered `b`, comes before a lane's block. -/
def beats1 (b : BitVec 32) (c : FVec Ideal S256x1 .f32) (g : FVec Ideal S256x4 .f32) : FVec Ideal S256x4 .f32 :=
  select (ori (cmpf .ogt (broadcastTo S256x4 c broadcasts_S256x1_S256x4) g)
      (andi (cmpf .oeq (broadcastTo S256x4 c broadcasts_S256x1_S256x4) g) (cmpi .sgt lanes1 (broadcast S256x4 b))))
    (broadcast S256x4 (Scalar.ofBits .f32 0x3F800000#32)) (broadcast S256x4 (Scalar.ofBits .f32 0x00000000#32))

/-- The ranks, one block's comparison added after another. -/
def ranks1 (g : FVec Ideal S256x4 .f32) : FVec Ideal S256x4 .f32 :=
  addf
    (addf
    (addf
    (addf (broadcast S256x4 (Scalar.ofBits .f32 0x00000000#32)) (beats1 0#32 (extractStridedSlice S256x1 ![0, 0] g slices_S256x4_o0_0_S256x1) g)) (beats1 1#32 (extractStridedSlice S256x1 ![0, 1] g slices_S256x4_o0_1_S256x1) g)) (beats1 2#32 (extractStridedSlice S256x1 ![0, 2] g slices_S256x4_o0_2_S256x1) g)) (beats1 3#32 (extractStridedSlice S256x1 ![0, 3] g slices_S256x4_o0_3_S256x1) g)

/-- The keys' mask: a chosen block's keys, or the query's own block up to the query. -/
def mask1 (w : BitVec 32) (own : IVec S256x1024 1) (g : FVec Ideal S256x4 .f32) : IVec S256x1024 1 :=
  ori (cmpf .ogt (matmul dot_S256x4_S4x1024_S256x1024_1_0_0_1_n_n none
      (truncf .bf16 (select (andi (cmpf .olt (ranks1 g) (broadcast S256x4 (Scalar.ofBits .f32 0x40400000#32)))
          (cmpi .slt lanes1 (broadcast S256x4 w)))
        (broadcast S256x4 (Scalar.ofBits .f32 0x3F800000#32)) (broadcast S256x4 (Scalar.ofBits .f32 0x00000000#32))) bitsLt_bf16_f32)
      (k1_pay3 (F := Ideal)) (constant S256x1024 .f32 0x00000000#32)) (broadcast S256x1024 (Scalar.ofBits .f32 0x3F000000#32)))
    own

/-- The masked scores. -/
def scores1 (w : BitVec 32) (own : IVec S256x1024 1) (q : FVec Ideal S256x64 .f32) (k : FVec Ideal S1024x64 .f32) : FVec Ideal S256x1024 .f32 :=
  select (mask1 w own (gates1 w q k))
    (mulf (matmul dot_S256x64_S1024x64_S256x1024_1_1_0_0_n_n none (truncf .bf16 q bitsLt_bf16_f32) (truncf .bf16 k bitsLt_bf16_f32)
      (constant S256x1024 .f32 0x00000000#32)) (broadcast S256x1024 (Scalar.ofBits .f32 0x3E000000#32)))
    (broadcast S256x1024 (Scalar.ofBits .f32 0xFF800000#32))

/-- The weights: exponentials of scores less their largest. -/
def weights1 (s : FVec Ideal S256x1024 .f32) : FVec Ideal S256x1024 .f32 :=
  exp (subf s (broadcastTo S256x1024 (shapeCast S256x1 (multiReduction .maximumf [1] S256 s 0xFF800000#32 reduces_S256x1024_S256
    (.inl rfl) rfl) shapeCasts_S256_S256x1) broadcasts_S256x1_S256x1024))

/-- One head's tile from its scores and values. -/
def tile1 (s : FVec Ideal S256x1024 .f32) (v : FVec Ideal S1024x64 .f32) : FVec Ideal S256x64 .f32 :=
  divf (matmul dot_S256x1024_S1024x64_S256x64_1_0_0_1_n_n none (truncf .bf16 (weights1 s) bitsLt_bf16_f32)
      (truncf .bf16 v bitsLt_bf16_f32) (constant S256x64 .f32 0x00000000#32))
    (broadcastTo S256x64 (shapeCast S256x1 (multiReduction .add [1] S256 (weights1 s) 0x00000000#32 reduces_S256x1024_S256
      (.inl rfl) rfl) shapeCasts_S256_S256x1) broadcasts_S256x1_S256x64)

theorem tile1_at (s : FVec Ideal S256x1024 .f32) (v : FVec Ideal S1024x64 .f32) (r : Fin 256) (c : Fin 64) :
    tile1 s v (ix2 r c) = pooled (fun k => s (ix2 r k)) (fun k => v (ix2 k c)) := by
  pointwise [tile1, weights1]
  rfl

theorem means1_at (k : FVec Ideal S1024x64 .f32) (n : Fin 4) (x : Fin 64) :
    means1 k (ix2 n x) = Ideal.div (∑ y : Fin 256, k (ix2 ⟨n.val * 256 + y.val, by omega⟩ x)) (Ideal.ofBits .f32 0x43800000#32) := by
  pointwise [means1]

theorem word1_eq (i : grid1.Coords) : word1 i = BitVec.ofNat 32 ((i 2).val + 2) := by
  show BitVec.ofNat 32 (i 2).val + BitVec.ofNat 32 2 = _
  rw [← BitVec.ofNat_add]

theorem gates1_at (a : ℕ) (ha : a < 8) (q : FVec Ideal S256x64 .f32) (k : FVec Ideal S1024x64 .f32) (r : Fin 256) (n : Fin 4) :
    gates1 (BitVec.ofNat 32 a) q k (ix2 r n)
      = blockGate (N := 1024) (nb := 4) rfl a (fun x => q (ix2 r x)) (fun j x => k (ix2 j x)) n := by
  pointwise [gates1, lanes1]
  simp only [means1_at]
  rw [slt_bit _ _ (by omega) (by omega), select_bit, neg_inf]
  rfl

theorem beats1_at (b : ℕ) (hb : b < 4) (c : FVec Ideal S256x1 .f32) (g : FVec Ideal S256x4 .f32) (r : Fin 256) (a : Fin 4)
    (hc : c (ix2 r 0) = g (ix2 r ⟨b, hb⟩)) :
    beats1 (BitVec.ofNat 32 b) c g (ix2 r a) = before (fun n => g (ix2 r n)) a ⟨b, hb⟩ := by
  pointwise [beats1, lanes1]
  simp only [sgt_bit a.val b (by omega) (by omega), ofBool_bit, and_bit, or_bit, hc]
  unfold before
  rw [← select_bit]

theorem ranks1_at (g : FVec Ideal S256x4 .f32) (r : Fin 256) (a : Fin 4) :
    ranks1 g (ix2 r a) = rank (fun n => g (ix2 r n)) a := by
  unfold rank
  rw [Fin.sum_univ_four]
  have h0 := beats1_at 0 (by omega) (extractStridedSlice S256x1 ![0, 0] g slices_S256x4_o0_0_S256x1) g r a (by pointwise)
  have h1 := beats1_at 1 (by omega) (extractStridedSlice S256x1 ![0, 1] g slices_S256x4_o0_1_S256x1) g r a (by pointwise)
  have h2 := beats1_at 2 (by omega) (extractStridedSlice S256x1 ![0, 2] g slices_S256x4_o0_2_S256x1) g r a (by pointwise)
  have h3 := beats1_at 3 (by omega) (extractStridedSlice S256x1 ![0, 3] g slices_S256x4_o0_3_S256x1) g r a (by pointwise)
  show (((Ideal.ofBits .f32 0x00000000#32 + beats1 0#32 (extractStridedSlice S256x1 ![0, 0] g slices_S256x4_o0_0_S256x1) g (ix2 r a)) + beats1 1#32 (extractStridedSlice S256x1 ![0, 1] g slices_S256x4_o0_1_S256x1) g (ix2 r a)) + beats1 2#32 (extractStridedSlice S256x1 ![0, 2] g slices_S256x4_o0_2_S256x1) g (ix2 r a)) + beats1 3#32 (extractStridedSlice S256x1 ![0, 3] g slices_S256x4_o0_3_S256x1) g (ix2 r a) = _
  rw [h0, h1, h2, h3, zero_bits, zero_add]
  rfl

/-- The number of a key's block, as the body's words compute it. -/
theorem blockNo1 : ∀ j : Fin 1024, Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector (BitVec.ofNat 32 j.val) 256#32) 0#32))
      (IntOp.subi (IntOp.divsi ArithUnit.vector (BitVec.ofNat 32 j.val) 256#32) 1#32)
      (IntOp.divsi ArithUnit.vector (BitVec.ofNat 32 j.val) 256#32) = BitVec.ofNat 32 (j.val / 256) := by
  decide +kernel

theorem expand1_at (n : Fin 4) (j : Fin 1024) : k1_pay3 (F := Ideal) (ix2 n j)
    = if j.val / 256 = n.val then 1 else 0 := by
  pointwise [k1_pay3]
  rw [blockNo1 j, eq_bit _ _ (by omega) (by omega), select_bit]

/-- The query's own block up to the query. -/
theorem own1_at (i : grid1.Coords) (a : ℕ) (ha : a = (i 2).val + 2) (r : Fin 256) (j : Fin 1024) : k1_pay2 i (ix2 r j)
    = bit (a * 256 ≤ j.val ∧ j.val ≤ a * 256 + r.val) := by
  have hi := coord1 i
  have e := query_word 2 (i 2).val r.val (by omega) (by omega) (by omega)
  have e' : Scalar.muli (Scalar.addi (BitVec.ofNat 32 (i 2).val) 2#32) 256#32 = BitVec.ofNat 32 (((i 2).val + 2) * 256) := by
    show (BitVec.ofNat 32 (i 2).val + BitVec.ofNat 32 2) * BitVec.ofNat 32 256 = _
    rw [← BitVec.ofNat_add, ← BitVec.ofNat_mul]
  rw [← ha] at e e'
  pointwise [k1_pay2]
  rw [e, e', sge_bit _ _ (by omega) (by omega), sle_bit _ _ (by omega) (by omega), and_bit]

theorem mask1_at (a : ℕ) (ha : a < 8) (own : IVec S256x1024 1) (g : FVec Ideal S256x4 .f32) (r : Fin 256) (j : Fin 1024) (p : Prop)
    (ho : own (ix2 r j) = bit p) :
    mask1 (BitVec.ofNat 32 a) own g (ix2 r j) = bit (Chosen (fun n => g (ix2 r n)) a ⟨j.val / 256, by omega⟩ ∨ p) := by
  pointwise [mask1, lanes1]
  have hl : ∀ n : Fin 4, IntOp.cmpi .slt (BitVec.ofNat 32 n.val) (BitVec.ofNat 32 a) = bit (n.val < a) := fun n =>
    slt_bit _ _ (by omega) (by omega)
  simp only [expand1_at, ranks1_at, hl, ofBool_bit, and_bit, select_bit, ho, or_bit]
  have hs := spread (fun n : Fin 4 => rank (fun n => g (ix2 r n)) n < Ideal.ofBits .f32 0x40400000#32 ∧ n.val < a) ⟨j.val / 256, by omega⟩
  exact congrArg bit (propext (or_congr hs Iff.rfl))

theorem scores1_at (i : grid1.Coords) (a : ℕ) (ha : a = (i 2).val + 2) (q : FVec Ideal S256x64 .f32)
    (k : FVec Ideal S1024x64 .f32) (r : Fin 256) (j : Fin 1024) :
    scores1 (BitVec.ofNat 32 a) (k1_pay2 i) q k (ix2 r j)
      = blockScore (N := 1024) (nb := 4) rfl a (a * 256 + r.val) (fun x => q (ix2 r x)) (fun j x => k (ix2 j x)) j := by
  have hi := coord1 i
  have hm := mask1_at a (by omega) (k1_pay2 i) (gates1 (BitVec.ofNat 32 a) q k) r j _ (own1_at i a ha r j)
  have hg : (fun n => gates1 (BitVec.ofNat 32 a) q k (ix2 r n))
      = blockGate (N := 1024) (nb := 4) rfl a (fun x => q (ix2 r x)) (fun j x => k (ix2 j x)) := funext fun n =>
    gates1_at a (by omega) q k r n
  rw [hg] at hm
  pointwise [scores1]
  rw [hm, select_bit, neg_inf]
  rfl

/-- One head's tile, from the columns its body loads. -/
def head1 (i : grid1.Coords) (q : FVec Ideal S256x64 .f32) (k v : FVec Ideal S1024x64 .f32) : FVec Ideal S256x64 .f32 :=
  tile1 (scores1 (word1 i) (k1_pay2 i) q k) v

theorem head1_at (i : grid1.Coords) (q : FVec Ideal S256x64 .f32) (k v : FVec Ideal S1024x64 .f32) (r : Fin 256) (c : Fin 64) :
    head1 i q k v (ix2 r c) = pooled (blockScore (N := 1024) (nb := 4) rfl ((i 2).val + 2) (((i 2).val + 2) * 256 + r.val)
      (fun x => q (ix2 r x)) (fun j x => k (ix2 j x))) (fun j => v (ix2 j c)) := by
  unfold head1
  rw [tile1_at, word1_eq]
  exact congrArg (fun s => pooled s _) (funext fun j => scores1_at i _ rfl q k r j)

/-- The stored tile is the two heads' side by side. -/
theorem out1_heads (i : grid1.Coords) (x0 : Vec Ideal S256x128 .f32) (x1 x2 : Vec Ideal S1024x128 .f32) (y : S256x128.Idx) :
    out1_3 (F := Ideal) i x0 x1 x2 y = concatenate S256x128 1
      [⟨S256x64, head1 i (View.ld x0 r1_0) (View.ld x1 r1_1) (View.ld x2 r1_1)⟩,
       ⟨S256x64, head1 i (View.ld x0 r1_2) (View.ld x1 r1_3) (View.ld x2 r1_3)⟩]
      concatenates_S256x64_S256x64_S256x128_d1 y := by
  frame_out
  rfl

theorem out1_at (i : grid1.Coords) (x0 : Vec Ideal S256x128 .f32) (x1 x2 : Vec Ideal S1024x128 .f32) (r : Fin 256) (c : Fin 128) :
    out1_3 (F := Ideal) i x0 x1 x2 (ix2 r c)
      = blockOut (N := 1024) (nb := 4) rfl ((i 2).val + 2) x0 x1 x2 r c := by
  rw [out1_heads]
  pointwise
  by_cases h0 : c.val < 64
  · rw [dif_pos h0, head1_at]
    exact head_block (N := 1024) (nb := 4) rfl ((i 2).val + 2) x0 x1 x2 r 0 _ c (by show c.val = 0 * 64 + c.val; omega) _ _ _
      (fun x => ld_cols x0 _ _ x _ rfl) (fun k x => ld_cols x1 _ k x _ rfl) (fun k x => ld_cols x2 _ k x _ rfl)
  · rw [dif_neg h0, head1_at]
    exact head_block (N := 1024) (nb := 4) rfl ((i 2).val + 2) x0 x1 x2 r 1 _ c (by show c.val = 1 * 64 + (c.val - 64); omega) _ _ _
      (fun x => ld_cols x0 _ _ x _ rfl) (fun k x => ld_cols x1 _ k x _ rfl) (fun k x => ld_cols x2 _ k x _ rfl)

end Cert.KernelMobaIdeal.Value

end
-- ==== Proof.Moba.Region1.lean ====
module

public import proofs.«01_k».proof.Proof.Moba.Head1

@[expose] public section

/-!
The second segment's output array: `attendedK` over its first 1024 keys.
-/

set_option maxRecDepth 16384

noncomputable section

open Idealize.ShloMosaic Idealize.ShloMosaic.TcCoe Idealize.SL.Sem
open scoped Classical

namespace Cert.KernelMobaIdeal.Value
open Cert.KernelMobaIdeal Cert.KernelMobaIdeal.Gen Cert.Moba
open Cert.Mla (pooled)

/-- The token a row of the segment's output stands for. -/
abbrev tok1 (r : Fin 1024) : Fin 4096 := ⟨r.val / 512 * 2048 + 512 + r.val % 512, by omega⟩

variable (V : (c : Dev nD) → (b : Ref sig .tc) → Buf (Elt Ideal) ((c : Thread nD τ).loc b))

/-- The contents claimed of the segment's output. -/
def seg1 (c : Dev nD) : FVec Ideal S1024x512 .f32 := fun j =>
  attendedK (n := 1024) (nb := 4) rfl (by omega) (V c main_arg0) (V c main_arg1) (V c main_arg2)
    (tok1 (j 0)) (Moba.headOf (j 1)) (Moba.lane (j 1))

theorem seg1_at (c : Dev nD) (r : Fin 1024) (q : Fin 512) : seg1 V c (ix2 r q)
    = attendedK (n := 1024) (nb := 4) rfl (by omega) (V c main_arg0) (V c main_arg1) (V c main_arg2)
        (tok1 r) (Moba.headOf q) (Moba.lane q) := rfl

theorem idx1_0 : ∀ t : Fin grid1.N, win1_0.index t = ![(grid1.coords t 0).val * 8 + 2 + (grid1.coords t 2).val, (grid1.coords t 1).val] := by
  decide +kernel
theorem idx1_1 : ∀ t : Fin grid1.N, win1_1.index t = ![(grid1.coords t 0).val * 2, (grid1.coords t 1).val] := by
  decide +kernel
theorem idx1_2 : ∀ t : Fin grid1.N, win1_2.index t = ![(grid1.coords t 0).val * 2, (grid1.coords t 1).val] := by
  decide +kernel
theorem idx1_3 : ∀ t : Fin grid1.N, win1_3.index t = ![(grid1.coords t 0).val * 2 + (grid1.coords t 2).val, (grid1.coords t 1).val] := by
  decide +kernel

/-- One grid step's stored tile is its part of the claimed contents. -/
theorem point1 (c : Dev nD) (t : Fin grid1.N) (y : S256x128.Idx) :
    blockOut (N := 1024) (nb := 4) rfl ((grid1.coords t 2).val + 2) (iblk1 V c 0 t) (iblk1 V c 1 t) (iblk1 V c 2 t)
      (y 0) (y 1) = seg1 V c (((cfg1.win 3).blk t).view.emb y) := by
  have h0 : (grid1.coords t 0).val < 2 := (grid1.coords t 0).isLt
  have h1 : (grid1.coords t 1).val < 4 := (grid1.coords t 1).isLt
  have h2 : (grid1.coords t 2).val < 2 := (grid1.coords t 2).isLt
  have hy0 : (y 0).val < 256 := (y 0).isLt
  have hy1 : (y 1).val < 128 := (y 1).isLt
  have e0 : ((((cfg1.win 3).blk t).view.emb y) 0).val
      = ((grid1.coords t 0).val * 2 + (grid1.coords t 2).val) * 256 + (y 0).val := by
    blk_simp [idx1_3]
  have e1 : ((((cfg1.win 3).blk t).view.emb y) 1).val = (grid1.coords t 1).val * 128 + (y 1).val := by
    blk_simp [idx1_3]
  generalize ((cfg1.win 3).blk t).view.emb y = j at e0 e1 ⊢
  have hp : (tok1 (j 0)).val % 2048 = ((grid1.coords t 2).val + 2) * 256 + (y 0).val := by
    show ((j 0).val / 512 * 2048 + 512 + (j 0).val % 512) % 2048 = _
    omega
  have hb : (tok1 (j 0)).val % 2048 / 256 = (grid1.coords t 2).val + 2 := by
    rw [hp]; omega
  unfold Moba.blockOut seg1 attendedK
  rw [hp, show (((grid1.coords t 2).val + 2) * 256 + (y 0).val) / 256 = (grid1.coords t 2).val + 2 by omega]
  unfold query keys
  refine congrArg₂ pooled (congrArg₂ (blockScore (N := 1024) (nb := 4) rfl _ _) (funext fun x => ?_)
    (funext fun k => funext fun x => ?_)) (funext fun k => ?_)
  · have hx := x.isLt
    blk_ext [iblk1, idx1_0, e0, e1]
  · have hx := x.isLt
    have hk : (Fin.castLE (show 1024 ≤ 2048 by omega) k).val = k.val := rfl
    blk_ext [iblk1, idx1_1, e0, e1]
  · have hk : (Fin.castLE (show 1024 ≤ 2048 by omega) k).val = k.val := rfl
    blk_ext [iblk1, idx1_2, e0, e1]

/-- The segment's output array after all its grid steps. -/
theorem final1 (c : Dev nD) : (dat1 V c).arrAt 3 cfg1.N = seg1 V c := by
  refine (dat1 V c).arrAt_eq_of_covers 3 _ (by decide +kernel) fun t _ y => ?_
  blk_simp
  rw [after1_3]
  exact (congrArg _ (eq_ix2 y)).trans ((out1_at _ _ _ _ (y 0) (y 1)).trans (point1 V c t y))

end Cert.KernelMobaIdeal.Value

end
-- ==== Proof.Moba.Head2.lean ====
module

public import proofs.«01_k».proof.Proof.Gen.KernelMobaIdeal.Frame
public import proofs.«01_k».proof.Proof.Moba.Spec

@[expose] public section

/-!
The third segment's stored tile at an index, from the blocks its body loads.

The body's values for one head are stated again as tiles of this segment's shapes: the mean keys, the gates, the ranks, the
keys' mask and the attended tile. Each is then read at an index. Both heads of a block are the same function of what they load.
-/

set_option maxRecDepth 65536

noncomputable section

open Idealize.ShloMosaic Idealize.ShloMosaic.TcCoe Idealize.SL.Sem
open scoped Classical

namespace Cert.KernelMobaIdeal.Value
open Cert.KernelMobaIdeal Cert.KernelMobaIdeal.Gen Cert.Mla Cert.Moba

theorem coord2 (i : grid2.Coords) : (i 2).val < 4 := (i 2).isLt

/-- The query block a grid step works on, as a word. -/
def word2 (i : grid2.Coords) : BitVec 32 := Scalar.addi (BitVec.ofNat 32 (i 2).val) 4#32
/-- The number of each block, by lane. -/
def lanes2 : IVec S256x8 32 := iota .tc S256x8 32 [1] iota_S256x8_d1_w32

/-- The mean key of each block. -/
def means2 (k : FVec Ideal S2048x64 .f32) : FVec Ideal S8x64 .f32 :=
  divf (multiReduction .add [1] S8x64 (shapeCast S8x256x64 k shapeCasts_S2048x64_S8x256x64) 0x00000000#32
    reduces_S8x256x64_S8x64 (.inl rfl) rfl) (broadcast S8x64 (Scalar.ofBits .f32 0x43800000#32))

/-- The gates. -/
def gates2 (w : BitVec 32) (q : FVec Ideal S256x64 .f32) (k : FVec Ideal S2048x64 .f32) : FVec Ideal S256x8 .f32 :=
  select (cmpi .slt lanes2 (broadcast S256x8 w))
    (matmul dot_S256x64_S8x64_S256x8_1_1_0_0_n_n none (truncf .bf16 q bitsLt_bf16_f32)
      (truncf .bf16 (means2 k) bitsLt_bf16_f32) (constant S256x8 .f32 0x00000000#32))
    (broadcast S256x8 (Scalar.ofBits .f32 0xFF800000#32))

/-- One where the gate column `c`, of the block numbered `b`, comes before a lane's block. -/
def beats2 (b : BitVec 32) (c : FVec Ideal S256x1 .f32) (g : FVec Ideal S256x8 .f32) : FVec Ideal S256x8 .f32 :=
  select (ori (cmpf .ogt (broadcastTo S256x8 c broadcasts_S256x1_S256x8) g)
      (andi (cmpf .oeq (broadcastTo S256x8 c broadcasts_S256x1_S256x8) g) (cmpi .sgt lanes2 (broadcast S256x8 b))))
    (broadcast S256x8 (Scalar.ofBits .f32 0x3F800000#32)) (broadcast S256x8 (Scalar.ofBits .f32 0x00000000#32))

/-- The ranks, one block's comparison added after another. -/
def ranks2 (g : FVec Ideal S256x8 .f32) : FVec Ideal S256x8 .f32 :=
  addf
    (addf
    (addf
    (addf
    (addf
    (addf
    (addf
    (addf (broadcast S256x8 (Scalar.ofBits .f32 0x00000000#32)) (beats2 0#32 (extractStridedSlice S256x1 ![0, 0] g slices_S256x8_o0_0_S256x1) g)) (beats2 1#32 (extractStridedSlice S256x1 ![0, 1] g slices_S256x8_o0_1_S256x1) g)) (beats2 2#32 (extractStridedSlice S256x1 ![0, 2] g slices_S256x8_o0_2_S256x1) g)) (beats2 3#32 (extractStridedSlice S256x1 ![0, 3] g slices_S256x8_o0_3_S256x1) g)) (beats2 4#32 (extractStridedSlice S256x1 ![0, 4] g slices_S256x8_o0_4_S256x1) g)) (beats2 5#32 (extractStridedSlice S256x1 ![0, 5] g slices_S256x8_o0_5_S256x1) g)) (beats2 6#32 (extractStridedSlice S256x1 ![0, 6] g slices_S256x8_o0_6_S256x1) g)) (beats2 7#32 (extractStridedSlice S256x1 ![0, 7] g slices_S256x8_o0_7_S256x1) g)

/-- The keys' mask: a chosen block's keys, or the query's own block up to the query. -/
def mask2 (w : BitVec 32) (own : IVec S256x2048 1) (g : FVec Ideal S256x8 .f32) : IVec S256x2048 1 :=
  ori (cmpf .ogt (matmul dot_S256x8_S8x2048_S256x2048_1_0_0_1_n_n none
      (truncf .bf16 (select (andi (cmpf .olt (ranks2 g) (broadcast S256x8 (Scalar.ofBits .f32 0x40400000#32)))
          (cmpi .slt lanes2 (broadcast S256x8 w)))
        (broadcast S256x8 (Scalar.ofBits .f32 0x3F800000#32)) (broadcast S256x8 (Scalar.ofBits .f32 0x00000000#32))) bitsLt_bf16_f32)
      (k2_pay3 (F := Ideal)) (constant S256x2048 .f32 0x00000000#32)) (broadcast S256x2048 (Scalar.ofBits .f32 0x3F000000#32)))
    own

/-- The masked scores. -/
def scores2 (w : BitVec 32) (own : IVec S256x2048 1) (q : FVec Ideal S256x64 .f32) (k : FVec Ideal S2048x64 .f32) : FVec Ideal S256x2048 .f32 :=
  select (mask2 w own (gates2 w q k))
    (mulf (matmul dot_S256x64_S2048x64_S256x2048_1_1_0_0_n_n none (truncf .bf16 q bitsLt_bf16_f32) (truncf .bf16 k bitsLt_bf16_f32)
      (constant S256x2048 .f32 0x00000000#32)) (broadcast S256x2048 (Scalar.ofBits .f32 0x3E000000#32)))
    (broadcast S256x2048 (Scalar.ofBits .f32 0xFF800000#32))

/-- The weights: exponentials of scores less their largest. -/
def weights2 (s : FVec Ideal S256x2048 .f32) : FVec Ideal S256x2048 .f32 :=
  exp (subf s (broadcastTo S256x2048 (shapeCast S256x1 (multiReduction .maximumf [1] S256 s 0xFF800000#32 reduces_S256x2048_S256
    (.inl rfl) rfl) shapeCasts_S256_S256x1) broadcasts_S256x1_S256x2048))

/-- One head's tile from its scores and values. -/
def tile2 (s : FVec Ideal S256x2048 .f32) (v : FVec Ideal S2048x64 .f32) : FVec Ideal S256x64 .f32 :=
  divf (matmul dot_S256x2048_S2048x64_S256x64_1_0_0_1_n_n none (truncf .bf16 (weights2 s) bitsLt_bf16_f32)
      (truncf .bf16 v bitsLt_bf16_f32) (constant S256x64 .f32 0x00000000#32))
    (broadcastTo S256x64 (shapeCast S256x1 (multiReduction .add [1] S256 (weights2 s) 0x00000000#32 reduces_S256x2048_S256
      (.inl rfl) rfl) shapeCasts_S256_S256x1) broadcasts_S256x1_S256x64)

theorem tile2_at (s : FVec Ideal S256x2048 .f32) (v : FVec Ideal S2048x64 .f32) (r : Fin 256) (c : Fin 64) :
    tile2 s v (ix2 r c) = pooled (fun k => s (ix2 r k)) (fun k => v (ix2 k c)) := by
  pointwise [tile2, weights2]
  rfl

theorem means2_at (k : FVec Ideal S2048x64 .f32) (n : Fin 8) (x : Fin 64) :
    means2 k (ix2 n x) = Ideal.div (∑ y : Fin 256, k (ix2 ⟨n.val * 256 + y.val, by omega⟩ x)) (Ideal.ofBits .f32 0x43800000#32) := by
  pointwise [means2]

theorem word2_eq (i : grid2.Coords) : word2 i = BitVec.ofNat 32 ((i 2).val + 4) := by
  show BitVec.ofNat 32 (i 2).val + BitVec.ofNat 32 4 = _
  rw [← BitVec.ofNat_add]

theorem gates2_at (a : ℕ) (ha : a < 8) (q : FVec Ideal S256x64 .f32) (k : FVec Ideal S2048x64 .f32) (r : Fin 256) (n : Fin 8) :
    gates2 (BitVec.ofNat 32 a) q k (ix2 r n)
      = blockGate (N := 2048) (nb := 8) rfl a (fun x => q (ix2 r x)) (fun j x => k (ix2 j x)) n := by
  pointwise [gates2, lanes2]
  simp only [means2_at]
  rw [slt_bit _ _ (by omega) (by omega), select_bit, neg_inf]
  rfl

theorem beats2_at (b : ℕ) (hb : b < 8) (c : FVec Ideal S256x1 .f32) (g : FVec Ideal S256x8 .f32) (r : Fin 256) (a : Fin 8)
    (hc : c (ix2 r 0) = g (ix2 r ⟨b, hb⟩)) :
    beats2 (BitVec.ofNat 32 b) c g (ix2 r a) = before (fun n => g (ix2 r n)) a ⟨b, hb⟩ := by
  pointwise [beats2, lanes2]
  simp only [sgt_bit a.val b (by omega) (by omega), ofBool_bit, and_bit, or_bit, hc]
  unfold before
  rw [← select_bit]

theorem ranks2_at (g : FVec Ideal S256x8 .f32) (r : Fin 256) (a : Fin 8) :
    ranks2 g (ix2 r a) = rank (fun n => g (ix2 r n)) a := by
  unfold rank
  rw [Fin.sum_univ_eight]
  have h0 := beats2_at 0 (by omega) (extractStridedSlice S256x1 ![0, 0] g slices_S256x8_o0_0_S256x1) g r a (by pointwise)
  have h1 := beats2_at 1 (by omega) (extractStridedSlice S256x1 ![0, 1] g slices_S256x8_o0_1_S256x1) g r a (by pointwise)
  have h2 := beats2_at 2 (by omega) (extractStridedSlice S256x1 ![0, 2] g slices_S256x8_o0_2_S256x1) g r a (by pointwise)
  have h3 := beats2_at 3 (by omega) (extractStridedSlice S256x1 ![0, 3] g slices_S256x8_o0_3_S256x1) g r a (by pointwise)
  have h4 := beats2_at 4 (by omega) (extractStridedSlice S256x1 ![0, 4] g slices_S256x8_o0_4_S256x1) g r a (by pointwise)
  have h5 := beats2_at 5 (by omega) (extractStridedSlice S256x1 ![0, 5] g slices_S256x8_o0_5_S256x1) g r a (by pointwise)
  have h6 := beats2_at 6 (by omega) (extractStridedSlice S256x1 ![0, 6] g slices_S256x8_o0_6_S256x1) g r a (by pointwise)
  have h7 := beats2_at 7 (by omega) (extractStridedSlice S256x1 ![0, 7] g slices_S256x8_o0_7_S256x1) g r a (by pointwise)
  show (((((((Ideal.ofBits .f32 0x00000000#32 + beats2 0#32 (extractStridedSlice S256x1 ![0, 0] g slices_S256x8_o0_0_S256x1) g (ix2 r a)) + beats2 1#32 (extractStridedSlice S256x1 ![0, 1] g slices_S256x8_o0_1_S256x1) g (ix2 r a)) + beats2 2#32 (extractStridedSlice S256x1 ![0, 2] g slices_S256x8_o0_2_S256x1) g (ix2 r a)) + beats2 3#32 (extractStridedSlice S256x1 ![0, 3] g slices_S256x8_o0_3_S256x1) g (ix2 r a)) + beats2 4#32 (extractStridedSlice S256x1 ![0, 4] g slices_S256x8_o0_4_S256x1) g (ix2 r a)) + beats2 5#32 (extractStridedSlice S256x1 ![0, 5] g slices_S256x8_o0_5_S256x1) g (ix2 r a)) + beats2 6#32 (extractStridedSlice S256x1 ![0, 6] g slices_S256x8_o0_6_S256x1) g (ix2 r a)) + beats2 7#32 (extractStridedSlice S256x1 ![0, 7] g slices_S256x8_o0_7_S256x1) g (ix2 r a) = _
  rw [h0, h1, h2, h3, h4, h5, h6, h7, zero_bits, zero_add]
  rfl

/-- The number of a key's block, as the body's words compute it. -/
theorem blockNo2 : ∀ j : Fin 2048, Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector (BitVec.ofNat 32 j.val) 256#32) 0#32))
      (IntOp.subi (IntOp.divsi ArithUnit.vector (BitVec.ofNat 32 j.val) 256#32) 1#32)
      (IntOp.divsi ArithUnit.vector (BitVec.ofNat 32 j.val) 256#32) = BitVec.ofNat 32 (j.val / 256) := by
  decide +kernel

theorem expand2_at (n : Fin 8) (j : Fin 2048) : k2_pay3 (F := Ideal) (ix2 n j)
    = if j.val / 256 = n.val then 1 else 0 := by
  pointwise [k2_pay3]
  rw [blockNo2 j, eq_bit _ _ (by omega) (by omega), select_bit]

/-- The query's own block up to the query. -/
theorem own2_at (i : grid2.Coords) (a : ℕ) (ha : a = (i 2).val + 4) (r : Fin 256) (j : Fin 2048) : k2_pay2 i (ix2 r j)
    = bit (a * 256 ≤ j.val ∧ j.val ≤ a * 256 + r.val) := by
  have hi := coord2 i
  have e := query_word 4 (i 2).val r.val (by omega) (by omega) (by omega)
  have e' : Scalar.muli (Scalar.addi (BitVec.ofNat 32 (i 2).val) 4#32) 256#32 = BitVec.ofNat 32 (((i 2).val + 4) * 256) := by
    show (BitVec.ofNat 32 (i 2).val + BitVec.ofNat 32 4) * BitVec.ofNat 32 256 = _
    rw [← BitVec.ofNat_add, ← BitVec.ofNat_mul]
  rw [← ha] at e e'
  pointwise [k2_pay2]
  rw [e, e', sge_bit _ _ (by omega) (by omega), sle_bit _ _ (by omega) (by omega), and_bit]

theorem mask2_at (a : ℕ) (ha : a < 8) (own : IVec S256x2048 1) (g : FVec Ideal S256x8 .f32) (r : Fin 256) (j : Fin 2048) (p : Prop)
    (ho : own (ix2 r j) = bit p) :
    mask2 (BitVec.ofNat 32 a) own g (ix2 r j) = bit (Chosen (fun n => g (ix2 r n)) a ⟨j.val / 256, by omega⟩ ∨ p) := by
  pointwise [mask2, lanes2]
  have hl : ∀ n : Fin 8, IntOp.cmpi .slt (BitVec.ofNat 32 n.val) (BitVec.ofNat 32 a) = bit (n.val < a) := fun n =>
    slt_bit _ _ (by omega) (by omega)
  simp only [expand2_at, ranks2_at, hl, ofBool_bit, and_bit, select_bit, ho, or_bit]
  have hs := spread (fun n : Fin 8 => rank (fun n => g (ix2 r n)) n < Ideal.ofBits .f32 0x40400000#32 ∧ n.val < a) ⟨j.val / 256, by omega⟩
  exact congrArg bit (propext (or_congr hs Iff.rfl))

theorem scores2_at (i : grid2.Coords) (a : ℕ) (ha : a = (i 2).val + 4) (q : FVec Ideal S256x64 .f32)
    (k : FVec Ideal S2048x64 .f32) (r : Fin 256) (j : Fin 2048) :
    scores2 (BitVec.ofNat 32 a) (k2_pay2 i) q k (ix2 r j)
      = blockScore (N := 2048) (nb := 8) rfl a (a * 256 + r.val) (fun x => q (ix2 r x)) (fun j x => k (ix2 j x)) j := by
  have hi := coord2 i
  have hm := mask2_at a (by omega) (k2_pay2 i) (gates2 (BitVec.ofNat 32 a) q k) r j _ (own2_at i a ha r j)
  have hg : (fun n => gates2 (BitVec.ofNat 32 a) q k (ix2 r n))
      = blockGate (N := 2048) (nb := 8) rfl a (fun x => q (ix2 r x)) (fun j x => k (ix2 j x)) := funext fun n =>
    gates2_at a (by omega) q k r n
  rw [hg] at hm
  pointwise [scores2]
  rw [hm, select_bit, neg_inf]
  rfl

/-- One head's tile, from the columns its body loads. -/
def head2 (i : grid2.Coords) (q : FVec Ideal S256x64 .f32) (k v : FVec Ideal S2048x64 .f32) : FVec Ideal S256x64 .f32 :=
  tile2 (scores2 (word2 i) (k2_pay2 i) q k) v

theorem head2_at (i : grid2.Coords) (q : FVec Ideal S256x64 .f32) (k v : FVec Ideal S2048x64 .f32) (r : Fin 256) (c : Fin 64) :
    head2 i q k v (ix2 r c) = pooled (blockScore (N := 2048) (nb := 8) rfl ((i 2).val + 4) (((i 2).val + 4) * 256 + r.val)
      (fun x => q (ix2 r x)) (fun j x => k (ix2 j x))) (fun j => v (ix2 j c)) := by
  unfold head2
  rw [tile2_at, word2_eq]
  exact congrArg (fun s => pooled s _) (funext fun j => scores2_at i _ rfl q k r j)

/-- The stored tile is the two heads' side by side. -/
theorem out2_heads (i : grid2.Coords) (x0 : Vec Ideal S256x128 .f32) (x1 x2 : Vec Ideal S2048x128 .f32) (y : S256x128.Idx) :
    out2_3 (F := Ideal) i x0 x1 x2 y = concatenate S256x128 1
      [⟨S256x64, head2 i (View.ld x0 r2_0) (View.ld x1 r2_1) (View.ld x2 r2_1)⟩,
       ⟨S256x64, head2 i (View.ld x0 r2_2) (View.ld x1 r2_3) (View.ld x2 r2_3)⟩]
      concatenates_S256x64_S256x64_S256x128_d1 y := by
  frame_out
  rfl

theorem out2_at (i : grid2.Coords) (x0 : Vec Ideal S256x128 .f32) (x1 x2 : Vec Ideal S2048x128 .f32) (r : Fin 256) (c : Fin 128) :
    out2_3 (F := Ideal) i x0 x1 x2 (ix2 r c)
      = blockOut (N := 2048) (nb := 8) rfl ((i 2).val + 4) x0 x1 x2 r c := by
  rw [out2_heads]
  pointwise
  by_cases h0 : c.val < 64
  · rw [dif_pos h0, head2_at]
    exact head_block (N := 2048) (nb := 8) rfl ((i 2).val + 4) x0 x1 x2 r 0 _ c (by show c.val = 0 * 64 + c.val; omega) _ _ _
      (fun x => ld_cols x0 _ _ x _ rfl) (fun k x => ld_cols x1 _ k x _ rfl) (fun k x => ld_cols x2 _ k x _ rfl)
  · rw [dif_neg h0, head2_at]
    exact head_block (N := 2048) (nb := 8) rfl ((i 2).val + 4) x0 x1 x2 r 1 _ c (by show c.val = 1 * 64 + (c.val - 64); omega) _ _ _
      (fun x => ld_cols x0 _ _ x _ rfl) (fun k x => ld_cols x1 _ k x _ rfl) (fun k x => ld_cols x2 _ k x _ rfl)

end Cert.KernelMobaIdeal.Value

end
-- ==== Proof.Moba.Region2.lean ====
module

public import proofs.«01_k».proof.Proof.Moba.Head2

@[expose] public section

/-!
The third segment's output array: `attendedK` over its first 2048 keys.
-/

set_option maxRecDepth 16384

noncomputable section

open Idealize.ShloMosaic Idealize.ShloMosaic.TcCoe Idealize.SL.Sem
open scoped Classical

namespace Cert.KernelMobaIdeal.Value
open Cert.KernelMobaIdeal Cert.KernelMobaIdeal.Gen Cert.Moba
open Cert.Mla (pooled)

/-- The token a row of the segment's output stands for. -/
abbrev tok2 (r : Fin 2048) : Fin 4096 := ⟨r.val / 1024 * 2048 + 1024 + r.val % 1024, by omega⟩

variable (V : (c : Dev nD) → (b : Ref sig .tc) → Buf (Elt Ideal) ((c : Thread nD τ).loc b))

/-- The contents claimed of the segment's output. -/
def seg2 (c : Dev nD) : FVec Ideal S2048x512 .f32 := fun j =>
  attendedK (n := 2048) (nb := 8) rfl (by omega) (V c main_arg0) (V c main_arg1) (V c main_arg2)
    (tok2 (j 0)) (Moba.headOf (j 1)) (Moba.lane (j 1))

theorem seg2_at (c : Dev nD) (r : Fin 2048) (q : Fin 512) : seg2 V c (ix2 r q)
    = attendedK (n := 2048) (nb := 8) rfl (by omega) (V c main_arg0) (V c main_arg1) (V c main_arg2)
        (tok2 r) (Moba.headOf q) (Moba.lane q) := rfl

theorem idx2_0 : ∀ t : Fin grid2.N, win2_0.index t = ![(grid2.coords t 0).val * 8 + 4 + (grid2.coords t 2).val, (grid2.coords t 1).val] := by
  decide +kernel
theorem idx2_1 : ∀ t : Fin grid2.N, win2_1.index t = ![(grid2.coords t 0).val * 1, (grid2.coords t 1).val] := by
  decide +kernel
theorem idx2_2 : ∀ t : Fin grid2.N, win2_2.index t = ![(grid2.coords t 0).val * 1, (grid2.coords t 1).val] := by
  decide +kernel
theorem idx2_3 : ∀ t : Fin grid2.N, win2_3.index t = ![(grid2.coords t 0).val * 4 + (grid2.coords t 2).val, (grid2.coords t 1).val] := by
  decide +kernel

/-- One grid step's stored tile is its part of the claimed contents. -/
theorem point2 (c : Dev nD) (t : Fin grid2.N) (y : S256x128.Idx) :
    blockOut (N := 2048) (nb := 8) rfl ((grid2.coords t 2).val + 4) (iblk2 V c 0 t) (iblk2 V c 1 t) (iblk2 V c 2 t)
      (y 0) (y 1) = seg2 V c (((cfg2.win 3).blk t).view.emb y) := by
  have h0 : (grid2.coords t 0).val < 2 := (grid2.coords t 0).isLt
  have h1 : (grid2.coords t 1).val < 4 := (grid2.coords t 1).isLt
  have h2 : (grid2.coords t 2).val < 4 := (grid2.coords t 2).isLt
  have hy0 : (y 0).val < 256 := (y 0).isLt
  have hy1 : (y 1).val < 128 := (y 1).isLt
  have e0 : ((((cfg2.win 3).blk t).view.emb y) 0).val
      = ((grid2.coords t 0).val * 4 + (grid2.coords t 2).val) * 256 + (y 0).val := by
    blk_simp [idx2_3]
  have e1 : ((((cfg2.win 3).blk t).view.emb y) 1).val = (grid2.coords t 1).val * 128 + (y 1).val := by
    blk_simp [idx2_3]
  generalize ((cfg2.win 3).blk t).view.emb y = j at e0 e1 ⊢
  have hp : (tok2 (j 0)).val % 2048 = ((grid2.coords t 2).val + 4) * 256 + (y 0).val := by
    show ((j 0).val / 1024 * 2048 + 1024 + (j 0).val % 1024) % 2048 = _
    omega
  have hb : (tok2 (j 0)).val % 2048 / 256 = (grid2.coords t 2).val + 4 := by
    rw [hp]; omega
  unfold Moba.blockOut seg2 attendedK
  rw [hp, show (((grid2.coords t 2).val + 4) * 256 + (y 0).val) / 256 = (grid2.coords t 2).val + 4 by omega]
  unfold query keys
  refine congrArg₂ pooled (congrArg₂ (blockScore (N := 2048) (nb := 8) rfl _ _) (funext fun x => ?_)
    (funext fun k => funext fun x => ?_)) (funext fun k => ?_)
  · have hx := x.isLt
    blk_ext [iblk2, idx2_0, e0, e1]
  · have hx := x.isLt
    have hk : (Fin.castLE (show 2048 ≤ 2048 by omega) k).val = k.val := rfl
    blk_ext [iblk2, idx2_1, e0, e1]
  · have hk : (Fin.castLE (show 2048 ≤ 2048 by omega) k).val = k.val := rfl
    blk_ext [iblk2, idx2_2, e0, e1]

/-- The segment's output array after all its grid steps. -/
theorem final2 (c : Dev nD) : (dat2 V c).arrAt 3 cfg2.N = seg2 V c := by
  refine (dat2 V c).arrAt_eq_of_covers 3 _ (by decide +kernel) fun t _ y => ?_
  blk_simp
  rw [after2_3]
  exact (congrArg _ (eq_ix2 y)).trans ((out2_at _ _ _ _ (y 0) (y 1)).trans (point2 V c t y))

end Cert.KernelMobaIdeal.Value

end
-- ==== Proof.Moba.Launch.lean ====
module

public import proofs.«01_k».proof.Proof.Moba.Region0
public import proofs.«01_k».proof.Proof.Moba.Region1
public import proofs.«01_k».proof.Proof.Moba.Region2

@[expose] public section

/-!
The kernel's run: every execution ends with the result buffer holding what the last host operations make of the three
segments' output arrays, and that is `attendedK` at every index.
-/

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelMobaIdeal.Value
open Cert.KernelMobaIdeal Cert.KernelMobaIdeal.Gen Cert.Moba
open Cert.Mla (pooled)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The launch, keeping the result buffer. -/
theorem run_result : θ_run defs (onTc (τ := τ) (main (F := Ideal))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- The segments' outputs as the last host operations find them. -/
theorem W3_seg0 (c : Dev nD) : W3 m ρ c (Proc.devRef .tc main_v0) = seg0 (V0 m ρ) c := by
  rw [W3_of_ne m ρ c main_v0 (by decide), W2_of_ne m ρ c main_v0 (by decide)]
  exact ((hF0 m ρ c 3).symm).trans (final0 (V0 m ρ) c)
theorem W3_seg1 (c : Dev nD) : W3 m ρ c (Proc.devRef .tc main_v1) = seg1 (V1 m ρ) c := by
  rw [W3_of_ne m ρ c main_v1 (by decide)]
  exact ((hF1 m ρ c 3).symm).trans (final1 (V1 m ρ) c)
theorem W3_seg2 (c : Dev nD) : W3 m ρ c (Proc.devRef .tc main_v2) = seg2 (V2 m ρ) c :=
  ((hF2 m ρ c 3).symm).trans (final2 (V2 m ρ) c)

/-- The rows of the three outputs, joined per batch row. -/
def joined (a b : FVec Ideal S1024x512 .f32) (d : FVec Ideal S2048x512 .f32) : FVec Ideal S4096x512 .f32 :=
  shapeCast _ (concatenate S2x2048x512 1 [⟨S2x512x512, shapeCast _ a shapeCasts_S1024x512_S2x512x512⟩,
    ⟨S2x512x512, shapeCast _ b shapeCasts_S1024x512_S2x512x512⟩, ⟨S2x1024x512, shapeCast _ d shapeCasts_S2048x512_S2x1024x512⟩]
    concatenates_S2x512x512_S2x512x512_S2x1024x512_S2x2048x512_d1) shapeCasts_S2x2048x512_S4096x512

theorem W4_result (c : Dev nD) : W4 m ρ c (Proc.devRef .tc main_v7)
    = joined (W3 m ρ c (Proc.devRef .tc main_v0)) (W3 m ρ c (Proc.devRef .tc main_v1)) (W3 m ρ c (Proc.devRef .tc main_v2)) := by
  after_results_simp
  rfl

theorem joined_at (a b : FVec Ideal S1024x512 .f32) (d : FVec Ideal S2048x512 .f32) (r : Fin 4096) (c : Fin 512) :
    joined a b d (ix2 r c) = if h : r.val % 2048 < 512 then a (ix2 ⟨r.val / 2048 * 512 + r.val % 2048, by omega⟩ c)
      else if h' : r.val % 2048 - 512 < 512 then b (ix2 ⟨r.val / 2048 * 512 + (r.val % 2048 - 512), by omega⟩ c)
      else d (ix2 ⟨r.val / 2048 * 1024 + (r.val % 2048 - 512 - 512), by omega⟩ c) := by
  pointwise [joined]

/-- A segment reads the argument arrays as they were launched. -/
theorem V0_arg (c : Dev nD) (a : Ref sig .tc) (h : a ∈ argRefs) : V0 m ρ c a = m ((c : Thread nD τ).loc a) := W0_args m ρ c a h
theorem V1_arg (c : Dev nD) (a : Ref sig .tc) (h : a ∈ argRefs) : V1 m ρ c a = m ((c : Thread nD τ).loc a) := W1_args m ρ c a h
theorem V2_arg (c : Dev nD) (a : Ref sig .tc) (h : a ∈ argRefs) : V2 m ρ c a = m ((c : Thread nD τ).loc a) := W2_args m ρ c a h

/-- The result at a token and a column. -/
theorem result_at (d : Dev nD)
    (h0 : Mla.Finite (m ((d.tc : Thread nD τ).loc main_arg0))) (h1 : Mla.Finite (m ((d.tc : Thread nD τ).loc main_arg1)))
    (r : Fin 4096) (c : Fin 512) :
    W4 m ρ d (Proc.devRef .tc main_v7) (ix2 r c)
      = attended (m ((d.tc : Thread nD τ).loc main_arg0)) (m ((d.tc : Thread nD τ).loc main_arg1))
          (m ((d.tc : Thread nD τ).loc main_arg2)) r (Moba.headOf c) (Moba.lane c) := by
  rw [W4_result, W3_seg0, W3_seg1, W3_seg2, joined_at]
  split
  · rename_i hr
    rw [seg0_at, V0_arg m ρ d main_arg0 (by decide), V0_arg m ρ d main_arg1 (by decide), V0_arg m ρ d main_arg2 (by decide)]
    have ht : tok0 ⟨r.val / 2048 * 512 + r.val % 2048, by omega⟩ = r := Fin.ext (by
      show (r.val / 2048 * 512 + r.val % 2048) / 512 * 2048 + 0 + (r.val / 2048 * 512 + r.val % 2048) % 512 = r.val
      omega)
    rw [ht]
    exact attendedK_eq (n := 512) (nb := 2) _ h0 h1 rfl _ r hr (Moba.headOf c) (Moba.lane c)
  · rename_i hr
    split
    · rename_i hr'
      rw [seg1_at, V1_arg m ρ d main_arg0 (by decide), V1_arg m ρ d main_arg1 (by decide), V1_arg m ρ d main_arg2 (by decide)]
      have ht : tok1 ⟨r.val / 2048 * 512 + (r.val % 2048 - 512), by omega⟩ = r := Fin.ext (by
        show (r.val / 2048 * 512 + (r.val % 2048 - 512)) / 512 * 2048 + 512 + (r.val / 2048 * 512 + (r.val % 2048 - 512)) % 512 = r.val
        omega)
      rw [ht]
      exact attendedK_eq (n := 1024) (nb := 4) _ h0 h1 rfl _ r (by omega) (Moba.headOf c) (Moba.lane c)
    · rw [seg2_at, V2_arg m ρ d main_arg0 (by decide), V2_arg m ρ d main_arg1 (by decide), V2_arg m ρ d main_arg2 (by decide)]
      have ht : tok2 ⟨r.val / 2048 * 1024 + (r.val % 2048 - 512 - 512), by omega⟩ = r := Fin.ext (by
        show (r.val / 2048 * 1024 + (r.val % 2048 - 512 - 512)) / 1024 * 2048 + 1024
          + (r.val / 2048 * 1024 + (r.val % 2048 - 512 - 512)) % 1024 = r.val
        omega)
      rw [ht]
      exact attendedK_eq (n := 2048) (nb := 8) _ h0 h1 rfl _ r (by omega) (Moba.headOf c) (Moba.lane c)

end Cert.KernelMobaIdeal.Value

end
-- ==== Proof.Moba.Pick.lean ====
module

public import proofs.«01_k».proof.Proof.Moba.Spec
public import Idealize.ShloMosaic.Lib.SortFacts
public import Idealize.ShloMosaic.Lib.SortPrefix

@[expose] public section

/-!
The first three of a stable sort, larger first, are the three blocks that fewer than three others come before.
-/

noncomputable section
open Idealize.ShloMosaic
open scoped Classical
namespace Cert.Moba

/-- Larger first. -/
def larger {n : ℕ} (g : Fin n → EReal) (a b : Fin n) : Bool := FloatOps.cmpfTotal (F := Ideal) (φ := .f32) .gt (g a) (g b) == 1#1

/-- Larger first, and of equal ones the earlier. -/
def ahead {n : ℕ} (g : Fin n → EReal) (a b : Fin n) : Bool :=
  decide (g b < g a) || (decide (g a = g b) && decide (a < b))

theorem larger_eq {n : ℕ} (g : Fin n → EReal) (a b : Fin n) : larger g a b = decide (g b < g a) := by
  unfold larger
  rw [show FloatOps.cmpfTotal (F := Ideal) (φ := .f32) .gt (g a) (g b) = BitVec.ofBool (decide (g b < g a)) from rfl]
  by_cases h : g b < g a <;> simp [h]

theorem ahead_total {n : ℕ} (g : Fin n → EReal) : StrictTotalBefore (ahead g) :=
  StrictTotalBefore.of_key_then_position (fun x y : EReal => decide (y < x)) g (fun a => by simp)
    (fun a b c hab hbc => by
      simp only [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)

/-- On a list in ascending order a stable sort does not tell the two apart. -/
theorem sort_larger {n : ℕ} (g : Fin n → EReal) (l : List (Fin n)) (hl : l.Pairwise (· < ·)) :
    stableSort (larger g) l = stableSort (ahead g) l := by
  induction l with
  | nil => rfl
  | cons a l ih =>
    rw [List.pairwise_cons] at hl
    unfold stableSort
    rw [ih hl.2]
    refine insertBefore_congr _ _ a _ fun b hb => ?_
    have hab : a < b := hl.1 b ((perm_stableSort (ahead g) l).mem_iff.mp hb)
    rw [larger_eq]
    unfold ahead
    rw [decide_eq_false (not_lt.mpr hab.le), Bool.and_false, Bool.or_false]

theorem sortedFrom_larger {n : ℕ} (g : Fin n → EReal) : sortedFrom (larger g) = sortedFrom (ahead g) := by
  funext k
  unfold sortedFrom
  have h : sortPositions n (larger g) = sortPositions n (ahead g) := sort_larger g _ (List.pairwise_lt_finRange n)
  rw [List.get_of_eq h]
  rfl

/-- What a place of the sort comes after is what fills the places before it. -/
theorem ahead_sorted {n : ℕ} (g : Fin n → EReal) (s t : Fin n) :
    ahead g (sortedFrom (ahead g) s) (sortedFrom (ahead g) t) = decide (s < t) := by
  have H := ahead_total g
  have hno : ∀ i j : Fin n, i < j → ahead g (sortedFrom (ahead g) j) (sortedFrom (ahead g) i) = false :=
    sortedFrom_noInversion _ _ (fun a b h => H.asymm a b h) (fun _ _ h => h) H.negTrans
  rcases lt_trichotomy s t with h | h | h
  · rw [decide_eq_true h]
    rcases H.total (sortedFrom (ahead g) s) (sortedFrom (ahead g) t) (fun e => h.ne (sortedFrom_injective _ e)) with h' | h'
    · exact h'
    · rw [hno s t h] at h'
      cases h'
  · subst h
    rw [H.irrefl, decide_eq_false (lt_irrefl _)]
  · rw [hno t s h, decide_eq_false (not_lt.mpr h.le)]

/-- The block at a place of the sort has as many blocks before it as the place has places. -/
theorem rank_sorted {n : ℕ} (g : Fin n → EReal) (t : Fin n) : rank g (sortedFrom (ahead g) t) = ((t.val : ℕ) : EReal) := by
  have hb : ∀ b, before g (sortedFrom (ahead g) t) b = if ahead g b (sortedFrom (ahead g) t) = true then 1 else 0 := fun b => by
    unfold before ahead
    refine if_congr ?_ rfl rfl
    simp only [Bool.or_eq_true, Bool.and_eq_true, decide_eq_true_eq, Fin.lt_def]
  unfold rank
  simp only [hb]
  have hbij : Function.Bijective (sortedFrom (ahead g)) := And.intro (sortedFrom_injective _) (sortedFrom_surjective _)
  rw [← hbij.sum_comp]
  simp only [ahead_sorted, decide_eq_true_eq]
  rw [Finset.sum_boole]
  refine congrArg (fun c : ℕ => (c : EReal)) ?_
  rw [show (Finset.univ.filter fun x : Fin n => x < t) = Finset.Iio t from by ext x; simp, Fin.card_Iio]

theorem three : Ideal.ofBits .f32 0x40400000#32 = ((3 : ℕ) : EReal) := by
  rw [show Ideal.ofBits .f32 0x40400000#32 = (((3 : ℝ)) : EReal) from by
    simp [Ideal.ofBits, Ideal.ieee]
    rw [← EReal.coe_mul]
    norm_num]
  rw [← EReal.coe_natCast]
  exact congrArg _ (by norm_num : (3 : ℝ) = ((3 : ℕ) : ℝ))

/-- A block fewer than three come before is at one of the sort's first three places. -/
theorem picked_iff {n : ℕ} (hn : 3 ≤ n) (g : Fin n → EReal) (a : Fin n) :
    (∃ t : Fin 3, sortedFrom (larger g) (t.castLE hn) = a) ↔ rank g a < Ideal.ofBits .f32 0x40400000#32 := by
  rw [sortedFrom_larger, three]
  obtain ⟨s, rfl⟩ := sortedFrom_surjective (ahead g) a
  rw [rank_sorted]
  have hlt : ((s.val : ℕ) : EReal) < ((3 : ℕ) : EReal) ↔ s.val < 3 := by exact_mod_cast Iff.rfl
  rw [hlt]
  constructor
  · rintro ⟨t, ht⟩
    have := sortedFrom_injective _ ht
    rw [← this]
    exact t.isLt
  · intro h
    exact ⟨⟨s.val, h⟩, rfl⟩

end Cert.Moba

end
-- ==== Proof.Moba.Reference.lean ====
module

public import proofs.«01_k».proof.Proof.Gen.ReferenceMobaIdeal.Run
public import proofs.«01_k».proof.Proof.Moba.Spec
public import proofs.«01_k».proof.Proof.Moba.Pick

@[expose] public section

/-!
The reference's result at an index: `attended` of the argument arrays.
-/

set_option maxRecDepth 16384

noncomputable section
open Idealize.ShloMosaic Idealize.ShloMosaic.TcCoe Idealize.SL.Sem
open scoped Classical
namespace Cert.ReferenceMobaIdeal.Value
open Cert.ReferenceMobaIdeal Cert.ReferenceMobaIdeal.Gen Cert.Moba
open Cert.Mla (keyRow top neg_inf)

/-- The number of each position's block. -/
def blockNo : IVec S2048 32 :=
  select (andi (cmpi .ne (signi (iotaInDim S2048 32 0)) (broadcastInDim S2048 ![] bcast_S_S2048 (signi (id (constantI S_ 32 256#32)))))
      (cmpi .ne (Host.remsi (iotaInDim S2048 32 0) (broadcastInDim S2048 ![] bcast_S_S2048 (id (constantI S_ 32 256#32))))
        (broadcastInDim S2048 ![] bcast_S_S2048 (constantI S_ 32 0#32))))
    (subi (Host.divsi (iotaInDim S2048 32 0) (broadcastInDim S2048 ![] bcast_S_S2048 (id (constantI S_ 32 256#32))))
      (broadcastInDim S2048 ![] bcast_S_S2048 (constantI S_ 32 1#32)))
    (Host.divsi (iotaInDim S2048 32 0) (broadcastInDim S2048 ![] bcast_S_S2048 (id (constantI S_ 32 256#32))))

/-- Whether a block lies before the query's own, by query and block. -/
def past (no : IVec S2048 32) : IVec S2048x8 1 :=
  cmpi .slt (broadcastInDim S2048x8 ![0, 1] bcast_S1x8_S2048x8_0_1 (broadcastInDim S1x8 ![1] bcast_S8_S1x8_1 (iotaInDim S8 32 0)))
    (broadcastInDim S2048x8 ![0, 1] bcast_S2048x1_S2048x8_0_1 (broadcastInDim S2048x1 ![0] bcast_S2048_S2048x1_0 no))

/-- The mean key of each block. -/
def means (k : FVec Ideal S4096x512 .f32) : FVec Ideal S2x8x8x64 .f32 :=
  Host.divf (Host.reduceAdd (shapeCast _ (shapeCast _ k shapeCasts_S4096x512_S2x2048x8x64) shapeCasts_S2x2048x8x64_S2x8x256x8x64)
    (constant S_ .f32 0x00000000#32) reducesTo_S2x8x256x8x64_S2x8x8x64_d2 h_S_)
    (broadcastInDim S2x8x8x64 ![] bcast_S_S2x8x8x64 (constant S_ .f32 0x43800000#32))

/-- The gates, by batch row, head, query and block. -/
def gates (p : IVec S2048x8 1) (q : FVec Ideal S4096x512 .f32) (km : FVec Ideal S2x8x8x64 .f32) : FVec Ideal S2x8x2048x8 .f32 :=
  select (broadcastInDim S2x8x2048x8 ![2, 3] bcast_S2048x8_S2x8x2048x8_2_3 p)
    (Host.dotGeneral dot_S2x2048x8x64_S2x8x8x64_S2x8x2048x8_3_3_1_1_02_02 none (shapeCast _ q shapeCasts_S4096x512_S2x2048x8x64) km)
    (broadcastInDim S2x8x2048x8 ![] bcast_S_S2x8x2048x8 (id (constant S_ .f32 0xFF800000#32)))

/-- The numbers of the three blocks with the largest gates. -/
def picks (g : FVec Ideal S2x8x2048x8 .f32) : IVec S2x8x2048x3 32 :=
  (Host.topK S2x8x2048x3 3 (FloatOps.cmpfTotal .gt) g sliceFits_S2x8x2048x8_S2x8x2048x3).2

/-- Whether each of the three is a given block. -/
def hits (t : IVec S2x8x2048x3 32) : IVec S2x8x2048x3x8 1 :=
  cmpi .eq (broadcastInDim S2x8x2048x3x8 ![0, 1, 2, 3, 4] bcast_S2x8x2048x3x1_S2x8x2048x3x8_0_1_2_3_4
      (broadcastInDim S2x8x2048x3x1 ![0, 1, 2, 3] bcast_S2x8x2048x3_S2x8x2048x3x1_0_1_2_3 t))
    (broadcastInDim S2x8x2048x3x8 ![0, 1, 2, 3, 4] bcast_S1x1x1x1x8_S2x8x2048x3x8_0_1_2_3_4
      (broadcastInDim S1x1x1x1x8 ![4] bcast_S8_S1x1x1x1x8_4 (iotaInDim S8 32 0)))

/-- Whether a block is one of the three. -/
def anyHit (x : IVec S2x8x2048x3x8 1) : IVec S2x8x2048x8 1 :=
  Host.reduce IntOp.ori x (constantI S_ 1 0#1) reducesTo_S2x8x2048x3x8_S2x8x2048x8_d3 h_S_

/-- The chosen blocks. -/
def chosen (p : IVec S2048x8 1) (x : IVec S2x8x2048x8 1) : IVec S2x8x2048x8 1 :=
  andi x (broadcastInDim S2x8x2048x8 ![0, 1, 2, 3] bcast_S1x1x2048x8_S2x8x2048x8_0_1_2_3
    (broadcastInDim S1x1x2048x8 ![2, 3] bcast_S2048x8_S1x1x2048x8_2_3 p))

/-- A query's own block up to itself, by query and key. -/
def own (no : IVec S2048 32) : IVec S2048x2048 1 :=
  andi (cmpi .eq (broadcastInDim S2048x2048 ![0, 1] bcast_S1x2048_S2048x2048_0_1 (broadcastInDim S1x2048 ![1] bcast_S2048_S1x2048_1 no))
      (broadcastInDim S2048x2048 ![0, 1] bcast_S2048x1_S2048x2048_0_1 (broadcastInDim S2048x1 ![0] bcast_S2048_S2048x1_0 no)))
    (cmpi .sle (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

/-- The masked scores, by batch row, head, query and key. -/
def masked (ch : IVec S2x8x2048x8 1) (ow : IVec S2048x2048 1) (q k : FVec Ideal S4096x512 .f32) : FVec Ideal S2x8x2048x2048 .f32 :=
  select (ori (shapeCast _ (broadcastInDim S2x8x2048x8x256 ![0, 1, 2, 3, 4] bcast_S2x8x2048x8x1_S2x8x2048x8x256_0_1_2_3_4
        (broadcastInDim S2x8x2048x8x1 ![0, 1, 2, 3] bcast_S2x8x2048x8_S2x8x2048x8x1_0_1_2_3 ch)) shapeCasts_S2x8x2048x8x256_S2x8x2048x2048)
      (broadcastInDim S2x8x2048x2048 ![0, 1, 2, 3] bcast_S1x1x2048x2048_S2x8x2048x2048_0_1_2_3
        (broadcastInDim S1x1x2048x2048 ![2, 3] bcast_S2048x2048_S1x1x2048x2048_2_3 ow)))
    (mulf (Host.dotGeneral dot_S2x2048x8x64_S2x2048x8x64_S2x8x2048x2048_3_3_1_1_02_02 none
        (shapeCast _ q shapeCasts_S4096x512_S2x2048x8x64) (shapeCast _ k shapeCasts_S4096x512_S2x2048x8x64))
      (broadcastInDim S2x8x2048x2048 ![] bcast_S_S2x8x2048x2048 (constant S_ .f32 0x3E000000#32)))
    (broadcastInDim S2x8x2048x2048 ![] bcast_S_S2x8x2048x2048 (id (constant S_ .f32 0xFF800000#32)))

/-- The largest score of each query. -/
def rowMax (s : FVec Ideal S2x8x2048x2048 .f32) : FVec Ideal S2x8x2048 .f32 :=
  Host.reduce FloatOps.maximumf s (constant S_ .f32 0xFF800000#32) reducesTo_S2x8x2048x2048_S2x8x2048_d3 h_S_

/-- The unnormalised weights of scores, given each query's largest. -/
def weights (s : FVec Ideal S2x8x2048x2048 .f32) (t : FVec Ideal S2x8x2048 .f32) : FVec Ideal S2x8x2048x2048 .f32 :=
  Host.exp (subf s (broadcastInDim S2x8x2048x2048 ![0, 1, 2, 3] bcast_S2x8x2048x1_S2x8x2048x2048_0_1_2_3
    (broadcastInDim S2x8x2048x1 ![0, 1, 2] bcast_S2x8x2048_S2x8x2048x1_0_1_2
      (maximumf (broadcastInDim S2x8x2048 ![] bcast_S_S2x8x2048 (constant S_ .f32 0xFF800000#32)) t))))

/-- The normalised weights. -/
def normed (w : FVec Ideal S2x8x2048x2048 .f32) : FVec Ideal S2x8x2048x2048 .f32 :=
  Host.divf w (broadcastInDim S2x8x2048x2048 ![0, 1, 2, 3] bcast_S2x8x2048x1_S2x8x2048x2048_0_1_2_3
    (broadcastInDim S2x8x2048x1 ![0, 1, 2] bcast_S2x8x2048_S2x8x2048x1_0_1_2
      (Host.reduceAdd w (constant S_ .f32 0x00000000#32) reducesTo_S2x8x2048x2048_S2x8x2048_d3 h_S_)))

/-- The values summed under the weights, laid out as the argument arrays are. -/
def summed (v : FVec Ideal S4096x512 .f32) (p : FVec Ideal S2x8x2048x2048 .f32) : FVec Ideal S4096x512 .f32 :=
  shapeCast _ (transpose S2x2048x8x64 [0, 3, 1, 2] (Host.dotGeneral dot_S2x2048x8x64_S2x8x2048x2048_S2x8x64x2048_1_3_3_2_02_01 none
    (shapeCast _ v shapeCasts_S4096x512_S2x2048x8x64) p) transposes_S2x8x64x2048_S2x2048x8x64_0_3_1_2) shapeCasts_S2x2048x8x64_S4096x512

theorem reduces_last : S2x8x2048x2048.Reduces [3] S2x8x2048 := by decide

theorem rowMax_at (s : FVec Ideal S2x8x2048x2048 .f32) (b : Fin 2) (h : Fin 8) (q : Fin 2048) :
    rowMax s (ix3 b h q) = top (fun k : Fin 2048 => s (ix4 b h q k)) := by
  unfold rowMax
  rw [Host.reduce_eq_fold_single FloatOps.maximumf s _ _ reduces_last]
  have hl : ∀ k : Fin 2048, reduces_last.lift (ix3 b h q) k = ix4 b h q k := fun k => by
    funext a
    refine Fin.ext ?_
    fin_cases a <;> rfl
  rw [show constant (F := Ideal) S_ .f32 0xFF800000#32 (Shape.Idx.first h_S_) = (⊥ : EReal) from neg_inf]
  exact congrArg (fun f : Fin 2048 → EReal => Finset.univ.fold max ⊥ f) (funext fun k => congrArg s (hl k))

theorem weights_at (s : FVec Ideal S2x8x2048x2048 .f32) (t : FVec Ideal S2x8x2048 .f32) (b : Fin 2) (h : Fin 8)
    (q k : Fin 2048) :
    weights s t (ix4 b h q k) = Ideal.exp (s (ix4 b h q k) - t (ix3 b h q)) := by
  pointwise [weights]
  rw [neg_inf, max_eq_right bot_le]

/-- The number of a position's block, as the words compute it. -/
theorem blockNo_word : ∀ j : Fin 2048, Scalar.select
      (IntOp.andi
        (IntOp.cmpi CmpIPredicate.ne
          (if BitVec.ofNat 32 j.val = 0 then (0 : BitVec 32) else if (BitVec.ofNat 32 j.val).msb = true then -1 else 1)
          (if 256#32 = 0 then (0 : BitVec 32) else if (256#32).msb = true then -1 else 1))
        (IntOp.cmpi CmpIPredicate.ne (IntOp.remsi ArithUnit.host (BitVec.ofNat 32 j.val) 256#32) 0#32))
      (IntOp.subi (IntOp.divsi ArithUnit.host (BitVec.ofNat 32 j.val) 256#32) 1#32)
      (IntOp.divsi ArithUnit.host (BitVec.ofNat 32 j.val) 256#32) = BitVec.ofNat 32 (j.val / 256) := by
  decide +kernel

theorem blockNo_at (j : Fin 2048) : blockNo (ix1 j) = BitVec.ofNat 32 (j.val / 256) := by
  pointwise [blockNo]
  exact blockNo_word j

theorem past_at (j : Fin 2048) (n : Fin 8) : past blockNo (ix2 j n) = bit (n.val < j.val / 256) := by
  pointwise [past]
  rw [blockNo_at, slt_bit _ _ (by omega) (by omega)]

theorem own_at (i j : Fin 2048) : own blockNo (ix2 i j) = bit (j.val / 256 = i.val / 256 ∧ j.val ≤ i.val) := by
  pointwise [own]
  rw [blockNo_at, blockNo_at, eq_bit _ _ (by omega) (by omega), sle_bit _ _ (by omega) (by omega), and_bit]

theorem means_at (k : FVec Ideal S4096x512 .f32) (b : Fin 2) (n : Fin 8) (h : Fin 8) (x : Fin 64) (r : Fin 4096)
    (hr : r.val / 2048 = b.val) :
    means k (ix4 b n h x) = Ideal.div (∑ y : Fin 256, keys k r h ⟨n.val * 256 + y.val, by omega⟩ x) (Ideal.ofBits .f32 0x43800000#32) := by
  pointwise [means]
  refine congrArg (fun s => Ideal.div s _) (Finset.sum_congr rfl fun y _ => ?_)
  unfold keys
  refine congrArg k ?_
  refine congrArg₂ ix2 (Fin.ext ?_) (Fin.ext ?_)
  · dsimp only
    omega
  · dsimp only
    try omega

theorem gates_at (q k : FVec Ideal S4096x512 .f32) (b : Fin 2) (h : Fin 8) (p : Fin 2048) (n : Fin 8) (r : Fin 4096)
    (hr : r.val = b.val * 2048 + p.val) :
    gates (past blockNo) q (means k) (ix4 b h p n)
      = blockGate (N := 2048) (nb := 8) rfl (r.val % 2048 / 256) (query q r h) (keys k r h) n := by
  have hp : p.val / 256 = r.val % 2048 / 256 := by omega
  have hrow : r = ⟨b.val * 2048 + p.val, by omega⟩ := Fin.ext hr
  pointwise [gates]
  rw [past_at, hp, select_bit]
  simp only [means_at k b _ h _ r (by omega), ← hrow]
  unfold blockGate
  exact congrArg _ neg_inf

theorem picks_at (g : FVec Ideal S2x8x2048x8 .f32) (b : Fin 2) (h : Fin 8) (p : Fin 2048) (t : Fin 3) :
    picks g (ix4 b h p t)
      = BitVec.ofNat 32 (sortedFrom (larger (fun n => g (ix4 b h p n))) (t.castLE (by decide))).val := by
  have hl : ∀ k : Fin 8, Shape.Idx.along (s := S2x8x2048x8) (ix4 b h p (t.castLE (by decide) : Fin 8)) 3 k = ix4 b h p k := fun k => by
    funext a
    fin_cases a <;> rfl
  have hi : (fun a => ⟨0 + (ix4 b h p t (a.cast sliceFits_S2x8x2048x8_S2x8x2048x3.1.symm)).val,
      Nat.lt_of_lt_of_le (Nat.add_lt_add_left (Fin.isLt _) _) (sliceFits_S2x8x2048x8_S2x8x2048x3.2 a)⟩ : S2x8x2048x8.Idx)
        = ix4 b h p (t.castLE (by decide) : Fin 8) := by
    funext a
    refine Fin.ext ?_
    fin_cases a <;> exact Nat.zero_add _
  have e : ∀ J : S2x8x2048x8.Idx, J = ix4 b h p (t.castLE (by decide) : Fin 8) →
      iotaInDim S2x8x2048x8 32 3 (J.along 3 (sortedFrom (fun k k' : Fin 8 =>
        FloatOps.cmpfTotal (F := Ideal) (φ := .f32) .gt (g (J.along 3 k)) (g (J.along 3 k')) == 1#1) (J 3)))
      = BitVec.ofNat 32 (sortedFrom (larger (fun n => g (ix4 b h p n))) (t.castLE (by decide))).val := fun J hJ => by
    subst hJ
    simp only [hl]
    rfl
  exact Eq.trans rfl (e _ hi)

theorem hits_at (t : IVec S2x8x2048x3 32) (b : Fin 2) (h : Fin 8) (p : Fin 2048) (y : Fin 3) (n : Fin 8) (i : Fin 8)
    (hi : t (ix4 b h p y) = BitVec.ofNat 32 i.val) : hits t (ix5 b h p y n) = bit (i = n) := by
  pointwise [hits]
  rw [hi, eq_bit _ _ (by omega) (by omega)]
  simp only [Fin.ext_iff]

theorem reduces_picks : S2x8x2048x3x8.Reduces [3] S2x8x2048x8 := by decide

theorem anyHit_at (x : IVec S2x8x2048x3x8 1) (b : Fin 2) (h : Fin 8) (p : Fin 2048) (n : Fin 8) (P : Fin 3 → Prop)
    (hx : ∀ y, x (ix5 b h p y n) = bit (P y)) : anyHit x (ix4 b h p n) = bit (∃ y, P y) := by
  unfold anyHit
  rw [Host.reduce_eq_fold_single IntOp.ori x _ _ reduces_picks]
  have hl : ∀ y : Fin 3, reduces_picks.lift (ix4 b h p n) y = ix5 b h p y n := fun y => by
    funext a
    refine Fin.ext ?_
    fin_cases a <;> rfl
  have hf : x ∘ reduces_picks.lift (ix4 b h p n) = fun y : Fin 3 => bit (P y) :=
    funext fun y => (congrArg x (hl y)).trans (hx y)
  rw [hf]
  show (Finset.univ : Finset (Fin 3)).fold IntOp.ori 0#1 (fun y => bit (P y)) = _
  rw [show (Finset.univ : Finset (Fin 3)) = {0, 1, 2} from rfl, Finset.fold_insert (by decide), Finset.fold_insert (by decide),
    Finset.fold_singleton, show (0#1 : BitVec 1) = bit False from (if_neg id).symm, or_bit, or_bit, or_bit]
  simp only [Fin.exists_fin_succ, or_false]
  simp

theorem chosen_at (g : FVec Ideal S2x8x2048x8 .f32) (b : Fin 2) (h : Fin 8) (p : Fin 2048) (n : Fin 8) :
    chosen (past blockNo) (anyHit (hits (picks g))) (ix4 b h p n) = bit (Chosen (fun n => g (ix4 b h p n)) (p.val / 256) n) := by
  pointwise [chosen]
  rw [past_at, anyHit_at _ b h p n _ (fun y => hits_at _ b h p y n _ (picks_at g b h p y)), and_bit]
  unfold Chosen
  rw [picked_iff (by decide)]

theorem masked_at (q k : FVec Ideal S4096x512 .f32) (b : Fin 2) (h : Fin 8) (p j : Fin 2048) (r : Fin 4096)
    (hr : r.val = b.val * 2048 + p.val) :
    masked (chosen (past blockNo) (anyHit (hits (picks (gates (past blockNo) q (means k)))))) (own blockNo) q k (ix4 b h p j)
      = score q k r h j := by
  have hp : p.val = r.val % 2048 := by omega
  have hrow : r = ⟨b.val * 2048 + p.val, by omega⟩ := Fin.ext hr
  have hkey : (⟨b.val * 2048 + j.val, by omega⟩ : Fin 4096) = keyRow r j :=
    Fin.ext (by show b.val * 2048 + j.val = r.val / 2048 * 2048 + j.val; omega)
  have hg : (fun n => gates (past blockNo) q (means k) (ix4 b h p n))
      = blockGate (N := 2048) (nb := 8) rfl (r.val % 2048 / 256) (query q r h) (keys k r h) := funext fun n =>
    gates_at q k b h p n r hr
  pointwise [masked]
  rw [own_at, chosen_at, hg, or_bit, select_bit]
  unfold score blockScore
  refine if_congr (or_congr (by rw [hp]) (by omega)) ?_ neg_inf
  unfold query keys
  simp only [← hrow, hkey]

theorem normed_at (w : FVec Ideal S2x8x2048x2048 .f32) (b : Fin 2) (h : Fin 8) (q k : Fin 2048) :
    normed w (ix4 b h q k) = Ideal.div (w (ix4 b h q k)) (∑ j, w (ix4 b h q j)) := by
  pointwise [normed]

theorem summed_at (v : FVec Ideal S4096x512 .f32) (p : FVec Ideal S2x8x2048x2048 .f32) (r : Fin 4096) (c : Fin 512) :
    summed v p (ix2 r c) = ∑ k : Fin 2048, keys v r (headOf c) k (lane c)
      * p (ix4 ⟨r.val / 2048, by omega⟩ (headOf c) ⟨r.val % 2048, by omega⟩ k) := by
  pointwise [summed]
  refine Finset.sum_congr rfl fun k _ => ?_
  have hc : c = colOf (headOf c) (lane c) := Fin.ext (by show c.val = c.val / 64 * 64 + c.val % 64; omega)
  unfold keys
  rw [← hc]

/-- The reference's result. -/
theorem summed_eq (q k v : FVec Ideal S4096x512 .f32) (r : Fin 4096) (c : Fin 512)
    (s : FVec Ideal S2x8x2048x2048 .f32)
    (hs : s = masked (chosen (past blockNo) (anyHit (hits (picks (gates (past blockNo) q (means k)))))) (own blockNo) q k) :
    summed v (normed (weights s (rowMax s))) (ix2 r c) = attended q k v r (headOf c) (lane c) := by
  rw [summed_at]
  have hm : ∀ j : Fin 2048, s (ix4 ⟨r.val / 2048, by omega⟩ (headOf c) ⟨r.val % 2048, by omega⟩ j)
      = score q k r (headOf c) j := fun j => by
    rw [hs]
    exact masked_at q k _ _ _ j r (by show r.val = r.val / 2048 * 2048 + r.val % 2048; omega)
  simp only [normed_at, weights_at, rowMax_at, hm]
  rfl

theorem res_at (m : (ℓ : Loc nD τ sig) → Buf (Elt Ideal) ℓ) (d : Dev nD) (r : Fin 4096) (c : Fin 512) :
    res_out0 m d (ix2 r c) = attended (m ((d.tc : Thread nD τ).loc main_arg0)) (m ((d.tc : Thread nD τ).loc main_arg1))
      (m ((d.tc : Thread nD τ).loc main_arg2)) r (headOf c) (lane c) := by
  rw [← summed_eq _ _ _ _ _ _ rfl]
  refine congrFun ?_ (ix2 r c)
  unfold res_out0 res_main_v60 summed normed weights rowMax masked chosen anyHit hits picks gates means own past blockNo
  rfl

end Cert.ReferenceMobaIdeal.Value
end
-- ==== Proof.Moba.Precondition.lean ====
module

public import proofs.«01_k».proof.Proof.Gen.Pre_finite_block_scores
public import proofs.«01_k».proof.Proof.Mla.Precondition
public import Idealize.ShloMosaic.Lib.ReduceAll

@[expose] public section

/-!
What the block-sparse attention's precondition says of its arguments: the queries and the keys hold real numbers.
-/

set_option maxRecDepth 16384

noncomputable section

open Idealize.ShloMosaic

namespace Cert.Pre_finite_block_scores
open Cert.Mla Cert.Pre_finite_block_scores.Gen

theorem finite_of_pre [Facts] (a0 a1 a2 : Arr 512)
    (h : fn (F := Ideal) a0 a1 a2 = fun _ => 1#1) : Mla.Finite a0 ∧ Mla.Finite a1 := by
  have h' := congrFun h ix0
  dsimp only [fn] at h'
  obtain ⟨h0, h1⟩ := Pre_finite_scores.and_one _ _ h'
  haveI : Subsingleton S_.Idx := ⟨fun a b => funext fun d => d.elim0⟩
  exact ⟨fun i => Pre_finite_scores.real_of_abs_lt a0 _ i (Host.reduce_andi_all _ _ _ _ _ h0 i),
    fun i => Pre_finite_scores.real_of_abs_lt a1 _ i (Host.reduce_andi_all _ _ _ _ _ h1 i)⟩

end Cert.Pre_finite_block_scores

end
-- ==== Proof.Moba.Claim.lean ====
module

public import proofs.«01_k».proof.Defs
public import proofs.«01_k».proof.Proof.Gen.KernelMobaIdeal
public import proofs.«01_k».proof.Proof.Gen.ReferenceMobaIdeal
public import proofs.«01_k».proof.Proof.Gen.Pre_finite_block_scores
public import proofs.«01_k».proof.Proof.Moba.Launch
public import proofs.«01_k».proof.Proof.Moba.Reference
public import proofs.«01_k».proof.Proof.Moba.Precondition

@[expose] public section

/-!
The block attention: the reference's frame, and the equation of the two programs.
-/

set_option maxRecDepth 16384

noncomputable section

open Idealize.ShloMosaic Idealize.ShloMosaic.TcCoe Idealize.SL.Sem

namespace Cert.MobaClaim

/-- The reference's frame: its run keeps the arguments, and the machine it runs on has no semaphore. -/
theorem reference_frame : Cert.quiescent_ReferenceMobaIdeal (hReferenceMobaIdeal := Cert.ReferenceMobaIdeal.Gen.facts) :=
  fun m ρ _ => (θ_run _ _ _).mono (fun r h => ⟨fun c => (h c).2, sem_eq_zero_of_no_sems (by decide) r.2⟩)
    (Cert.ReferenceMobaIdeal.Value.run m ρ)

/-- The joined block attention and its reference, from finite queries and keys, hold equal results. -/
theorem eq :
    Cert.algebraic_KernelMobaIdeal_ReferenceMobaIdeal_pre_finite_block_scores
      (hKernelMobaIdeal := Cert.KernelMobaIdeal.Gen.facts) (hReferenceMobaIdeal := Cert.ReferenceMobaIdeal.Gen.facts)
      (hPre_finite_block_scores := Cert.Pre_finite_block_scores.Gen.facts) := by
  intro m g m' g' hpre hargs
  refine ⟨fun c => Cert.KernelMobaIdeal.Gen.W4 m g c (Proc.devRef .tc Cert.KernelMobaIdeal.main_v7),
    Cert.KernelMobaIdeal.Value.run_result m g, ?_⟩
  refine (θ_run _ _ _).mono (fun r h c => ?_) (Cert.ReferenceMobaIdeal.Value.run m' g')
  obtain ⟨hres, hkeep⟩ := h c
  refine ⟨hres.trans ?_, hkeep⟩
  obtain ⟨e0, e1, e2⟩ := hargs c
  obtain ⟨h0, h1⟩ := Cert.Pre_finite_block_scores.finite_of_pre _ _ _ (hpre c)
  funext j
  rw [eq_ix2 j]
  refine (Cert.ReferenceMobaIdeal.Value.res_at m' c (j 0) (j 1)).trans ?_
  rw [e0, e1, e2]
  exact (Cert.KernelMobaIdeal.Value.result_at m g c h0 h1 (j 0) (j 1)).symm

end Cert.MobaClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.ReferenceNormIdeal.Read
public import proofs.«01_k».proof.Proof.Gen.KernelQuery
public import proofs.«01_k».proof.Proof.Gen.KernelQuery.Skeleton
public import proofs.«01_k».proof.Proof.Gen.KernelQuery.Launch
public import proofs.«01_k».proof.Proof.Gen.KernelQuery.Points
public import proofs.«01_k».proof.Proof.Gen.KernelQuery.Frame
public import proofs.«01_k».proof.Proof.Gen.KernelQueryIdeal
public import proofs.«01_k».proof.Proof.Gen.KernelQueryIdeal.Skeleton
public import proofs.«01_k».proof.Proof.Gen.KernelQueryIdeal.Launch
public import proofs.«01_k».proof.Proof.Gen.KernelQueryIdeal.Points
public import proofs.«01_k».proof.Proof.Gen.KernelQueryIdeal.Frame
public import proofs.«01_k».proof.Proof.Gen.KernelQueryIdeal.Value
public import proofs.«01_k».proof.Proof.Gen.ReferenceQueryIdeal
public import proofs.«01_k».proof.Proof.Gen.ReferenceQueryIdeal.Run
public import proofs.«01_k».proof.Proof.Gen.ReferenceQueryIdeal.Read
public import proofs.«01_k».proof.Proof.Gen.KernelKv
public import proofs.«01_k».proof.Proof.Gen.KernelKv.Skeleton
public import proofs.«01_k».proof.Proof.Gen.KernelKv.Launch
public import proofs.«01_k».proof.Proof.Gen.KernelKv.Points
public import proofs.«01_k».proof.Proof.Gen.KernelKv.Frame
public import proofs.«01_k».proof.Proof.Gen.KernelKvIdeal
public import proofs.«01_k».proof.Proof.Gen.KernelKvIdeal.Skeleton
public import proofs.«01_k».proof.Proof.Gen.KernelKvIdeal.Launch
public import proofs.«01_k».proof.Proof.Gen.KernelKvIdeal.Points
public import proofs.«01_k».proof.Proof.Gen.KernelKvIdeal.Frame
public import proofs.«01_k».proof.Proof.Gen.KernelKvIdeal.Value
public import proofs.«01_k».proof.Proof.Gen.ReferenceKvIdeal
public import proofs.«01_k».proof.Proof.Gen.ReferenceKvIdeal.Run
public import proofs.«01_k».proof.Proof.Gen.ReferenceKvIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelOut2
public import proofs.«01_k».proof.Proof.Gen.KernelOut2.Skeleton
public import proofs.«01_k».proof.Proof.Gen.KernelOut2.Launch
public import proofs.«01_k».proof.Proof.Gen.KernelOut2.Points
public import proofs.«01_k».proof.Proof.Gen.KernelOut2.Frame
public import proofs.«01_k».proof.Proof.Gen.KernelOut2Ideal
public import proofs.«01_k».proof.Proof.Gen.KernelOut2Ideal.Skeleton
public import proofs.«01_k».proof.Proof.Gen.KernelOut2Ideal.Launch
public import proofs.«01_k».proof.Proof.Gen.KernelOut2Ideal.Points
public import proofs.«01_k».proof.Proof.Gen.KernelOut2Ideal.Frame
public import proofs.«01_k».proof.Proof.Gen.KernelOut2Ideal.Value
public import proofs.«01_k».proof.Proof.Gen.ReferenceOut2Ideal
public import proofs.«01_k».proof.Proof.Gen.ReferenceOut2Ideal.Run
public import proofs.«01_k».proof.Proof.Gen.ReferenceOut2Ideal.Read
public import proofs.«01_k».proof.Proof.Gen.KernelEven
public import proofs.«01_k».proof.Proof.Gen.KernelEven.Skeleton
public import proofs.«01_k».proof.Proof.Gen.KernelEven.Launch
public import proofs.«01_k».proof.Proof.Gen.KernelEven.Points
public import proofs.«01_k».proof.Proof.Gen.KernelEven.Frame
public import proofs.«01_k».proof.Proof.Gen.KernelEvenIdeal
public import proofs.«01_k».proof.Proof.Gen.KernelEvenIdeal.Skeleton
public import proofs.«01_k».proof.Proof.Gen.KernelEvenIdeal.Launch
public import proofs.«01_k».proof.Proof.Gen.KernelEvenIdeal.Points
public import proofs.«01_k».proof.Proof.Gen.KernelEvenIdeal.Frame
public import proofs.«01_k».proof.Proof.Gen.ReferenceEvenIdeal
public import proofs.«01_k».proof.Proof.Gen.ReferenceEvenIdeal.Run
public import proofs.«01_k».proof.Proof.Gen.ReferenceEvenIdeal.Read
public import proofs.«01_k».proof.Proof.Gen.KernelLatent
public import proofs.«01_k».proof.Proof.Gen.KernelLatent.Skeleton
public import proofs.«01_k».proof.Proof.Gen.KernelLatent.Launch
public import proofs.«01_k».proof.Proof.Gen.KernelLatent.Points
public import proofs.«01_k».proof.Proof.Gen.KernelLatent.Frame
public import proofs.«01_k».proof.Proof.Gen.KernelLatentIdeal
public import proofs.«01_k».proof.Proof.Gen.KernelLatentIdeal.Skeleton
public import proofs.«01_k».proof.Proof.Gen.KernelLatentIdeal.Launch
public import proofs.«01_k».proof.Proof.Gen.KernelLatentIdeal.Points
public import proofs.«01_k».proof.Proof.Gen.KernelLatentIdeal.Frame
public import proofs.«01_k».proof.Proof.Gen.ReferenceLatentIdeal
public import proofs.«01_k».proof.Proof.Gen.ReferenceLatentIdeal.Run
public import proofs.«01_k».proof.Proof.Gen.ReferenceLatentIdeal.Read
public import proofs.«01_k».proof.Proof.Gen.KernelUq
public import proofs.«01_k».proof.Proof.Gen.KernelUq.Skeleton
public import proofs.«01_k».proof.Proof.Gen.KernelUq.Launch
public import proofs.«01_k».proof.Proof.Gen.KernelUq.Points
public import proofs.«01_k».proof.Proof.Gen.KernelUq.Frame
public import proofs.«01_k».proof.Proof.Gen.KernelUqIdeal
public import proofs.«01_k».proof.Proof.Gen.KernelUqIdeal.Skeleton
public import proofs.«01_k».proof.Proof.Gen.KernelUqIdeal.Launch
public import proofs.«01_k».proof.Proof.Gen.KernelUqIdeal.Points
public import proofs.«01_k».proof.Proof.Gen.KernelUqIdeal.Frame
public import proofs.«01_k».proof.Proof.Gen.ReferenceUqIdeal
public import proofs.«01_k».proof.Proof.Gen.ReferenceUqIdeal.Run
public import proofs.«01_k».proof.Proof.Gen.ReferenceUqIdeal.Read
public import proofs.«01_k».proof.Proof.Gen.KernelMoba
public import proofs.«01_k».proof.Proof.Gen.KernelMoba.Skeleton
public import proofs.«01_k».proof.Proof.Gen.KernelMoba.Launch
public import proofs.«01_k».proof.Proof.Gen.KernelMoba.Points
public import proofs.«01_k».proof.Proof.Gen.KernelMoba.Frame
public import proofs.«01_k».proof.Proof.Gen.KernelMobaIdeal
public import proofs.«01_k».proof.Proof.Gen.KernelMobaIdeal.Skeleton
public import proofs.«01_k».proof.Proof.Gen.KernelMobaIdeal.Launch
public import proofs.«01_k».proof.Proof.Gen.KernelMobaIdeal.Points
public import proofs.«01_k».proof.Proof.Gen.KernelMobaIdeal.Frame
public import proofs.«01_k».proof.Proof.Gen.ReferenceMobaIdeal
public import proofs.«01_k».proof.Proof.Gen.ReferenceMobaIdeal.Run
public import proofs.«01_k».proof.Proof.Gen.ReferenceMobaIdeal.Read
public import proofs.«01_k».proof.Proof.Gen.Pre_finite_block_scores
public import proofs.«01_k».proof.Proof.Proj.NormClaim
public import proofs.«01_k».proof.Proof.Proj.QueryClaim
public import proofs.«01_k».proof.Proof.Proj.KvClaim
public import proofs.«01_k».proof.Proof.Proj.OutClaim
public import proofs.«01_k».proof.Proof.Proj.Out2Claim
public import proofs.«01_k».proof.Proof.Proj.EvenClaim
public import proofs.«01_k».proof.Proof.Proj.LatentClaim
public import proofs.«01_k».proof.Proof.Proj.UqClaim
public import proofs.«01_k».proof.Proof.Mla.Launch
public import proofs.«01_k».proof.Proof.Mla.Reference
public import proofs.«01_k».proof.Proof.Mla.Precondition
public import proofs.«01_k».proof.Proof.Moba.Claim
public import Idealize.ShloMosaic.Adequacy
public import Idealize.ShloMosaic.Init

@[expose] public section

noncomputable section

namespace Cert.Proof

open Idealize.ShloMosaic Idealize.SL.Sem Cert.Kernel

/-- The reference's frame: its run keeps the arguments, and the machine it runs on has no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread _ Cert.ReferenceIdeal.τ).loc Cert.ReferenceIdeal.main_arg0) = m ((c.tc : Thread _ Cert.ReferenceIdeal.τ).loc Cert.ReferenceIdeal.main_arg0)
        ∧ r.2.mem ((c.tc : Thread _ Cert.ReferenceIdeal.τ).loc Cert.ReferenceIdeal.main_arg1) = m ((c.tc : Thread _ Cert.ReferenceIdeal.τ).loc Cert.ReferenceIdeal.main_arg1)
        ∧ r.2.mem ((c.tc : Thread _ Cert.ReferenceIdeal.τ).loc Cert.ReferenceIdeal.main_arg2) = m ((c.tc : Thread _ Cert.ReferenceIdeal.τ).loc Cert.ReferenceIdeal.main_arg2)
        ∧ r.2.mem ((c.tc : Thread _ Cert.ReferenceIdeal.τ).loc Cert.ReferenceIdeal.main_arg3) = m ((c.tc : Thread _ Cert.ReferenceIdeal.τ).loc Cert.ReferenceIdeal.main_arg3)
        ∧ r.2.mem ((c.tc : Thread _ Cert.ReferenceIdeal.τ).loc Cert.ReferenceIdeal.main_arg4) = m ((c.tc : Thread _ Cert.ReferenceIdeal.τ).loc Cert.ReferenceIdeal.main_arg4))
      ∧ r.2.sem = fun _ => 0) :=
  (θ_run _ _ _).mono (fun r h => ⟨fun c => (h c).2, sem_eq_zero_of_no_sems (by decide) r.2⟩) (Cert.ReferenceIdeal.Value.run m ρ)

/-- The joined latent attention and its reference, from arguments with finite queries and keys, hold equal results. -/
theorem attention_eq :
    Cert.algebraic_KernelIdeal_ReferenceIdeal_pre_finite_scores (hKernelIdeal := Cert.KernelIdeal.Gen.facts)
      (hReferenceIdeal := Cert.ReferenceIdeal.Gen.facts) (hPre_finite_scores := Cert.Pre_finite_scores.Gen.facts) := by
  intro m g m' g' hpre hargs
  refine ⟨fun c => Cert.KernelIdeal.Gen.W4 m g c (Proc.devRef .tc Cert.KernelIdeal.main_v7),
    Cert.KernelIdeal.Value.run_result m g, ?_⟩
  refine (θ_run _ _ _).mono (fun r h c => ?_) (Cert.ReferenceIdeal.Value.run m' g')
  obtain ⟨hres, hkeep⟩ := h c
  refine ⟨hres.trans ?_, hkeep⟩
  obtain ⟨e0, e1, e2, e3, e4⟩ := hargs c
  obtain ⟨h0, h1, h2, h3⟩ := Cert.Pre_finite_scores.finite_of_pre _ _ _ _ _ (hpre c)
  funext j
  rw [eq_ix2 j]
  refine (Cert.ReferenceIdeal.Value.res_at m' c (j 0) (j 1)).trans ?_
  rw [e0, e1, e2, e3, e4]
  exact (Cert.KernelIdeal.Value.result_at m g c h0 h1 h2 h3 (j 0) (j 1)).symm

theorem claim : Cert.Claim := ⟨
  Cert.Kernel.Gen.facts,
  Cert.KernelIdeal.Gen.facts,
  Cert.ReferenceIdeal.Gen.facts,
  Cert.KernelNorm.Gen.facts,
  Cert.KernelNormIdeal.Gen.facts,
  Cert.ReferenceNormIdeal.Gen.facts,
  Cert.KernelQuery.Gen.facts,
  Cert.KernelQueryIdeal.Gen.facts,
  Cert.ReferenceQueryIdeal.Gen.facts,
  Cert.KernelKv.Gen.facts,
  Cert.KernelKvIdeal.Gen.facts,
  Cert.ReferenceKvIdeal.Gen.facts,
  Cert.KernelOut.Gen.facts,
  Cert.KernelOutIdeal.Gen.facts,
  Cert.ReferenceOutIdeal.Gen.facts,
  Cert.KernelOut2.Gen.facts,
  Cert.KernelOut2Ideal.Gen.facts,
  Cert.ReferenceOut2Ideal.Gen.facts,
  Cert.KernelEven.Gen.facts,
  Cert.KernelEvenIdeal.Gen.facts,
  Cert.ReferenceEvenIdeal.Gen.facts,
  Cert.KernelLatent.Gen.facts,
  Cert.KernelLatentIdeal.Gen.facts,
  Cert.ReferenceLatentIdeal.Gen.facts,
  Cert.KernelUq.Gen.facts,
  Cert.KernelUqIdeal.Gen.facts,
  Cert.ReferenceUqIdeal.Gen.facts,
  Cert.KernelMoba.Gen.facts,
  Cert.KernelMobaIdeal.Gen.facts,
  Cert.ReferenceMobaIdeal.Gen.facts,
  Cert.Pre_finite_scores.Gen.facts,
  Cert.Pre_finite_block_scores.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.KernelNorm.Gen.frame m ρ,
  fun m ρ _ => Cert.KernelNormIdeal.Gen.frame m ρ,
  Cert.NormClaim.reference_frame,
  fun m ρ _ => Cert.KernelQuery.Gen.frame m ρ,
  fun m ρ _ => Cert.KernelQueryIdeal.Gen.frame m ρ,
  Cert.QueryClaim.reference_frame,
  fun m ρ _ => Cert.KernelKv.Gen.frame m ρ,
  fun m ρ _ => Cert.KernelKvIdeal.Gen.frame m ρ,
  Cert.KvClaim.reference_frame,
  fun m ρ _ => Cert.KernelOut.Gen.frame m ρ,
  fun m ρ _ => Cert.KernelOutIdeal.Gen.frame m ρ,
  Cert.OutClaim.reference_frame,
  fun m ρ _ => Cert.KernelOut2.Gen.frame m ρ,
  fun m ρ _ => Cert.KernelOut2Ideal.Gen.frame m ρ,
  Cert.Out2Claim.reference_frame,
  fun m ρ _ => Cert.KernelEven.Gen.frame m ρ,
  fun m ρ _ => Cert.KernelEvenIdeal.Gen.frame m ρ,
  Cert.EvenClaim.reference_frame,
  fun m ρ _ => Cert.KernelLatent.Gen.frame m ρ,
  fun m ρ _ => Cert.KernelLatentIdeal.Gen.frame m ρ,
  Cert.LatentClaim.reference_frame,
  fun m ρ _ => Cert.KernelUq.Gen.frame m ρ,
  fun m ρ _ => Cert.KernelUqIdeal.Gen.frame m ρ,
  Cert.UqClaim.reference_frame,
  fun m ρ _ => Cert.KernelMoba.Gen.frame m ρ,
  fun m ρ _ => Cert.KernelMobaIdeal.Gen.frame m ρ,
  fun m ρ _ => Cert.KernelMobaIdeal.Gen.frame m ρ,
  Cert.MobaClaim.reference_frame,
  fun m ρ _ => Cert.MobaClaim.reference_frame m ρ trivial,
  trivial, attention_eq,
  trivial, Cert.NormClaim.eq,
  trivial, Cert.QueryClaim.eq,
  trivial, Cert.KvClaim.eq,
  trivial, Cert.OutClaim.eq,
  trivial, Cert.Out2Claim.eq,
  trivial, Cert.EvenClaim.eq,
  trivial, Cert.LatentClaim.eq,
  trivial, Cert.UqClaim.eq,
  trivial, Cert.MobaClaim.eq⟩

end Cert.Proof

end
